-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v3)) (v3 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v3) = v2 c
          ∧ r.2.mem ((c.tc : Thread Cert.Kernel4Ideal.nD Cert.Kernel4Ideal.τ).loc Cert.Kernel4Ideal.main_v7) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v12) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v52_1)) (v1 : (c : Dev Cert.Kernel6Ideal.nD) → Buf (Elt Ideal) ((c.tc : Thread Cert.Kernel6Ideal.nD Cert.Kernel6Ideal.τ).loc Cert.Kernel6Ideal.main_v52_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v52_1) = v0 c
          ∧ r.2.mem ((c.tc : Thread Cert.Kernel6Ideal.nD Cert.Kernel6Ideal.τ).loc Cert.Kernel6Ideal.main_v52_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v11_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v72) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite6 : Cert.Pre_finite6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== Pre_finite6.lean ====
abbrev S256x9216 : Shape := ⟨2, ![256, 9216]⟩
abbrev S64 : Shape := ⟨1, ![64]⟩
abbrev S256x512 : Shape := ⟨2, ![256, 512]⟩
abbrev S_ : Shape := ⟨0, ![]⟩

class Facts : Prop where
  slices_S256x9216_S256x512_0_2048 : S256x9216.Slices ![0, 2048] S256x512
  bcast_S_S256x512 : S_.BroadcastsInDim S256x512 (![] : Fin 0 → Fin S256x512.rank)

variable [Facts]

def fn {F : FTy → Type} [FloatOps F] (main_arg0 : FVec F S256x9216 .f32) (main_arg1 : FVec F S64 .f32) (main_arg2 : FVec F S64 .f32) : IVec S256x512 1 :=
  let main_v0 : FVec F S256x512 .f32 := (extractStridedSlice S256x512 ![0, 2048] · slices_S256x9216_S256x512_0_2048) main_arg0
  let main_v1 : FVec F S256x512 .f32 := Host.absf main_v0
  let main_cst : FVec F S_ .f32 := constant S_ .f32 0x7F800000#32
  let main_v2 : FVec F S256x512 .f32 := broadcastInDim S256x512 ![] bcast_S_S256x512 main_cst
  let main_v3 : IVec S256x512 1 := cmpf .olt main_v1 main_v2
  main_v3
-- ==== Kernel.lean ====
abbrev S8192x4096 : Shape := ⟨2, ![8192, 4096]⟩
abbrev S8192x128 : Shape := ⟨2, ![8192, 128]⟩
abbrev S8192x9216 : Shape := ⟨2, ![8192, 9216]⟩
abbrev S32 : Shape := ⟨1, ![32]⟩
abbrev S2048 : Shape := ⟨1, ![2048]⟩
abbrev S_ : Shape := ⟨0, ![]⟩
abbrev S128 : Shape := ⟨1, ![128]⟩
abbrev S1x128 : Shape := ⟨2, ![1, 128]⟩
abbrev S1x2048 : Shape := ⟨2, ![1, 2048]⟩
abbrev S8192x2048 : Shape := ⟨2, ![8192, 2048]⟩
abbrev S4x2048x128 : Shape := ⟨3, ![4, 2048, 128]⟩
abbrev S128x2048 : Shape := ⟨2, ![128, 2048]⟩
abbrev S128x1024 : Shape := ⟨2, ![128, 1024]⟩
abbrev S128x128 : Shape := ⟨2, ![128, 128]⟩
abbrev S1x2048x128 : Shape := ⟨3, ![1, 2048, 128]⟩
abbrev S2048x128 : Shape := ⟨2, ![2048, 128]⟩
abbrev S1x128x128 : Shape := ⟨3, ![1, 128, 128]⟩
abbrev S128x1 : Shape := ⟨2, ![128, 1]⟩
abbrev S1x1 : Shape := ⟨2, ![1, 1]⟩
abbrev S128x256 : Shape := ⟨2, ![128, 256]⟩
abbrev S1x256 : Shape := ⟨2, ![1, 256]⟩

abbrev nBuf : Space → Nat
  | .hbm => 22
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S8192x128, .f32⟩
  | .hbm, ⟨2, _⟩ => ⟨S8192x9216, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S2048, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S1x2048, .f32⟩
  | .hbm, ⟨20, _⟩ => ⟨S8192x2048, .bf16⟩
  | .hbm, ⟨21, _⟩ => ⟨S4x2048x128, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x2048, .f32⟩
  | .local _ .vmem, ⟨16, _⟩ => ⟨S128x2048, .bf16⟩
  | .local _ .vmem, ⟨17, _⟩ => ⟨S128x2048, .bf16⟩
  | .local _ .vmem, ⟨18, _⟩ => ⟨S1x2048x128, .f32⟩
  | .local _ .vmem, ⟨19, _⟩ => ⟨S1x2048x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8192x4096 : Shape := ⟨2, ![8192, 4096]⟩
abbrev S8192x128 : Shape := ⟨2, ![8192, 128]⟩
abbrev S8192x9216 : Shape := ⟨2, ![8192, 9216]⟩
abbrev S32 : Shape := ⟨1, ![32]⟩
abbrev S2048 : Shape := ⟨1, ![2048]⟩
abbrev S8192x2048 : Shape := ⟨2, ![8192, 2048]⟩
abbrev S4x2048x32x64 : Shape := ⟨4, ![4, 2048, 32, 64]⟩
abbrev S8192x1024 : Shape := ⟨2, ![8192, 1024]⟩
abbrev S4x2048x8x128 : Shape := ⟨4, ![4, 2048, 8, 128]⟩
abbrev S4x2048x2048 : Shape := ⟨3, ![4, 2048, 2048]⟩
abbrev S8192x32 : Shape := ⟨2, ![8192, 32]⟩
abbrev S4x2048x32 : Shape := ⟨3, ![4, 2048, 32]⟩
abbrev S1x1x32 : Shape := ⟨3, ![1, 1, 32]⟩
abbrev S_ : Shape := ⟨0, ![]⟩
abbrev S4x2048x8x4x128 : Shape := ⟨5, ![4, 2048, 8, 4, 128]⟩
abbrev S4x2048x32x128 : Shape := ⟨4, ![4, 2048, 32, 128]⟩
abbrev S4x2048x32x1 : Shape := ⟨4, ![4, 2048, 32, 1]⟩
abbrev S4x16x128x32x64 : Shape := ⟨5, ![4, 16, 128, 32, 64]⟩
abbrev S4x16x128x32x128 : Shape := ⟨5, ![4, 16, 128, 32, 128]⟩
abbrev S4x16x128x32 : Shape := ⟨4, ![4, 16, 128, 32]⟩
abbrev S4x16x128x1x32 : Shape := ⟨5, ![4, 16, 128, 1, 32]⟩
abbrev S4x16x1x128x32 : Shape := ⟨5, ![4, 16, 1, 128, 32]⟩
abbrev S4x16x128x128x32 : Shape := ⟨5, ![4, 16, 128, 128, 32]⟩
abbrev S128x128 : Shape := ⟨2, ![128, 128]⟩
abbrev S1x1x128x128x1 : Shape := ⟨5, ![1, 1, 128, 128, 1]⟩
abbrev S4x16x32x128x128 : Shape := ⟨5, ![4, 16, 32, 128, 128]⟩
abbrev S4x16x32x64x128 : Shape := ⟨5, ![4, 16, 32, 64, 128]⟩
abbrev S4x16x1x32 : Shape := ⟨4, ![4, 16, 1, 32]⟩
abbrev S4x16x128x32x1 : Shape := ⟨5, ![4, 16, 128, 32, 1]⟩
abbrev S4x16x32 : Shape := ⟨3, ![4, 16, 32]⟩
abbrev S4x32x64x128 : Shape := ⟨4, ![4, 32, 64, 128]⟩
abbrev S16x4x32 : Shape := ⟨3, ![16, 4, 32]⟩
abbrev S16x4x32x64x128 : Shape := ⟨5, ![16, 4, 32, 64, 128]⟩
abbrev S1x4x32 : Shape := ⟨3, ![1, 4, 32]⟩
abbrev S4x32 : Shape := ⟨2, ![4, 32]⟩
abbrev S1x4x32x64x128 : Shape := ⟨5, ![1, 4, 32, 64, 128]⟩
abbrev S4x32x1x1 : Shape := ⟨4, ![4, 32, 1, 1]⟩
abbrev S32x1 : Shape := ⟨2, ![32, 1]⟩
abbrev S1x1x32x1 : Shape := ⟨4, ![1, 1, 32, 1]⟩
abbrev S4x2048x8x256 : Shape := ⟨4, ![4, 2048, 8, 256]⟩
abbrev S4x2048x8 : Shape := ⟨3, ![4, 2048, 8]⟩
abbrev S4x2048x8x1 : Shape := ⟨4, ![4, 2048, 8, 1]⟩
abbrev S8x256 : Shape := ⟨2, ![8, 256]⟩
abbrev S1x1x8x256 : Shape := ⟨4, ![1, 1, 8, 256]⟩
abbrev S4x2048x128 : Shape := ⟨3, ![4, 2048, 128]⟩

abbrev nBuf : Space → Nat
  | .hbm => 174
  | .vmem => 0
  | .smem => 0
  | _ => 0

abbrev hbmTy0_0 (i : Nat) : BufTy := match i % 128 with
  | 0 => ⟨S8192x4096, .f32⟩
  | 1 => ⟨S8192x128, .f32⟩
  | 2 => ⟨S8192x9216, .f32⟩
  | 3 => ⟨S32, .f32⟩
  | 4 => ⟨S32, .f32⟩
  | 5 => ⟨S32, .f32⟩
  | 6 => ⟨S2048, .f32⟩
  | 7 => ⟨S8192x2048, .f32⟩
  | 8 => ⟨S4x2048x32x64, .f32⟩
  | 9 => ⟨S8192x1024, .f32⟩
  | 10 => ⟨S4x2048x8x128, .f32⟩
  | 11 => ⟨S8192x1024, .f32⟩
  | 12 => ⟨S4x2048x8x128, .f32⟩
  | 13 => ⟨S8192x2048, .f32⟩
  | 14 => ⟨S4x2048x2048, .f32⟩
  | 15 => ⟨S8192x32, .f32⟩
  | 16 => ⟨S4x2048x32, .f32⟩
  | 17 => ⟨S1x1x32, .f32⟩
  | 18 => ⟨S4x2048x32, .f32⟩
  | 19 => ⟨S4x2048x32, .f32⟩
  | 20 => ⟨S_, .f32⟩
  | 21 => ⟨S4x2048x32, .f32⟩
  | 22 => ⟨S4x2048x32, .f32⟩
  | 23 => ⟨S4x2048x32, .f32⟩
  | 24 => ⟨S4x2048x32, .f32⟩
  | 25 => ⟨S4x2048x32, .i1⟩
  | 26 => ⟨S4x2048x32, .f32⟩
  | 27 => ⟨S4x2048x32, .f32⟩
  | 28 => ⟨S4x2048x32, .f32⟩
  | 29 => ⟨S4x2048x32, .f32⟩
  | 30 => ⟨S4x2048x32, .f32⟩
  | 31 => ⟨S4x2048x32, .f32⟩
  | 32 => ⟨S4x2048x32, .f32⟩
  | 33 => ⟨S4x2048x32, .f32⟩
  | 34 => ⟨S32, .f32⟩
  | 35 => ⟨S32, .f32⟩
  | 36 => ⟨S4x2048x8x4x128, .f32⟩
  | 37 => ⟨S4x2048x32x128, .f32⟩
  | 38 => ⟨S4x2048x8x4x128, .f32⟩
  | 39 => ⟨S4x2048x32x128, .f32⟩
  | 40 => ⟨S4x2048x32x1, .f32⟩
  | 41 => ⟨S4x2048x32x64, .f32⟩
  | 42 => ⟨S4x2048x32x64, .f32⟩
  | 43 => ⟨S4x16x128x32x64, .f32⟩
  | 44 => ⟨S4x16x128x32x128, .f32⟩
  | 45 => ⟨S4x16x128x32x128, .f32⟩
  | 46 => ⟨S1x1x32, .f32⟩
  | 47 => ⟨S4x2048x32, .f32⟩
  | 48 => ⟨S4x2048x32, .f32⟩
  | 49 => ⟨S4x16x128x32, .f32⟩
  | 50 => ⟨S_, .f32⟩
  | 51 => ⟨S_, .f32⟩
  | 52 => ⟨S4x16x128x32, .f32⟩
  | 53 => ⟨S4x16x128x1x32, .f32⟩
  | 54 => ⟨S4x16x1x128x32, .f32⟩
  | 55 => ⟨S4x16x128x128x32, .f32⟩
  | 56 => ⟨S4x16x128x128x32, .f32⟩
  | 57 => ⟨S4x16x128x128x32, .f32⟩
  | 58 => ⟨S_, .i1⟩
  | 59 => ⟨S128x128, .i1⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .i1⟩
  | 67 => ⟨S128x128, .i1⟩
  | 68 => ⟨S128x128, .i1⟩
  | 69 => ⟨S1x1x128x128x1, .i1⟩
  | 70 => ⟨S_, .f32⟩
  | 71 => ⟨S_, .f32⟩
  | 72 => ⟨S4x16x128x128x32, .i1⟩
  | 73 => ⟨S4x16x128x128x32, .f32⟩
  | 74 => ⟨S4x16x128x128x32, .f32⟩
  | 75 => ⟨S4x16x128x128x32, .f32⟩
  | 76 => ⟨S4x16x32x128x128, .f32⟩
  | 77 => ⟨S4x16x128x128x32, .f32⟩
  | 78 => ⟨S4x16x128x128x32, .f32⟩
  | 79 => ⟨S4x16x32x64x128, .f32⟩
  | 80 => ⟨S4x16x128x32x64, .f32⟩
  | 81 => ⟨S4x16x1x32, .f32⟩
  | 82 => ⟨S4x16x128x32, .f32⟩
  | 83 => ⟨S4x16x128x32, .f32⟩
  | 84 => ⟨S4x16x128x32, .f32⟩
  | 85 => ⟨S4x16x128x32x1, .f32⟩
  | 86 => ⟨S4x16x128x32x64, .f32⟩
  | 87 => ⟨S4x16x128x32x64, .f32⟩
  | 88 => ⟨S4x16x32x64x128, .f32⟩
  | 89 => ⟨S4x16x1x32, .f32⟩
  | 90 => ⟨S4x16x32, .f32⟩
  | 91 => ⟨S4x16x32, .f32⟩
  | 92 => ⟨S_, .f32⟩
  | 93 => ⟨S4x32x64x128, .f32⟩
  | 94 => ⟨S16x4x32, .f32⟩
  | 95 => ⟨S16x4x32x64x128, .f32⟩
  | 96 => ⟨S_, .f32⟩
  | 97 => ⟨S16x4x32x64x128, .f32⟩
  | 98 => ⟨S_, .i32⟩
  | 99 => ⟨S16x4x32, .f32⟩
  | 100 => ⟨S16x4x32x64x128, .f32⟩
  | 101 => ⟨S_, .i32⟩
  | 102 => ⟨S4x32x64x128, .f32⟩
  | 103 => ⟨S16x4x32x64x128, .f32⟩
  | 104 => ⟨S_, .i32⟩
  | 105 => ⟨S_, .i1⟩
  | 106 => ⟨S_, .i32⟩
  | 107 => ⟨S_, .i32⟩
  | 108 => ⟨S1x4x32, .f32⟩
  | 109 => ⟨S4x32, .f32⟩
  | 110 => ⟨S_, .i32⟩
  | 111 => ⟨S_, .i32⟩
  | 112 => ⟨S_, .i32⟩
  | 113 => ⟨S_, .i32⟩
  | 114 => ⟨S1x4x32x64x128, .f32⟩
  | 115 => ⟨S4x32x64x128, .f32⟩
  | 116 => ⟨S4x32x1x1, .f32⟩
  | 117 => ⟨S4x32x64x128, .f32⟩
  | 118 => ⟨S4x32x64x128, .f32⟩
  | 119 => ⟨S4x32x64x128, .f32⟩
  | 120 => ⟨S1x4x32x64x128, .f32⟩
  | 121 => ⟨S_, .i32⟩
  | 122 => ⟨S_, .i32⟩
  | 123 => ⟨S_, .i32⟩
  | 124 => ⟨S_, .i32⟩
  | 125 => ⟨S16x4x32x64x128, .f32⟩
  | 126 => ⟨S_, .i32⟩
  | 127 => ⟨S_, .i32⟩
  | _ => ⟨S8192x4096, .f32⟩

abbrev hbmTy0_1 (i : Nat) : BufTy := match i % 128 with
  | 0 => ⟨S4x16x32x64x128, .f32⟩
  | 1 => ⟨S4x16x32x64x128, .f32⟩
  | 2 => ⟨S4x16x128x32x64, .f32⟩
  | 3 => ⟨S4x16x128x32, .f32⟩
  | 4 => ⟨S4x16x128x32x1, .f32⟩
  | 5 => ⟨S4x16x128x32x64, .f32⟩
  | 6 => ⟨S4x16x128x32x64, .f32⟩
  | 7 => ⟨S4x16x128x32x64, .f32⟩
  | 8 => ⟨S4x2048x32x64, .f32⟩
  | 9 => ⟨S32x1, .f32⟩
  | 10 => ⟨S1x1x32x1, .f32⟩
  | 11 => ⟨S4x2048x32x64, .f32⟩
  | 12 => ⟨S4x2048x32x64, .f32⟩
  | 13 => ⟨S4x2048x32x64, .f32⟩
  | 14 => ⟨S4x2048x2048, .f32⟩
  | 15 => ⟨S4x2048x2048, .f32⟩
  | 16 => ⟨S4x2048x2048, .f32⟩
  | 17 => ⟨S_, .f32⟩
  | 18 => ⟨S4x2048x2048, .f32⟩
  | 19 => ⟨S4x2048x2048, .f32⟩
  | 20 => ⟨S_, .f32⟩
  | 21 => ⟨S4x2048x2048, .f32⟩
  | 22 => ⟨S4x2048x2048, .f32⟩
  | 23 => ⟨S4x2048x2048, .f32⟩
  | 24 => ⟨S4x2048x2048, .f32⟩
  | 25 => ⟨S4x2048x8x256, .f32⟩
  | 26 => ⟨S4x2048x8x256, .f32⟩
  | 27 => ⟨S_, .f32⟩
  | 28 => ⟨S4x2048x8, .f32⟩
  | 29 => ⟨S4x2048x8x1, .f32⟩
  | 30 => ⟨S_, .f32⟩
  | 31 => ⟨S4x2048x8x1, .f32⟩
  | 32 => ⟨S4x2048x8x1, .f32⟩
  | 33 => ⟨S_, .f32⟩
  | 34 => ⟨S4x2048x8x1, .f32⟩
  | 35 => ⟨S4x2048x8x1, .f32⟩
  | 36 => ⟨S4x2048x8x1, .f32⟩
  | 37 => ⟨S4x2048x8x256, .f32⟩
  | 38 => ⟨S4x2048x8x256, .f32⟩
  | 39 => ⟨S8x256, .f32⟩
  | 40 => ⟨S1x1x8x256, .f32⟩
  | 41 => ⟨S4x2048x8x256, .f32⟩
  | 42 => ⟨S4x2048x8x256, .f32⟩
  | 43 => ⟨S8192x2048, .f32⟩
  | 44 => ⟨S8192x2048, .bf16⟩
  | 45 => ⟨S4x2048x128, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_call0_cst : Ref sig .tc := ⟨.hbm, 50, rfl⟩
abbrev main_call1_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c : Ref sig .tc := ⟨.hbm, 58, rfl⟩
abbrev main_v36 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_0 : Ref sig .tc := ⟨.hbm, 66, rfl⟩
abbrev main_call2_v5 : Ref sig .tc := ⟨.hbm, 67, rfl⟩
abbrev main_v37 : Ref sig .tc := ⟨.hbm, 68, rfl⟩
abbrev main_v38 : Ref sig .tc := ⟨.hbm, 69, rfl⟩
abbrev main_cst : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_0 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_1 : Ref sig .tc := ⟨.hbm, 96, rfl⟩
abbrev main_v60 : Ref sig .tc := ⟨.hbm, 97, rfl⟩
abbrev main_c_2 : Ref sig .tc := ⟨.hbm, 98, rfl⟩
abbrev main_v61_0 : Ref sig .tc := ⟨.hbm, 99, rfl⟩
abbrev main_v61_1 : Ref sig .tc := ⟨.hbm, 100, rfl⟩
abbrev main_v61_2 : Ref sig .tc := ⟨.hbm, 101, rfl⟩
abbrev main_v61_3 : Ref sig .tc := ⟨.hbm, 102, rfl⟩
abbrev main_v61_4 : Ref sig .tc := ⟨.hbm, 103, rfl⟩
abbrev main_while0c_c_10 : Ref sig .tc := ⟨.hbm, 104, rfl⟩
abbrev main_while0c_v97 : Ref sig .tc := ⟨.hbm, 105, rfl⟩
abbrev main_while0b_call4_c : Ref sig .tc := ⟨.hbm, 106, rfl⟩
abbrev main_while0b_call4_c_0 : Ref sig .tc := ⟨.hbm, 107, rfl⟩
abbrev main_while0b_call4_v0 : Ref sig .tc := ⟨.hbm, 108, rfl⟩
abbrev main_while0b_v97 : Ref sig .tc := ⟨.hbm, 109, rfl⟩
abbrev main_while0b_call5_c : Ref sig .tc := ⟨.hbm, 110, rfl⟩
abbrev main_while0b_call5_c_0 : Ref sig .tc := ⟨.hbm, 111, rfl⟩
abbrev main_while0b_call5_c_1 : Ref sig .tc := ⟨.hbm, 112, rfl⟩
abbrev main_while0b_call5_c_2 : Ref sig .tc := ⟨.hbm, 113, rfl⟩
abbrev main_while0b_call5_v0 : Ref sig .tc := ⟨.hbm, 114, rfl⟩
abbrev main_while0b_v98 : Ref sig .tc := ⟨.hbm, 115, rfl⟩
abbrev main_while0b_v99 : Ref sig .tc := ⟨.hbm, 116, rfl⟩
abbrev main_while0b_v100 : Ref sig .tc := ⟨.hbm, 117, rfl⟩
abbrev main_while0b_v101 : Ref sig .tc := ⟨.hbm, 118, rfl⟩
abbrev main_while0b_v102 : Ref sig .tc := ⟨.hbm, 119, rfl⟩
abbrev main_while0b_call6_v0 : Ref sig .tc := ⟨.hbm, 120, rfl⟩
abbrev main_while0b_call6_c : Ref sig .tc := ⟨.hbm, 121, rfl⟩
abbrev main_while0b_call6_c_0 : Ref sig .tc := ⟨.hbm, 122, rfl⟩
abbrev main_while0b_call6_c_1 : Ref sig .tc := ⟨.hbm, 123, rfl⟩
abbrev main_while0b_call6_c_2 : Ref sig .tc := ⟨.hbm, 124, rfl⟩
abbrev main_while0b_v103 : Ref sig .tc := ⟨.hbm, 125, rfl⟩
abbrev main_while0b_c_10 : Ref sig .tc := ⟨.hbm, 126, rfl⟩
abbrev main_while0b_v104 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_call7_v0 : Ref sig .tc := ⟨.hbm, 143, rfl⟩
abbrev main_call7_v1 : Ref sig .tc := ⟨.hbm, 144, rfl⟩
abbrev main_call7_cst : Ref sig .tc := ⟨.hbm, 145, rfl⟩
abbrev main_call7_v2 : Ref sig .tc := ⟨.hbm, 146, rfl⟩
abbrev main_call7_v3 : Ref sig .tc := ⟨.hbm, 147, rfl⟩
abbrev main_call7_cst_0 : Ref sig .tc := ⟨.hbm, 148, rfl⟩
abbrev main_call7_v4 : Ref sig .tc := ⟨.hbm, 149, rfl⟩
abbrev main_call7_v5 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_cst_3 : Ref sig .tc := ⟨.hbm, 155, rfl⟩
abbrev main_v81 : Ref sig .tc := ⟨.hbm, 156, rfl⟩
abbrev main_v82 : Ref sig .tc := ⟨.hbm, 157, rfl⟩
abbrev main_cst_4 : Ref sig .tc := ⟨.hbm, 158, rfl⟩
abbrev main_v83 : Ref sig .tc := ⟨.hbm, 159, rfl⟩
abbrev main_v84 : Ref sig .tc := ⟨.hbm, 160, rfl⟩
abbrev main_cst_5 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8192x4096 : Shape := ⟨2, ![8192, 4096]⟩
abbrev S256x4096 : Shape := ⟨2, ![256, 4096]⟩
abbrev S4096x16384 : Shape := ⟨2, ![4096, 16384]⟩
abbrev S8192x16384 : Shape := ⟨2, ![8192, 16384]⟩
abbrev S256x16384 : Shape := ⟨2, ![256, 16384]⟩
abbrev S1024x4096 : Shape := ⟨2, ![1024, 4096]⟩
abbrev S1024x1024 : Shape := ⟨2, ![1024, 1024]⟩
abbrev S256x1024 : Shape := ⟨2, ![256, 1024]⟩
abbrev S4096x1024 : Shape := ⟨2, ![4096, 1024]⟩
abbrev S_ : Shape := ⟨0, ![]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x16384, .f32⟩
  | .hbm, ⟨3, _⟩ => ⟨S8192x16384, .bf16⟩
  | .hbm, ⟨4, _⟩ => ⟨S256x16384, .bf16⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S1024x1024, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S4096x1024, .f32⟩
  | .local _ .vmem, ⟨8, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_7 : BitVec 32 := 0#32
  let v11 : BitVec 1 := Scalar.cmpi .eq arg0 c0_i32_7
  let v12 : BitVec 32 := Scalar.extui v11
  let c0_i32_8 : BitVec 32 := 0#32
  let v13 : BitVec 1 := Scalar.cmpi .ne v12 c0_i32_8
  v13

def k0_mult1 : BitVec 32 :=
  let c0_i32_24 : BitVec 32 := 0#32
  c0_i32_24
def k0_mult2 (i : grid0.Coords) : BitVec 32 :=
  let arg0 : BitVec 32 := BitVec.ofNat 32 (i 0).val
  let c0_i32_9 : BitVec 32 := 0#32
  let v14 : BitVec 32 := Scalar.addi arg0 c0_i32_9
  let c1024_i32 : BitVec 32 := 1024#32
  let v15 : BitVec 32 := Scalar.muli v14 c1024_i32
  v15
def k0_off1 (i : grid0.Coords) : Fin 2 → Nat :=
  let c0_i32_10 : BitVec 32 := 0#32
  let arg0 : BitVec 32 := BitVec.ofNat 32 (i 0).val
  let c0_i32_9 : BitVec 32 := 0#32
  let v14 : BitVec 32 := Scalar.addi arg0 c0_i32_9
  let c1024_i32 : BitVec 32 := 1024#32
  let v15 : BitVec 32 := Scalar.muli v14 c1024_i32
  let v16 : BitVec 32 := v15
  ![0, v16.toNat]
def k0_cond3 (i : grid0.Coords) : BitVec 1 :=
  let arg0 : BitVec 32 := BitVec.ofNat 32 (i 0).val
  let c1_i32 : BitVec 32 := 1#32
  let v23 : BitVec 32 := Scalar.addi arg0 c1_i32
  let c16_i32 : BitVec 32 := 16#32
  let v24 : BitVec 1 := Scalar.cmpi .slt v23 c16_i32
  let v25 : BitVec 32 := Scalar.extui v24
  let c0_i32_15 : BitVec 32 := 0#32
  let v26 : BitVec 1 := Scalar.cmpi .ne v25 c0_i32_15
  v26

def k0_mult3 (i : grid0.Coords) : BitVec 32 :=
  let arg0 : BitVec 32 := BitVec.ofNat 32 (i 0).val
  let c1_i32_24 : BitVec 32 := 1#32
  let v35 : BitVec 32 := Scalar.addi arg0 c1_i32_24
  let c0_i32_25 : BitVec 32 := 0#32
  let v36 : BitVec 32 := Scalar.addi v35 c0_i32_25
  let c1024_i32_26 : BitVec 32 := 1024#32
  let v37 : BitVec 32 := Scalar.muli v36 c1024_i32_26
  v37
def k0_off2 (i : grid0.Coords) : Fin 2 → Nat :=
  let c0_i32_27 : BitVec 32 := 0#32
  let arg0 : BitVec 32 := BitVec.ofNat 32 (i 0).val
  let c1_i32_24 : BitVec 32 := 1#32
  let v35 : BitVec 32 := Scalar.addi arg0 c1_i32_24
  let c0_i32_25 : BitVec 32 := 0#32
  let v36 : BitVec 32 := Scalar.addi v35 c0_i32_25
  let c1024_i32_26 : BitVec 32 := 1024#32
  let v37 : BitVec 32 := Scalar.muli v36 c1024_i32_26
  let v38 : BitVec 32 := v37
  ![0, v38.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S8192x4096 : Shape := ⟨2, ![8192, 4096]⟩
abbrev S256x4096 : Shape := ⟨2, ![256, 4096]⟩
abbrev S4096x16384 : Shape := ⟨2, ![4096, 16384]⟩
abbrev S8192x16384 : Shape := ⟨2, ![8192, 16384]⟩
abbrev S_ : Shape := ⟨0, ![]⟩
abbrev S256x16384 : Shape := ⟨2, ![256, 16384]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x16384, .f32⟩
  | .hbm, ⟨3, _⟩ => ⟨S8192x4096, .f32⟩
  | .hbm, ⟨4, _⟩ => ⟨S8192x16384, .f32⟩
  | .hbm, ⟨5, _⟩ => ⟨S_, .f32⟩
  | .hbm, ⟨6, _⟩ => ⟨S8192x16384, .f32⟩
  | .hbm, ⟨7, _⟩ => ⟨S8192x16384, .f32⟩
  | .hbm, ⟨8, _⟩ => ⟨S8192x16384, .f32⟩
  | .hbm, ⟨9, _⟩ => ⟨S256x4096, .f32⟩
  | .hbm, ⟨10, _⟩ => ⟨S256x16384, .f32⟩
  | .hbm, ⟨11, _⟩ => ⟨S_, .f32⟩
  | .hbm, ⟨12, _⟩ => ⟨S256x16384, .f32⟩
  | .hbm, ⟨13, _⟩ => ⟨S256x16384, .f32⟩
  | .hbm, ⟨14, _⟩ => ⟨S256x16384, .f32⟩
  | .hbm, ⟨15, _⟩ => ⟨S8192x16384, .bf16⟩
  | .hbm, ⟨16, _⟩ => ⟨S256x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call1_cst : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel3.lean ====
abbrev S8192x16384 : Shape := ⟨2, ![8192, 16384]⟩
abbrev S256x16384 : Shape := ⟨2, ![256, 16384]⟩
abbrev S16384x4096 : Shape := ⟨2, ![16384, 4096]⟩
abbrev S8192x4096 : Shape := ⟨2, ![8192, 4096]⟩
abbrev S256x4096 : Shape := ⟨2, ![256, 4096]⟩
abbrev S512x4096 : Shape := ⟨2, ![512, 4096]⟩
abbrev S512x1024 : Shape := ⟨2, ![512, 1024]⟩
abbrev S256x1024 : Shape := ⟨2, ![256, 1024]⟩
abbrev S4096x1024 : Shape := ⟨2, ![4096, 1024]⟩
abbrev S_ : Shape := ⟨0, ![]⟩

abbrev nBuf : Space → Nat
  | .hbm => 13
  | .vmem => 52
  | .smem => 0
  | _ => 0

abbrev bufTy : (tb : Table) → Fin (tcTables nBuf tb) → BufTy
  | .hbm, ⟨0, _⟩ => ⟨S8192x16384, .bf16⟩
  | .hbm, ⟨1, _⟩ => ⟨S256x16384, .bf16⟩
  | .hbm, ⟨2, _⟩ => ⟨S16384x4096, .f32⟩
  | .hbm, ⟨3, _⟩ => ⟨S8192x4096, .f32⟩
  | .hbm, ⟨4, _⟩ => ⟨S256x4096, .f32⟩
  | .hbm, ⟨5, _⟩ => ⟨S8192x4096, .f32⟩
  | .hbm, ⟨6, _⟩ => ⟨S256x4096, .f32⟩
  | .hbm, ⟨7, _⟩ => ⟨S8192x4096, .f32⟩
  | .hbm, ⟨8, _⟩ => ⟨S256x4096, .f32⟩
  | .hbm, ⟨9, _⟩ => ⟨S8192x4096, .f32⟩
  | .hbm, ⟨10, _⟩ => ⟨S256x4096, .f32⟩
  | .hbm, ⟨11, _⟩ => ⟨S8192x4096, .f32⟩
  | .hbm, ⟨12, _⟩ => ⟨S256x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S512x1024, .f32⟩
  | .local _ .vmem, ⟨4, _⟩ => ⟨S512x1024, .f32⟩
  | .local _ .vmem, ⟨5, _⟩ => ⟨S256x1024, .f32⟩
  | .local _ .vmem, ⟨6, _⟩ => ⟨S256x1024, .f32⟩
  | .local _ .vmem, ⟨7, _⟩ => ⟨S512x1024, .f32⟩
  | .local _ .vmem, ⟨8, _⟩ => ⟨S512x1024, .f32⟩
  | .local _ .vmem, ⟨9, _⟩ => ⟨S256x1024, .f32⟩
  | .local _ .vmem, ⟨10, _⟩ => ⟨S256x1024, .f32⟩
  | .local _ .vmem, ⟨11, _⟩ => ⟨S4096x1024, .f32⟩
  | .local _ .vmem, ⟨12, _⟩ => ⟨S4096x1024, .bf16⟩
  | .local _ .vmem, ⟨13, _⟩ => ⟨S512x4096, .bf16⟩
  | .local _ .vmem, ⟨14, _⟩ => ⟨S512x4096, .bf16⟩
  | .local _ .vmem, ⟨15, _⟩ => ⟨S256x4096, .bf16⟩
  | .local _ .vmem, ⟨16, _⟩ => ⟨S512x1024, .f32⟩
  | .local _ .vmem, ⟨17, _⟩ => ⟨S512x1024, .f32⟩
  | .local _ .vmem, ⟨18, _⟩ => ⟨S256x1024, .f32⟩
  | .local _ .vmem, ⟨19, _⟩ => ⟨S256x1024, .f32⟩
  | .local _ .vmem, ⟨20, _⟩ => ⟨S512x1024, .f32⟩
  | .local _ .vmem, ⟨21, _⟩ => ⟨S512x1024, .f32⟩
  | .local _ .vmem, ⟨22, _⟩ => ⟨S256x1024, .f32⟩
  | .local _ .vmem, ⟨23, _⟩ => ⟨S256x1024, .f32⟩
  | .local _ .vmem, ⟨24, _⟩ => ⟨S4096x1024, .f32⟩
  | .local _ .vmem, ⟨25, _⟩ => ⟨S4096x1024, .bf16⟩
  | .local _ .vmem, ⟨26, _⟩ => ⟨S512x4096, .bf16⟩
  | .local _ .vmem, ⟨27, _⟩ => ⟨S512x4096, .bf16⟩
  | .local _ .vmem, ⟨28, _⟩ => ⟨S256x4096, .bf16⟩
  | .local _ .vmem, ⟨29, _⟩ => ⟨S512x1024, .f32⟩
  | .local _ .vmem, ⟨30, _⟩ => ⟨S512x1024, .f32⟩
  | .local _ .vmem, ⟨31, _⟩ => ⟨S256x1024, .f32⟩
  | .local _ .vmem, ⟨32, _⟩ => ⟨S256x1024, .f32⟩
  | .local _ .vmem, ⟨33, _⟩ => ⟨S512x1024, .f32⟩
  | .local _ .vmem, ⟨34, _⟩ => ⟨S512x1024, .f32⟩
  | .local _ .vmem, ⟨35, _⟩ => ⟨S256x1024, .f32⟩
  | .local _ .vmem, ⟨36, _⟩ => ⟨S256x1024, .f32⟩
  | .local _ .vmem, ⟨37, _⟩ => ⟨S4096x1024, .f32⟩
  | .local _ .vmem, ⟨38, _⟩ => ⟨S4096x1024, .bf16⟩
  | .local _ .vmem, ⟨39, _⟩ => ⟨S512x4096, .bf16⟩
  | .local _ .vmem, ⟨40, _⟩ => ⟨S512x4096, .bf16⟩
  | .local _ .vmem, ⟨41, _⟩ => ⟨S256x4096, .bf16⟩
  | .local _ .vmem, ⟨42, _⟩ => ⟨S512x1024, .f32⟩
  | .local _ .vmem, ⟨43, _⟩ => ⟨S512x1024, .f32⟩
  | .local _ .vmem, ⟨44, _⟩ => ⟨S256x1024, .f32⟩
  | .local _ .vmem, ⟨45, _⟩ => ⟨S256x1024, .f32⟩
  | .local _ .vmem, ⟨46, _⟩ => ⟨S512x1024, .f32⟩
  | .local _ .vmem, ⟨47, _⟩ => ⟨S512x1024, .f32⟩
  | .local _ .vmem, ⟨48, _⟩ => ⟨S256x1024, .f32⟩
  | .local _ .vmem, ⟨49, _⟩ => ⟨S256x1024, .f32⟩
  | .local _ .vmem, ⟨50, _⟩ => ⟨S4096x1024, .f32⟩
  | .local _ .vmem, ⟨51, _⟩ => ⟨S4096x1024, .bf16⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v2_0 : Ref sig .tc := ⟨.hbm, 9, rfl⟩
abbrev main_v2_1 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg4_1 : Ref sig .tc := ⟨.vmem, 34, rfl⟩
abbrev cc2_stg5_0 : Ref sig .tc := ⟨.vmem, 35, rfl⟩
abbrev cc2_stg5_1 : Ref sig .tc := ⟨.vmem, 36, rfl⟩
abbrev cc2_scratch0 : Ref sig .tc := ⟨.vmem, 37, rfl⟩
abbrev cc2_scratch1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg4_1 : Ref sig .tc := ⟨.vmem, 47, rfl⟩
abbrev cc3_stg5_0 : Ref sig .tc := ⟨.vmem, 48, rfl⟩
abbrev cc3_stg5_1 : Ref sig .tc := ⟨.vmem, 49, rfl⟩
abbrev cc3_scratch0 : Ref sig .tc := ⟨.vmem, 50, rfl⟩
abbrev cc3_scratch1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc3_sem0_0 : DmaSem sig := 36
abbrev cc3_sem0_1 : DmaSem sig := 37
abbrev cc3_sem1_0 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_8 : BitVec 32 := 0#32
  let v9 : BitVec 1 := Scalar.cmpi .eq arg0 c0_i32_8
  let v10 : BitVec 32 := Scalar.extui v9
  let c0_i32_9 : BitVec 32 := 0#32
  let v11 : BitVec 1 := Scalar.cmpi .ne v10 c0_i32_9
  v11

def k0_mult1 : BitVec 32 :=
  let c0_i32_26 : BitVec 32 := 0#32
  c0_i32_26
def k0_mult2 (i : grid0.Coords) : BitVec 32 :=
  let arg0 : BitVec 32 := BitVec.ofNat 32 (i 0).val
  let c0_i32_10 : BitVec 32 := 0#32
  let v12 : BitVec 32 := Scalar.addi arg0 c0_i32_10
  let c1024_i32 : BitVec 32 := 1024#32
  let v13 : BitVec 32 := Scalar.muli v12 c1024_i32
  v13
def k0_off1 (i : grid0.Coords) : Fin 2 → Nat :=
  let c0_i32_11 : BitVec 32 := 0#32
  let arg0 : BitVec 32 := BitVec.ofNat 32 (i 0).val
  let c0_i32_10 : BitVec 32 := 0#32
  let v12 : BitVec 32 := Scalar.addi arg0 c0_i32_10
  let c1024_i32 : BitVec 32 := 1024#32
  let v13 : BitVec 32 := Scalar.muli v12 c1024_i32
  let v14 : BitVec 32 := v13
  ![0, v14.toNat]
def k0_cond3 (i : grid0.Coords) : BitVec 1 :=
  let arg0 : BitVec 32 := BitVec.ofNat 32 (i 0).val
  let c1_i32 : BitVec 32 := 1#32
  let v21 : BitVec 32 := Scalar.addi arg0 c1_i32
  let c4_i32 : BitVec 32 := 4#32
  let v22 : BitVec 1 := Scalar.cmpi .slt v21 c4_i32
  let v23 : BitVec 32 := Scalar.extui v22
  let c0_i32_16 : BitVec 32 := 0#32
  let v24 : BitVec 1 := Scalar.cmpi .ne v23 c0_i32_16
  v24

def k0_mult3 (i : grid0.Coords) : BitVec 32 :=
  let arg0 : BitVec 32 := BitVec.ofNat 32 (i 0).val
  let c1_i32_26 : BitVec 32 := 1#32
  let v31 : BitVec 32 := Scalar.addi arg0 c1_i32_26
  let c0_i32_27 : BitVec 32 := 0#32
  let v32 : BitVec 32 := Scalar.addi v31 c0_i32_27
  let c1024_i32_28 : BitVec 32 := 1024#32
  let v33 : BitVec 32 := Scalar.muli v32 c1024_i32_28
  v33
def k0_off2 (i : grid0.Coords) : Fin 2 → Nat :=
  let c0_i32_29 : BitVec 32 := 0#32
  let arg0 : BitVec 32 := BitVec.ofNat 32 (i 0).val
  let c1_i32_26 : BitVec 32 := 1#32
  let v31 : BitVec 32 := Scalar.addi arg0 c1_i32_26
  let c0_i32_27 : BitVec 32 := 0#32
  let v32 : BitVec 32 := Scalar.addi v31 c0_i32_27
  let c1024_i32_28 : BitVec 32 := 1024#32
  let v33 : BitVec 32 := Scalar.muli v32 c1024_i32_28
  let v34 : BitVec 32 := v33
  ![0, v34.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 16], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_8 : BitVec 32 := 0#32
  let v10 : BitVec 1 := Scalar.cmpi .eq arg0 c0_i32_8
  let v11 : BitVec 32 := Scalar.extui v10
  let c0_i32_9 : BitVec 32 := 0#32
  let v12 : BitVec 1 := Scalar.cmpi .ne v11 c0_i32_9
  v12

def k1_mult1 : BitVec 32 :=
  let c0_i32_25 : BitVec 32 := 0#32
  c0_i32_25
def k1_mult2 (i : grid1.Coords) : BitVec 32 :=
  let arg0 : BitVec 32 := BitVec.ofNat 32 (i 0).val
  let c0_i32_10 : BitVec 32 := 0#32
  let v13 : BitVec 32 := Scalar.addi arg0 c0_i32_10
  let c1024_i32 : BitVec 32 := 1024#32
  let v14 : BitVec 32 := Scalar.muli v13 c1024_i32
  v14
def k1_off1 (i : grid1.Coords) : Fin 2 → Nat :=
  let c4096_i32 : BitVec 32 := 4096#32
  let arg0 : BitVec 32 := BitVec.ofNat 32 (i 0).val
  let c0_i32_10 : BitVec 32 := 0#32
  let v13 : BitVec 32 := Scalar.addi arg0 c0_i32_10
  let c1024_i32 : BitVec 32 := 1024#32
  let v14 : BitVec 32 := Scalar.muli v13 c1024_i32
  let v15 : BitVec 32 := v14
  ![4096, v15.toNat]
def k1_cond3 (i : grid1.Coords) : BitVec 1 :=
  let arg0 : BitVec 32 := BitVec.ofNat 32 (i 0).val
  let c1_i32 : BitVec 32 := 1#32
  let v22 : BitVec 32 := Scalar.addi arg0 c1_i32
  let c4_i32 : BitVec 32 := 4#32
  let v23 : BitVec 1 := Scalar.cmpi .slt v22 c4_i32
  let v24 : BitVec 32 := Scalar.extui v23
  let c0_i32_15 : BitVec 32 := 0#32
  let v25 : BitVec 1 := Scalar.cmpi .ne v24 c0_i32_15
  v25

def k1_mult3 (i : grid1.Coords) : BitVec 32 :=
  let arg0 : BitVec 32 := BitVec.ofNat 32 (i 0).val
  let c1_i32_25 : BitVec 32 := 1#32
  let v33 : BitVec 32 := Scalar.addi arg0 c1_i32_25
  let c0_i32_26 : BitVec 32 := 0#32
  let v34 : BitVec 32 := Scalar.addi v33 c0_i32_26
  let c1024_i32_27 : BitVec 32 := 1024#32
  let v35 : BitVec 32 := Scalar.muli v34 c1024_i32_27
  v35
def k1_off2 (i : grid1.Coords) : Fin 2 → Nat :=
  let c4096_i32_28 : BitVec 32 := 4096#32
  let arg0 : BitVec 32 := BitVec.ofNat 32 (i 0).val
  let c1_i32_25 : BitVec 32 := 1#32
  let v33 : BitVec 32 := Scalar.addi arg0 c1_i32_25
  let c0_i32_26 : BitVec 32 := 0#32
  let v34 : BitVec 32 := Scalar.addi v33 c0_i32_26
  let c1024_i32_27 : BitVec 32 := 1024#32
  let v35 : BitVec 32 := Scalar.muli v34 c1024_i32_27
  let v36 : BitVec 32 := v35
  ![4096, v36.toNat]
def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S256x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 16], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg0 : BitVec 32 := BitVec.ofNat 32 (i 0).val
  let c0_i32_8 : BitVec 32 := 0#32
  let v10 : BitVec 1 := Scalar.cmpi .eq arg0 c0_i32_8
  let v11 : BitVec 32 := Scalar.extui v10
  let c0_i32_9 : BitVec 32 := 0#32
  let v12 : BitVec 1 := Scalar.cmpi .ne v11 c0_i32_9
  v12

def k2_mult1 : BitVec 32 :=
  let c0_i32_25 : BitVec 32 := 0#32
  c0_i32_25
def k2_mult2 (i : grid2.Coords) : BitVec 32 :=
  let arg0 : BitVec 32 := BitVec.ofNat 32 (i 0).val
  let c0_i32_10 : BitVec 32 := 0#32
  let v13 : BitVec 32 := Scalar.addi arg0 c0_i32_10
  let c1024_i32 : BitVec 32 := 1024#32
  let v14 : BitVec 32 := Scalar.muli v13 c1024_i32
  v14
def k2_off1 (i : grid2.Coords) : Fin 2 → Nat :=
  let c8192_i32 : BitVec 32 := 8192#32
  let arg0 : BitVec 32 := BitVec.ofNat 32 (i 0).val
  let c0_i32_10 : BitVec 32 := 0#32
  let v13 : BitVec 32 := Scalar.addi arg0 c0_i32_10
  let c1024_i32 : BitVec 32 := 1024#32
  let v14 : BitVec 32 := Scalar.muli v13 c1024_i32
  let v15 : BitVec 32 := v14
  ![8192, v15.toNat]
def k2_cond3 (i : grid2.Coords) : BitVec 1 :=
  let arg0 : BitVec 32 := BitVec.ofNat 32 (i 0).val
  let c1_i32 : BitVec 32 := 1#32
  let v22 : BitVec 32 := Scalar.addi arg0 c1_i32
  let c4_i32 : BitVec 32 := 4#32
  let v23 : BitVec 1 := Scalar.cmpi .slt v22 c4_i32
  let v24 : BitVec 32 := Scalar.extui v23
  let c0_i32_15 : BitVec 32 := 0#32
  let v25 : BitVec 1 := Scalar.cmpi .ne v24 c0_i32_15
  v25

def k2_mult3 (i : grid2.Coords) : BitVec 32 :=
  let arg0 : BitVec 32 := BitVec.ofNat 32 (i 0).val
  let c1_i32_25 : BitVec 32 := 1#32
  let v33 : BitVec 32 := Scalar.addi arg0 c1_i32_25
  let c0_i32_26 : BitVec 32 := 0#32
  let v34 : BitVec 32 := Scalar.addi v33 c0_i32_26
  let c1024_i32_27 : BitVec 32 := 1024#32
  let v35 : BitVec 32 := Scalar.muli v34 c1024_i32_27
  v35
def k2_off2 (i : grid2.Coords) : Fin 2 → Nat :=
  let c8192_i32_28 : BitVec 32 := 8192#32
  let arg0 : BitVec 32 := BitVec.ofNat 32 (i 0).val
  let c1_i32_25 : BitVec 32 := 1#32
  let v33 : BitVec 32 := Scalar.addi arg0 c1_i32_25
  let c0_i32_26 : BitVec 32 := 0#32
  let v34 : BitVec 32 := Scalar.addi v33 c0_i32_26
  let c1024_i32_27 : BitVec 32 := 1024#32
  let v35 : BitVec 32 := Scalar.muli v34 c1024_i32_27
  let v36 : BitVec 32 := v35
  ![8192, v36.toNat]
def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S256x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![4, 16], ![false, false]⟩

def k3_cond1 (i : grid3.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k3_cond2 (i : grid3.Coords) : BitVec 1 :=
  let arg0 : BitVec 32 := BitVec.ofNat 32 (i 0).val
  let c0_i32_8 : BitVec 32 := 0#32
  let v10 : BitVec 1 := Scalar.cmpi .eq arg0 c0_i32_8
  let v11 : BitVec 32 := Scalar.extui v10
  let c0_i32_9 : BitVec 32 := 0#32
  let v12 : BitVec 1 := Scalar.cmpi .ne v11 c0_i32_9
  v12

def k3_mult1 : BitVec 32 :=
  let c0_i32_25 : BitVec 32 := 0#32
  c0_i32_25
def k3_mult2 (i : grid3.Coords) : BitVec 32 :=
  let arg0 : BitVec 32 := BitVec.ofNat 32 (i 0).val
  let c0_i32_10 : BitVec 32 := 0#32
  let v13 : BitVec 32 := Scalar.addi arg0 c0_i32_10
  let c1024_i32 : BitVec 32 := 1024#32
  let v14 : BitVec 32 := Scalar.muli v13 c1024_i32
  v14
def k3_off1 (i : grid3.Coords) : Fin 2 → Nat :=
  let c12288_i32 : BitVec 32 := 12288#32
  let arg0 : BitVec 32 := BitVec.ofNat 32 (i 0).val
  let c0_i32_10 : BitVec 32 := 0#32
  let v13 : BitVec 32 := Scalar.addi arg0 c0_i32_10
  let c1024_i32 : BitVec 32 := 1024#32
  let v14 : BitVec 32 := Scalar.muli v13 c1024_i32
  let v15 : BitVec 32 := v14
  ![12288, v15.toNat]
def k3_cond3 (i : grid3.Coords) : BitVec 1 :=
  let arg0 : BitVec 32 := BitVec.ofNat 32 (i 0).val
  let c1_i32 : BitVec 32 := 1#32
  let v22 : BitVec 32 := Scalar.addi arg0 c1_i32
  let c4_i32 : BitVec 32 := 4#32
  let v23 : BitVec 1 := Scalar.cmpi .slt v22 c4_i32
  let v24 : BitVec 32 := Scalar.extui v23
  let c0_i32_15 : BitVec 32 := 0#32
  let v25 : BitVec 1 := Scalar.cmpi .ne v24 c0_i32_15
  v25

def k3_mult3 (i : grid3.Coords) : BitVec 32 :=
  let arg0 : BitVec 32 := BitVec.ofNat 32 (i 0).val
  let c1_i32_25 : BitVec 32 := 1#32
  let v33 : BitVec 32 := Scalar.addi arg0 c1_i32_25
  let c0_i32_26 : BitVec 32 := 0#32
  let v34 : BitVec 32 := Scalar.addi v33 c0_i32_26
  let c1024_i32_27 : BitVec 32 := 1024#32
  let v35 : BitVec 32 := Scalar.muli v34 c1024_i32_27
  v35
def k3_off2 (i : grid3.Coords) : Fin 2 → Nat :=
  let c12288_i32_28 : BitVec 32 := 12288#32
  let arg0 : BitVec 32 := BitVec.ofNat 32 (i 0).val
  let c1_i32_25 : BitVec 32 := 1#32
  let v33 : BitVec 32 := Scalar.addi arg0 c1_i32_25
  let c0_i32_26 : BitVec 32 := 0#32
  let v34 : BitVec 32 := Scalar.addi v33 c0_i32_26
  let c1024_i32_27 : BitVec 32 := 1024#32
  let v35 : BitVec 32 := Scalar.muli v34 c1024_i32_27
  let v36 : BitVec 32 := v35
  ![12288, v36.toNat]
def cc3_transform_0 (i : grid3.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S256x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]
-- ==== Reference3Ideal.lean ====
abbrev S8192x16384 : Shape := ⟨2, ![8192, 16384]⟩
abbrev S256x16384 : Shape := ⟨2, ![256, 16384]⟩
abbrev S16384x4096 : Shape := ⟨2, ![16384, 4096]⟩
abbrev S8192x4096 : Shape := ⟨2, ![8192, 4096]⟩
abbrev S256x4096 : Shape := ⟨2, ![256, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S256x16384, .bf16⟩
  | .hbm, ⟨2, _⟩ => ⟨S16384x4096, .f32⟩
  | .hbm, ⟨3, _⟩ => ⟨S8192x4096, .f32⟩
  | .hbm, ⟨4, _⟩ => ⟨S256x4096, .f32⟩
  | .hbm, ⟨5, _⟩ => ⟨S8192x16384, .f32⟩
  | .hbm, ⟨6, _⟩ => ⟨S8192x4096, .f32⟩
  | .hbm, ⟨7, _⟩ => ⟨S8192x4096, .f32⟩
  | .hbm, ⟨8, _⟩ => ⟨S256x16384, .f32⟩
  | .hbm, ⟨9, _⟩ => ⟨S256x4096, .f32⟩
  | .hbm, ⟨10, _⟩ => ⟨S256x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S8192x4096 : Shape := ⟨2, ![8192, 4096]⟩
abbrev S256x4096 : Shape := ⟨2, ![256, 4096]⟩
abbrev S4096x9248 : Shape := ⟨2, ![4096, 9248]⟩
abbrev S32x3x4096 : Shape := ⟨3, ![32, 3, 4096]⟩
abbrev S9248x4096 : Shape := ⟨2, ![9248, 4096]⟩
abbrev S8192x9216 : Shape := ⟨2, ![8192, 9216]⟩
abbrev S256x9216 : Shape := ⟨2, ![256, 9216]⟩
abbrev S512x4096 : Shape := ⟨2, ![512, 4096]⟩
abbrev S512x1024 : Shape := ⟨2, ![512, 1024]⟩
abbrev S256x1024 : Shape := ⟨2, ![256, 1024]⟩
abbrev S1024x4096 : Shape := ⟨2, ![1024, 4096]⟩
abbrev S4096x1024 : Shape := ⟨2, ![4096, 1024]⟩
abbrev S_ : Shape := ⟨0, ![]⟩
abbrev S4x2048x9216 : Shape := ⟨3, ![4, 2048, 9216]⟩
abbrev S4x3x4096 : Shape := ⟨3, ![4, 3, 4096]⟩
abbrev S32x8x4096 : Shape := ⟨3, ![32, 8, 4096]⟩
abbrev S32x11x4096 : Shape := ⟨3, ![32, 11, 4096]⟩

abbrev nBuf : Space → Nat
  | .hbm => 13
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x9248, .f32⟩
  | .hbm, ⟨3, _⟩ => ⟨S32x3x4096, .f32⟩
  | .hbm, ⟨4, _⟩ => ⟨S9248x4096, .f32⟩
  | .hbm, ⟨5, _⟩ => ⟨S8192x9216, .f32⟩
  | .hbm, ⟨6, _⟩ => ⟨S256x9216, .f32⟩
  | .hbm, ⟨7, _⟩ => ⟨S4x2048x9216, .f32⟩
  | .hbm, ⟨8, _⟩ => ⟨S4x3x4096, .f32⟩
  | .hbm, ⟨9, _⟩ => ⟨S256x4096, .f32⟩
  | .hbm, ⟨10, _⟩ => ⟨S32x8x4096, .f32⟩
  | .hbm, ⟨11, _⟩ => ⟨S32x11x4096, .f32⟩
  | .hbm, ⟨12, _⟩ => ⟨S32x3x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S512x1024, .f32⟩
  | .local _ .vmem, ⟨4, _⟩ => ⟨S512x1024, .f32⟩
  | .local _ .vmem, ⟨5, _⟩ => ⟨S256x1024, .f32⟩
  | .local _ .vmem, ⟨6, _⟩ => ⟨S256x1024, .f32⟩
  | .local _ .vmem, ⟨7, _⟩ => ⟨S1024x4096, .f32⟩
  | .local _ .vmem, ⟨8, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_6 : BitVec 32 := 0#32
  let v7 : BitVec 1 := Scalar.cmpi .eq arg0 c0_i32_6
  let v8 : BitVec 32 := Scalar.extui v7
  let c0_i32_7 : BitVec 32 := 0#32
  let v9 : BitVec 1 := Scalar.cmpi .ne v8 c0_i32_7
  v9

def k0_mult1 : BitVec 32 :=
  let c0_i32_22 : BitVec 32 := 0#32
  c0_i32_22
def k0_mult2 (i : grid0.Coords) : BitVec 32 :=
  let arg0 : BitVec 32 := BitVec.ofNat 32 (i 0).val
  let c0_i32_8 : BitVec 32 := 0#32
  let v10 : BitVec 32 := Scalar.addi arg0 c0_i32_8
  let c1024_i32 : BitVec 32 := 1024#32
  let v11 : BitVec 32 := Scalar.muli v10 c1024_i32
  v11
def k0_off1 (i : grid0.Coords) : Fin 2 → Nat :=
  let arg0 : BitVec 32 := BitVec.ofNat 32 (i 0).val
  let c0_i32_8 : BitVec 32 := 0#32
  let v10 : BitVec 32 := Scalar.addi arg0 c0_i32_8
  let c1024_i32 : BitVec 32 := 1024#32
  let v11 : BitVec 32 := Scalar.muli v10 c1024_i32
  let v12 : BitVec 32 := v11
  let c0_i32_9 : BitVec 32 := 0#32
  ![v12.toNat, 0]
def k0_cond3 (i : grid0.Coords) : BitVec 1 :=
  let arg0 : BitVec 32 := BitVec.ofNat 32 (i 0).val
  let c1_i32 : BitVec 32 := 1#32
  let v20 : BitVec 32 := Scalar.addi arg0 c1_i32
  let c9_i32 : BitVec 32 := 9#32
  let v21 : BitVec 1 := Scalar.cmpi .slt v20 c9_i32
  let v22 : BitVec 32 := Scalar.extui v21
  let c0_i32_14 : BitVec 32 := 0#32
  let v23 : BitVec 1 := Scalar.cmpi .ne v22 c0_i32_14
  v23

def k0_mult3 (i : grid0.Coords) : BitVec 32 :=
  let arg0 : BitVec 32 := BitVec.ofNat 32 (i 0).val
  let c1_i32_22 : BitVec 32 := 1#32
  let v28 : BitVec 32 := Scalar.addi arg0 c1_i32_22
  let c0_i32_23 : BitVec 32 := 0#32
  let v29 : BitVec 32 := Scalar.addi v28 c0_i32_23
  let c1024_i32_24 : BitVec 32 := 1024#32
  let v30 : BitVec 32 := Scalar.muli v29 c1024_i32_24
  v30
def k0_off2 (i : grid0.Coords) : Fin 2 → Nat :=
  let arg0 : BitVec 32 := BitVec.ofNat 32 (i 0).val
  let c1_i32_22 : BitVec 32 := 1#32
  let v28 : BitVec 32 := Scalar.addi arg0 c1_i32_22
  let c0_i32_23 : BitVec 32 := 0#32
  let v29 : BitVec 32 := Scalar.addi v28 c0_i32_23
  let c1024_i32_24 : BitVec 32 := 1024#32
  let v30 : BitVec 32 := Scalar.muli v29 c1024_i32_24
  let v31 : BitVec 32 := v30
  let c0_i32_25 : BitVec 32 := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S8192x4096 : Shape := ⟨2, ![8192, 4096]⟩
abbrev S256x4096 : Shape := ⟨2, ![256, 4096]⟩
abbrev S4096x9248 : Shape := ⟨2, ![4096, 9248]⟩
abbrev S32x3x4096 : Shape := ⟨3, ![32, 3, 4096]⟩
abbrev S8192x9248 : Shape := ⟨2, ![8192, 9248]⟩
abbrev S256x9248 : Shape := ⟨2, ![256, 9248]⟩
abbrev S4x2048x4096 : Shape := ⟨3, ![4, 2048, 4096]⟩
abbrev S32x8x4096 : Shape := ⟨3, ![32, 8, 4096]⟩
abbrev S_ : Shape := ⟨0, ![]⟩
abbrev S4x3x4096 : Shape := ⟨3, ![4, 3, 4096]⟩
abbrev S4x2051x4096 : Shape := ⟨3, ![4, 2051, 4096]⟩
abbrev S32x11x4096 : Shape := ⟨3, ![32, 11, 4096]⟩
abbrev S8192x9216 : Shape := ⟨2, ![8192, 9216]⟩
abbrev S256x9216 : Shape := ⟨2, ![256, 9216]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S4096x9248, .f32⟩
  | .hbm, ⟨3, _⟩ => ⟨S32x3x4096, .f32⟩
  | .hbm, ⟨4, _⟩ => ⟨S8192x4096, .f32⟩
  | .hbm, ⟨5, _⟩ => ⟨S8192x9248, .f32⟩
  | .hbm, ⟨6, _⟩ => ⟨S256x4096, .f32⟩
  | .hbm, ⟨7, _⟩ => ⟨S256x9248, .f32⟩
  | .hbm, ⟨8, _⟩ => ⟨S8192x4096, .f32⟩
  | .hbm, ⟨9, _⟩ => ⟨S4x2048x4096, .f32⟩
  | .hbm, ⟨10, _⟩ => ⟨S256x4096, .f32⟩
  | .hbm, ⟨11, _⟩ => ⟨S32x8x4096, .f32⟩
  | .hbm, ⟨12, _⟩ => ⟨S_, .f32⟩
  | .hbm, ⟨13, _⟩ => ⟨S4x3x4096, .f32⟩
  | .hbm, ⟨14, _⟩ => ⟨S4x2051x4096, .f32⟩
  | .hbm, ⟨15, _⟩ => ⟨S4x3x4096, .f32⟩
  | .hbm, ⟨16, _⟩ => ⟨S32x11x4096, .f32⟩
  | .hbm, ⟨17, _⟩ => ⟨S32x3x4096, .f32⟩
  | .hbm, ⟨18, _⟩ => ⟨S8192x9216, .f32⟩
  | .hbm, ⟨19, _⟩ => ⟨S256x9216, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel5.lean ====
abbrev S8192x2048 : Shape := ⟨2, ![8192, 2048]⟩
abbrev S256x2048 : Shape := ⟨2, ![256, 2048]⟩
abbrev S4096x4096 : Shape := ⟨2, ![4096, 4096]⟩
abbrev S8192x4096 : Shape := ⟨2, ![8192, 4096]⟩
abbrev S256x4096 : Shape := ⟨2, ![256, 4096]⟩
abbrev S512x2048 : Shape := ⟨2, ![512, 2048]⟩
abbrev S512x1024 : Shape := ⟨2, ![512, 1024]⟩
abbrev S256x1024 : Shape := ⟨2, ![256, 1024]⟩
abbrev S4096x1024 : Shape := ⟨2, ![4096, 1024]⟩
abbrev S_ : Shape := ⟨0, ![]⟩
abbrev S2048x1024 : Shape := ⟨2, ![2048, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S256x2048, .f32⟩
  | .hbm, ⟨3, _⟩ => ⟨S256x2048, .f32⟩
  | .hbm, ⟨4, _⟩ => ⟨S4096x4096, .f32⟩
  | .hbm, ⟨5, _⟩ => ⟨S8192x4096, .f32⟩
  | .hbm, ⟨6, _⟩ => ⟨S256x4096, .f32⟩
  | .hbm, ⟨7, _⟩ => ⟨S8192x4096, .f32⟩
  | .hbm, ⟨8, _⟩ => ⟨S256x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S256x2048, .f32⟩
  | .local _ .vmem, ⟨5, _⟩ => ⟨S256x2048, .f32⟩
  | .local _ .vmem, ⟨6, _⟩ => ⟨S512x1024, .f32⟩
  | .local _ .vmem, ⟨7, _⟩ => ⟨S512x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .f32⟩
  | .local _ .vmem, ⟨11, _⟩ => ⟨S512x1024, .f32⟩
  | .local _ .vmem, ⟨12, _⟩ => ⟨S256x1024, .f32⟩
  | .local _ .vmem, ⟨13, _⟩ => ⟨S256x1024, .f32⟩
  | .local _ .vmem, ⟨14, _⟩ => ⟨S4096x1024, .f32⟩
  | .local _ .vmem, ⟨15, _⟩ => ⟨S4096x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_12 : BitVec 32 := 0#32
  let v13 : BitVec 1 := Scalar.cmpi .eq arg0 c0_i32_12
  let v14 : BitVec 32 := Scalar.extui v13
  let c0_i32_13 : BitVec 32 := 0#32
  let v15 : BitVec 1 := Scalar.cmpi .ne v14 c0_i32_13
  v15

def k0_mult1 : BitVec 32 :=
  let c0_i32_35 : BitVec 32 := 0#32
  c0_i32_35
def k0_mult2 (i : grid0.Coords) : BitVec 32 :=
  let arg0 : BitVec 32 := BitVec.ofNat 32 (i 0).val
  let c0_i32_14 : BitVec 32 := 0#32
  let v16 : BitVec 32 := Scalar.addi arg0 c0_i32_14
  let c1024_i32 : BitVec 32 := 1024#32
  let v17 : BitVec 32 := Scalar.muli v16 c1024_i32
  v17
def k0_off1 (i : grid0.Coords) : Fin 2 → Nat :=
  let c0_i32_15 : BitVec 32 := 0#32
  let arg0 : BitVec 32 := BitVec.ofNat 32 (i 0).val
  let c0_i32_14 : BitVec 32 := 0#32
  let v16 : BitVec 32 := Scalar.addi arg0 c0_i32_14
  let c1024_i32 : BitVec 32 := 1024#32
  let v17 : BitVec 32 := Scalar.muli v16 c1024_i32
  let v18 : BitVec 32 := v17
  ![0, v18.toNat]
def k0_cond3 (i : grid0.Coords) : BitVec 1 :=
  let arg0 : BitVec 32 := BitVec.ofNat 32 (i 0).val
  let c1_i32 : BitVec 32 := 1#32
  let v25 : BitVec 32 := Scalar.addi arg0 c1_i32
  let c4_i32 : BitVec 32 := 4#32
  let v26 : BitVec 1 := Scalar.cmpi .slt v25 c4_i32
  let v27 : BitVec 32 := Scalar.extui v26
  let c0_i32_20 : BitVec 32 := 0#32
  let v28 : BitVec 1 := Scalar.cmpi .ne v27 c0_i32_20
  v28

def k0_mult3 (i : grid0.Coords) : BitVec 32 :=
  let arg0 : BitVec 32 := BitVec.ofNat 32 (i 0).val
  let c1_i32_35 : BitVec 32 := 1#32
  let v41 : BitVec 32 := Scalar.addi arg0 c1_i32_35
  let c0_i32_36 : BitVec 32 := 0#32
  let v42 : BitVec 32 := Scalar.addi v41 c0_i32_36
  let c1024_i32_37 : BitVec 32 := 1024#32
  let v43 : BitVec 32 := Scalar.muli v42 c1024_i32_37
  v43
def k0_off2 (i : grid0.Coords) : Fin 2 → Nat :=
  let c0_i32_38 : BitVec 32 := 0#32
  let arg0 : BitVec 32 := BitVec.ofNat 32 (i 0).val
  let c1_i32_35 : BitVec 32 := 1#32
  let v41 : BitVec 32 := Scalar.addi arg0 c1_i32_35
  let c0_i32_36 : BitVec 32 := 0#32
  let v42 : BitVec 32 := Scalar.addi v41 c0_i32_36
  let c1024_i32_37 : BitVec 32 := 1024#32
  let v43 : BitVec 32 := Scalar.muli v42 c1024_i32_37
  let v44 : BitVec 32 := v43
  ![0, v44.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S8192x2048 : Shape := ⟨2, ![8192, 2048]⟩
abbrev S256x2048 : Shape := ⟨2, ![256, 2048]⟩
abbrev S4096x4096 : Shape := ⟨2, ![4096, 4096]⟩
abbrev S8192x4096 : Shape := ⟨2, ![8192, 4096]⟩
abbrev S256x4096 : Shape := ⟨2, ![256, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S256x2048, .f32⟩
  | .hbm, ⟨3, _⟩ => ⟨S256x2048, .f32⟩
  | .hbm, ⟨4, _⟩ => ⟨S4096x4096, .f32⟩
  | .hbm, ⟨5, _⟩ => ⟨S8192x4096, .f32⟩
  | .hbm, ⟨6, _⟩ => ⟨S256x4096, .f32⟩
  | .hbm, ⟨7, _⟩ => ⟨S8192x2048, .f32⟩
  | .hbm, ⟨8, _⟩ => ⟨S8192x2048, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S256x4096, .f32⟩
  | .hbm, ⟨13, _⟩ => ⟨S256x4096, .f32⟩
  | .hbm, ⟨14, _⟩ => ⟨S256x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Kernel6.lean ====
abbrev S256x9216 : Shape := ⟨2, ![256, 9216]⟩
abbrev S64 : Shape := ⟨1, ![64]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S256x2048 : Shape := ⟨2, ![256, 2048]⟩
abbrev S256x512 : Shape := ⟨2, ![256, 512]⟩
abbrev S256x3072 : Shape := ⟨2, ![256, 3072]⟩
abbrev S128x128 : Shape := ⟨2, ![128, 128]⟩

abbrev nBuf : Space → Nat
  | .hbm => 65
  | .vmem => 9
  | .smem => 0
  | _ => 0

abbrev bufTy : (tb : Table) → Fin (tcTables nBuf tb) → BufTy
  | .hbm, ⟨0, _⟩ => ⟨S256x9216, .f32⟩
  | .hbm, ⟨1, _⟩ => ⟨S64, .f32⟩
  | .hbm, ⟨2, _⟩ => ⟨S64, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8x1, .f32⟩
  | .hbm, ⟨20, _⟩ => ⟨S1x8, .f32⟩
  | .hbm, ⟨21, _⟩ => ⟨S8x8, .f32⟩
  | .hbm, ⟨22, _⟩ => ⟨S8x8, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S_, .f32⟩
  | .hbm, ⟨27, _⟩ => ⟨S8x48, .f32⟩
  | .hbm, ⟨28, _⟩ => ⟨S_, .f32⟩
  | .hbm, ⟨29, _⟩ => ⟨S8x8, .f32⟩
  | .hbm, ⟨30, _⟩ => ⟨S_, .f32⟩
  | .hbm, ⟨31, _⟩ => ⟨S8x48, .f32⟩
  | .hbm, ⟨32, _⟩ => ⟨S8x64, .f32⟩
  | .hbm, ⟨33, _⟩ => ⟨S8x8, .f32⟩
  | .hbm, ⟨34, _⟩ => ⟨S8x64, .f32⟩
  | .hbm, ⟨35, _⟩ => ⟨S8x64, .f32⟩
  | .hbm, ⟨36, _⟩ => ⟨S1x8x1x64, .f32⟩
  | .hbm, ⟨37, _⟩ => ⟨S1x8x2x64, .f32⟩
  | .hbm, ⟨38, _⟩ => ⟨S8x128, .f32⟩
  | .hbm, ⟨39, _⟩ => ⟨S1x8x1x64, .f32⟩
  | .hbm, ⟨40, _⟩ => ⟨S1x8x2x64, .f32⟩
  | .hbm, ⟨41, _⟩ => ⟨S8x128, .f32⟩
  | .hbm, ⟨42, _⟩ => ⟨S1x8x1x64, .f32⟩
  | .hbm, ⟨43, _⟩ => ⟨S1x8x2x64, .f32⟩
  | .hbm, ⟨44, _⟩ => ⟨S8x128, .f32⟩
  | .hbm, ⟨45, _⟩ => ⟨S1x8x1x128, .f32⟩
  | .hbm, ⟨46, _⟩ => ⟨S32x8x1x128, .f32⟩
  | .hbm, ⟨47, _⟩ => ⟨S256x128, .f32⟩
  | .hbm, ⟨48, _⟩ => ⟨S1x8x1x128, .f32⟩
  | .hbm, ⟨49, _⟩ => ⟨S32x8x1x128, .f32⟩
  | .hbm, ⟨50, _⟩ => ⟨S256x128, .f32⟩
  | .hbm, ⟨51, _⟩ => ⟨S1x8x1x128, .f32⟩
  | .hbm, ⟨52, _⟩ => ⟨S32x8x1x128, .f32⟩
  | .hbm, ⟨53, _⟩ => ⟨S256x128, .f32⟩
  | .hbm, ⟨54, _⟩ => ⟨S1x64, .f32⟩
  | .hbm, ⟨55, _⟩ => ⟨S2x64, .f32⟩
  | .hbm, ⟨56, _⟩ => ⟨S128, .f32⟩
  | .hbm, ⟨57, _⟩ => ⟨S1x128, .f32⟩
  | .hbm, ⟨58, _⟩ => ⟨S1x64, .f32⟩
  | .hbm, ⟨59, _⟩ => ⟨S2x64, .f32⟩
  | .hbm, ⟨60, _⟩ => ⟨S128, .f32⟩
  | .hbm, ⟨61, _⟩ => ⟨S1x128, .f32⟩
  | .hbm, ⟨62, _⟩ => ⟨S256x2048, .f32⟩
  | .hbm, ⟨63, _⟩ => ⟨S256x512, .f32⟩
  | .hbm, ⟨64, _⟩ => ⟨S256x512, .f32⟩
  | .local _ .vmem, ⟨0, _⟩ => ⟨S256x3072, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | .local _ .vmem, ⟨6, _⟩ => ⟨S256x2048, .f32⟩
  | .local _ .vmem, ⟨7, _⟩ => ⟨S256x512, .f32⟩
  | .local _ .vmem, ⟨8, _⟩ => ⟨S256x512, .f32⟩
  | _, _ => ⟨S256x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52_0 : Ref sig .tc := ⟨.hbm, 62, rfl⟩
abbrev main_v52_1 : Ref sig .tc := ⟨.hbm, 63, rfl⟩
abbrev main_v52_2 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference6Ideal.lean ====
abbrev S256x9216 : Shape := ⟨2, ![256, 9216]⟩
abbrev S64 : Shape := ⟨1, ![64]⟩
abbrev S8 : Shape := ⟨1, ![8]⟩
abbrev S_ : Shape := ⟨0, ![]⟩
abbrev S256x512 : Shape := ⟨2, ![256, 512]⟩
abbrev S32x8x4x2x64 : Shape := ⟨5, ![32, 8, 4, 2, 64]⟩
abbrev S32x8x4x2 : Shape := ⟨4, ![32, 8, 4, 2]⟩
abbrev S32x8x4x2x1 : Shape := ⟨5, ![32, 8, 4, 2, 1]⟩
abbrev S1x1x1x1x64 : Shape := ⟨5, ![1, 1, 1, 1, 64]⟩
abbrev S8x1 : Shape := ⟨2, ![8, 1]⟩
abbrev S1x8 : Shape := ⟨2, ![1, 8]⟩
abbrev S8x8 : Shape := ⟨2, ![8, 8]⟩
abbrev S1x8x1x1x8 : Shape := ⟨5, ![1, 8, 1, 1, 8]⟩
abbrev S32x8x4x2x8 : Shape := ⟨5, ![32, 8, 4, 2, 8]⟩
abbrev S32x8x4x2x48 : Shape := ⟨5, ![32, 8, 4, 2, 48]⟩

abbrev nBuf : Space → Nat
  | .hbm => 62
  | .vmem => 0
  | .smem => 0
  | _ => 0

abbrev bufTy : (tb : Table) → Fin (tcTables nBuf tb) → BufTy
  | .hbm, ⟨0, _⟩ => ⟨S256x9216, .f32⟩
  | .hbm, ⟨1, _⟩ => ⟨S64, .f32⟩
  | .hbm, ⟨2, _⟩ => ⟨S64, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S256x512, .f32⟩
  | .hbm, ⟨8, _⟩ => ⟨S32x8x4x2x64, .f32⟩
  | .hbm, ⟨9, _⟩ => ⟨S32x8x4x2x64, .f32⟩
  | .hbm, ⟨10, _⟩ => ⟨S_, .f32⟩
  | .hbm, ⟨11, _⟩ => ⟨S32x8x4x2, .f32⟩
  | .hbm, ⟨12, _⟩ => ⟨S32x8x4x2x1, .f32⟩
  | .hbm, ⟨13, _⟩ => ⟨S_, .f32⟩
  | .hbm, ⟨14, _⟩ => ⟨S32x8x4x2x1, .f32⟩
  | .hbm, ⟨15, _⟩ => ⟨S32x8x4x2x1, .f32⟩
  | .hbm, ⟨16, _⟩ => ⟨S_, .f32⟩
  | .hbm, ⟨17, _⟩ => ⟨S32x8x4x2x1, .f32⟩
  | .hbm, ⟨18, _⟩ => ⟨S32x8x4x2x1, .f32⟩
  | .hbm, ⟨19, _⟩ => ⟨S32x8x4x2x1, .f32⟩
  | .hbm, ⟨20, _⟩ => ⟨S32x8x4x2x64, .f32⟩
  | .hbm, ⟨21, _⟩ => ⟨S32x8x4x2x64, .f32⟩
  | .hbm, ⟨22, _⟩ => ⟨S1x1x1x1x64, .f32⟩
  | .hbm, ⟨23, _⟩ => ⟨S32x8x4x2x64, .f32⟩
  | .hbm, ⟨24, _⟩ => ⟨S32x8x4x2x64, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8x1, .f32⟩
  | .hbm, ⟨38, _⟩ => ⟨S1x8, .f32⟩
  | .hbm, ⟨39, _⟩ => ⟨S8x8, .f32⟩
  | .hbm, ⟨40, _⟩ => ⟨S8x8, .f32⟩
  | .hbm, ⟨41, _⟩ => ⟨S8x8, .f32⟩
  | .hbm, ⟨42, _⟩ => ⟨S8x8, .f32⟩
  | .hbm, ⟨43, _⟩ => ⟨S1x8x1x1x8, .f32⟩
  | .hbm, ⟨44, _⟩ => ⟨S8x8, .f32⟩
  | .hbm, ⟨45, _⟩ => ⟨S1x8x1x1x8, .f32⟩
  | .hbm, ⟨46, _⟩ => ⟨S32x8x4x2x8, .f32⟩
  | .hbm, ⟨47, _⟩ => ⟨S32x8x4x2x8, .f32⟩
  | .hbm, ⟨48, _⟩ => ⟨S32x8x4x2x8, .f32⟩
  | .hbm, ⟨49, _⟩ => ⟨S32x8x4x2x8, .f32⟩
  | .hbm, ⟨50, _⟩ => ⟨S32x8x4x2x8, .f32⟩
  | .hbm, ⟨51, _⟩ => ⟨S32x8x4x2x8, .f32⟩
  | .hbm, ⟨52, _⟩ => ⟨S32x8x4x2x8, .f32⟩
  | .hbm, ⟨53, _⟩ => ⟨S32x8x4x2x8, .f32⟩
  | .hbm, ⟨54, _⟩ => ⟨S32x8x4x2x8, .f32⟩
  | .hbm, ⟨55, _⟩ => ⟨S32x8x4x2x8, .f32⟩
  | .hbm, ⟨56, _⟩ => ⟨S32x8x4x2x8, .f32⟩
  | .hbm, ⟨57, _⟩ => ⟨S32x8x4x2x8, .f32⟩
  | .hbm, ⟨58, _⟩ => ⟨S32x8x4x2x48, .f32⟩
  | .hbm, ⟨59, _⟩ => ⟨S32x8x4x2x64, .f32⟩
  | .hbm, ⟨60, _⟩ => ⟨S256x512, .f32⟩
  | .hbm, ⟨61, _⟩ => ⟨S256x512, .f32⟩
  | _, _ => ⟨S256x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel7.lean ====
abbrev S256x9216 : Shape := ⟨2, ![256, 9216]⟩
abbrev S32x3x4096 : Shape := ⟨3, ![32, 3, 4096]⟩
abbrev S256x128 : Shape := ⟨2, ![256, 128]⟩
abbrev S32x32x64x128 : Shape := ⟨4, ![32, 32, 64, 128]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S256x4096 : Shape := ⟨2, ![256, 4096]⟩
abbrev S256x2048 : Shape := ⟨2, ![256, 2048]⟩
abbrev S32x2048x128 : Shape := ⟨3, ![32, 2048, 128]⟩
abbrev S1x4096 : Shape := ⟨2, ![1, 4096]⟩
abbrev S_ : Shape := ⟨0, ![]⟩
abbrev S128 : Shape := ⟨1, ![128]⟩
abbrev S1x128 : Shape := ⟨2, ![1, 128]⟩
abbrev S1x2048 : Shape := ⟨2, ![1, 2048]⟩
abbrev S8x4096 : Shape := ⟨2, ![8, 4096]⟩
abbrev S1x3x4096 : Shape := ⟨3, ![1, 3, 4096]⟩
abbrev S8x128 : Shape := ⟨2, ![8, 128]⟩
abbrev S8x2048 : Shape := ⟨2, ![8, 2048]⟩
abbrev S1x2048x128 : Shape := ⟨3, ![1, 2048, 128]⟩
abbrev S3x4096 : Shape := ⟨2, ![3, 4096]⟩
abbrev S5x4096 : Shape := ⟨2, ![5, 4096]⟩
abbrev S16x4096 : Shape := ⟨2, ![16, 4096]⟩
abbrev S120x4096 : Shape := ⟨2, ![120, 4096]⟩
abbrev S128x4096 : Shape := ⟨2, ![128, 4096]⟩
abbrev S2048x128 : Shape := ⟨2, ![2048, 128]⟩
abbrev S128x2048 : Shape := ⟨2, ![128, 2048]⟩
abbrev S128x1024 : Shape := ⟨2, ![128, 1024]⟩
abbrev S120x128 : Shape := ⟨2, ![120, 128]⟩
abbrev S128x128 : Shape := ⟨2, ![128, 128]⟩
abbrev S120x2048 : Shape := ⟨2, ![120, 2048]⟩
abbrev S1x128x128 : Shape := ⟨3, ![1, 128, 128]⟩
abbrev S128x1 : Shape := ⟨2, ![128, 1]⟩
abbrev S1x1 : Shape := ⟨2, ![1, 1]⟩
abbrev S128x256 : Shape := ⟨2, ![128, 256]⟩
abbrev S1x256 : Shape := ⟨2, ![1, 256]⟩

abbrev nBuf : Space → Nat
  | .hbm => 29
  | .vmem => 20
  | .smem => 0
  | _ => 0

abbrev bufTy : (tb : Table) → Fin (tcTables nBuf tb) → BufTy
  | .hbm, ⟨0, _⟩ => ⟨S256x9216, .f32⟩
  | .hbm, ⟨1, _⟩ => ⟨S32x3x4096, .f32⟩
  | .hbm, ⟨2, _⟩ => ⟨S256x128, .f32⟩
  | .hbm, ⟨3, _⟩ => ⟨S32x32x64x128, .f32⟩
  | .hbm, ⟨4, _⟩ => ⟨S4x4096, .f32⟩
  | .hbm, ⟨5, _⟩ => ⟨S4096, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S2048, .f32⟩
  | .hbm, ⟨10, _⟩ => ⟨S256x4096, .f32⟩
  | .hbm, ⟨11, _⟩ => ⟨S256x2048, .f32⟩
  | .hbm, ⟨12, _⟩ => ⟨S32x2048x128, .f32⟩
  | .hbm, ⟨13, _⟩ => ⟨S1x4096, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S1x2048, .f32⟩
  | .hbm, ⟨27, _⟩ => ⟨S256x2048, .f32⟩
  | .hbm, ⟨28, _⟩ => ⟨S32x2048x128, .f32⟩
  | .local _ .vmem, ⟨0, _⟩ => ⟨S8x4096, .f32⟩
  | .local _ .vmem, ⟨1, _⟩ => ⟨S8x4096, .f32⟩
  | .local _ .vmem, ⟨2, _⟩ => ⟨S1x3x4096, .f32⟩
  | .local _ .vmem, ⟨3, _⟩ => ⟨S1x3x4096, .f32⟩
  | .local _ .vmem, ⟨4, _⟩ => ⟨S8x128, .f32⟩
  | .local _ .vmem, ⟨5, _⟩ => ⟨S8x128, .f32⟩
  | .local _ .vmem, ⟨6, _⟩ => ⟨S8x2048, .f32⟩
  | .local _ .vmem, ⟨7, _⟩ => ⟨S8x2048, .f32⟩
  | .local _ .vmem, ⟨8, _⟩ => ⟨S1x2048x128, .f32⟩
  | .local _ .vmem, ⟨9, _⟩ => ⟨S1x2048x128, .f32⟩
  | .local _ .vmem, ⟨10, _⟩ => ⟨S4x4096, .f32⟩
  | .local _ .vmem, ⟨11, _⟩ => ⟨S1x4096, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x2048, .f32⟩
  | .local _ .vmem, ⟨16, _⟩ => ⟨S8x2048, .f32⟩
  | .local _ .vmem, ⟨17, _⟩ => ⟨S8x2048, .f32⟩
  | .local _ .vmem, ⟨18, _⟩ => ⟨S1x2048x128, .f32⟩
  | .local _ .vmem, ⟨19, _⟩ => ⟨S1x2048x128, .f32⟩
  | _, _ => ⟨S256x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_call2_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S256x9216 : Shape := ⟨2, ![256, 9216]⟩
abbrev S32x3x4096 : Shape := ⟨3, ![32, 3, 4096]⟩
abbrev S256x128 : Shape := ⟨2, ![256, 128]⟩
abbrev S32x32x64x128 : Shape := ⟨4, ![32, 32, 64, 128]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S256x4096 : Shape := ⟨2, ![256, 4096]⟩
abbrev S32x8x4096 : Shape := ⟨3, ![32, 8, 4096]⟩
abbrev S32x11x4096 : Shape := ⟨3, ![32, 11, 4096]⟩
abbrev S1x4096 : Shape := ⟨2, ![1, 4096]⟩
abbrev S1x1x4096 : Shape := ⟨3, ![1, 1, 4096]⟩
abbrev S_ : Shape := ⟨0, ![]⟩
abbrev S32x8x2048 : Shape := ⟨3, ![32, 8, 2048]⟩
abbrev S32x8x32x64 : Shape := ⟨4, ![32, 8, 32, 64]⟩
abbrev S32x8x1024 : Shape := ⟨3, ![32, 8, 1024]⟩
abbrev S32x8x8x128 : Shape := ⟨4, ![32, 8, 8, 128]⟩
abbrev S256x32 : Shape := ⟨2, ![256, 32]⟩
abbrev S32x8x32 : Shape := ⟨3, ![32, 8, 32]⟩
abbrev S1x1x32 : Shape := ⟨3, ![1, 1, 32]⟩
abbrev S32x8x8x4x128 : Shape := ⟨5, ![32, 8, 8, 4, 128]⟩
abbrev S32x8x32x128 : Shape := ⟨4, ![32, 8, 32, 128]⟩
abbrev S32x8x32x1 : Shape := ⟨4, ![32, 8, 32, 1]⟩
abbrev S32x1x32 : Shape := ⟨3, ![32, 1, 32]⟩
abbrev S32x32 : Shape := ⟨2, ![32, 32]⟩
abbrev S32x32x1x1 : Shape := ⟨4, ![32, 32, 1, 1]⟩
abbrev S32x2048x128 : Shape := ⟨3, ![32, 2048, 128]⟩

abbrev nBuf : Space → Nat
  | .hbm => 107
  | .vmem => 0
  | .smem => 0
  | _ => 0

abbrev bufTy : (tb : Table) → Fin (tcTables nBuf tb) → BufTy
  | .hbm, ⟨0, _⟩ => ⟨S256x9216, .f32⟩
  | .hbm, ⟨1, _⟩ => ⟨S32x3x4096, .f32⟩
  | .hbm, ⟨2, _⟩ => ⟨S256x128, .f32⟩
  | .hbm, ⟨3, _⟩ => ⟨S32x32x64x128, .f32⟩
  | .hbm, ⟨4, _⟩ => ⟨S4x4096, .f32⟩
  | .hbm, ⟨5, _⟩ => ⟨S4096, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S2048, .f32⟩
  | .hbm, ⟨10, _⟩ => ⟨S256x4096, .f32⟩
  | .hbm, ⟨11, _⟩ => ⟨S32x8x4096, .f32⟩
  | .hbm, ⟨12, _⟩ => ⟨S32x11x4096, .f32⟩
  | .hbm, ⟨13, _⟩ => ⟨S32x8x4096, .f32⟩
  | .hbm, ⟨14, _⟩ => ⟨S1x4096, .f32⟩
  | .hbm, ⟨15, _⟩ => ⟨S4096, .f32⟩
  | .hbm, ⟨16, _⟩ => ⟨S1x1x4096, .f32⟩
  | .hbm, ⟨17, _⟩ => ⟨S32x8x4096, .f32⟩
  | .hbm, ⟨18, _⟩ => ⟨S32x8x4096, .f32⟩
  | .hbm, ⟨19, _⟩ => ⟨S_, .f32⟩
  | .hbm, ⟨20, _⟩ => ⟨S32x8x4096, .f32⟩
  | .hbm, ⟨21, _⟩ => ⟨S32x8x4096, .f32⟩
  | .hbm, ⟨22, _⟩ => ⟨S32x8x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S32x8x4096, .f32⟩
  | .hbm, ⟨27, _⟩ => ⟨S32x8x4096, .f32⟩
  | .hbm, ⟨28, _⟩ => ⟨S32x8x4096, .f32⟩
  | .hbm, ⟨29, _⟩ => ⟨S32x8x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S32x8x4096, .f32⟩
  | .hbm, ⟨34, _⟩ => ⟨S32x8x4096, .f32⟩
  | .hbm, ⟨35, _⟩ => ⟨S32x8x4096, .f32⟩
  | .hbm, ⟨36, _⟩ => ⟨S32x8x4096, .f32⟩
  | .hbm, ⟨37, _⟩ => ⟨S1x4096, .f32⟩
  | .hbm, ⟨38, _⟩ => ⟨S4096, .f32⟩
  | .hbm, ⟨39, _⟩ => ⟨S1x1x4096, .f32⟩
  | .hbm, ⟨40, _⟩ => ⟨S32x8x4096, .f32⟩
  | .hbm, ⟨41, _⟩ => ⟨S32x8x4096, .f32⟩
  | .hbm, ⟨42, _⟩ => ⟨S32x8x4096, .f32⟩
  | .hbm, ⟨43, _⟩ => ⟨S1x1x4096, .f32⟩
  | .hbm, ⟨44, _⟩ => ⟨S32x8x4096, .f32⟩
  | .hbm, ⟨45, _⟩ => ⟨S32x8x4096, .f32⟩
  | .hbm, ⟨46, _⟩ => ⟨S32x8x4096, .f32⟩
  | .hbm, ⟨47, _⟩ => ⟨S32x8x4096, .f32⟩
  | .hbm, ⟨48, _⟩ => ⟨S_, .f32⟩
  | .hbm, ⟨49, _⟩ => ⟨S32x8x4096, .f32⟩
  | .hbm, ⟨50, _⟩ => ⟨S32x8x4096, .f32⟩
  | .hbm, ⟨51, _⟩ => ⟨S_, .f32⟩
  | .hbm, ⟨52, _⟩ => ⟨S32x8x4096, .f32⟩
  | .hbm, ⟨53, _⟩ => ⟨S32x8x4096, .f32⟩
  | .hbm, ⟨54, _⟩ => ⟨S32x8x4096, .f32⟩
  | .hbm, ⟨55, _⟩ => ⟨S32x8x2048, .f32⟩
  | .hbm, ⟨56, _⟩ => ⟨S32x8x32x64, .f32⟩
  | .hbm, ⟨57, _⟩ => ⟨S32x8x1024, .f32⟩
  | .hbm, ⟨58, _⟩ => ⟨S32x8x8x128, .f32⟩
  | .hbm, ⟨59, _⟩ => ⟨S256x32, .f32⟩
  | .hbm, ⟨60, _⟩ => ⟨S32x8x32, .f32⟩
  | .hbm, ⟨61, _⟩ => ⟨S1x1x32, .f32⟩
  | .hbm, ⟨62, _⟩ => ⟨S32x8x32, .f32⟩
  | .hbm, ⟨63, _⟩ => ⟨S32x8x32, .f32⟩
  | .hbm, ⟨64, _⟩ => ⟨S_, .f32⟩
  | .hbm, ⟨65, _⟩ => ⟨S32x8x32, .f32⟩
  | .hbm, ⟨66, _⟩ => ⟨S32x8x32, .f32⟩
  | .hbm, ⟨67, _⟩ => ⟨S32x8x32, .f32⟩
  | .hbm, ⟨68, _⟩ => ⟨S32x8x32, .f32⟩
  | .hbm, ⟨69, _⟩ => ⟨S32x8x32, .i1⟩
  | .hbm, ⟨70, _⟩ => ⟨S32x8x32, .f32⟩
  | .hbm, ⟨71, _⟩ => ⟨S32x8x32, .f32⟩
  | .hbm, ⟨72, _⟩ => ⟨S32x8x32, .f32⟩
  | .hbm, ⟨73, _⟩ => ⟨S32x8x32, .f32⟩
  | .hbm, ⟨74, _⟩ => ⟨S32x8x32, .f32⟩
  | .hbm, ⟨75, _⟩ => ⟨S32x8x32, .f32⟩
  | .hbm, ⟨76, _⟩ => ⟨S32x8x32, .f32⟩
  | .hbm, ⟨77, _⟩ => ⟨S32x8x32, .f32⟩
  | .hbm, ⟨78, _⟩ => ⟨S32, .f32⟩
  | .hbm, ⟨79, _⟩ => ⟨S32, .f32⟩
  | .hbm, ⟨80, _⟩ => ⟨S32x8x8x4x128, .f32⟩
  | .hbm, ⟨81, _⟩ => ⟨S32x8x32x128, .f32⟩
  | .hbm, ⟨82, _⟩ => ⟨S32x8x32x1, .f32⟩
  | .hbm, ⟨83, _⟩ => ⟨S32x8x32x64, .f32⟩
  | .hbm, ⟨84, _⟩ => ⟨S32x8x32x64, .f32⟩
  | .hbm, ⟨85, _⟩ => ⟨S1x1x32, .f32⟩
  | .hbm, ⟨86, _⟩ => ⟨S32x8x32, .f32⟩
  | .hbm, ⟨87, _⟩ => ⟨S32x8x32, .f32⟩
  | .hbm, ⟨88, _⟩ => ⟨S_, .f32⟩
  | .hbm, ⟨89, _⟩ => ⟨S_, .f32⟩
  | .hbm, ⟨90, _⟩ => ⟨S32x8x32, .f32⟩
  | .hbm, ⟨91, _⟩ => ⟨S32x1x32, .f32⟩
  | .hbm, ⟨92, _⟩ => ⟨S32x8x32, .f32⟩
  | .hbm, ⟨93, _⟩ => ⟨S32x8x32, .f32⟩
  | .hbm, ⟨94, _⟩ => ⟨S32x8x32, .f32⟩
  | .hbm, ⟨95, _⟩ => ⟨S32x8x32x1, .f32⟩
  | .hbm, ⟨96, _⟩ => ⟨S32x8x32x64, .f32⟩
  | .hbm, ⟨97, _⟩ => ⟨S32x8x32x64, .f32⟩
  | .hbm, ⟨98, _⟩ => ⟨S32x32x64x128, .f32⟩
  | .hbm, ⟨99, _⟩ => ⟨S32x1x32, .f32⟩
  | .hbm, ⟨100, _⟩ => ⟨S32x32, .f32⟩
  | .hbm, ⟨101, _⟩ => ⟨S32x32, .f32⟩
  | .hbm, ⟨102, _⟩ => ⟨S32x32x1x1, .f32⟩
  | .hbm, ⟨103, _⟩ => ⟨S32x32x64x128, .f32⟩
  | .hbm, ⟨104, _⟩ => ⟨S32x32x64x128, .f32⟩
  | .hbm, ⟨105, _⟩ => ⟨S32x32x64x128, .f32⟩
  | .hbm, ⟨106, _⟩ => ⟨S32x2048x128, .f32⟩
  | _, _ => ⟨S256x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call2_call0_cst : Ref sig .tc := ⟨.hbm, 88, rfl⟩
abbrev main_call2_call0_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== Proof.Model.lean ====
/-
  What one grid point of the chunked state-space scan stores, written once for a SYMBOLIC pair of heads. The kernel's
  text repeats the same operations sixteen times, for the pairs (0, 1), (2, 3), …, (30, 31) of its 32 heads; here the
  pair is a variable `p : Fin 16`, and `Proof/Block.lean` shows that the kernel's stores are these.
-/
module

public import proofs.«01_k».proof.Proof.Gen.KernelIdeal.Value

@[expose] public section

noncomputable section

namespace Cert.Ssd

open Cert.KernelIdeal Cert.KernelIdeal.Gen Idealize.ShloMosaic Idealize.ShloMosaic.TcCoe Idealize.SL.Sem

variable {F : FTy → Type} [FloatOps F]

/-- The first head of the pair `p`. -/
def hd0 (p : Fin 16) : Fin 32 := ⟨2 * p.1, by omega⟩

/-- The second head of the pair `p`. -/
def hd1 (p : Fin 16) : Fin 32 := ⟨2 * p.1 + 1, by omega⟩

/-- The group of B and C columns the pair `p` uses: two pairs to a group. -/
def grp (p : Fin 16) : Fin 8 := ⟨p.1 / 2, by omega⟩

theorem slices_col : ∀ h : Fin 32, S128x128.Slices ![0, h.1] S128x1 := by decide
theorem slices_rowT : ∀ h : Fin 32, S128x128.Slices ![h.1, 0] S1x128 := by decide
theorem slices_one : ∀ h : Fin 32, S1x128.Slices ![0, h.1] S1x1 := by decide
theorem slices_x : ∀ p : Fin 16, S128x2048.Slices ![0, 128 * p.1] S128x128 := by decide
theorem slices_g : ∀ g : Fin 8, S128x1024.Slices ![0, 128 * g.1] S128x128 := by decide
theorem slices_yg : ∀ g : Fin 8, S128x2048.Slices ![0, 256 * g.1] S128x256 := by decide
theorem slices_wg : ∀ g : Fin 8, S1x2048.Slices ![0, 256 * g.1] S1x256 := by decide

/-- Column `h` of a block, repeated along the lanes. -/
def col (v : FVec F S128x128 .f32) (h : Fin 32) : FVec F S128x128 .f32 :=
  broadcastTo S128x128 (shapeCast S128x1 (extractStridedSlice S128x1 ![0, h.1] v (slices_col h)) shapeCasts_S128x1_S128x1)
    broadcasts_S128x1_S128x128

/-- The columns of the pair's two heads, the first on the lower 64 lanes and the second on the upper. -/
def cols (v : FVec F S128x128 .f32) (p : Fin 16) : FVec F S128x128 .f32 :=
  select k0_pay15 (col v (hd0 p)) (col v (hd1 p))

/-- The entries of a row at the pair's two heads, spread over the lower and upper 64 lanes. -/
def rowOf (v : FVec F S1x128 .f32) (p : Fin 16) : FVec F S1x128 .f32 :=
  select k0_pay16
    (broadcastTo S1x128 (shapeCast S1x1 (extractStridedSlice S1x1 ![0, (hd0 p).1] v (slices_one _)) shapeCasts_S1x1_S1x1)
      broadcasts_S1x1_S1x128)
    (broadcastTo S1x128 (shapeCast S1x1 (extractStridedSlice S1x1 ![0, (hd1 p).1] v (slices_one _)) shapeCasts_S1x1_S1x1)
      broadcasts_S1x1_S1x128)

/-- The entries of a row at the pair's two heads, spread over the lower and upper 64 sublanes. -/
def subOf (v : FVec F S1x128 .f32) (p : Fin 16) : FVec F S128x128 .f32 :=
  select k0_pay17
    (broadcastTo S128x128 (shapeCast S1x1 (extractStridedSlice S1x1 ![0, (hd0 p).1] v (slices_one _)) shapeCasts_S1x1_S1x1)
      broadcasts_S1x1_S128x128)
    (broadcastTo S128x128 (shapeCast S1x1 (extractStridedSlice S1x1 ![0, (hd1 p).1] v (slices_one _)) shapeCasts_S1x1_S1x1)
      broadcasts_S1x1_S128x128)

/-- Group `g` of B or C, 128 columns. -/
def grpOf (v : Vec F S128x1024 .f32) (g : Fin 8) : FVec F S128x128 .bf16 :=
  truncf .bf16 (extractStridedSlice S128x128 ![0, 128 * g.1] v (slices_g g)) bitsLt_bf16_f32

/-- The pair's inputs. -/
def xOf (xs : Vec F S128x2048 .f32) (p : Fin 16) : FVec F S128x128 .f32 :=
  extractStridedSlice S128x128 ![0, 128 * p.1] xs (slices_x p)

/-- The prefix sums of the chunk's decay exponents, by doubling steps. -/
def cum (dt : Vec F S128x128 .f32) (dtb al : Vec F S1x128 .f32) : FVec F S128x128 .f32 :=
  k0_pay10 (k0_pay8 (k0_pay6 dt dtb) (k0_pay7 al)) k0_pay9 64#32

/-- The same, transposed. -/
def cumT (dt : Vec F S128x128 .f32) (dtb al : Vec F S1x128 .f32) : FVec F S128x128 .f32 :=
  k0_pay11 (k0_pay8 (k0_pay6 dt dtb) (k0_pay7 al)) k0_pay9 64#32

/-- Its last row: the decay exponents over the whole chunk. -/
def cumLast (dt : Vec F S128x128 .f32) (dtb al : Vec F S1x128 .f32) : FVec F S1x128 .f32 :=
  k0_pay12 (k0_pay8 (k0_pay6 dt dtb) (k0_pay7 al)) k0_pay9 64#32

/-- The decays over the whole chunk. -/
def decAll (dt : Vec F S128x128 .f32) (dtb al : Vec F S1x128 .f32) : FVec F S1x128 .f32 :=
  k0_pay13 (k0_pay8 (k0_pay6 dt dtb) (k0_pay7 al)) k0_pay9 64#32

/-- The pair's inputs times their step sizes. -/
def xdt (xs : Vec F S128x2048 .f32) (dt : Vec F S128x128 .f32) (dtb : Vec F S1x128 .f32) (p : Fin 16) : FVec F S128x128 .f32 :=
  mulf (xOf xs p) (cols (k0_pay6 dt dtb) p)

/-- The inputs decayed to the end of the chunk. -/
def xdec (xs : Vec F S128x2048 .f32) (dt : Vec F S128x128 .f32) (dtb al : Vec F S1x128 .f32) (p : Fin 16) : FVec F S128x128 .bf16 :=
  truncf .bf16
    (mulf (xdt xs dt dtb p)
      (exp (subf (broadcastTo S128x128 (rowOf (cumLast dt dtb al) p) broadcasts_S1x128_S128x128) (cols (cum dt dtb al) p))))
    bitsLt_bf16_f32

/-- C times B transposed in the pair's group. -/
def cbOf (bm cm : Vec F S128x1024 .f32) (g : Fin 8) : FVec F S128x128 .f32 :=
  matmul dot_S128x128_S128x128_S128x128_1_1_0_0_n_n none (grpOf cm g) (grpOf bm g) (constant S128x128 .f32 0x00000000#32)

/-- The scores of head `h`: C times B transposed times the decay between two positions, zero above the diagonal. -/
def score (bm cm : Vec F S128x1024 .f32) (dt : Vec F S128x128 .f32) (dtb al : Vec F S1x128 .f32) (g : Fin 8) (h : Fin 32) : FVec F S128x128 .bf16 :=
  truncf .bf16
    (mulf (cbOf bm cm g)
      (exp (select k0_pay14
        (subf (col (cum dt dtb al) h)
          (broadcastTo S128x128 (extractStridedSlice S1x128 ![h.1, 0] (cumT dt dtb al) (slices_rowT h)) broadcasts_S1x128_S128x128))
        (broadcast S128x128 (Scalar.ofBits .f32 0xFF800000#32)))))
    bitsLt_bf16_f32

/-- The pair's outputs before the gate: inside the chunk, from the state before it, and the skip connection. -/
def yPair (xs : Vec F S128x2048 .f32) (bm cm : Vec F S128x1024 .f32) (dt : Vec F S128x128 .f32) (dtb al dsk : Vec F S1x128 .f32)
    (st : Vec F S1x128x128 .f32) (p : Fin 16) : FVec F S128x128 .f32 :=
  addf
    (addf
      (select k0_pay15
        (matmul dot_S128x128_S128x128_S128x128_1_0_0_1_n_n none (score bm cm dt dtb al (grp p) (hd0 p))
          (truncf .bf16 (xdt xs dt dtb p) bitsLt_bf16_f32) (constant S128x128 .f32 0x00000000#32))
        (matmul dot_S128x128_S128x128_S128x128_1_0_0_1_n_n none (score bm cm dt dtb al (grp p) (hd1 p))
          (truncf .bf16 (xdt xs dt dtb p) bitsLt_bf16_f32) (constant S128x128 .f32 0x00000000#32)))
      (mulf
        (matmul dot_S128x128_S128x128_S128x128_1_1_0_0_n_n none (grpOf cm (grp p))
          (truncf .bf16 (shapeCast S128x128 st shapeCasts_S1x128x128_S128x128) bitsLt_bf16_f32) (constant S128x128 .f32 0x00000000#32))
        (exp (cols (cum dt dtb al) p))))
    (mulf (broadcastTo S128x128 (rowOf (shapeCast S1x128 dsk shapeCasts_S1x128_S1x128) p) broadcasts_S1x128_S128x128) (xOf xs p))

/-- The pair's state after the chunk. -/
def stPair (xs : Vec F S128x2048 .f32) (bm : Vec F S128x1024 .f32) (dt : Vec F S128x128 .f32) (dtb al : Vec F S1x128 .f32)
    (st : Vec F S1x128x128 .f32) (p : Fin 16) : FVec F S1x128x128 .f32 :=
  shapeCast S1x128x128
    (addf (mulf (subOf (decAll dt dtb al) p) (shapeCast S128x128 st shapeCasts_S1x128x128_S128x128))
      (matmul dot_S128x128_S128x128_S128x128_0_0_1_1_n_n none (xdec xs dt dtb al p) (grpOf bm (grp p)) (constant S128x128 .f32 0x00000000#32)))
    shapeCasts_S128x128_S1x128x128

/-- The gated outputs: all pairs side by side, times silu of z. -/
def gated (xs : Vec F S128x2048 .f32) (bm cm : Vec F S128x1024 .f32) (dt : Vec F S128x128 .f32) (z0 z1 : Vec F S128x1024 .f32)
    (dtb al dsk : Vec F S1x128 .f32) (st : Fin 16 → Vec F S1x128x128 .f32) : FVec F S128x2048 .f32 :=
  mulf
    (concatenate S128x2048 1
      (List.ofFn fun p : Fin 16 => (⟨S128x128, yPair xs bm cm dt dtb al dsk (st p) p⟩ : (s : Shape) × (s.Idx → Elt F .f32)))
      concatenates_S128x128_S128x128_S128x128_S128x128_S128x128_S128x128_S128x128_S128x128_S128x128_S128x128_S128x128_S128x128_S128x128_S128x128_S128x128_S128x128_S128x2048_d1)
    (mulf (k0_pay3 z0 z1)
      (divf (broadcast S128x2048 (Scalar.ofBits .f32 0x3F800000#32))
        (addf (broadcast S128x2048 (Scalar.ofBits .f32 0x3F800000#32))
          (exp (subf (broadcast S128x2048 (Scalar.ofBits .f32 0x00000000#32)) (k0_pay3 z0 z1))))))

/-- Group `g` of the gated outputs, normed by its mean square and scaled. -/
def normed (y : FVec F S128x2048 .f32) (nw : FVec F S1x2048 .f32) (g : Fin 8) : FVec F S128x256 .f32 :=
  mulf
    (mulf (extractStridedSlice S128x256 ![0, 256 * g.1] y (slices_yg g))
      (broadcastTo S128x256
        (rsqrt (addf
          (divf
            (shapeCast S128x1
              (multiReduction .add [1] S128
                (mulf (extractStridedSlice S128x256 ![0, 256 * g.1] y (slices_yg g))
                  (extractStridedSlice S128x256 ![0, 256 * g.1] y (slices_yg g)))
                0x00000000#32 reduces_S128x256_S128 (.inl rfl) rfl)
              shapeCasts_S128_S128x1)
            (broadcast S128x1 (Scalar.ofBits .f32 0x43800000#32)))
          (broadcast S128x1 (Scalar.ofBits .f32 0x358637BD#32))))
        broadcasts_S128x1_S128x256))
    (broadcastTo S128x256 (extractStridedSlice S1x256 ![0, 256 * g.1] nw (slices_wg g)) broadcasts_S1x256_S128x256)

/-- The chunk's block of the first result. -/
def yBlock (xs : Vec F S128x2048 .f32) (bm cm : Vec F S128x1024 .f32) (dt : Vec F S128x128 .f32) (z0 z1 : Vec F S128x1024 .f32)
    (dtb al dsk : Vec F S1x128 .f32) (nw : Vec F S1x2048 .f32) (st : Fin 16 → Vec F S1x128x128 .f32) : FVec F S128x2048 .bf16 :=
  truncf .bf16
    (concatenate S128x2048 1
      (List.ofFn fun g : Fin 8 => (⟨S128x256, normed (gated xs bm cm dt z0 z1 dtb al dsk st)
        (shapeCast S1x2048 nw shapeCasts_S1x2048_S1x2048) g⟩ : (s : Shape) × (s.Idx → Elt F .f32)))
      concatenates_S128x256_S128x256_S128x256_S128x256_S128x256_S128x256_S128x256_S128x256_S128x2048_d1)
    bitsLt_bf16_f32

theorem inb_st : ∀ p : Fin 16, ∀ a, ![0, 128 * p.1, 0] a + S1x128x128.size a ≤ S1x2048x128.size a := by decide

/-- The sixteen stores of the state, the last first. -/
def stPieces (xs : Vec F S128x2048 .f32) (bm : Vec F S128x1024 .f32) (dt : Vec F S128x128 .f32) (dtb al : Vec F S1x128 .f32)
    (st : Fin 16 → Vec F S1x128x128 .f32) : List (View.Piece (Elt F) S1x2048x128 .f32) :=
  List.ofFn fun k : Fin 16 =>
    ⟨Rect.unit ![0, 128 * k.rev.1, 0] S1x128x128.size (inb_st k.rev), stPair xs bm dt dtb al (st k.rev) k.rev⟩

end Cert.Ssd

end
-- ==== Proof.Block.lean ====
/-
  The blocks one grid point leaves, in the words of `Proof/Model.lean`: the kernel's stores are the model's, by unfolding,
  and read back they are the model's block of outputs and, piece by piece, its states.
-/
module

public import proofs.«01_k».proof.Proof.Model
public import Idealize.ShloMosaic.Lib.Pipeline.ReadBack
public import Idealize.ShloMosaic.Lib.Pipeline.ValueKit

@[expose] public section

noncomputable section

namespace Cert.Ssd

open Cert.KernelIdeal Cert.KernelIdeal.Gen Idealize.ShloMosaic Idealize.ShloMosaic.TcCoe Idealize.SL.Sem

variable {F : FTy → Type} [FloatOps F]

/-- A load of a whole buffer reads what the buffer was left at. -/
theorem load_whole {s : Shape} {e : EltTy} (a : Memref sig .tc .vmem s e) (h : a.IsWhole) (x : Vec F s e)
    {off : Fin s.rank → Nat} (inb : ∀ b, off b + s.size b ≤ s.size b) (h0 : ∀ b, off b = 0) :
    View.readAt (Elt F) a.view (Rect.unit off s.size inb).toLoadRect (h.unread x) = x := by
  rw [View.readAt_eq_ld, h.read_unread]
  exact View.ld_unit_lit inb x h0

/-- A load of a rectangle reads that part of what the buffer was left at. -/
theorem load_part {s : Shape} {e : EltTy} (a : Memref sig .tc .vmem s e) (h : a.IsWhole) (x : Vec F s e) (r : Rect s) :
    View.readAt (Elt F) a.view r.toLoadRect (h.unread x) = View.ld x r := by
  rw [View.readAt_eq_ld, h.read_unread]

/-- A load of a whole buffer of rank two, left at `x`, as the run spells it. -/
def ldw {s : Shape} {e : EltTy} (a : Memref sig .tc .vmem s e) (h : a.IsWhole) (x : Vec F s e)
    {off : Fin s.rank → Nat} (inb : ∀ b, off b + s.size b ≤ s.size b) : Vec F s e :=
  View.readAt (Elt F) a.view (Rect.unit off s.size inb).toLoadRect (h.unread x)

/-- The pair's rows of a state block. -/
def stOf (s : Vec F S1x2048x128 .f32) (p : Fin 16) : Vec F S1x128x128 .f32 :=
  View.ld s (Rect.unit (s := S1x2048x128) ![0, 128 * p.1, 0] S1x128x128.size (inb_st p))

section Stores
variable (c : Dev nD) (i : grid0.Coords) (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048 .f32) (harg11 : arg11.IsWhole) (arg12 : Memref sig .tc .vmem S128x2048 .bf16) (harg12 : arg12.IsWhole) (arg13 : Memref sig .tc .vmem S1x2048x128 .f32) (harg13 : arg13.IsWhole)
  (x0 : Vec F S128x2048 .f32) (x1 : Vec F S128x1024 .f32) (x2 : Vec F S128x1024 .f32) (x3 : Vec F S128x128 .f32) (x4 : Vec F S128x1024 .f32) (x5 : Vec F S128x1024 .f32) (x6 : Vec F S1x128 .f32) (x7 : Vec F S1x128 .f32) (x8 : Vec F S1x128 .f32) (x9 : Vec F S1x2048 .f32) (xo11 : Vec F S1x2048x128 .f32)

/-- The outputs' one store. -/
theorem runB_y (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11).1 = [⟨Rect.unit ![0, 0] S128x2048.size inb_S128x2048_S128x2048_0_0,
      yBlock (ldw arg2 harg2 x0 inb_S128x2048_S128x2048_0_0) (ldw arg3 harg3 x1 inb_S128x1024_S128x1024_0_0) (ldw arg4 harg4 x2 inb_S128x1024_S128x1024_0_0) (ldw arg5 harg5 x3 inb_S128x128_S128x128_0_0) (ldw arg6 harg6 x4 inb_S128x1024_S128x1024_0_0) (ldw arg7 harg7 x5 inb_S128x1024_S128x1024_0_0) (ldw arg8 harg8 x6 inb_S1x128_S1x128_0_0) (ldw arg9 harg9 x7 inb_S1x128_S1x128_0_0) (ldw arg10 harg10 x8 inb_S1x128_S1x128_0_0) (ldw arg11 harg11 x9 inb_S1x2048_S1x2048_0_0)
        (fun p => View.readAt (Elt F) arg13.view (Rect.unit (s := S1x2048x128) ![0, 128 * p.1, 0] S1x128x128.size (inb_st p)).toLoadRect (harg13.unread xo11))⟩] := by
  sl_kernel_rfl

/-- The state's stores. -/
theorem runB_st (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11).2.1 = stPieces (ldw arg2 harg2 x0 inb_S128x2048_S128x2048_0_0) (ldw arg3 harg3 x1 inb_S128x1024_S128x1024_0_0) (ldw arg5 harg5 x3 inb_S128x128_S128x128_0_0) (ldw arg8 harg8 x6 inb_S1x128_S1x128_0_0) (ldw arg9 harg9 x7 inb_S1x128_S1x128_0_0)
        (fun p => View.readAt (Elt F) arg13.view (Rect.unit (s := S1x2048x128) ![0, 128 * p.1, 0] S1x128x128.size (inb_st p)).toLoadRect (harg13.unread xo11)) := by
  sl_kernel_rfl

/-- The outputs' one store. -/
theorem runA_y (hc0 : cond0_0 i) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1 = [⟨Rect.unit ![0, 0] S128x2048.size inb_S128x2048_S128x2048_0_0,
      yBlock (ldw arg2 harg2 x0 inb_S128x2048_S128x2048_0_0) (ldw arg3 harg3 x1 inb_S128x1024_S128x1024_0_0) (ldw arg4 harg4 x2 inb_S128x1024_S128x1024_0_0) (ldw arg5 harg5 x3 inb_S128x128_S128x128_0_0) (ldw arg6 harg6 x4 inb_S128x1024_S128x1024_0_0) (ldw arg7 harg7 x5 inb_S128x1024_S128x1024_0_0) (ldw arg8 harg8 x6 inb_S1x128_S1x128_0_0) (ldw arg9 harg9 x7 inb_S1x128_S1x128_0_0) (ldw arg10 harg10 x8 inb_S1x128_S1x128_0_0) (ldw arg11 harg11 x9 inb_S1x2048_S1x2048_0_0)
        (fun p => arg13.view.readCov (Val := Elt F) [⟨Rect.unit ![0, 0, 0] S1x2048x128.size inb_S1x2048x128_S1x2048x128_0_0_0, k0_pay2⟩] (Rect.unit (s := S1x2048x128) ![0, 128 * p.1, 0] S1x128x128.size (inb_st p)).toLoadRect)⟩] := by
  sl_kernel_rfl

/-- The state's stores. -/
theorem runA_st (hc0 : cond0_0 i) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1 = stPieces (ldw arg2 harg2 x0 inb_S128x2048_S128x2048_0_0) (ldw arg3 harg3 x1 inb_S128x1024_S128x1024_0_0) (ldw arg5 harg5 x3 inb_S128x128_S128x128_0_0) (ldw arg8 harg8 x6 inb_S1x128_S1x128_0_0) (ldw arg9 harg9 x7 inb_S1x128_S1x128_0_0)
        (fun p => arg13.view.readCov (Val := Elt F) [⟨Rect.unit ![0, 0, 0] S1x2048x128.size inb_S1x2048x128_S1x2048x128_0_0_0, k0_pay2⟩] (Rect.unit (s := S1x2048x128) ![0, 128 * p.1, 0] S1x128x128.size (inb_st p)).toLoadRect) ++ [⟨Rect.unit ![0, 0, 0] S1x2048x128.size inb_S1x2048x128_S1x2048x128_0_0_0, k0_pay2⟩] := by
  sl_kernel_rfl

/-- The block of outputs a point of case B leaves. -/
theorem outB_y (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 = yBlock x0 x1 x2 x3 x4 x5 x6 x7 x8 x9 (stOf xo11) := by
  unfold out0_B_10
  rw [View.read_writes_junk_eq_canon, runB_y]
  simp only [ldw]
  rw [View.canon_cons_unit_lit _ _ _ (by decide)]
  rw [load_whole arg2 _ _ _ (by decide), load_whole arg3 _ _ _ (by decide), load_whole arg4 _ _ _ (by decide), load_whole arg5 _ _ _ (by decide), load_whole arg6 _ _ _ (by decide), load_whole arg7 _ _ _ (by decide), load_whole arg8 _ _ _ (by decide), load_whole arg9 _ _ _ (by decide), load_whole arg10 _ _ _ (by decide), load_whole arg11 _ _ _ (by decide)]
  congr 1
  funext p
  exact load_part _ _ _ _

/-- The state block a point of case B leaves: its sixteen stores, read back. -/
theorem outB_st (hc0 : ¬cond0_0 i) :
    out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 = View.canon (stPieces x0 x1 x3 x6 x7 (stOf xo11)) := by
  unfold out0_B_11
  rw [View.read_writes_junk_eq_canon, runB_st]
  simp only [ldw]
  rw [load_whole arg2 _ _ _ (by decide), load_whole arg3 _ _ _ (by decide), load_whole arg5 _ _ _ (by decide), load_whole arg8 _ _ _ (by decide), load_whole arg9 _ _ _ (by decide)]
  congr 2
  funext p
  exact load_part _ _ _ _

/-- The block of outputs a point of case A leaves. -/
theorem outA_y (hc0 : cond0_0 i) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = yBlock x0 x1 x2 x3 x4 x5 x6 x7 x8 x9 (stOf k0_pay2) := by
  unfold out0_A_10
  rw [View.read_writes_junk_eq_canon, runA_y]
  simp only [ldw]
  rw [View.canon_cons_unit_lit _ _ _ (by decide)]
  rw [load_whole arg2 _ _ _ (by decide), load_whole arg3 _ _ _ (by decide), load_whole arg4 _ _ _ (by decide), load_whole arg5 _ _ _ (by decide), load_whole arg6 _ _ _ (by decide), load_whole arg7 _ _ _ (by decide), load_whole arg8 _ _ _ (by decide), load_whole arg9 _ _ _ (by decide), load_whole arg10 _ _ _ (by decide), load_whole arg11 _ _ _ (by decide)]
  congr 1
  funext p
  exact View.readCov_fill _ _ _ _ _ (by decide)

/-- The state block a point of case A leaves: its sixteen stores, read back. -/
theorem outA_st (hc0 : cond0_0 i) :
    out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = View.canon (stPieces x0 x1 x3 x6 x7 (stOf k0_pay2) ++ [⟨Rect.unit ![0, 0, 0] S1x2048x128.size inb_S1x2048x128_S1x2048x128_0_0_0, k0_pay2⟩]) := by
  unfold out0_A_11
  rw [View.read_writes_junk_eq_canon, runA_st]
  simp only [ldw]
  rw [load_whole arg2 _ _ _ (by decide), load_whole arg3 _ _ _ (by decide), load_whole arg5 _ _ _ (by decide), load_whole arg8 _ _ _ (by decide), load_whole arg9 _ _ _ (by decide)]
  congr 3
  funext p
  exact View.readCov_fill _ _ _ _ _ (by decide)

end Stores

end Cert.Ssd

end
-- ==== Proof.Spec.lean ====
/-
  The chunked scan as mathematics over the extended reals, entry by entry: what both programs are shown to compute.
  `act` holds the convolution's outputs (2048 columns of inputs, 1024 of B, 1024 of C), `dtr` the raw step sizes,
  `proj` the projection that holds z in columns 3072 to 5119. A row is `(16 b + c) 128 + l`: position `l` of chunk `c` of
  sequence `b`. Column `j` of the inputs belongs to head `j / 64` and to group `j / 256`.
-/
module

public import proofs.«01_k».proof.Proof.Gen.KernelIdeal.Value
public import Idealize.ShloMosaic.PureOps.Ideal
public import Idealize.ShloMosaic.Lib.Pointwise

@[expose] public section

noncomputable section

namespace Cert.Ssd

open Cert.KernelIdeal Idealize.ShloMosaic

/-- Position `l` of chunk `c` of sequence `b`. -/
def row (b : Fin 4) (c : Fin 16) (l : Fin 128) : Fin 8192 := ⟨(16 * b.1 + c.1) * 128 + l.1, by omega⟩

/-- The head of an input column. -/
def hd (j : Fin 2048) : Fin 32 := ⟨j.1 / 64, by omega⟩

/-- A counter as a chunk. -/
def chunk (c : ℕ) : Fin 16 := ⟨c % 16, Nat.mod_lt _ (by decide)⟩

/-- Softplus of a step size with its bias. -/
def softplus (x : EReal) : EReal := max x 0 + Ideal.log1p (Ideal.exp (0 - FloatOps.absf (F := Ideal) (φ := .f32) x))

/-- The sums of the first entries, `0` to `l`. -/
def prefixSum (f : Fin 128 → EReal) (l : Fin 128) : EReal := ∑ k : Fin 128, if k ≤ l then f k else 0

section Spec
variable (act : Vec Ideal S8192x4096 .f32) (dtr : Vec Ideal S8192x128 .f32) (proj : Vec Ideal S8192x9216 .f32)
  (dtb alog dsk : Vec Ideal S32 .f32) (nw : Vec Ideal S2048 .f32)

/-- Entry of the inputs. -/
def xS (b : Fin 4) (c : Fin 16) (l : Fin 128) (j : Fin 2048) : EReal := act (ix2 (row b c l) ⟨j.1, by omega⟩)

/-- Entry of B, for an input column's group. -/
def bS (b : Fin 4) (c : Fin 16) (l : Fin 128) (j : Fin 2048) (n : Fin 128) : EReal :=
  act (ix2 (row b c l) ⟨2048 + (128 * (j.1 / 256) + n.1), by omega⟩)

/-- Entry of C, for an input column's group. -/
def cS (b : Fin 4) (c : Fin 16) (l : Fin 128) (j : Fin 2048) (n : Fin 128) : EReal :=
  act (ix2 (row b c l) ⟨3072 + (128 * (j.1 / 256) + n.1), by omega⟩)

/-- The step size. -/
def dtS (b : Fin 4) (c : Fin 16) (l : Fin 128) (h : Fin 32) : EReal :=
  softplus (dtr (ix2 (row b c l) ⟨h.1, by omega⟩) + dtb (ix1 h))

/-- The decay exponent, summed up to a position of its chunk. -/
def cumS (b : Fin 4) (c : Fin 16) (l : Fin 128) (h : Fin 32) : EReal :=
  prefixSum (fun k => dtS dtr dtb b c k h * (0 - Ideal.exp (alog (ix1 h)))) l

/-- The input times the step size. -/
def xdtS (b : Fin 4) (c : Fin 16) (l : Fin 128) (j : Fin 2048) : EReal := xS act b c l j * dtS dtr dtb b c l (hd j)

/-- What a chunk adds to the state. -/
def incS (b : Fin 4) (c : Fin 16) (j : Fin 2048) (n : Fin 128) : EReal :=
  ∑ l : Fin 128, (xdtS act dtr dtb b c l j
    * Ideal.exp (cumS dtr dtb alog b c 127 (hd j) - cumS dtr dtb alog b c l (hd j))) * bS act b c l j n

/-- The state before chunk `c`: zero, then decayed over a chunk and added to. -/
def stS (b : Fin 4) : ℕ → Fin 2048 → Fin 128 → EReal
  | 0 => fun _ _ => 0
  | c + 1 => fun j n =>
    Ideal.exp (cumS dtr dtb alog b (chunk c) 127 (hd j)) * stS b c j n + incS act dtr dtb alog b (chunk c) j n

/-- The output before the gate. -/
def yS (b : Fin 4) (c : Fin 16) (l : Fin 128) (j : Fin 2048) : EReal :=
  (∑ s : Fin 128, ((∑ n : Fin 128, cS act b c l j n * bS act b c s j n)
      * Ideal.exp (if s ≤ l then cumS dtr dtb alog b c l (hd j) - cumS dtr dtb alog b c s (hd j) else ⊥))
      * xdtS act dtr dtb b c s j)
    + (∑ n : Fin 128, cS act b c l j n * stS act dtr dtb alog b c.1 j n) * Ideal.exp (cumS dtr dtb alog b c l (hd j))
    + dsk (ix1 (hd j)) * xS act b c l j

/-- The gate. -/
def gateS (b : Fin 4) (c : Fin 16) (l : Fin 128) (j : Fin 2048) : EReal :=
  let z : EReal := proj (ix2 (row b c l) ⟨3072 + j.1, by omega⟩)
  z * Ideal.div 1 (1 + Ideal.exp (0 - z))

/-- The gated output. -/
def gS (b : Fin 4) (c : Fin 16) (l : Fin 128) (j : Fin 2048) : EReal :=
  yS act dtr dtb alog dsk b c l j * gateS proj b c l j

/-- The gated output, normed over its group's 256 columns and scaled. -/
def oS (b : Fin 4) (c : Fin 16) (l : Fin 128) (j : Fin 2048) : EReal :=
  gS act dtr proj dtb alog dsk b c l j
    * Ideal.rsqrt
        (Ideal.div (∑ k : Fin 256, gS act dtr proj dtb alog dsk b c l ⟨256 * (j.1 / 256) + k.1, by omega⟩
            * gS act dtr proj dtb alog dsk b c l ⟨256 * (j.1 / 256) + k.1, by omega⟩) (Ideal.ofBits .f32 0x43800000#32)
          + Ideal.ofBits .f32 0x358637BD#32)
    * nw (ix1 j)

end Spec

end Cert.Ssd

end
-- ==== Proof.Elem.lean ====
/-
  The model's blocks, read at an entry: where a point's input blocks are those of chunk `c` of sequence `b`, its outputs
  and its states are `Proof/Spec.lean`'s.
-/
module

public import proofs.«01_k».proof.Proof.Block
public import proofs.«01_k».proof.Proof.Spec

@[expose] public section

noncomputable section

namespace Cert.Ssd

open Cert.KernelIdeal Cert.KernelIdeal.Gen Idealize.ShloMosaic Idealize.ShloMosaic.TcCoe Idealize.SL.Sem

/-- A select on "the coordinate is under 64". -/
theorem select_lt (a b : EReal) (h : Fin 128) :
    Scalar.select (IntOp.cmpi .slt (BitVec.ofNat 32 h.1) 64#32) a b = if h.1 < 64 then a else b := by
  have e : ∀ h : Fin 128, IntOp.cmpi .slt (BitVec.ofNat 32 h.1) 64#32 = if h.1 < 64 then 1#1 else 0#1 := by decide
  rw [e]
  split <;> rfl

/-- A select on "row is at least column". -/
theorem select_tri (a b : EReal) (l s : Fin 128) :
    Scalar.select (IntOp.cmpi .sge (BitVec.ofNat 32 l.1) (BitVec.ofNat 32 s.1)) a b = if s ≤ l then a else b := by
  have e : ∀ l s : Fin 128, IntOp.cmpi .sge (BitVec.ofNat 32 l.1) (BitVec.ofNat 32 s.1) = if s ≤ l then 1#1 else 0#1 := by
    decide +kernel
  rw [e]
  split <;> rfl

/-- The mask's constant is negative infinity. -/
theorem ofBits_negInf : Ideal.ofBits .f32 0xFF800000#32 = ⊥ := by
  simp [Ideal.ofBits, Ideal.ieee]

/-- One doubling step of the prefix sums: each row plus the row `s` above it. -/
def step {F : FTy → Type} [FloatOps F] (s : BitVec 32) (v : FVec F S128x128 .f32) : FVec F S128x128 .f32 :=
  addf v (select (cmpi .sge (iota .tc S128x128 32 [0] iota_S128x128_d0_w32) (broadcast S128x128 s))
    (dynamicRotate 0 s none v rotates_S128x128_d0) (broadcast S128x128 (Scalar.ofBits .f32 0x00000000#32)))

/-- The kernel's prefix sums are seven doubling steps. -/
theorem cum_eq {F : FTy → Type} [FloatOps F] (dt : Vec F S128x128 .f32) (dtb al : Vec F S1x128 .f32) :
    cum dt dtb al = step 64#32 (step 32#32 (step 16#32 (step 8#32 (step 4#32 (step 2#32 (step 1#32
      (mulf (k0_pay6 dt dtb) (k0_pay7 al)))))))) := rfl

/-- If each row holds the sum of the `w` entries up to it, after a doubling step it holds the sum of `2 w`. -/
theorem step_sum (v : FVec Ideal S128x128 .f32) (f : ℕ → EReal) (h : Fin 128) (w : ℕ) (hw : w ≤ 64)
    (hv : ∀ l : Fin 128, v (ix2 l h) = ∑ k ∈ Finset.Ico (l.1 + 1 - w) (l.1 + 1), f k) (l : Fin 128) :
    step (BitVec.ofNat 32 w) v (ix2 l h) = ∑ k ∈ Finset.Ico (l.1 + 1 - 2 * w) (l.1 + 1), f k := by
  have e : ∀ (w : Fin 65) (l : Fin 128), IntOp.cmpi .sge (BitVec.ofNat 32 l.1) (BitVec.ofNat 32 w.1) = if w.1 ≤ l.1 then 1#1 else 0#1 := by
    decide +kernel
  have hn : (BitVec.ofNat 32 w).toNat % 128 = w := by
    rw [BitVec.toNat_ofNat, Nat.mod_eq_of_lt (by omega : w < 2 ^ 32), Nat.mod_eq_of_lt (by omega)]
  pointwise [step]
  rw [e ⟨w, by omega⟩ l, hv l]
  by_cases hl : w ≤ l.1
  · rw [if_pos hl]
    show _ + v _ = _
    rw [hv]
    have h1 : (l.1 + 128 - (BitVec.ofNat 32 w).toNat % 128) % 128 = l.1 - w := by rw [hn]; omega
    simp only [h1]
    rw [add_comm, ← Finset.sum_Ico_consecutive f (show l.1 + 1 - 2 * w ≤ l.1 + 1 - w by omega) (show l.1 + 1 - w ≤ l.1 + 1 by omega)]
    congr 2
    congr 1 <;> omega
  · rw [if_neg hl]
    show _ + (0 : EReal) = _
    rw [add_zero]
    congr 2
    omega

/-- Seven doubling steps leave the prefix sums. -/
theorem steps_apply (v : FVec Ideal S128x128 .f32) (l h : Fin 128) :
    step 64#32 (step 32#32 (step 16#32 (step 8#32 (step 4#32 (step 2#32 (step 1#32 v)))))) (ix2 l h) = prefixSum (fun k => v (ix2 k h)) l := by
  let f : ℕ → EReal := fun k => if hk : k < 128 then v (ix2 ⟨k, hk⟩ h) else 0
  have h0 : ∀ l : Fin 128, v (ix2 l h)
      = ∑ k ∈ Finset.Ico (l.1 + 1 - 1) (l.1 + 1), f k := by
    intro l
    rw [Nat.add_sub_cancel, Nat.Ico_succ_singleton, Finset.sum_singleton]
    simp only [f, dif_pos l.isLt]
  have h7 := step_sum _ f h 64 (by decide) (step_sum _ f h 32 (by decide) (step_sum _ f h 16 (by decide)
    (step_sum _ f h 8 (by decide) (step_sum _ f h 4 (by decide) (step_sum _ f h 2 (by decide) (step_sum _ f h 1 (by decide) h0)))))) l
  refine h7.trans ?_
  rw [show l.1 + 1 - 2 * 64 = 0 by omega, ← Finset.range_eq_Ico]
  unfold prefixSum
  have hs : ∑ k : Fin 128, (if k ≤ l then f k.1 else 0) = ∑ k ∈ Finset.range (l.1 + 1), f k := by
    simp only [Fin.le_def]
    rw [Fin.sum_univ_eq_sum_range (fun k => if k ≤ l.1 then f k else 0) 128, ← Finset.sum_filter]
    refine Finset.sum_congr ?_ fun _ _ => rfl
    ext k
    simp only [Finset.mem_filter, Finset.mem_range]
    omega
  rw [← hs]
  refine Finset.sum_congr rfl fun k _ => ?_
  simp only [f, dif_pos k.isLt]

/-- The kernel's prefix sums, at an entry. -/
theorem cum_apply (dt : Vec Ideal S128x128 .f32) (dtb al : Vec Ideal S1x128 .f32) (l h : Fin 128) :
    cum dt dtb al (ix2 l h) = prefixSum (fun k => k0_pay6 dt dtb (ix2 k h) * k0_pay7 al (ix2 k h)) l := by
  rw [cum_eq, steps_apply]
  rfl

/-- Column `r` of the pair `p`. -/
def jcol (p : Fin 16) (r : Fin 128) : Fin 2048 := ⟨128 * p.1 + r.1, by omega⟩

/-- A head as a lane. -/
def lane (h : Fin 32) : Fin 128 := ⟨h.1, by omega⟩

theorem hd_jcol_lo (p : Fin 16) (r : Fin 128) (h : r.1 < 64) : hd (jcol p r) = hd0 p := Fin.ext (by simp only [hd, jcol, hd0]; omega)
theorem hd_jcol_hi (p : Fin 16) (r : Fin 128) (h : ¬r.1 < 64) : hd (jcol p r) = hd1 p := Fin.ext (by simp only [hd, jcol, hd1]; omega)

/-- The pair's columns hold each lane's head. -/
theorem cols_apply (v : FVec Ideal S128x128 .f32) (p : Fin 16) (l r : Fin 128) : cols v p (ix2 l r) = v (ix2 l (lane (hd (jcol p r)))) := by
  pointwise [cols, col, k0_pay15]
  rw [select_lt]
  split
  · next h => rw [hd_jcol_lo p r h]; rfl
  · next h => rw [hd_jcol_hi p r h]; rfl

/-- The row's entries on the lanes are each lane's head's. -/
theorem rowOf_apply (v : FVec Ideal S1x128 .f32) (p : Fin 16) (r : Fin 128) : rowOf v p (ix2 0 r) = v (ix2 0 (lane (hd (jcol p r)))) := by
  pointwise [rowOf, k0_pay16, k0_pay15]
  rw [select_lt]
  split
  · next h => rw [hd_jcol_lo p r h]; rfl
  · next h => rw [hd_jcol_hi p r h]; rfl

/-- The row's entries on the sublanes are each sublane's head's. -/
theorem subOf_apply (v : FVec Ideal S1x128 .f32) (p : Fin 16) (r n : Fin 128) : subOf v p (ix2 r n) = v (ix2 0 (lane (hd (jcol p r)))) := by
  pointwise [subOf, k0_pay17]
  rw [select_lt]
  split
  · next h => rw [hd_jcol_lo p r h]; rfl
  · next h => rw [hd_jcol_hi p r h]; rfl

section Blocks
variable {act : Vec Ideal S8192x4096 .f32} {dtr : Vec Ideal S8192x128 .f32} {proj : Vec Ideal S8192x9216 .f32}
  {dtb alog dsk : Vec Ideal S32 .f32} {nw : Vec Ideal S2048 .f32}

/-- The input blocks of a point are those of chunk `c` of sequence `b`. -/
structure Blk (act : Vec Ideal S8192x4096 .f32) (dtr : Vec Ideal S8192x128 .f32) (proj : Vec Ideal S8192x9216 .f32)
    (dtb alog dsk : Vec Ideal S32 .f32) (nw : Vec Ideal S2048 .f32) (b : Fin 4) (c : Fin 16)
    (xs : Vec Ideal S128x2048 .f32) (bm cm : Vec Ideal S128x1024 .f32) (dt : Vec Ideal S128x128 .f32) (z0 z1 : Vec Ideal S128x1024 .f32)
    (db al ds : Vec Ideal S1x128 .f32) (w : Vec Ideal S1x2048 .f32) : Prop where
  xs : ∀ (l : Fin 128) (j : Fin 2048), xs (ix2 l j) = act (ix2 (row b c l) ⟨j.1, by omega⟩)
  bm : ∀ (l : Fin 128) (j : Fin 1024), bm (ix2 l j) = act (ix2 (row b c l) ⟨2048 + j.1, by omega⟩)
  cm : ∀ (l : Fin 128) (j : Fin 1024), cm (ix2 l j) = act (ix2 (row b c l) ⟨3072 + j.1, by omega⟩)
  dt : ∀ (l : Fin 128) (h : Fin 128), dt (ix2 l h) = dtr (ix2 (row b c l) h)
  z0 : ∀ (l : Fin 128) (j : Fin 1024), z0 (ix2 l j) = proj (ix2 (row b c l) ⟨3072 + j.1, by omega⟩)
  z1 : ∀ (l : Fin 128) (j : Fin 1024), z1 (ix2 l j) = proj (ix2 (row b c l) ⟨4096 + j.1, by omega⟩)
  db : ∀ h : Fin 32, db (ix2 0 (lane h)) = dtb (ix1 h)
  al : ∀ h : Fin 32, al (ix2 0 (lane h)) = alog (ix1 h)
  ds : ∀ h : Fin 32, ds (ix2 0 (lane h)) = dsk (ix1 h)
  w : ∀ j : Fin 2048, w (ix2 0 j) = nw (ix1 j)

variable {b : Fin 4} {c : Fin 16}
  {xs : Vec Ideal S128x2048 .f32} {bm cm : Vec Ideal S128x1024 .f32} {dt : Vec Ideal S128x128 .f32} {z0 z1 : Vec Ideal S128x1024 .f32}
  {db al ds : Vec Ideal S1x128 .f32} {w : Vec Ideal S1x2048 .f32}
  (H : Blk act dtr proj dtb alog dsk nw b c xs bm cm dt z0 z1 db al ds w)
include H

theorem Blk.dtp (l : Fin 128) (h : Fin 32) : k0_pay6 dt db (ix2 l (lane h)) = dtS dtr dtb b c l h := by
  pointwise [k0_pay6]
  rw [H.dt, H.db]
  rfl

theorem Blk.cum (l : Fin 128) (h : Fin 32) : cum dt db al (ix2 l (lane h)) = cumS dtr dtb alog b c l h := by
  rw [cum_apply]
  unfold cumS
  congr 1
  funext k
  rw [H.dtp]
  pointwise [k0_pay7]
  rw [H.al]

theorem Blk.cumT (l : Fin 128) (h : Fin 32) : cumT dt db al (ix2 (lane h) l) = cumS dtr dtb alog b c l h := by
  rw [← H.cum]
  show transpose S128x128 [1, 0] (Ssd.cum dt db al) transposes_S128x128_p1_0_S128x128 (ix2 (lane h) l) = _
  generalize Ssd.cum dt db al = v
  pointwise []

theorem Blk.cumLast (h : Fin 32) : cumLast dt db al (ix2 0 (lane h)) = cumS dtr dtb alog b c 127 h := by
  rw [← H.cum]
  show extractStridedSlice S1x128 ![127, 0] (Ssd.cum dt db al) slices_S128x128_o127_0_S1x128 (ix2 0 (lane h)) = _
  generalize Ssd.cum dt db al = v
  pointwise []

theorem Blk.xdt (l : Fin 128) (p : Fin 16) (r : Fin 128) : xdt xs dt db p (ix2 l r) = xdtS act dtr dtb b c l (jcol p r) := by
  unfold Ssd.xdt xdtS
  show xOf xs p (ix2 l r) * cols (k0_pay6 dt db) p (ix2 l r) = _
  rw [cols_apply, H.dtp]
  pointwise [xOf]
  rw [H.xs]
  rfl

theorem Blk.xdec (l : Fin 128) (p : Fin 16) (r : Fin 128) : xdec xs dt db al p (ix2 l r)
    = xdtS act dtr dtb b c l (jcol p r) * Ideal.exp (cumS dtr dtb alog b c 127 (hd (jcol p r)) - cumS dtr dtb alog b c l (hd (jcol p r))) := by
  have h1 : broadcastTo S128x128 (rowOf (Ssd.cumLast dt db al) p) broadcasts_S1x128_S128x128 (ix2 l r) = rowOf (Ssd.cumLast dt db al) p (ix2 0 r) := by
    pointwise []
  show Ssd.xdt xs dt db p (ix2 l r) * Ideal.exp (broadcastTo S128x128 (rowOf (Ssd.cumLast dt db al) p) broadcasts_S1x128_S128x128 (ix2 l r)
    - cols (Ssd.cum dt db al) p (ix2 l r)) = _
  rw [h1, rowOf_apply, cols_apply, H.xdt, H.cum, H.cumLast]

theorem Blk.bOf (l : Fin 128) (p : Fin 16) (r n : Fin 128) : grpOf bm (grp p) (ix2 l n) = bS act b c l (jcol p r) n := by
  pointwise [grpOf]
  rw [H.bm]
  unfold bS
  congr 2
  apply Fin.ext
  simp only [grp, jcol]
  omega

theorem Blk.cOf (l : Fin 128) (p : Fin 16) (r n : Fin 128) : grpOf cm (grp p) (ix2 l n) = cS act b c l (jcol p r) n := by
  pointwise [grpOf]
  rw [H.cm]
  unfold cS
  congr 2
  apply Fin.ext
  simp only [grp, jcol]
  omega

/-- The pair's state after the chunk, where before it was the scan's. -/
theorem Blk.stPair (st : Vec Ideal S1x128x128 .f32) (p : Fin 16)
    (hs : ∀ r n : Fin 128, st (ix3 0 r n) = stS act dtr dtb alog b c.1 (jcol p r) n) (r n : Fin 128) :
    stPair xs bm dt db al st p (ix3 0 r n) = stS act dtr dtb alog b (c.1 + 1) (jcol p r) n := by
  have hc : chunk c.1 = c := Fin.ext (Nat.mod_eq_of_lt c.isLt)
  unfold Ssd.stPair stS
  rw [hc]
  pointwise []
  rw [subOf_apply, hs]
  congr 1
  · congr 1
    show Ideal.exp (Ssd.cumLast dt db al (ix2 0 (lane (hd (jcol p r))))) = _
    rw [H.cumLast]
  · unfold incS
    refine Finset.sum_congr rfl fun l _ => ?_
    rw [H.xdec, H.bOf l p r n]

/-- The scores of head `h`, at two positions; `j` is any column of the head's group. -/
theorem Blk.score (l s : Fin 128) (p : Fin 16) (r : Fin 128) (h : Fin 32) : score bm cm dt db al (grp p) h (ix2 l s)
    = (∑ n : Fin 128, cS act b c l (jcol p r) n * bS act b c s (jcol p r) n)
      * Ideal.exp (if s ≤ l then cumS dtr dtb alog b c l h - cumS dtr dtb alog b c s h else ⊥) := by
  have h1 : cbOf bm cm (grp p) (ix2 l s) = ∑ n : Fin 128, cS act b c l (jcol p r) n * bS act b c s (jcol p r) n := by
    unfold cbOf
    pointwise []
    refine Finset.sum_congr rfl fun n _ => ?_
    rw [H.cOf l p r n, H.bOf s p r n]
  have h2 : col (Ssd.cum dt db al) h (ix2 l s) = cumS dtr dtb alog b c l h := by
    rw [← H.cum]
    pointwise [col]
    rfl
  have h3 : broadcastTo S128x128 (extractStridedSlice S1x128 ![h.1, 0] (Ssd.cumT dt db al) (slices_rowT h)) broadcasts_S1x128_S128x128 (ix2 l s)
      = cumS dtr dtb alog b c s h := by
    rw [← H.cumT]
    pointwise []
    rfl
  unfold Ssd.score
  generalize col (Ssd.cum dt db al) h = v2 at h2 ⊢
  generalize broadcastTo S128x128 (extractStridedSlice S1x128 ![h.1, 0] (Ssd.cumT dt db al) (slices_rowT h)) broadcasts_S1x128_S128x128 = v3 at h3 ⊢
  pointwise [k0_pay14]
  rw [select_tri, h1, h2, h3, ofBits_negInf]

/-- The pair's outputs before the gate. -/
theorem Blk.yPair (st : Vec Ideal S1x128x128 .f32) (p : Fin 16)
    (hs : ∀ r n : Fin 128, st (ix3 0 r n) = stS act dtr dtb alog b c.1 (jcol p r) n) (l r : Fin 128) :
    yPair xs bm cm dt db al ds st p (ix2 l r) = yS act dtr dtb alog dsk b c l (jcol p r) := by
  have hd : (broadcastTo S128x128 (rowOf (F := Ideal) (shapeCast S1x128 ds shapeCasts_S1x128_S1x128) p) broadcasts_S1x128_S128x128) (ix2 l r)
      = dsk (ix1 (hd (jcol p r))) := by
    rw [← H.ds, show (shapeCast S1x128 ds shapeCasts_S1x128_S1x128 : FVec Ideal S1x128 .f32) = ds from by funext i; pointwise []]
    rw [← rowOf_apply ds p r]
    pointwise []
  have hx : xOf xs p (ix2 l r) = xS act b c l (jcol p r) := by
    pointwise [xOf]
    rw [H.xs]
    rfl
  have hd' : ∀ h : Fin 32, matmul dot_S128x128_S128x128_S128x128_1_0_0_1_n_n none (Ssd.score bm cm dt db al (grp p) h)
        (truncf .bf16 (Ssd.xdt xs dt db p) bitsLt_bf16_f32) (constant S128x128 .f32 0x00000000#32) (ix2 l r)
      = ∑ s : Fin 128, ((∑ n : Fin 128, cS act b c l (jcol p r) n * bS act b c s (jcol p r) n)
        * Ideal.exp (if s ≤ l then cumS dtr dtb alog b c l h - cumS dtr dtb alog b c s h else ⊥)) * xdtS act dtr dtb b c s (jcol p r) := by
    intro h
    pointwise []
    refine Finset.sum_congr rfl fun s _ => ?_
    rw [H.score l s p r h, H.xdt]
  have ho : matmul dot_S128x128_S128x128_S128x128_1_1_0_0_n_n none (grpOf cm (grp p))
          (truncf .bf16 (shapeCast S128x128 st shapeCasts_S1x128x128_S128x128) bitsLt_bf16_f32) (constant S128x128 .f32 0x00000000#32) (ix2 l r)
      = ∑ n : Fin 128, cS act b c l (jcol p r) n * stS act dtr dtb alog b c.1 (jcol p r) n := by
    pointwise []
    refine Finset.sum_congr rfl fun n _ => ?_
    rw [H.cOf l p r n, hs]
  have he : cols (Ssd.cum dt db al) p (ix2 l r) = cumS dtr dtb alog b c l (Ssd.hd (jcol p r)) := by rw [cols_apply, H.cum]
  have hsel : ∀ v0 v1 : FVec Ideal S128x128 .f32, select k0_pay15 v0 v1 (ix2 l r) = if r.1 < 64 then v0 (ix2 l r) else v1 (ix2 l r) := by
    intro v0 v1
    pointwise [k0_pay15]
    exact select_lt _ _ r
  unfold Ssd.yPair
  show (select k0_pay15 _ _ (ix2 l r) + _ * Ideal.exp _) + _ * _ = _
  rw [hsel, hd', hd', ho, he, hd, hx]
  unfold yS
  congr 2
  split
  · next h => rw [hd_jcol_lo p r h]
  · next h => rw [hd_jcol_hi p r h]

end Blocks

end Cert.Ssd

end
-- ==== Proof.Gate.lean ====
/-
  The whole blocks a point leaves, read at an entry: the gated and normed outputs, and the sixteen stores of the state.
-/
module

public import proofs.«01_k».proof.Proof.Elem

@[expose] public section

noncomputable section

namespace Cert.Ssd

open Cert.KernelIdeal Cert.KernelIdeal.Gen Idealize.ShloMosaic Idealize.ShloMosaic.TcCoe Idealize.SL.Sem

/-- The pair of heads of an input column, and the lane in it. -/
def prOf (j : Fin 2048) : Fin 16 := ⟨j.1 / 128, by omega⟩
def laneOf (j : Fin 2048) : Fin 128 := ⟨j.1 % 128, by omega⟩

theorem jcol_prOf (j : Fin 2048) : jcol (prOf j) (laneOf j) = j := Fin.ext (by simp only [jcol, prOf, laneOf]; omega)

section Blocks
variable {act : Vec Ideal S8192x4096 .f32} {dtr : Vec Ideal S8192x128 .f32} {proj : Vec Ideal S8192x9216 .f32}
  {dtb alog dsk : Vec Ideal S32 .f32} {nw : Vec Ideal S2048 .f32}
  {b : Fin 4} {c : Fin 16}
  {xs : Vec Ideal S128x2048 .f32} {bm cm : Vec Ideal S128x1024 .f32} {dt : Vec Ideal S128x128 .f32} {z0 z1 : Vec Ideal S128x1024 .f32}
  {db al ds : Vec Ideal S1x128 .f32} {w : Vec Ideal S1x2048 .f32}
  (H : Blk act dtr proj dtb alog dsk nw b c xs bm cm dt z0 z1 db al ds w)
include H

theorem Blk.z (l : Fin 128) (j : Fin 2048) : (k0_pay3 z0 z1 : FVec Ideal S128x2048 .f32) (ix2 l j) = proj (ix2 (row b c l) ⟨3072 + j.1, by omega⟩) := by
  pointwise [k0_pay3]
  split
  · rw [H.z0]
  · rw [H.z1]
    congr 2
    apply Fin.ext
    simp only
    omega

/-- The gated outputs. -/
theorem Blk.gated (st : Fin 16 → Vec Ideal S1x128x128 .f32)
    (hs : ∀ (p : Fin 16) (r n : Fin 128), st p (ix3 0 r n) = stS act dtr dtb alog b c.1 (jcol p r) n) (l : Fin 128) (j : Fin 2048) :
    gated xs bm cm dt z0 z1 db al ds st (ix2 l j) = gS act dtr proj dtb alog dsk b c l j := by
  have h1 := H.yPair (st (prOf j)) (prOf j) (hs _) l (laneOf j)
  rw [jcol_prOf] at h1
  have hz := H.z l j
  have hy : concatenate S128x2048 1
      (List.ofFn fun p : Fin 16 => (⟨S128x128, Ssd.yPair xs bm cm dt db al ds (st p) p⟩ : (s : Shape) × (s.Idx → Elt Ideal .f32)))
      concatenates_S128x128_S128x128_S128x128_S128x128_S128x128_S128x128_S128x128_S128x128_S128x128_S128x128_S128x128_S128x128_S128x128_S128x128_S128x128_S128x128_S128x2048_d1
      (ix2 l j) = Ssd.yPair xs bm cm dt db al ds (st (prOf j)) (prOf j) (ix2 l (laneOf j)) := by
    refine concatenate_ofFn_apply (t := S128x2048) (s₁ := S128x128) 1 (fun p => Ssd.yPair xs bm cm dt db al ds (st p) p) _ rfl 128 rfl (ix2 l j) (prOf j) rfl
      (ix2 l (laneOf j)) rfl ?_
    intro a ha
    match a with
    | ⟨0, _⟩ => rfl
    | ⟨1, _⟩ => exact absurd rfl ha
  unfold Ssd.gated gS
  generalize k0_pay3 z0 z1 = z at hz ⊢
  show concatenate S128x2048 1 _ _ (ix2 l j) * _ = _
  rw [hy, h1]
  congr 1
  pointwise []
  unfold gateS
  rw [hz]

/-- The block of outputs. -/
theorem Blk.yBlock (st : Fin 16 → Vec Ideal S1x128x128 .f32)
    (hs : ∀ (p : Fin 16) (r n : Fin 128), st p (ix3 0 r n) = stS act dtr dtb alog b c.1 (jcol p r) n) (l : Fin 128) (j : Fin 2048) :
    yBlock xs bm cm dt z0 z1 db al ds w st (ix2 l j) = oS act dtr proj dtb alog dsk nw b c l j := by
  have hg := H.gated st hs l
  unfold Ssd.yBlock oS
  refine (concatenate_ofFn_apply (t := S128x2048) (s₁ := S128x256) 1 (fun g : Fin 8 => normed (Ssd.gated xs bm cm dt z0 z1 db al ds st) (shapeCast S1x2048 w shapeCasts_S1x2048_S1x2048) g)
    concatenates_S128x256_S128x256_S128x256_S128x256_S128x256_S128x256_S128x256_S128x256_S128x2048_d1 rfl 256 rfl
    (ix2 l j) ⟨j.1 / 256, by omega⟩ rfl (ix2 l ⟨j.1 % 256, by omega⟩) rfl ?_).trans ?_
  · intro a ha
    match a with
    | ⟨0, _⟩ => rfl
    | ⟨1, _⟩ => exact absurd rfl ha
  · generalize Ssd.gated xs bm cm dt z0 z1 db al ds st = y at hg ⊢
    have hj : (⟨256 * (j.1 / 256) + j.1 % 256, by omega⟩ : Fin 2048) = j := Fin.ext (by simp only; omega)
    pointwise [normed]
    rw [hj, H.w]
    simp only [hg]

omit H in
/-- The pair's rows of a state block, at an entry. -/
theorem stOf_apply (s : Vec Ideal S1x2048x128 .f32) (p : Fin 16) (r n : Fin 128) : stOf s p (ix3 0 r n) = s (ix3 0 (jcol p r) n) := by
  pointwise [stOf]
  rfl

omit H in
/-- The sixteen stores cover the state block: row `j` holds what its pair stored, whatever was stored before. -/
theorem pieces_apply (f : Fin 16 → Vec Ideal S1x128x128 .f32) (L : List (View.Piece (Elt Ideal) S1x2048x128 .f32)) (j : Fin 2048) (n : Fin 128) :
    View.canon (List.ofFn (fun k : Fin 16 => (⟨Rect.unit ![0, 128 * k.rev.1, 0] S1x128x128.size (inb_st k.rev), f k.rev⟩ : View.Piece (Elt Ideal) S1x2048x128 .f32)) ++ L) (ix3 0 j n)
      = f (prOf j) (ix3 0 (laneOf j) n) := by
  let G : S1x2048x128.Idx → Elt Ideal .f32 := fun y => f (prOf (y 1)) (ix3 0 (laneOf (y 1)) (y 2))
  refine View.canon_append_of_pieces G L _ ?_ (ix3 0 j n) ?_
  · intro p hp x
    obtain ⟨k, rfl⟩ := (List.mem_ofFn).mp hp
    have h1 : ((Rect.unit (s := S1x2048x128) ![0, 128 * k.rev.1, 0] S1x128x128.size (inb_st k.rev)).emb x : S1x2048x128.Idx) 1 = jcol k.rev (x 1) :=
      Fin.ext (by rw [Rect.emb_apply]; show 128 * k.rev.1 + 1 * (x 1 : Nat) = 128 * k.rev.1 + (x 1 : Nat); omega)
    have h2 : ((Rect.unit (s := S1x2048x128) ![0, 128 * k.rev.1, 0] S1x128x128.size (inb_st k.rev)).emb x : S1x2048x128.Idx) 2 = x 2 :=
      Fin.ext (by rw [Rect.emb_apply]; show 0 + 1 * (x 2 : Nat) = (x 2 : Nat); omega)
    have h3 : prOf (jcol k.rev (x 1)) = k.rev := Fin.ext (by have : (x 1).1 < 128 := (x 1).isLt; simp only [prOf, jcol]; omega)
    have h4 : laneOf (jcol k.rev (x 1)) = x 1 := Fin.ext (by have : (x 1).1 < 128 := (x 1).isLt; simp only [laneOf, jcol]; omega)
    show _ = f (prOf _) (ix3 0 (laneOf _) _)
    rw [h1, h2, h3, h4]
    have h5 : ∀ x : S1x128x128.Idx, x = ix3 0 (x 1) (x 2) := by
      intro x
      funext a
      match a with
      | ⟨0, _⟩ => exact Fin.ext (by have : (x 0).1 < 1 := (x 0).isLt; show (x 0 : Nat) = 0; omega)
      | ⟨1, _⟩ => rfl
      | ⟨2, _⟩ => rfl
    exact congrArg (f k.rev) (h5 x)
  · refine ⟨_, (List.mem_ofFn).mpr ⟨(prOf j).rev, rfl⟩, (Rect.mem_set_unit (inb := inb_st (prOf j).rev.rev)).mpr ?_⟩
    intro a
    rw [Fin.rev_rev]
    match a with
    | ⟨0, _⟩ => exact ⟨Nat.zero_le _, Nat.one_pos⟩
    | ⟨1, _⟩ => show 128 * (j.1 / 128) ≤ j.1 ∧ j.1 < 128 * (j.1 / 128) + 128; omega
    | ⟨2, _⟩ => exact ⟨Nat.zero_le _, by show n.1 < 0 + 128; omega⟩

/-- The state block after the chunk. -/
theorem Blk.stBlock (st : Fin 16 → Vec Ideal S1x128x128 .f32) (L : List (View.Piece (Elt Ideal) S1x2048x128 .f32))
    (hs : ∀ (p : Fin 16) (r n : Fin 128), st p (ix3 0 r n) = stS act dtr dtb alog b c.1 (jcol p r) n) (j : Fin 2048) (n : Fin 128) :
    View.canon (stPieces xs bm dt db al st ++ L) (ix3 0 j n) = stS act dtr dtb alog b (c.1 + 1) j n := by
  exact (pieces_apply (fun p => Ssd.stPair xs bm dt db al (st p) p) L j n).trans ((H.stPair _ _ (hs _) _ _).trans (by rw [jcol_prOf]))

end Blocks

end Cert.Ssd

end
-- ==== Proof.KernelValue.lean ====
/-
  The scan's run, read: what its blocks hold, point by point, and its two result arrays entry by entry.
-/
module

public import proofs.«01_k».proof.Proof.Gate
public import Idealize.ShloMosaic.Lib.Pipeline.ValueKit
public import Idealize.ShloMosaic.Lib.StableHlo.RunRead

@[expose] public section

set_option maxRecDepth 16384

noncomputable section

namespace Cert.Ssd

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments as launched. -/
def argA : Vec Ideal S8192x4096 .f32 := m ((c : Thread nD τ).loc main_arg0)
def argDt : Vec Ideal S8192x128 .f32 := m ((c : Thread nD τ).loc main_arg1)
def argP : Vec Ideal S8192x9216 .f32 := m ((c : Thread nD τ).loc main_arg2)
def argDb : Vec Ideal S32 .f32 := m ((c : Thread nD τ).loc main_arg3)
def argAl : Vec Ideal S32 .f32 := m ((c : Thread nD τ).loc main_arg4)
def argDs : Vec Ideal S32 .f32 := m ((c : Thread nD τ).loc main_arg5)
def argN : Vec Ideal S2048 .f32 := m ((c : Thread nD τ).loc main_arg6)

/-- The sequence and the chunk of a point. -/
def bOf (t : Fin cfg0.N) : Fin 4 := ⟨t.1 / 16, by have h : t.1 < 64 := lt_of_lt_of_eq t.isLt (show cfg0.N = 64 from N_0); omega⟩
def cOf (t : Fin cfg0.N) : Fin 16 := ⟨t.1 % 16, by omega⟩

/-- Where each window's block lies, at a point. -/
theorem idx : ∀ t : Fin cfg0.N,
    win0_0.index t = ![t.1, 0] ∧ win0_1.index t = ![t.1, 2] ∧ win0_2.index t = ![t.1, 3] ∧ win0_3.index t = ![t.1, 0]
    ∧ win0_4.index t = ![t.1, 3] ∧ win0_5.index t = ![t.1, 4] ∧ win0_6.index t = ![0, 0] ∧ win0_7.index t = ![0, 0]
    ∧ win0_8.index t = ![0, 0] ∧ win0_9.index t = ![0, 0] ∧ win0_10.index t = ![t.1, 0] ∧ win0_11.index t = ![t.1 / 16, 0, 0] :=
  (by decide +kernel : ∀ t : Fin grid0.N,
    win0_0.index t = ![t.1, 0] ∧ win0_1.index t = ![t.1, 2] ∧ win0_2.index t = ![t.1, 3] ∧ win0_3.index t = ![t.1, 0]
    ∧ win0_4.index t = ![t.1, 3] ∧ win0_5.index t = ![t.1, 4] ∧ win0_6.index t = ![0, 0] ∧ win0_7.index t = ![0, 0]
    ∧ win0_8.index t = ![0, 0] ∧ win0_9.index t = ![0, 0] ∧ win0_10.index t = ![t.1, 0] ∧ win0_11.index t = ![t.1 / 16, 0, 0])

/-- A head's lane of the padded per-head parameters. -/
theorem pad_lane (x : Vec Ideal S32 .f32) (v : Vec Ideal S_ .f32) (h : Fin 32) :
    pad S128 ![0] ![96] ![0] x v pads_S32_S128_0960 h_S_ (ix1 (⟨h.1, by omega⟩ : Fin 128)) = x (ix1 h) := by
  pointwise

theorem V_v1 (h : Fin 32) : (V m c main_v1 : Vec Ideal S1x128 .f32) (ix2 0 (lane h)) = argDb m c (ix1 h) := by
  unfold argDb V lane
  simp only [List.flatten_cons, List.flatten_nil, List.append_nil]
  after_reads_simp
  pointwise
  exact pad_lane _ _ h

theorem V_v3 (h : Fin 32) : (V m c main_v3 : Vec Ideal S1x128 .f32) (ix2 0 (lane h)) = argAl m c (ix1 h) := by
  unfold argAl V lane
  simp only [List.flatten_cons, List.flatten_nil, List.append_nil]
  after_reads_simp
  pointwise
  exact pad_lane _ _ h

theorem V_v5 (h : Fin 32) : (V m c main_v5 : Vec Ideal S1x128 .f32) (ix2 0 (lane h)) = argDs m c (ix1 h) := by
  unfold argDs V lane
  simp only [List.flatten_cons, List.flatten_nil, List.append_nil]
  after_reads_simp
  pointwise
  exact pad_lane _ _ h

theorem V_v6 (h : Fin 2048) : (V m c main_v6 : Vec Ideal S1x2048 .f32) (ix2 0 h) = argN m c (ix1 h) := by
  unfold argN V
  simp only [List.flatten_cons, List.flatten_nil, List.append_nil]
  after_reads_simp
  pointwise

/-- The input blocks of a point are those of its chunk. -/
theorem blk (t : Fin cfg0.N) : Blk (argA m c) (argDt m c) (argP m c) (argDb m c) (argAl m c) (argDs m c) (argN m c) (bOf t) (cOf t)
    (iblk m c 0 t) (iblk m c 1 t) (iblk m c 2 t) (iblk m c 3 t) (iblk m c 4 t) (iblk m c 5 t) (iblk m c 6 t) (iblk m c 7 t)
    (iblk m c 8 t) (iblk m c 9 t) where
  xs l j := by
    have h := (idx t).1
    unfold argA row bOf cOf
    blk_ext [iblk, V_main_arg0, h]
  bm l j := by
    have h := (idx t).2.1
    unfold argA row bOf cOf
    blk_ext [iblk, V_main_arg0, h]
  cm l j := by
    have h := (idx t).2.2.1
    unfold argA row bOf cOf
    blk_ext [iblk, V_main_arg0, h]
  dt l j := by
    have h := (idx t).2.2.2.1
    unfold argDt row bOf cOf
    blk_ext [iblk, V_main_arg1, h]
  z0 l j := by
    have h := (idx t).2.2.2.2.1
    unfold argP row bOf cOf
    blk_ext [iblk, V_main_arg2, h]
  z1 l j := by
    have h := (idx t).2.2.2.2.2.1
    unfold argP row bOf cOf
    blk_ext [iblk, V_main_arg2, h]
  db h := by
    have e := (idx t).2.2.2.2.2.2.1
    refine Eq.trans ?_ (V_v1 m c h)
    blk_ext [iblk, e]
  al h := by
    have e := (idx t).2.2.2.2.2.2.2.1
    refine Eq.trans ?_ (V_v3 m c h)
    blk_ext [iblk, e]
  ds h := by
    have e := (idx t).2.2.2.2.2.2.2.2.1
    refine Eq.trans ?_ (V_v5 m c h)
    blk_ext [iblk, e]
  w j := by
    have e := (idx t).2.2.2.2.2.2.2.2.2.1
    refine Eq.trans ?_ (V_v6 m c j)
    blk_ext [iblk, e]

/-- The outputs and the state as the specification has them, over the arguments as launched. -/
abbrev oK (b : Fin 4) (ch : Fin 16) (l : Fin 128) (j : Fin 2048) : EReal :=
  oS (argA m c) (argDt m c) (argP m c) (argDb m c) (argAl m c) (argDs m c) (argN m c) b ch l j
abbrev stK (b : Fin 4) (k : ℕ) (j : Fin 2048) (n : Fin 128) : EReal :=
  stS (argA m c) (argDt m c) (argDb m c) (argAl m c) b k j n

/-- The state block zeroed at a sequence's first chunk. -/
theorem zero_apply (p : Fin 16) (r n : Fin 128) : stOf (F := Ideal) (k0_pay2 (F := Ideal)) p (ix3 0 r n) = 0 := by
  rw [stOf_apply]
  pointwise [k0_pay2]

/-- After each point the two output blocks hold its chunk's outputs and the state after its chunk. -/
theorem outs (n : ℕ) (hn : n < cfg0.N) :
    (∀ l j, (outsAt0 m c n hn).1 (ix2 l j) = oK m c (bOf ⟨n, hn⟩) (cOf ⟨n, hn⟩) l j)
    ∧ ∀ j k, (outsAt0 m c n hn).2 (ix3 0 j k) = stK m c (bOf ⟨n, hn⟩) ((cOf ⟨n, hn⟩).1 + 1) j k := by
  induction n using Nat.strong_induction_on with
  | _ n ih =>
  have H := blk m c ⟨n, hn⟩
  by_cases h0 : n % 16 = 0
  · have e := outsAt0_A m c ⟨n, hn⟩ h0
    dsimp only at e
    rw [e]
    have hs : ∀ (p : Fin 16) (r k : Fin 128), stOf (F := Ideal) (k0_pay2 (F := Ideal)) p (ix3 0 r k)
        = stS (argA m c) (argDt m c) (argDb m c) (argAl m c) (bOf ⟨n, hn⟩) (cOf ⟨n, hn⟩).1 (jcol p r) k := by
      intro p r k
      rw [zero_apply, show (cOf ⟨n, hn⟩).1 = 0 from h0]
      rfl
    refine ⟨fun l j => ?_, fun j k => ?_⟩
    · dsimp only
      rw [outA_y]
      exact H.yBlock _ hs l j
    · dsimp only
      rw [outA_st]
      exact H.stBlock _ _ hs j k
  · have e := outsAt0_B m c ⟨n, hn⟩ h0
    dsimp only at e
    rw [e]
    have hlt : n - 1 < n := by omega
    obtain ⟨-, i2⟩ := ih (n - 1) hlt (by omega)
    have hs : ∀ (p : Fin 16) (r k : Fin 128), stOf (F := Ideal) ((outsAt0 m c (n - 1) (by omega)).2) p (ix3 0 r k)
        = stS (argA m c) (argDt m c) (argDb m c) (argAl m c) (bOf ⟨n, hn⟩) (cOf ⟨n, hn⟩).1 (jcol p r) k := by
      intro p r k
      rw [stOf_apply, i2]
      have h1 : bOf ⟨n - 1, by omega⟩ = bOf ⟨n, hn⟩ := Fin.ext (by simp only [bOf]; omega)
      have h2 : (cOf ⟨n - 1, by omega⟩).1 + 1 = (cOf ⟨n, hn⟩).1 := by simp only [cOf]; omega
      rw [stK, h1, h2]
    refine ⟨fun l j => ?_, fun j k => ?_⟩
    · dsimp only
      rw [outB_y]
      exact H.yBlock _ hs l j
    · dsimp only
      rw [outB_st]
      have := H.stBlock _ [] hs j k
      rw [List.append_nil] at this
      exact this

/-- The first result: row `(16 b + ch) 128 + l` holds position `l` of chunk `ch` of sequence `b`. -/
def yArr : Vec Ideal S8192x2048 .bf16 := fun i =>
  oK m c ⟨(i 0).1 / 2048, by have h : (i 0).1 < 8192 := (i 0).isLt; omega⟩ ⟨(i 0).1 / 128 % 16, by omega⟩ ⟨(i 0).1 % 128, by omega⟩ (i 1)

/-- The second result: every sequence's state after its sixteen chunks. -/
def stArr : Vec Ideal S4x2048x128 .f32 := fun i => stK m c (i 0) 16 (i 1) (i 2)

theorem arr10 : (dats m 0 c).arrAt 10 cfg0.N = yArr m c := by
  refine (dats m 0 c).arrAt_eq_of_covers 10 _ (by decide +kernel) fun t hf y => ?_
  have e := (idx t).2.2.2.2.2.2.2.2.2.2.1
  have hN : t.1 < 64 := lt_of_lt_of_eq t.isLt (show cfg0.N = 64 from N_0)
  obtain ⟨l, j, rfl⟩ : ∃ (l : Fin 128) (j : Fin 2048), y = ix2 l j := ⟨y 0, y 1, by funext a; fin_cases a <;> rfl⟩
  rw [cast_eq, after0_10]
  refine ((outs m c t.1 t.2).1 l j).trans ?_
  unfold yArr
  have h0 : (((cfg0.win 10).blk t).view.emb (ix2 l j) (0 : Fin 2) : ℕ) = t.1 * 128 + l.1 := by blk_simp [e]
  have h1 : ((cfg0.win 10).blk t).view.emb (ix2 l j) (1 : Fin 2) = j := Fin.ext (by blk_simp [e])
  rw [h1]
  have hb : bOf t = ⟨(((cfg0.win 10).blk t).view.emb (ix2 l j) (0 : Fin 2) : ℕ) / 2048, by rw [h0]; omega⟩ := Fin.ext (by simp only [bOf, h0]; omega)
  have hc : cOf t = ⟨(((cfg0.win 10).blk t).view.emb (ix2 l j) (0 : Fin 2) : ℕ) / 128 % 16, by omega⟩ := Fin.ext (by simp only [cOf, h0]; omega)
  have hl : l = ⟨(((cfg0.win 10).blk t).view.emb (ix2 l j) (0 : Fin 2) : ℕ) % 128, by omega⟩ := Fin.ext (by simp only [h0]; omega)
  rw [← hb, ← hc, ← hl]

theorem arr11 : (dats m 0 c).arrAt 11 cfg0.N = stArr m c := by
  refine (dats m 0 c).arrAt_eq_of_covers 11 _ (by decide +kernel) fun t hf y => ?_
  have e := (idx t).2.2.2.2.2.2.2.2.2.2.2
  have hf' := (flush0_11 t).mp hf
  obtain ⟨z, j, k, rfl⟩ : ∃ (z : Fin 1) (j : Fin 2048) (k : Fin 128), y = ix3 z j k := ⟨y 0, y 1, y 2, by funext a; fin_cases a <;> rfl⟩
  obtain rfl : z = 0 := Subsingleton.elim _ _
  rw [cast_eq, after0_11]
  refine ((outs m c t.1 t.2).2 j k).trans ?_
  unfold stArr
  have h0 : ((cfg0.win 11).blk t).view.emb (ix3 0 j k) (0 : Fin 3) = bOf t := Fin.ext (by blk_simp [e, bOf]; rfl)
  have h1 : ((cfg0.win 11).blk t).view.emb (ix3 0 j k) (1 : Fin 3) = j := Fin.ext (by blk_simp [e])
  have h2 : ((cfg0.win 11).blk t).view.emb (ix3 0 j k) (2 : Fin 3) = k := Fin.ext (by blk_simp [e])
  rw [h0, h1, h2]
  have h3 : (cOf t).1 + 1 = 16 := by simp only [cOf]; omega
  show stK m c (bOf t) ((cOf t).1 + 1) j k = _
  rw [h3]

end Cert.Ssd

end
-- ==== Proof.Cumsum.lean ====
/-
  The reference's running sum over a chunk, read at an entry: a window of 128 positions that ends at the entry, the
  positions before the chunk's first holding zero.
-/
module

public import proofs.«01_k».proof.Proof.Spec
public import proofs.«01_k».proof.Proof.Gen.ReferenceIdeal.Run

@[expose] public section

noncomputable section

namespace Cert.Ssd

open Idealize.ShloMosaic Cert.ReferenceIdeal Cert.ReferenceIdeal.Gen

/-- A fold of sums is the sum. -/
theorem foldl_add {α : Type} (g : α → EReal) (L : List α) (v : EReal) : L.foldl (fun r n => r + g n) v = v + (L.map g).sum := by
  induction L generalizing v with
  | nil => simp
  | cons a L ih => rw [List.foldl_cons, ih, List.map_cons, List.sum_cons, add_assoc]

/-- The sum over a window's positions, those before the first entry left out, is the sum up to the entry. -/
theorem window_sum {n : ℕ} (f : Fin (n + 1) → EReal) (l : Fin (n + 1)) :
    (∑ w : Fin (n + 1), if h : n ≤ l.1 + w.1 then f ⟨l.1 + w.1 - n, by omega⟩ else 0) = ∑ k : Fin (n + 1), if k ≤ l then f k else 0 := by
  rw [Finset.sum_dite, Finset.sum_const_zero, add_zero, ← Finset.sum_filter]
  refine Finset.sum_bij' (fun w _ => ⟨l.1 + w.1.1 - n, by omega⟩)
    (fun k hk => ⟨⟨k.1 + n - l.1, by have := (Finset.mem_filter.mp hk).2; rw [Fin.le_def] at this; omega⟩, by
      have := (Finset.mem_filter.mp hk).2; rw [Fin.le_def] at this
      simp only [Finset.mem_filter, Finset.mem_univ, true_and]; omega⟩) ?_ ?_ ?_ ?_ ?_
  · intro w hw
    simp only [Finset.mem_filter, Finset.mem_univ, true_and, Fin.le_def]; omega
  · intro k hk; exact Finset.mem_attach _ _
  · intro w hw
    have := (Finset.mem_filter.mp w.2).2
    apply Subtype.ext; apply Fin.ext
    simp only; omega
  · intro k hk
    have := (Finset.mem_filter.mp hk).2; rw [Fin.le_def] at this
    apply Fin.ext
    simp only; omega
  · intro w hw; rfl

/-- The running sum at an entry. -/
theorem cumsum_apply (x : FVec Ideal S4x16x128x32 .f32) (z : S_.Idx → Ideal .f32) (hz : z (Shape.Idx.first h_S_) = 0)
    (h : S4x16x128x32.ReduceWindows ![1, 1, 128, 1] ![1, 1, 1, 1] ![0, 0, 127, 0] ![0, 0, 0, 0] S4x16x128x32)
    (b : Fin 4) (c : Fin 16) (l : Fin 128) (k : Fin 32) :
    Host.reduceWindowAdd ![1, 1, 128, 1] ![1, 1, 1, 1] ![0, 0, 127, 0] ![0, 0, 0, 0] x z h h_S_ (ix4 b c l k)
      = prefixSum (fun s => x (ix4 b c s k)) l := by
  unfold prefixSum
  rw [← window_sum (n := 127)]
  show Host.reduceWindow (· + ·) ![1, 1, 128, 1] ![1, 1, 1, 1] ![0, 0, 127, 0] ![0, 0, 0, 0] x (fun _ : (⟨0, ![]⟩ : Shape).Idx => z (Shape.Idx.first h_S_)) h h_S_ (ix4 b c l k) = _
  rw [hz]
  unfold Host.reduceWindow
  dsimp only
  rw [foldl_add, zero_add, ← List.ofFn_eq_map, List.sum_ofFn]
  refine (Fintype.sum_equiv (⟨4, ![1, 1, 128, 1]⟩ : Shape).rowMajor.symm _ (fun w : (⟨4, ![1, 1, 128, 1]⟩ : Shape).Idx =>
    if h : 127 ≤ l.1 + (w 2 : Nat) then x (ix4 b c ⟨l.1 + (w 2 : Nat) - 127, by have := (w 2).isLt; change (w 2 : Nat) < 128 at this; omega⟩ k) else 0) ?_).trans ?_
  · intro i
    let w : (⟨4, ![1, 1, 128, 1]⟩ : Shape).Idx := (⟨4, ![1, 1, 128, 1]⟩ : Shape).rowMajor.symm i
    have w0 : (w 0 : Nat) < 1 := (w 0).isLt
    have w1 : (w 1 : Nat) < 1 := (w 1).isLt
    have w2 : (w 2 : Nat) < 128 := (w 2).isLt
    have w3 : (w 3 : Nat) < 1 := (w 3).isLt
    by_cases hl : 127 ≤ l.1 + (w 2 : Nat)
    · have hin : ∀ a : Fin 4, ![0, 0, 127, 0] a ≤ (ix4 b c l k (Fin.cast h.1.symm a)).val * ![1, 1, 1, 1] a + (w a).val
          ∧ (ix4 b c l k (Fin.cast h.1.symm a)).val * ![1, 1, 1, 1] a + (w a).val - ![0, 0, 127, 0] a < ![4, 16, 128, 32] a := by
        intro a
        match a with
        | 0 => exact ⟨Nat.zero_le _, by show b.1 * 1 + (w 0 : Nat) - 0 < 4; omega⟩
        | 1 => exact ⟨Nat.zero_le _, by show c.1 * 1 + (w 1 : Nat) - 0 < 16; omega⟩
        | 2 => exact ⟨by show 127 ≤ l.1 * 1 + (w 2 : Nat); omega, by show l.1 * 1 + (w 2 : Nat) - 127 < 128; omega⟩
        | 3 => exact ⟨Nat.zero_le _, by show k.1 * 1 + (w 3 : Nat) - 0 < 32; omega⟩
      refine Eq.trans ?_ (dif_pos hl).symm
      refine (dif_pos hin).trans ?_
      refine congrArg x (funext fun a => Fin.ext ?_)
      match a with
      | 0 => show b.1 * 1 + (w 0 : Nat) - 0 = b.1; omega
      | 1 => show c.1 * 1 + (w 1 : Nat) - 0 = c.1; omega
      | 2 => show l.1 * 1 + (w 2 : Nat) - 127 = l.1 + (w 2 : Nat) - 127; omega
      | 3 => show k.1 * 1 + (w 3 : Nat) - 0 = k.1; omega
    · refine Eq.trans ?_ (dif_neg hl).symm
      refine dif_neg fun hin => hl ?_
      have := (hin 2).1
      change 127 ≤ l.1 * 1 + (w 2 : Nat) at this
      omega
  · rw [sum_idx4]
    simp only [Fin.sum_univ_one]
    rfl

end Cert.Ssd

end
-- ==== Proof.RefEntry.lean ====
/-
  The reference up to its scan over chunks, read at an entry.
-/
module

public import proofs.«01_k».proof.Proof.Cumsum
public import proofs.«01_k».proof.Proof.Elem
public import proofs.«01_k».proof.Proof.Gen.ReferenceIdeal.Run
public import Idealize.ShloMosaic.Lib.StableHlo.ReadAt

@[expose] public section

set_option maxRecDepth 8192

noncomputable section

namespace Cert.Ssd

open Cert.ReferenceIdeal Cert.ReferenceIdeal.Gen Cert.ReferenceIdeal.Value Idealize.ShloMosaic Idealize.ShloMosaic.TcCoe Idealize.ShloMosaic.StableHlo Idealize.SL.Sem

variable (V : Valuation τ sig (Elt Ideal))

/-- The arguments in contents. -/
abbrev rA : Vec Ideal S8192x4096 .f32 := V main_arg0
abbrev rDt : Vec Ideal S8192x128 .f32 := V main_arg1
abbrev rP : Vec Ideal S8192x9216 .f32 := V main_arg2
abbrev rDb : Vec Ideal S32 .f32 := V main_arg3
abbrev rAl : Vec Ideal S32 .f32 := V main_arg4
abbrev rDs : Vec Ideal S32 .f32 := V main_arg5
abbrev rN : Vec Ideal S2048 .f32 := V main_arg6

/-- A head's column. -/
def hcol (h : Fin 32) (p : Fin 64) : Fin 2048 := ⟨64 * h.1 + p.1, by omega⟩

theorem hd_hcol (h : Fin 32) (p : Fin 64) : hd (hcol h p) = h := Fin.ext (by simp only [hd, hcol]; omega)

/-- Contents after the operations that slice the arguments and add the bias, … -/
def VA1 : Valuation τ sig (Elt Ideal) := after hostOps0 V
/-- … after the softplus, … -/
def VA2 : Valuation τ sig (Elt Ideal) := after hostOps0_1 (VA1 V)
/-- … and after the chunks' inputs and decays. -/
def VA : Valuation τ sig (Elt Ideal) := after hostOps0_2 (VA2 V)

/-- Position `l` of chunk `c` in its sequence. -/
def sp (c : Fin 16) (l : Fin 128) : Fin 2048 := ⟨c.1 * 128 + l.1, by omega⟩

theorem row_eq (b : Fin 4) (c : Fin 16) (l : Fin 128) (h : b.1 * 2048 + (c.1 * 128 + l.1) < 8192) :
    (⟨b.1 * 2048 + (c.1 * 128 + l.1), h⟩ : Fin 8192) = row b c l := Fin.ext (by simp only [row]; omega)

theorem VA1_v1 (b : Fin 4) (c : Fin 16) (l : Fin 128) (h : Fin 32) (p : Fin 64) :
    (VA1 V main_v1 : Vec Ideal S4x2048x32x64 .f32) (ix4 b (sp c l) h p) = xS (rA V) b c l (hcol h p) := by
  unfold VA1 xS sp
  after_reads_at
  rw [row_eq]
  refine congrArg (rA V) (congrArg _ (Fin.ext ?_))
  simp only [hcol]; omega

theorem VA1_v3 (b : Fin 4) (c : Fin 16) (l : Fin 128) (h : Fin 32) (p : Fin 64) (n : Fin 128) :
    (VA1 V main_v3 : Vec Ideal S4x2048x8x128 .f32) (ix4 b (sp c l) ⟨h.1 / 4, by omega⟩ n) = bS (rA V) b c l (hcol h p) n := by
  unfold VA1 bS sp
  after_reads_at
  rw [row_eq]
  refine congrArg (rA V) (congrArg _ (Fin.ext ?_))
  simp only [hcol]; omega

theorem VA1_v5 (b : Fin 4) (c : Fin 16) (l : Fin 128) (h : Fin 32) (p : Fin 64) (n : Fin 128) :
    (VA1 V main_v5 : Vec Ideal S4x2048x8x128 .f32) (ix4 b (sp c l) ⟨h.1 / 4, by omega⟩ n) = cS (rA V) b c l (hcol h p) n := by
  unfold VA1 cS sp
  after_reads_at
  rw [row_eq]
  refine congrArg (rA V) (congrArg _ (Fin.ext ?_))
  simp only [hcol]; omega

theorem VA1_v7 (b : Fin 4) (c : Fin 16) (l : Fin 128) (j : Fin 2048) :
    (VA1 V main_v7 : Vec Ideal S4x2048x2048 .f32) (ix3 b (sp c l) j) = rP V (ix2 (row b c l) ⟨3072 + j.1, by omega⟩) := by
  unfold VA1 sp
  after_reads_at
  rw [row_eq]

theorem VA2_v13 (b : Fin 4) (c : Fin 16) (l : Fin 128) (h : Fin 32) :
    (VA2 V main_v13 : Vec Ideal S4x2048x32 .f32) (ix3 b (sp c l) h) = dtS (rDt V) (rDb V) b c l h := by
  have e : (VA1 V main_v12 : Vec Ideal S4x2048x32 .f32) (ix3 b (sp c l) h)
      = (HAdd.hAdd (α := EReal) (β := EReal) (rDt V (ix2 (row b c l) ⟨h.1, by omega⟩)) (rDb V (ix1 h)) : EReal) := by
    unfold VA1 sp
    after_reads_at
    rw [row_eq]
  unfold VA2
  after_reads_at
  rw [e, if_neg (fun h => h rfl)]
  unfold dtS softplus
  rw [zero_sub]

/-- A buffer the softplus does not write. -/
theorem VA2_keep (r : Ref sig .tc) (h : r ∉ hostOps0_1_W) : VA2 V r = VA1 V r :=
  after_of_writes_sub hostOps0_1 _ hostOps0_1_writes h

/-- A buffer that is not written before the running sum. -/
theorem VA_keep (r : Ref sig .tc) (h : r ∉ hostOps0_2_W) (h1 : r ∉ hostOps0_1_W) : VA V r = VA1 V r :=
  (after_of_writes_sub hostOps0_2 _ hostOps0_2_writes h).trans (VA2_keep V r h1)

theorem VA1_keep (r : Ref sig .tc) (h : r ∉ hostOps0_W) : VA1 V r = V r :=
  after_of_writes_sub hostOps0 _ hostOps0_writes h

theorem VA_v23 (b : Fin 4) (c : Fin 16) (l : Fin 128) (h : Fin 32) (p : Fin 64) :
    (VA V main_v23 : Vec Ideal S4x16x128x32x64 .f32) (ix5 b c l h p) = xdtS (rA V) (rDt V) (rDb V) b c l (hcol h p) := by
  have h13 := VA2_v13 V b c l h
  have h1 := (congrFun (VA2_keep V main_v1 (by decide)) (ix4 b (sp c l) h p)).trans (VA1_v1 V b c l h p)
  unfold VA
  after_reads_at
  unfold sp at h13 h1
  rw [h13, h1]
  unfold xdtS
  rw [hd_hcol]

theorem VA_v24 (b : Fin 4) (c : Fin 16) (l : Fin 128) (h : Fin 32) (p : Fin 64) (n : Fin 128) :
    (VA V main_v24 : Vec Ideal S4x16x128x32x128 .f32) (ix5 b c l h n) = bS (rA V) b c l (hcol h p) n := by
  have h1 := (congrFun (VA2_keep V main_v3 (by decide)) _).trans (VA1_v3 V b c l h p n)
  unfold VA
  after_reads_at
  exact h1

theorem VA_v25 (b : Fin 4) (c : Fin 16) (l : Fin 128) (h : Fin 32) (p : Fin 64) (n : Fin 128) :
    (VA V main_v25 : Vec Ideal S4x16x128x32x128 .f32) (ix5 b c l h n) = cS (rA V) b c l (hcol h p) n := by
  have h1 := (congrFun (VA2_keep V main_v5 (by decide)) _).trans (VA1_v5 V b c l h p n)
  unfold VA
  after_reads_at
  exact h1

theorem VA_v29 (b : Fin 4) (c : Fin 16) (l : Fin 128) (h : Fin 32)  :
    (VA V main_v29 : Vec Ideal S4x16x128x32 .f32) (ix4 b c l h) = (HMul.hMul (α := EReal) (β := EReal) (dtS (rDt V) (rDb V) b c l h) (0 - Ideal.exp (rAl V (ix1 h))) : EReal) := by
  have h13 := VA2_v13 V b c l h
  have h1 := (VA2_keep V main_arg4 (by decide)).trans (VA1_keep V main_arg4 (by decide))
  unfold VA
  after_reads_at
  unfold sp at h13
  rw [h13, h1, zero_sub]

/-- Contents after the running sum, … -/
def VB : Valuation τ sig (Elt Ideal) := after hostOps0_3 (VA V)

theorem VB_v30 (b : Fin 4) (c : Fin 16) (l : Fin 128) (h : Fin 32) :
    (VB V main_v30 : Vec Ideal S4x16x128x32 .f32) (ix4 b c l h) = cumS (rDt V) (rDb V) (rAl V) b c l h := by
  unfold VB cumS
  after_reads_simp
  refine (cumsum_apply (VA V main_v29) _ ?_ _ b c l h).trans ?_
  · exact Ideal.ofBits_zero_f32
  · exact congrArg (fun f => prefixSum f l) (funext fun k => VA_v29 V b c k h)

/-- … after the masked differences, … -/
def VC4 : Valuation τ sig (Elt Ideal) := after hostOps0_4 (VB V)
def VC5 : Valuation τ sig (Elt Ideal) := after hostOps0_5 (VC4 V)
def VC6 : Valuation τ sig (Elt Ideal) := after hostOps0_6 (VC5 V)
def VC : Valuation τ sig (Elt Ideal) := after hostOps0_7 (VC6 V)

theorem VC4_v35 (b : Fin 4) (c : Fin 16) (l s : Fin 128) (h : Fin 32) :
    (VC4 V main_v35 : Vec Ideal S4x16x128x128x32 .f32) (ix5 b c l s h)
      = cumS (rDt V) (rDb V) (rAl V) b c l h - cumS (rDt V) (rDb V) (rAl V) b c s h := by
  unfold VC4
  after_reads_at
  rw [VB_v30, VB_v30]

theorem cmpi_tri (l s : Fin 128) :
    IntOp.cmpi .sge (IntOp.addi (BitVec.ofNat 32 l.1) 0#32) (BitVec.ofNat 32 s.1) = if s ≤ l then 1#1 else 0#1 := by
  revert l s
  decide +kernel

theorem VC5_v37 (l s : Fin 128) : (VC5 V main_v37 : Vec Ideal S128x128 .i1) (ix2 l s) = if s ≤ l then 1#1 else 0#1 := by
  have h36 : (VC4 V main_v36 : Vec Ideal S128x128 .i1) (ix2 l s) = 1#1 := by
    unfold VC4
    after_reads_at
  unfold VC5
  after_reads_at
  rw [h36, cmpi_tri]
  split <;> rfl

theorem VC_v39 (b : Fin 4) (c : Fin 16) (l s : Fin 128) (h : Fin 32) :
    (VC V main_v39 : Vec Ideal S4x16x128x128x32 .f32) (ix5 b c l s h)
      = if s ≤ l then cumS (rDt V) (rDb V) (rAl V) b c l h - cumS (rDt V) (rDb V) (rAl V) b c s h else (⊥ : EReal) := by
  have h38 : (VC6 V main_v38 : Vec Ideal S1x1x128x128x1 .i1) (ix5 0 0 l s 0) = if s ≤ l then 1#1 else 0#1 := by
    refine Eq.trans ?_ (VC5_v37 V l s)
    unfold VC6
    after_reads_at
  have hc : (VC6 V main_cst : Vec Ideal S_ .f32) ix0 = (⊥ : EReal) := by
    refine Eq.trans ?_ ofBits_negInf
    unfold VC6
    after_reads_at
  have h35 : (VC6 V main_v35 : Vec Ideal S4x16x128x128x32 .f32) (ix5 b c l s h) = _ :=
    (congrFun ((after_of_writes_sub hostOps0_6 _ hostOps0_6_writes (by decide)).trans
      (after_of_writes_sub hostOps0_5 _ hostOps0_5_writes (by decide))) _).trans (VC4_v35 V b c l s h)
  unfold VC
  after_reads_at
  rw [h38, h35, id, hc]
  split <;> rfl

/-- A buffer that is not written from the running sum to the masked differences. -/
theorem VC_keep (r : Ref sig .tc) (h : r ∉ hostOps0_3_W ++ hostOps0_4_W ++ hostOps0_5_W ++ hostOps0_6_W ++ hostOps0_7_W) : VC V r = VA V r := by
  simp only [List.mem_append, not_or] at h
  obtain ⟨⟨⟨⟨h3, h4⟩, h5⟩, h6⟩, h7⟩ := h
  exact (after_of_writes_sub hostOps0_7 _ hostOps0_7_writes h7).trans
    ((after_of_writes_sub hostOps0_6 _ hostOps0_6_writes h6).trans
      ((after_of_writes_sub hostOps0_5 _ hostOps0_5_writes h5).trans
        ((after_of_writes_sub hostOps0_4 _ hostOps0_4_writes h4).trans
          (after_of_writes_sub hostOps0_3 _ hostOps0_3_writes h3))))

theorem VC_v30 (b : Fin 4) (c : Fin 16) (l : Fin 128) (h : Fin 32) :
    (VC V main_v30 : Vec Ideal S4x16x128x32 .f32) (ix4 b c l h) = cumS (rDt V) (rDb V) (rAl V) b c l h :=
  (congrFun ((after_of_writes_sub hostOps0_7 _ hostOps0_7_writes (by decide)).trans
    ((after_of_writes_sub hostOps0_6 _ hostOps0_6_writes (by decide)).trans
      ((after_of_writes_sub hostOps0_5 _ hostOps0_5_writes (by decide)).trans
        (after_of_writes_sub hostOps0_4 _ hostOps0_4_writes (by decide))))) _).trans (VB_v30 V b c l h)

/-- … and at the scan's entry. -/
def VD : Valuation τ sig (Elt Ideal) := after hostOps0_8 (VC V)

theorem VD_v45 (b : Fin 4) (c : Fin 16) (l : Fin 128) (h : Fin 32) (p : Fin 64) :
    (VD V main_v45 : Vec Ideal S4x16x128x32x64 .f32) (ix5 b c l h p)
      = ∑ s : Fin 128, ((∑ n : Fin 128, cS (rA V) b c l (hcol h p) n * bS (rA V) b c s (hcol h p) n)
          * Ideal.exp (if s ≤ l then cumS (rDt V) (rDb V) (rAl V) b c l h - cumS (rDt V) (rDb V) (rAl V) b c s h else ⊥))
        * xdtS (rA V) (rDt V) (rDb V) b c s (hcol h p) := by
  unfold VD
  after_reads_at
  refine Finset.sum_congr rfl fun s _ => ?_
  rw [VC_keep V main_v23 (by decide), VC_keep V main_v24 (by decide), VC_keep V main_v25 (by decide), VA_v23, VC_v39, mul_comm]
  refine congrArg (fun z => z * _ * _) (Finset.sum_congr rfl fun n _ => ?_)
  rw [VA_v24 V b c s h p n, VA_v25 V b c l h p n, mul_comm]

theorem VD_v58 (b : Fin 4) (c : Fin 16) (h : Fin 32) :
    (VD V main_v58 : Vec Ideal S16x4x32 .f32) (ix3 c b h) = Ideal.exp (cumS (rDt V) (rDb V) (rAl V) b c 127 h) := by
  have h30 := VC_v30 V b c 127 h
  unfold VD
  after_reads_at
  rw [h30]

theorem VD_v59 (b : Fin 4) (c : Fin 16) (h : Fin 32) (p : Fin 64) (n : Fin 128) :
    (VD V main_v59 : Vec Ideal S16x4x32x64x128 .f32) (ix5 c b h p n) = incS (rA V) (rDt V) (rDb V) (rAl V) b c (hcol h p) n := by
  unfold VD
  after_reads_at
  unfold incS
  refine Finset.sum_congr rfl fun l _ => ?_
  rw [VC_keep V main_v23 (by decide), VC_keep V main_v24 (by decide), VA_v23, VC_v30, VC_v30, VA_v24 V b c l h p n, hd_hcol]

theorem VD_v61_2 : (VD V main_v61_2 : Vec Ideal S_ .i32) ix0 = 0#32 := by
  unfold VD
  after_reads_at
  rfl

theorem VD_v61_3 (b : Fin 4) (h : Fin 32) (p : Fin 64) (n : Fin 128) :
    (VD V main_v61_3 : Vec Ideal S4x32x64x128 .f32) (ix4 b h p n) = (0 : EReal) := by
  unfold VD
  after_reads_at
  exact Ideal.ofBits_zero_f32

end Cert.Ssd

end
-- ==== Proof.RefLoop.lean ====
/-
  The reference's scan over chunks: what its carried buffers hold after `k` trips.
-/
module

public import proofs.«01_k».proof.Proof.RefEntry

@[expose] public section

set_option maxRecDepth 8192

noncomputable section

namespace Cert.Ssd

open Cert.ReferenceIdeal Cert.ReferenceIdeal.Gen Cert.ReferenceIdeal.Value
open Idealize.ShloMosaic Idealize.ShloMosaic.TcCoe Idealize.ShloMosaic.StableHlo Idealize.SL.Sem

/-- The trip number read back from the counter is a chunk number. -/
theorem ctr_toInt (k : Fin 16) : (BitVec.ofNat 32 k.1).toInt = (k.1 : ℤ) := by
  revert k
  decide

theorem clamp3 (k : Fin 16) (ht : S1x4x32.rank = S16x4x32.rank) (a : Fin 3) :
    Host.clampedStart S16x4x32 S1x4x32 ht (fun j => BitVec.toInt ((![fun _ => BitVec.ofNat 32 k.1, constantI S_ 32 0#32,
      constantI S_ 32 0#32] : Fin 3 → S_.Idx → BitVec 32) j (Shape.Idx.first h_S_))) a = if a = 0 then k.1 else 0 := by
  fin_cases a
  · exact Host.clampedStart_of_le ht _ 0 k.1 (ctr_toInt k) (by show k.1 + 1 ≤ 16; omega)
  · exact Host.clampedStart_of_le ht _ 1 0 rfl (by show _ ≤ _; first | exact (by decide : 0 + 4 ≤ 4) | exact (by decide : 0 + 32 ≤ 32) | exact (by decide : 0 + 64 ≤ 64) | exact (by decide : 0 + 128 ≤ 128))
  · exact Host.clampedStart_of_le ht _ 2 0 rfl (by show _ ≤ _; first | exact (by decide : 0 + 4 ≤ 4) | exact (by decide : 0 + 32 ≤ 32) | exact (by decide : 0 + 64 ≤ 64) | exact (by decide : 0 + 128 ≤ 128))

theorem clamp5 (k : Fin 16) (ht : S1x4x32x64x128.rank = S16x4x32x64x128.rank) (a : Fin 5) :
    Host.clampedStart S16x4x32x64x128 S1x4x32x64x128 ht (fun j => BitVec.toInt ((![fun _ => BitVec.ofNat 32 k.1, constantI S_ 32 0#32,
      constantI S_ 32 0#32, constantI S_ 32 0#32, constantI S_ 32 0#32] : Fin 5 → S_.Idx → BitVec 32) j (Shape.Idx.first h_S_))) a
      = if a = 0 then k.1 else 0 := by
  fin_cases a
  · exact Host.clampedStart_of_le ht _ 0 k.1 (ctr_toInt k) (by show k.1 + 1 ≤ 16; omega)
  · exact Host.clampedStart_of_le ht _ 1 0 rfl (by show _ ≤ _; first | exact (by decide : 0 + 4 ≤ 4) | exact (by decide : 0 + 32 ≤ 32) | exact (by decide : 0 + 64 ≤ 64) | exact (by decide : 0 + 128 ≤ 128))
  · exact Host.clampedStart_of_le ht _ 2 0 rfl (by show _ ≤ _; first | exact (by decide : 0 + 4 ≤ 4) | exact (by decide : 0 + 32 ≤ 32) | exact (by decide : 0 + 64 ≤ 64) | exact (by decide : 0 + 128 ≤ 128))
  · exact Host.clampedStart_of_le ht _ 3 0 rfl (by show _ ≤ _; first | exact (by decide : 0 + 4 ≤ 4) | exact (by decide : 0 + 32 ≤ 32) | exact (by decide : 0 + 64 ≤ 64) | exact (by decide : 0 + 128 ≤ 128))
  · exact Host.clampedStart_of_le ht _ 4 0 rfl (by show _ ≤ _; first | exact (by decide : 0 + 4 ≤ 4) | exact (by decide : 0 + 32 ≤ 32) | exact (by decide : 0 + 64 ≤ 64) | exact (by decide : 0 + 128 ≤ 128))

theorem add_of_zero {z x : ℕ} (h : z = 0) : z + x = x := by omega
theorem sub_of_zero {z x : ℕ} (h : z = 0) : x - z = x := by omega

theorem ix3_congr {n₀ n₁ n₂ : ℕ} {a a' : Fin n₀} {b b' : Fin n₁} {c c' : Fin n₂} (ha : a = a') (hb : b = b') (hc : c = c') :
    ix3 a b c = ix3 a' b' c' := by subst ha hb hc; rfl
theorem ix4_congr {n₀ n₁ n₂ n₃ : ℕ} {a a' : Fin n₀} {b b' : Fin n₁} {c c' : Fin n₂} {d d' : Fin n₃} (ha : a = a') (hb : b = b')
    (hc : c = c') (hd : d = d') : ix4 a b c d = ix4 a' b' c' d' := by subst ha hb hc hd; rfl
theorem ix5_congr {n₀ n₁ n₂ n₃ n₄ : ℕ} {a a' : Fin n₀} {b b' : Fin n₁} {c c' : Fin n₂} {d d' : Fin n₃} {e e' : Fin n₄} (ha : a = a')
    (hb : b = b') (hc : c = c') (hd : d = d') (he : e = e') : ix5 a b c d e = ix5 a' b' c' d' e' := by subst ha hb hc hd he; rfl

/-- One trip's state: the chunk's decay times the state before, plus the chunk's own increment. -/
theorem trip_state (V0 : Valuation τ sig (Elt Ideal)) (k : Fin 16) (hk : V0 main_v61_2 = fun _ => BitVec.ofNat 32 k.1)
    (b : Fin 4) (h : Fin 32) (p : Fin 64) (n : Fin 128) :
    (afterL bodyI V0 main_v61_3 : Vec Ideal S4x32x64x128 .f32) (ix4 b h p n)
      = HAdd.hAdd (α := EReal) (β := EReal) (HMul.hMul (α := EReal) (β := EReal) ((V0 main_v61_0 : Vec Ideal S16x4x32 .f32) (ix3 k b h))
          ((V0 main_v61_3 : Vec Ideal S4x32x64x128 .f32) (ix4 b h p n)))
        ((V0 main_v61_1 : Vec Ideal S16x4x32x64x128 .f32) (ix5 k b h p n)) := by
  rw [trip_main_v61_3, hk, id_eq]
  pointwise
  refine congrArg₂ (HAdd.hAdd (α := EReal) (β := EReal)) (congrArg (fun z => HMul.hMul (α := EReal) (β := EReal) z _)
    (congrArg (V0 main_v61_0) (ix3_congr (Fin.ext ?_) (Fin.ext ?_) (Fin.ext ?_))))
    (congrArg (V0 main_v61_1) (ix5_congr (Fin.ext ?_) (Fin.ext ?_) (Fin.ext ?_) (Fin.ext ?_) (Fin.ext ?_)))
  · exact clamp3 k rfl 0
  · exact add_of_zero (clamp3 k rfl 1)
  · exact add_of_zero (clamp3 k rfl 2)
  · exact clamp5 k rfl 0
  · exact add_of_zero (clamp5 k rfl 1)
  · exact add_of_zero (clamp5 k rfl 2)
  · exact add_of_zero (clamp5 k rfl 3)
  · exact add_of_zero (clamp5 k rfl 4)

/-- One trip's record of states: the state before the trip is written at the trip's chunk. -/
theorem trip_record (V0 : Valuation τ sig (Elt Ideal)) (k : Fin 16) (hk : V0 main_v61_2 = fun _ => BitVec.ofNat 32 k.1)
    (c : Fin 16) (b : Fin 4) (h : Fin 32) (p : Fin 64) (n : Fin 128) :
    (afterL bodyI V0 main_v61_4 : Vec Ideal S16x4x32x64x128 .f32) (ix5 c b h p n)
      = if c = k then (V0 main_v61_3 : Vec Ideal S4x32x64x128 .f32) (ix4 b h p n)
        else (V0 main_v61_4 : Vec Ideal S16x4x32x64x128 .f32) (ix5 c b h p n) := by
  rw [trip_main_v61_4, hk, id_eq]
  pointwise
  by_cases hc : c = k
  · rw [if_pos hc]
    refine (dif_pos ?_).trans (congrArg (V0 main_v61_3) (ix4_congr (Fin.ext ?_) (Fin.ext ?_) (Fin.ext ?_) (Fin.ext ?_)))
    · intro a
      erw [clamp5 k rfl a]
      subst hc
      match a with
      | 0 => exact ⟨le_refl _, Nat.lt_succ_self _⟩
      | 1 => exact ⟨Nat.zero_le _, by show b.1 < 0 + 4; omega⟩
      | 2 => exact ⟨Nat.zero_le _, by show h.1 < 0 + 32; omega⟩
      | 3 => exact ⟨Nat.zero_le _, by show p.1 < 0 + 64; omega⟩
      | 4 => exact ⟨Nat.zero_le _, by show n.1 < 0 + 128; omega⟩
    · exact sub_of_zero (clamp5 k rfl 1)
    · exact sub_of_zero (clamp5 k rfl 2)
    · exact sub_of_zero (clamp5 k rfl 3)
    · exact sub_of_zero (clamp5 k rfl 4)
  · rw [if_neg hc]
    refine dif_neg fun hall => hc ?_
    have h0 := hall 0
    erw [clamp5 k rfl 0] at h0
    exact Fin.ext (Nat.le_antisymm (Nat.lt_succ_iff.mp h0.2) h0.1)

variable (X : Valuation τ sig (Elt Ideal))

/-- The contents before the `k`-th test of the scan's condition, `X` holding the arguments. -/
def LK : ℕ → Valuation τ sig (Elt Ideal)
  | 0 => VD X
  | k + 1 => afterL bodyI (after condOps (LK k))

/-- A buffer the scan does not write. -/
theorem LK_keep (r : Ref sig .tc)
    (h : r ∉ condOps_W ++ while0Ops0_W ++ while0Ops0_1_W ++ while0Ops0_2_W ++ while0Ops0_3_W ++ while0Ops0_4_W) :
    ∀ k, LK X k r = VD X r
  | 0 => rfl
  | k + 1 => by
    have ih := LK_keep r h k
    simp only [List.mem_append, not_or] at h
    obtain ⟨⟨⟨⟨⟨hc, h0⟩, h1⟩, h2⟩, h3⟩, h4⟩ := h
    exact (after_of_writes_sub while0Ops0_4 _ while0Ops0_4_writes h4).trans
      ((after_of_writes_sub while0Ops0_3 _ while0Ops0_3_writes h3).trans
        ((after_of_writes_sub while0Ops0_2 _ while0Ops0_2_writes h2).trans
          ((after_of_writes_sub while0Ops0_1 _ while0Ops0_1_writes h1).trans
            ((after_of_writes_sub while0Ops0 _ while0Ops0_writes h0).trans
              ((after_of_writes_sub condOps _ condOps_writes hc).trans ih)))))

theorem VD_v61_0 : VD X main_v61_0 = VD X main_v58 := by
  unfold VD
  after_reads_simp
  rfl

theorem VD_v61_1 : VD X main_v61_1 = VD X main_v59 := by
  unfold VD
  after_reads_simp
  rfl

theorem LK_v61_0 : ∀ k, LK X k main_v61_0 = VD X main_v58
  | 0 => VD_v61_0 X
  | k + 1 => (trip_main_v61_0 (after condOps (LK X k))).trans ((cond_keeps _ main_v61_0 (by decide)).trans (LK_v61_0 k))

theorem LK_v61_1 : ∀ k, LK X k main_v61_1 = VD X main_v59
  | 0 => VD_v61_1 X
  | k + 1 => (trip_main_v61_1 (after condOps (LK X k))).trans ((cond_keeps _ main_v61_1 (by decide)).trans (LK_v61_1 k))

theorem LK_ctr : ∀ k, LK X k main_v61_2 = fun _ => BitVec.ofNat 32 k
  | 0 => funext fun i => (congrArg (VD X main_v61_2 : Vec Ideal S_ .i32) (funext fun a => a.elim0 : i = ix0)).trans (VD_v61_2 X)
  | k + 1 => by
    refine (trip_main_v61_2 (after condOps (LK X k))).trans ?_
    rw [cond_keeps _ main_v61_2 (by decide), LK_ctr k]
    funext i
    show BitVec.ofNat 32 k + 1#32 = BitVec.ofNat 32 (k + 1)
    exact (BitVec.ofNat_add k 1).symm

theorem chunk_self (k : Fin 16) : chunk k.1 = k := Fin.ext (Nat.mod_eq_of_lt k.2)

/-- Before trip `k` the scan carries the state before chunk `k`. -/
theorem LK_state (b : Fin 4) (h : Fin 32) (p : Fin 64) (n : Fin 128) : ∀ k, k ≤ 16 →
    (LK X k main_v61_3 : Vec Ideal S4x32x64x128 .f32) (ix4 b h p n) = stS (rA X) (rDt X) (rDb X) (rAl X) b k (hcol h p) n
  | 0, _ => VD_v61_3 X b h p n
  | k + 1, hk => by
    have hc : after condOps (LK X k) main_v61_2 = fun _ => BitVec.ofNat 32 (⟨k, hk⟩ : Fin 16).1 :=
      (cond_keeps _ main_v61_2 (by decide)).trans (LK_ctr X k)
    refine (trip_state (after condOps (LK X k)) ⟨k, hk⟩ hc b h p n).trans ?_
    rw [cond_keeps _ main_v61_0 (by decide), cond_keeps _ main_v61_1 (by decide), cond_keeps _ main_v61_3 (by decide),
      LK_v61_0, LK_v61_1, LK_state b h p n k (by omega), VD_v58, VD_v59]
    show _ = Ideal.exp (cumS (rDt X) (rDb X) (rAl X) b (chunk k) 127 (hd (hcol h p))) * _ + _
    rw [hd_hcol, show chunk k = ⟨k, hk⟩ from chunk_self ⟨k, hk⟩]

/-- Before trip `k` the record holds, for each chunk before `k`, the state before that chunk. -/
theorem LK_record (c : Fin 16) (b : Fin 4) (h : Fin 32) (p : Fin 64) (n : Fin 128) : ∀ k, k ≤ 16 → c.1 < k →
    (LK X k main_v61_4 : Vec Ideal S16x4x32x64x128 .f32) (ix5 c b h p n) = stS (rA X) (rDt X) (rDb X) (rAl X) b c.1 (hcol h p) n
  | 0, _, h0 => absurd h0 (Nat.not_lt_zero _)
  | k + 1, hk, hck => by
    have hc : after condOps (LK X k) main_v61_2 = fun _ => BitVec.ofNat 32 (⟨k, hk⟩ : Fin 16).1 :=
      (cond_keeps _ main_v61_2 (by decide)).trans (LK_ctr X k)
    refine (trip_record (after condOps (LK X k)) ⟨k, hk⟩ hc c b h p n).trans ?_
    rw [cond_keeps _ main_v61_3 (by decide), cond_keeps _ main_v61_4 (by decide)]
    split
    · next e => subst e; exact LK_state X b h p n k (by omega)
    · next e => exact LK_record c b h p n k (by omega) (by
        have : c.1 ≠ k := fun e' => e (Fin.ext e')
        omega)

end Cert.Ssd

end
-- ==== Proof.RefPost.lean ====
/-
  The reference's two results, read at an entry: the gated and normed output, and the last state.
-/
module

public import proofs.«01_k».proof.Proof.RefLoop

@[expose] public section

set_option maxRecDepth 8192

noncomputable section

namespace Cert.Ssd

open Cert.ReferenceIdeal Cert.ReferenceIdeal.Gen Cert.ReferenceIdeal.Value
open Idealize.ShloMosaic Idealize.ShloMosaic.TcCoe Idealize.ShloMosaic.StableHlo Idealize.SL.Sem

variable (X : Valuation τ sig (Elt Ideal))

/-- Contents after the scan's last test, … -/
def PV : Valuation τ sig (Elt Ideal) := after condOps (LK X 16)
/-- … after the output before its gate, … -/
def P9 : Valuation τ sig (Elt Ideal) := after hostOps0_9 (PV X)
/-- … after the gate, … -/
def P10 : Valuation τ sig (Elt Ideal) := after hostOps0_10 (P9 X)
/-- … and at the end. -/
def P11 : Valuation τ sig (Elt Ideal) := after hostOps0_11 (P10 X)

/-- A buffer neither the scan nor its set-up writes. -/
theorem PV_keep (r : Ref sig .tc)
    (h : r ∉ condOps_W ++ while0Ops0_W ++ while0Ops0_1_W ++ while0Ops0_2_W ++ while0Ops0_3_W ++ while0Ops0_4_W) : PV X r = VD X r :=
  (after_of_writes_sub condOps _ condOps_writes (fun hc => h (by simp only [List.mem_append]; tauto))).trans (LK_keep X r h 16)

theorem PV_keepC (r : Ref sig .tc)
    (h : r ∉ condOps_W ++ while0Ops0_W ++ while0Ops0_1_W ++ while0Ops0_2_W ++ while0Ops0_3_W ++ while0Ops0_4_W) (h8 : r ∉ hostOps0_8_W) :
    PV X r = VC X r := (PV_keep X r h).trans (after_of_writes_sub hostOps0_8 _ hostOps0_8_writes h8)

theorem PV_v1 : PV X main_v1 = VA1 X main_v1 :=
  (PV_keepC X main_v1 (by decide) (by decide)).trans ((VC_keep X main_v1 (by decide)).trans (VA_keep X main_v1 (by decide) (by decide)))
theorem PV_v7 : PV X main_v7 = VA1 X main_v7 :=
  (PV_keepC X main_v7 (by decide) (by decide)).trans ((VC_keep X main_v7 (by decide)).trans (VA_keep X main_v7 (by decide) (by decide)))
theorem PV_v25 : PV X main_v25 = VA X main_v25 :=
  (PV_keepC X main_v25 (by decide) (by decide)).trans (VC_keep X main_v25 (by decide))
theorem PV_v30 : PV X main_v30 = VC X main_v30 := PV_keepC X main_v30 (by decide) (by decide)
theorem PV_v45 : PV X main_v45 = VD X main_v45 := PV_keep X main_v45 (by decide)
theorem PV_arg5 : PV X main_arg5 = X main_arg5 :=
  (PV_keepC X main_arg5 (by decide) (by decide)).trans ((VC_keep X main_arg5 (by decide)).trans
    ((VA_keep X main_arg5 (by decide) (by decide)).trans (VA1_keep X main_arg5 (by decide))))
theorem PV_arg6 : PV X main_arg6 = X main_arg6 :=
  (PV_keepC X main_arg6 (by decide) (by decide)).trans ((VC_keep X main_arg6 (by decide)).trans
    ((VA_keep X main_arg6 (by decide) (by decide)).trans (VA1_keep X main_arg6 (by decide))))

theorem PV_v61_4 (c : Fin 16) (b : Fin 4) (h : Fin 32) (p : Fin 64) (n : Fin 128) :
    (PV X main_v61_4 : Vec Ideal S16x4x32x64x128 .f32) (ix5 c b h p n) = stS (rA X) (rDt X) (rDb X) (rAl X) b c.1 (hcol h p) n :=
  (congrFun (cond_keeps (LK X 16) main_v61_4 (by decide)) _).trans (LK_record X c b h p n 16 (le_refl _) c.2)

theorem PV_v61_3 (b : Fin 4) (h : Fin 32) (p : Fin 64) (n : Fin 128) :
    (PV X main_v61_3 : Vec Ideal S4x32x64x128 .f32) (ix4 b h p n) = stS (rA X) (rDt X) (rDb X) (rAl X) b 16 (hcol h p) n :=
  (congrFun (cond_keeps (LK X 16) main_v61_3 (by decide)) _).trans (LK_state X b h p n 16 (le_refl _))

/-- A column's place in its head. -/
def pc (j : Fin 2048) : Fin 64 := ⟨j.1 % 64, by omega⟩
theorem hcol_hd (j : Fin 2048) : hcol (hd j) (pc j) = j := Fin.ext (by simp only [hcol, hd, pc]; omega)

theorem cl_div (c : Fin 16) (l : Fin 128) (h : (c.1 * 128 + l.1) / 128 < 16) : (⟨(c.1 * 128 + l.1) / 128, h⟩ : Fin 16) = c :=
  Fin.ext (by show (c.1 * 128 + l.1) / 128 = c.1; omega)
theorem cl_mod (c : Fin 16) (l : Fin 128) (h : (c.1 * 128 + l.1) % 128 < 128) : (⟨(c.1 * 128 + l.1) % 128, h⟩ : Fin 128) = l :=
  Fin.ext (by show (c.1 * 128 + l.1) % 128 = l.1; omega)
theorem row_div (b : Fin 4) (c : Fin 16) (l : Fin 128) (h : ((16 * b.1 + c.1) * 128 + l.1) / 2048 < 4) :
    (⟨((16 * b.1 + c.1) * 128 + l.1) / 2048, h⟩ : Fin 4) = b := Fin.ext (by show _ / 2048 = b.1; omega)
theorem row_mod (b : Fin 4) (c : Fin 16) (l : Fin 128) (h : ((16 * b.1 + c.1) * 128 + l.1) % 2048 < 2048) :
    (⟨((16 * b.1 + c.1) * 128 + l.1) % 2048, h⟩ : Fin 2048) = sp c l :=
  Fin.ext (by show _ % 2048 = c.1 * 128 + l.1; omega)
theorem grp_self (j : Fin 2048) (h : j.1 / 256 * 256 + j.1 % 256 < 2048) : (⟨j.1 / 256 * 256 + j.1 % 256, h⟩ : Fin 2048) = j :=
  Fin.ext (by show j.1 / 256 * 256 + j.1 % 256 = j.1; omega)
theorem P9_v76 (b : Fin 4) (c : Fin 16) (l : Fin 128) (j : Fin 2048) :
    (P9 X main_v76 : Vec Ideal S4x2048x2048 .f32) (ix3 b (sp c l) j)
      = yS (rA X) (rDt X) (rDb X) (rAl X) (rDs X) b c l j := by
  have e1 := (congrFun (PV_v1 X) (ix4 b (sp c l) (hd j) (pc j))).trans (VA1_v1 X b c l (hd j) (pc j))
  have e45 := (congrFun (PV_v45 X) (ix5 b c l (hd j) (pc j))).trans (VD_v45 X b c l (hd j) (pc j))
  have e30 := (congrFun (PV_v30 X) (ix4 b c l (hd j))).trans (VC_v30 X b c l (hd j))
  have e25 := fun n => (congrFun (PV_v25 X) (ix5 b c l (hd j) n)).trans (VA_v25 X b c l (hd j) (pc j) n)
  have e61 := fun n => PV_v61_4 X c b (hd j) (pc j) n
  rw [hcol_hd] at e1 e45
  simp only [hcol_hd] at e25 e61
  unfold P9
  unfold sp hd pc at *
  after_reads_at
  simp only [cl_div, cl_mod]
  rw [e45, e30, e1, PV_arg5]
  simp only [e25, e61]
  unfold yS hd
  refine congrArg (fun z => _ + z * _ + _) (Finset.sum_congr rfl fun n _ => mul_comm _ _)

theorem P9_v7 (b : Fin 4) (c : Fin 16) (l : Fin 128) (j : Fin 2048) :
    (P9 X main_v7 : Vec Ideal S4x2048x2048 .f32) (ix3 b (sp c l) j) = rP X (ix2 (row b c l) ⟨3072 + j.1, by omega⟩) := by
  refine Eq.trans (congrFun (Eq.trans ?_ (PV_v7 X)) _) (VA1_v7 X b c l j)
  unfold P9
  after_reads_simp

theorem P10_v77 (b : Fin 4) (c : Fin 16) (l : Fin 128) (j : Fin 2048) :
    (P10 X main_v77 : Vec Ideal S4x2048x2048 .f32) (ix3 b (sp c l) j) = gateS (rP X) b c l j := by
  have e := P9_v7 X b c l j
  unfold P10
  unfold sp at *
  after_reads_at
  rw [e]
  unfold gateS
  simp only [zero_sub]

theorem P10_v76 (b : Fin 4) (c : Fin 16) (l : Fin 128) (j : Fin 2048) :
    (P10 X main_v76 : Vec Ideal S4x2048x2048 .f32) (ix3 b (sp c l) j)
      = yS (rA X) (rDt X) (rDb X) (rAl X) (rDs X) b c l j := by
  refine Eq.trans (congrFun ?_ _) (P9_v76 X b c l j)
  unfold P10
  after_reads_simp

theorem P10_v61_3 : P10 X main_v61_3 = PV X main_v61_3 := by
  unfold P10 P9
  after_reads_simp

theorem P10_arg6 : P10 X main_arg6 = X main_arg6 := by
  refine Eq.trans ?_ (PV_arg6 X)
  unfold P10 P9
  after_reads_simp

/-- The second result is the state after the last chunk. -/
theorem P11_v96 (b : Fin 4) (j : Fin 2048) (n : Fin 128) :
    (P11 X main_v96 : Vec Ideal S4x2048x128 .f32) (ix3 b j n) = stS (rA X) (rDt X) (rDb X) (rAl X) b 16 j n := by
  have e := PV_v61_3 X b (hd j) (pc j) n
  rw [hcol_hd] at e
  unfold P11
  unfold hd pc at e
  after_reads_at
  rw [P10_v61_3, e]

/-- The first result is the gated and normed output. -/
theorem P11_v95 (b : Fin 4) (c : Fin 16) (l : Fin 128) (j : Fin 2048) :
    (P11 X main_v95 : Vec Ideal S8192x2048 .bf16) (ix2 (row b c l) j)
      = oS (rA X) (rDt X) (rP X) (rDb X) (rAl X) (rDs X) (rN X) b c l j := by
  have e76 := P10_v76 X b c l
  have e77 := P10_v77 X b c l
  have e6 := P10_arg6 X
  unfold oS gS P11
  generalize P10 X = W at e76 e77 e6 ⊢
  unfold row
  after_reads_at
  simp only [row_div, row_mod, grp_self]
  simp only [Nat.mul_comm (j.1 / 256) 256]
  simp only [e76, e77]
  refine congrArg₂ (HMul.hMul (α := EReal) (β := EReal)) (congrArg₂ (HMul.hMul (α := EReal) (β := EReal)) rfl
    (congrArg Ideal.rsqrt (congrArg₂ (HAdd.hAdd (α := EReal) (β := EReal)) (congrArg₂ Ideal.div (Finset.sum_congr rfl fun x _ => rfl) rfl) rfl)))
    (congrFun e6 (ix1 j))

end Cert.Ssd

end
-- ==== Proof.RefValue.lean ====
/-
  The reference's run: its results as whole arrays, its arguments unchanged, its counters at zero.
-/
module

public import proofs.«01_k».proof.Proof.RefPost
public import Idealize.ShloMosaic.Lib.Claim
public import Idealize.ShloMosaic.Lib.Quiescent

@[expose] public section

set_option maxRecDepth 8192

noncomputable section

namespace Cert.Ssd

open Cert.ReferenceIdeal Cert.ReferenceIdeal.Gen Cert.ReferenceIdeal.Value
open Idealize.ShloMosaic Idealize.ShloMosaic.TcCoe Idealize.ShloMosaic.StableHlo Idealize.SL.Sem

/-- What the stretches after the scan write, in order. -/
abbrev post9_W : List (Ref sig .tc) := [main_v62, main_v63, main_v64, main_v65, main_v66, main_v67, main_v68, main_v69, main_v70,
  main_v71, main_v72, main_v73, main_v74, main_v75, main_v76]
theorem post9_writes : (hostOps0_9 : List (HloOp τ sig (Elt Ideal))).Forall fun op => op.writes ⊆ (post9_W.map (Proc.devRef (τ := τ) .tc)).toFinset :=
  StableHlo.forall_writes_sub_of_map rfl
abbrev post10_W : List (Ref sig .tc) := [main_call7_v0, main_call7_v1, main_call7_cst, main_call7_v2, main_call7_v3, main_call7_cst_0,
  main_call7_v4, main_call7_v5, main_v77]
theorem post10_writes : (hostOps0_10 : List (HloOp τ sig (Elt Ideal))).Forall fun op => op.writes ⊆ (post10_W.map (Proc.devRef (τ := τ) .tc)).toFinset :=
  StableHlo.forall_writes_sub_of_map rfl
abbrev post11_W : List (Ref sig .tc) := [main_v78, main_v79, main_v80, main_cst_3, main_v81, main_v82, main_cst_4, main_v83, main_v84,
  main_cst_5, main_v85, main_v86, main_v87, main_v88, main_v89, main_v90, main_v91, main_v92, main_v93, main_v94, main_v95, main_v96]
theorem post11_writes : (hostOps0_11 : List (HloOp τ sig (Elt Ideal))).Forall fun op => op.writes ⊆ (post11_W.map (Proc.devRef (τ := τ) .tc)).toFinset :=
  StableHlo.forall_writes_sub_of_map rfl

/-- The arguments. -/
abbrev argRefs : List (Ref sig .tc) := [main_arg0, main_arg1, main_arg2, main_arg3, main_arg4, main_arg5, main_arg6]

/-- An argument keeps its contents to the end. -/
theorem P11_arg (X : Valuation τ sig (Elt Ideal)) (r : Ref sig .tc) (hr : r ∈ argRefs) : P11 X r = X r := by
  have d : ∀ r ∈ argRefs, (r ∉ post11_W ∧ r ∉ post10_W ∧ r ∉ post9_W)
      ∧ (r ∉ condOps_W ++ while0Ops0_W ++ while0Ops0_1_W ++ while0Ops0_2_W ++ while0Ops0_3_W ++ while0Ops0_4_W ∧ r ∉ hostOps0_8_W)
      ∧ r ∉ hostOps0_3_W ++ hostOps0_4_W ++ hostOps0_5_W ++ hostOps0_6_W ++ hostOps0_7_W
      ∧ r ∉ hostOps0_2_W ∧ r ∉ hostOps0_1_W ∧ r ∉ hostOps0_W := by decide +kernel
  obtain ⟨⟨h11, h10, h9⟩, ⟨hl, h8⟩, hc, h2, h1, h0⟩ := d r hr
  exact (after_of_writes_sub hostOps0_11 _ post11_writes h11).trans ((after_of_writes_sub hostOps0_10 _ post10_writes h10).trans
    ((after_of_writes_sub hostOps0_9 _ post9_writes h9).trans ((PV_keepC X r hl h8).trans ((VC_keep X r hc).trans
      ((VA_keep X r h2 h1).trans (VA1_keep X r h0))))))

variable (m : (ℓ : Loc nD τ sig) → Buf (Elt Ideal) ℓ) (g : Dev nD → PrngReg) (c : Dev nD)

theorem atTrip_eq : ∀ k, atTrip condOps bodyI (entryContents preI m) k c = LK (launchContents m c) k
  | 0 => rfl
  | k + 1 => congrArg (fun W => afterL bodyI (after condOps W)) (atTrip_eq k)

theorem final_eq : finalContents condOps preI bodyI postI 16 m c = P11 (launchContents m c) :=
  congrArg (fun W => afterL postI (after condOps W)) (atTrip_eq m c 16)

/-- A row is its sequence's chunk's position. -/
theorem row_split (r : Fin 8192) : row ⟨r.1 / 2048, by omega⟩ ⟨r.1 / 128 % 16, by omega⟩ ⟨r.1 % 128, by omega⟩ = r :=
  Fin.ext (by simp only [row]; omega)

/-- The first result, whole. -/
def refY (X : Valuation τ sig (Elt Ideal)) : Vec Ideal S8192x2048 .bf16 := fun i =>
  have h : (i 0).1 < 8192 := (i 0).2
  oS (rA X) (rDt X) (rP X) (rDb X) (rAl X) (rDs X) (rN X) ⟨(i 0).1 / 2048, by omega⟩
    ⟨(i 0).1 / 128 % 16, by omega⟩ ⟨(i 0).1 % 128, by omega⟩ (i 1)

theorem ref_y (X : Valuation τ sig (Elt Ideal)) : P11 X main_v95 = refY X := funext fun (i : S8192x2048.Idx) => by
  have h : (i 0).1 < 8192 := (i 0).2
  refine Eq.trans (congrArg (P11 X main_v95 : Vec Ideal S8192x2048 .bf16) ?_)
    (P11_v95 X ⟨(i 0).1 / 2048, by omega⟩ ⟨(i 0).1 / 128 % 16, by omega⟩ ⟨(i 0).1 % 128, by omega⟩ (i 1))
  exact (ix2_eta i).symm.trans (congrArg (fun r => ix2 r (i 1)) (row_split (i 0)).symm)

/-- The second result, whole. -/
def refSt (X : Valuation τ sig (Elt Ideal)) : Vec Ideal S4x2048x128 .f32 := fun i =>
  stS (rA X) (rDt X) (rDb X) (rAl X) (i 0) 16 (i 1) (i 2)

theorem ref_st (X : Valuation τ sig (Elt Ideal)) : P11 X main_v96 = refSt X := funext fun (i : S4x2048x128.Idx) =>
  Eq.trans (congrArg (P11 X main_v96 : Vec Ideal S4x2048x128 .f32) (ix3_eta i).symm) (P11_v96 X (i 0) (i 1) (i 2))

/-- The run: the two results, the arguments unchanged, the counters at zero. -/
theorem ref_run : θ_run (defs (F := Ideal)) (onTc (τ := τ) (main (F := Ideal))) ⟨m, fun _ => 0, g⟩ (fun r =>
    (∀ c : Dev nD, (r.2.mem ((c.tc : Thread nD τ).loc main_v95) = refY (launchContents m c)
      ∧ r.2.mem ((c.tc : Thread nD τ).loc main_v96) = refSt (launchContents m c))
      ∧ ∀ b ∈ argRefs, r.2.mem ((c.tc : Thread nD τ).loc b) = m ((c.tc : Thread nD τ).loc b)) ∧ r.2.sem = fun _ => 0) := by
  refine θ_run_mono (run_fold m g) fun r hr => ⟨fun c => ⟨⟨?_, ?_⟩, fun b hb => ?_⟩, sem_eq_zero_of_no_sems (by decide) _⟩
  · exact (hr c main_v95 rfl).trans ((congrFun (final_eq m c) _).trans (ref_y _))
  · exact (hr c main_v96 rfl).trans ((congrFun (final_eq m c) _).trans (ref_st _))
  · have hs : ∀ b ∈ argRefs, (Proc.devRef .tc b : DevRef τ sig).isScoped = false := by decide +kernel
    exact (hr c b (hs b hb)).trans ((congrFun (final_eq m c) _).trans (P11_arg _ b hb))

end Cert.Ssd

end
-- ==== Proof.Agree.lean ====
/-
  From memories that agree on the arguments the kernel's and the reference's results are the same arrays.
-/
module

public import proofs.«01_k».proof.Proof.KernelValue
public import proofs.«01_k».proof.Proof.RefValue

@[expose] public section

noncomputable section

namespace Cert.Ssd

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments. -/
abbrev Agrees : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

theorem y_agree (h : Agrees m m' c) : refY (launchContents m' c) = yArr m c := by
  obtain ⟨h0, h1, h2, h3, h4, h5, h6⟩ := h
  have e0 : rA (launchContents m' c) = argA m c := h0
  have e1 : rDt (launchContents m' c) = argDt m c := h1
  have e2 : rP (launchContents m' c) = argP m c := h2
  have e3 : rDb (launchContents m' c) = argDb m c := h3
  have e4 : rAl (launchContents m' c) = argAl m c := h4
  have e5 : rDs (launchContents m' c) = argDs m c := h5
  have e6 : rN (launchContents m' c) = argN m c := h6
  unfold refY yArr
  rw [e0, e1, e2, e3, e4, e5, e6]

theorem st_agree (h : Agrees m m' c) : refSt (launchContents m' c) = stArr m c := by
  obtain ⟨h0, h1, h2, h3, h4, h5, h6⟩ := h
  have e0 : rA (launchContents m' c) = argA m c := h0
  have e1 : rDt (launchContents m' c) = argDt m c := h1
  have e3 : rDb (launchContents m' c) = argDb m c := h3
  have e4 : rAl (launchContents m' c) = argAl m c := h4
  unfold refSt stArr
  rw [e0, e1, e3, e4]

end Cert.Ssd

end
-- ==== Proof.UpRun.lean ====
/-
  The body of `ffn_up` run at a point, in its four cases: the first point, a later first row of a panel, the first row of
  the last panel, and any other row.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The weights, left whole in HBM; the panel being copied; the panel in use, cast. -/
abbrev mW : Memref sig .tc .hbm S4096x16384 .f32 := Memref.whole main_arg2
abbrev mF : Memref sig .tc .vmem S4096x1024 .f32 := Memref.whole cc0_scratch0
abbrev mB : Memref sig .tc .vmem S4096x1024 .bf16 := Memref.whole cc0_scratch1

/-- The window of the weights at offsets `o`. -/
abbrev pan (o : Fin 2 → ℕ) (h : ∀ a, o a + S4096x1024.size a ≤ S4096x16384.size a) : Memref sig .tc .hbm S4096x1024 .f32 :=
  mW.slice (Rect.unit (s := S4096x16384) o S4096x1024.size h) (fun _ => rfl)

abbrev BufOf (F : FTy → Type) (c : Dev nD) {sp : Space} {S : Shape} {e : EltTy} (M : Memref sig .tc sp S e) : Type :=
  Buf (Elt F) (M.view.loc (c : Thread nD τ))

/-- A whole buffer held at contents. -/
abbrev pt (c : Dev nD) {sp : Space} {S : Shape} {e : EltTy} (M : Memref sig .tc sp S e) (f : BufOf F c M) : sProp 𝕄 :=
  M.view.loc (c : Thread nD τ) ↦{fullShare} f

/-- The kernel's one DMA cell. -/
abbrev osm : SemLoc sig := SemLoc.dma 7

/-- The panel at `o` on its way into the panel buffer, and the rest of the weights. -/
def flight (c : Dev nD) (fw : BufOf F c mW) (o : Fin 2 → ℕ) (h : ∀ a, o a + S4096x1024.size a ≤ S4096x16384.size a) : sProp 𝕄 :=
  iprop(∃ f0 : BufOf F c mF, Transfers.Flight countersEmb (c : Thread nD τ) osm () 524288
      iprop((mF.view.loc (c : Thread nD τ) ↦{fullShare} mF.view.write (Elt F) f0 (ReadAs.same.apply ((pan o h).view.read (Elt F) fw)) Finset.univ)
        ∗ (mW.view.loc (c : Thread nD τ) ↦[(pan o h).view.set]{fullShare} fw))
    ∗ (mW.view.loc (c : Thread nD τ) ↦[Finset.univ \ (pan o h).view.set]{fullShare} fw))

variable (c : Dev nD) (i : grid0.Coords)
  (arg2 : Memref sig .tc .vmem S1024x4096 .bf16) (harg2 : arg2.IsWhole) (arg4 : Memref sig .tc .vmem S256x4096 .bf16) (harg4 : arg4.IsWhole)
  (arg5 : Memref sig .tc .vmem S1024x1024 .bf16) (harg5 : arg5.IsWhole) (arg6 : Memref sig .tc .vmem S256x1024 .bf16) (harg6 : arg6.IsWhole)
  (x : Vec F S1024x4096 .bf16) (xd : Vec F S256x4096 .bf16) (w : BufOf F c mB) (fw : BufOf F c mW)

/-- The body at a point of this program. -/
abbrev body : Prog (TpuEff nD τ sig (Elt F) Λ₀ .tc) PUnit :=
  cc0_ffn_up i arg2 harg2 mW (Memref.isWhole_whole _) arg4 harg4 arg5 harg5 arg6 harg6 mF (Memref.isWhole_whole _) mB (Memref.isWhole_whole _) cc0_scratch2

set_option maxHeartbeats 1000000 in
/-- A row that is not a panel's first: only the block product is stored. -/
theorem run_D (hc1 : ¬ k0_cond1 i = 1#1) (K : PUnit → sProp 𝕄) :
    iprop(owns (c : Thread nD τ) arg2 fullShare x ∗ (∃ d, owns (c : Thread nD τ) arg5 fullShare d) ∗ pt c mB w
        ∗ (iprop(owns (c : Thread nD τ) arg2 fullShare x ∗ owns (c : Thread nD τ) arg5 fullShare (k0_pay3 x w) ∗ pt c mB w) -∗ K ⟨⟩))
      ⊢ wp frame (wpE (defs₀ (F := F)) Variants.none c none) Set.univ (body i arg2 harg2 arg4 harg4 arg5 harg5 arg6 harg6) K := by
  unfold body
  simp only [cc0_ffn_up_eq_skeleton]; unfold cc0_ffn_up_skel
  unfold owns
  iintro ⟨⟨%f2, %hf2, H2⟩, ⟨%d5, %f5, -, H5⟩, HB, Hk⟩
  obtain rfl := harg2.eq_unread hf2
  sl_exec (disch := first | sl_exact hc1)
  sl_step
  iapply Hk
  isplitl [H2]
  · iexists _; isplitr; · ipureintro; exact harg2.read_unread _
    iexact H2
  isplitl [H5]
  · iexists _; isplitr; swap; · iexact H5
    ipureintro
    refine (View.read_writes_full _ _ _ _ _).trans ?_
    rw [View.readAt_full, View.readAt_full, harg2.read_unread]
    rfl
  iexact HB

/-- The window of the weights at `o`, as a value. -/
abbrev panR (c : Dev nD) (fw : BufOf F c mW) (o : Fin 2 → ℕ) (h : ∀ a, o a + S4096x1024.size a ≤ S4096x16384.size a) : Vec F S4096x1024 .f32 :=
  (pan o h).view.read (Elt F) fw

/-- What the body leaves at a panel's first row, over the panel `p`. -/
abbrev left (c : Dev nD) (arg2 : Memref sig .tc .vmem S1024x4096 .bf16) (arg4 : Memref sig .tc .vmem S256x4096 .bf16)
    (arg5 : Memref sig .tc .vmem S1024x1024 .bf16) (arg6 : Memref sig .tc .vmem S256x1024 .bf16)
    (x : Vec F S1024x4096 .bf16) (xd : Vec F S256x4096 .bf16) (p : Vec F S4096x1024 .f32) : sProp 𝕄 :=
  iprop(owns (c : Thread nD τ) arg2 fullShare x ∗ owns (c : Thread nD τ) arg4 fullShare xd
    ∗ owns (c : Thread nD τ) arg5 fullShare (k0_pay3 x (k0_pay1 p)) ∗ owns (c : Thread nD τ) arg6 fullShare (k0_pay2 xd (k0_pay1 p))
    ∗ pt c mB (k0_pay1 p))

/-- A store over all of a whole buffer leaves what was stored. -/
theorem writes_whole (b : Ref sig .tc) (f v : b.ty.Contents (Elt F)) {off : Fin b.ty.shape.rank → ℕ} (h : ∀ a, off a + b.ty.shape.size a ≤ b.ty.shape.size a) :
    (View.whole b).writes (Elt F) f [⟨Rect.unit off b.ty.shape.size h, v⟩] = v :=
  (View.read_whole b _).symm.trans (View.read_writes_full (View.whole b) f h v [])

/-- The whole-buffer store of the cast panel leaves it. -/
theorem cast_left (fB : BufOf F c mB) (v : Vec F S4096x1024 .bf16) (h) :
    mB.view.writes (Elt F) fB [⟨Rect.unit (s := S4096x1024) ![0, 0] S4096x1024.size h, v⟩] = v :=
  writes_whole cc0_scratch1 fB v h

/-- What is loaded of the panel buffer after a panel was copied over all of it: the panel. -/
theorem load_flight (f0 : BufOf F c mF) (v : Vec F S4096x1024 .f32) (h) :
    mF.view.readAt (Elt F) (Rect.unit (s := S4096x1024) ![0, 0] S4096x1024.size h).toLoadRect
      (mF.view.write (Elt F) f0 (ReadAs.same.apply v) Finset.univ) = v := by
  rw [View.readAt_full, ReadAs.apply_same]
  exact congrArg (mF.view.read (Elt F)) (View.write_whole_univ cc0_scratch0 f0 v)

set_option maxHeartbeats 2000000 in
/-- The first point: panel 0 is copied and waited for, cast, and panel 1's copy started. -/
theorem run_A (hc1 : k0_cond1 i = 1#1) (hc2 : k0_cond2 i = 1#1) (hc3 : k0_cond3 i = 1#1) (W : Waits sig Unit) (K : PUnit → sProp 𝕄) :
    iprop(owns (c : Thread nD τ) arg2 fullShare x ∗ owns (c : Thread nD τ) arg4 fullShare xd
        ∗ (∃ d, owns (c : Thread nD τ) arg5 fullShare d) ∗ (∃ d, owns (c : Thread nD τ) arg6 fullShare d)
        ∗ (∃ f, pt (F := F) c mB f) ∗ (∃ f, pt (F := F) c mF f) ∗ semVal ((c : Thread nD τ), osm) 0 ∗ pt c mW fw ∗ owes (c : Thread nD τ) 0 W
        ∗ (iprop(left c arg2 arg4 arg5 arg6 x xd (panR c fw ![0, 0] inb_S4096x16384_S4096x1024_0_0)
            ∗ flight c fw (k0_off2 i) (k0_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6) K := by
  unfold body left
  simp only [cc0_ffn_up_eq_skeleton]; unfold cc0_ffn_up_skel
  unfold owns flight
  iintro ⟨⟨%f2, %hf2, H2⟩, ⟨%f4, %hf4, H4⟩, ⟨%d5, %f5, -, H5⟩, ⟨%d6, %f6, -, H6⟩, ⟨%fB, HB⟩, ⟨%fF, HF⟩, HS, HW, HO, Hk⟩
  obtain rfl := harg2.eq_unread hf2
  obtain rfl := harg4.eq_unread hf4
  sl_exec (disch := first | sl_exact hc1 | sl_exact hc2 | sl_exact hc3)
  sl_step
  have e1 : run_A.sl.v28 c fw fF = k0_pay1 (panR c fw ![0, 0] inb_S4096x16384_S4096x1024_0_0) := by
    unfold run_A.sl.v28 run_A.sl.HB_1 run_A.sl.dma0
    rw [View.readCov_full, load_flight]; try rfl
  iapply Hk
  isplitl [H2 H4 H5 H6 HB]
  · isplitl [H2]
    · iexists _; isplitr; · ipureintro; exact harg2.read_unread _
      iexact H2
    isplitl [H4]
    · iexists _; isplitr; · ipureintro; exact harg4.read_unread _
      iexact H4
    isplitl [H5]
    · iexists _; isplitr; swap; · iexact H5
      ipureintro
      refine (View.read_writes_full _ _ _ _ _).trans ?_
      rw [View.readAt_full, harg2.read_unread, e1]
    isplitl [H6]
    · iexists _; isplitr; swap; · iexact H6
      ipureintro
      refine (View.read_writes_full _ _ _ _ _).trans ?_
      rw [View.readAt_full, harg4.read_unread, e1]
    · have e2 : mB.view.writes (Elt F) fB (run_A.sl.HB_1 c fw fF) = k0_pay1 (panR c fw ![0, 0] inb_S4096x16384_S4096x1024_0_0) := by
        unfold run_A.sl.HB_1 run_A.sl.dma0
        rw [cast_left, load_flight]; try rfl
      rw [e2]; iexact HB
  isplitl [HS HW]
  · unfold run_A.sl.dma3; iexists _; isplitl [HS]; · iexact HS
    iexact HW
  iexists _; iexact HO

set_option maxHeartbeats 2000000 in
/-- A later panel's first row: the panel is waited for, cast, and the next one's copy started. -/
theorem run_B (hc1 : k0_cond1 i = 1#1) (hc2 : ¬ k0_cond2 i = 1#1) (hc3 : k0_cond3 i = 1#1) (o : Fin 2 → ℕ) (h : ∀ a, o a + S4096x1024.size a ≤ S4096x16384.size a) (W : Waits sig Unit) (K : PUnit → sProp 𝕄) :
    iprop(owns (c : Thread nD τ) arg2 fullShare x ∗ owns (c : Thread nD τ) arg4 fullShare xd
        ∗ (∃ d, owns (c : Thread nD τ) arg5 fullShare d) ∗ (∃ d, owns (c : Thread nD τ) arg6 fullShare d)
        ∗ (∃ f, pt (F := F) c mB f) ∗ flight c fw o h ∗ owes (c : Thread nD τ) 0 W
        ∗ (iprop(left c arg2 arg4 arg5 arg6 x xd (panR c fw o h)
            ∗ flight c fw (k0_off2 i) (k0_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6) K := by
  unfold body left
  simp only [cc0_ffn_up_eq_skeleton]; unfold cc0_ffn_up_skel
  unfold owns flight
  iintro ⟨⟨%f2, %hf2, H2⟩, ⟨%f4, %hf4, H4⟩, ⟨%d5, %f5, -, H5⟩, ⟨%d6, %f6, -, H6⟩, ⟨%fB, HB⟩, ⟨%fF, HS, HW⟩, HO, Hk⟩
  obtain rfl := harg2.eq_unread hf2
  obtain rfl := harg4.eq_unread hf4
  sl_exec (disch := first | sl_exact hc1 | sl_exact hc2 | sl_exact hc3)
  sl_step
  have e1 : run_B.sl.v28 c fw o h fF = k0_pay1 (panR c fw o h) := by
    unfold run_B.sl.v28 run_B.sl.HB_1
    rw [View.readCov_full, load_flight]; try rfl
  iapply Hk
  isplitl [H2 H4 H5 H6 HB]
  · isplitl [H2]
    · iexists _; isplitr; · ipureintro; exact harg2.read_unread _
      iexact H2
    isplitl [H4]
    · iexists _; isplitr; · ipureintro; exact harg4.read_unread _
      iexact H4
    isplitl [H5]
    · iexists _; isplitr; swap; · iexact H5
      ipureintro
      refine (View.read_writes_full _ _ _ _ _).trans ?_
      rw [View.readAt_full, harg2.read_unread, e1]
    isplitl [H6]
    · iexists _; isplitr; swap; · iexact H6
      ipureintro
      refine (View.read_writes_full _ _ _ _ _).trans ?_
      rw [View.readAt_full, harg4.read_unread, e1]
    · have e2 : mB.view.writes (Elt F) fB (run_B.sl.HB_1 c fw o h fF) = k0_pay1 (panR c fw o h) := by
        unfold run_B.sl.HB_1
        rw [cast_left, load_flight]; try rfl
      rw [e2]; iexact HB
  isplitl [HS HW]
  · unfold run_B.sl.dma3; iexists _; isplitl [HS]; · iexact HS
    iexact HW
  iexists _; iexact HO

set_option maxHeartbeats 2000000 in
/-- The last panel's first row: the panel is waited for and cast, and no copy is started. -/
theorem run_C (hc1 : k0_cond1 i = 1#1) (hc2 : ¬ k0_cond2 i = 1#1) (hc3 : ¬ k0_cond3 i = 1#1) (o : Fin 2 → ℕ) (h : ∀ a, o a + S4096x1024.size a ≤ S4096x16384.size a) (W : Waits sig Unit) (K : PUnit → sProp 𝕄) :
    iprop(owns (c : Thread nD τ) arg2 fullShare x ∗ owns (c : Thread nD τ) arg4 fullShare xd
        ∗ (∃ d, owns (c : Thread nD τ) arg5 fullShare d) ∗ (∃ d, owns (c : Thread nD τ) arg6 fullShare d)
        ∗ (∃ f, pt (F := F) c mB f) ∗ flight c fw o h ∗ owes (c : Thread nD τ) 0 W
        ∗ (iprop(left c arg2 arg4 arg5 arg6 x xd (panR c fw o h)
            ∗ ((∃ f, pt (F := F) c mF f) ∗ semVal ((c : Thread nD τ), osm) 0 ∗ pt c mW fw)
            ∗ ∃ W', owes (c : Thread nD τ) 0 W') -∗ K ⟨⟩))
      ⊢ wp frame (wpE (defs₀ (F := F)) Variants.none c none) Set.univ (body i arg2 harg2 arg4 harg4 arg5 harg5 arg6 harg6) K := by
  unfold body left
  simp only [cc0_ffn_up_eq_skeleton]; unfold cc0_ffn_up_skel
  unfold owns flight
  iintro ⟨⟨%f2, %hf2, H2⟩, ⟨%f4, %hf4, H4⟩, ⟨%d5, %f5, -, H5⟩, ⟨%d6, %f6, -, H6⟩, ⟨%fB, HB⟩, ⟨%fF, HS, HW⟩, HO, Hk⟩
  obtain rfl := harg2.eq_unread hf2
  obtain rfl := harg4.eq_unread hf4
  sl_exec (disch := first | sl_exact hc1 | sl_exact hc2 | sl_exact hc3)
  sl_step
  have e1 : run_C.sl.v28 c fw o h fF = k0_pay1 (panR c fw o h) := by
    unfold run_C.sl.v28 run_C.sl.HB_1
    rw [View.readCov_full, load_flight]; try rfl
  iapply Hk
  isplitl [H2 H4 H5 H6 HB]
  · isplitl [H2]
    · iexists _; isplitr; · ipureintro; exact harg2.read_unread _
      iexact H2
    isplitl [H4]
    · iexists _; isplitr; · ipureintro; exact harg4.read_unread _
      iexact H4
    isplitl [H5]
    · iexists _; isplitr; swap; · iexact H5
      ipureintro
      refine (View.read_writes_full _ _ _ _ _).trans ?_
      rw [View.readAt_full, harg2.read_unread, e1]
    isplitl [H6]
    · iexists _; isplitr; swap; · iexact H6
      ipureintro
      refine (View.read_writes_full _ _ _ _ _).trans ?_
      rw [View.readAt_full, harg4.read_unread, e1]
    · have e2 : mB.view.writes (Elt F) fB (run_C.sl.HB_1 c fw o h fF) = k0_pay1 (panR c fw o h) := by
        unfold run_C.sl.HB_1
        rw [cast_left, load_flight]; try rfl
      rw [e2]; iexact HB
  isplitl [HS HW HS_dst]
  · isplitl [HS_dst]; · iexists _; iexact HS_dst
    isplitl [HS]; · iexact HS
    iexact HW
  iexists _; iexact HO

end Cert.Up
end
-- ==== Proof.UpFrame.lean ====
/-
  The frame of `ffn_up`: what is held between points (the panel in use cast, the next one on its way), what each block
  holds after a point, the body at every point, and the run of the whole call.
-/
module

public import proofs.«01_k».proof.Proof.UpRun

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The buffers as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The kernel's one DMA cell, of its own. -/
abbrev osem0 : Fin 1 → SemLoc sig := ![osm]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), osm) 0 := by
  rw [Pipeline.ownSems0_eq_of_list c osem0 [0] (by decide) (by decide)]; rfl

/-- The weights are the one array the kernel reads itself. -/
def H0 : Finset (Ref sig .tc) := {main_arg2}
theorem H0_sub : H0 ⊆ Pipeline.restRefs sig spec0 := by decide
theorem hbmPts0_eq (c : Dev nD) :
    (bigSep H0 (fun b => ((c : Thread nD τ).loc b) ↦{fullShare} V m c b) : sProp 𝕄) = pt c mW (V m c main_arg2) := by
  rw [BI.bigSep_eq_bigSepL_of_eq [main_arg2] (by decide) (by decide)]; rfl

theorem PhiD0_eq (c : Dev nD) :
    (Pipeline.ΦD osem0 spec0 H0 (V m) c : sProp 𝕄)
      = iprop(((∃ f, pt (F := F) c mF f) ∗ (∃ f, pt (F := F) c mB f)) ∗ (∃ r, prngReg c r)
          ∗ semVal ((c : Thread nD τ), osm) 0 ∗ pt c mW (V m c main_arg2)) := by
  rw [Pipeline.ΦD_eq, scopedRest0_eq, ownSems00_eq, hbmPts0_eq]

/-! ## The schedule -/

theorem N0 : cfg0.N = 128 := N_0

/-- The panel of a point. -/
def jOf (t : Fin cfg0.N) : Fin 16 := ⟨t.1 / 8, by have h : t.1 < 128 := lt_of_lt_of_eq t.isLt N0; omega⟩

/-- When each branch of the body is taken, and where it reads. -/
theorem conds : ∀ t : Fin cfg0.N, (k0_cond1 (grid0.coords t) = 1#1 ↔ t.1 % 8 = 0) ∧ (k0_cond2 (grid0.coords t) = 1#1 ↔ t.1 / 8 = 0)
    ∧ (k0_cond3 (grid0.coords t) = 1#1 ↔ t.1 / 8 + 1 < 16) ∧ (grid0.coords t 0).val = t.1 / 8 :=
  (by decide +kernel : ∀ t : Fin grid0.N, (k0_cond1 (grid0.coords t) = 1#1 ↔ t.1 % 8 = 0) ∧ (k0_cond2 (grid0.coords t) = 1#1 ↔ t.1 / 8 = 0)
    ∧ (k0_cond3 (grid0.coords t) = 1#1 ↔ t.1 / 8 + 1 < 16) ∧ (grid0.coords t 0).val = t.1 / 8)

/-- A panel's offsets in the weights. -/
abbrev pOff (j : ℕ) : Fin 2 → ℕ := ![0, 1024 * j]
theorem pInb {j : ℕ} (h : j < 16) : ∀ a, pOff j a + S4096x1024.size a ≤ S4096x16384.size a := by
  intro a
  fin_cases a
  · show 0 + 4096 ≤ 4096
    omega
  · show 1024 * j + 1024 ≤ 16384
    omega

/-- A panel of the weights. -/
def panJ (c : Dev nD) (j : Fin 16) : Vec F S4096x1024 .f32 := panR c (V m c main_arg2) (pOff j) (pInb j.isLt)

theorem panR_congr (c : Dev nD) (fw : BufOf F c mW) {o o' : Fin 2 → ℕ} (e : o = o') (h h') : panR c fw o h = panR c fw o' h' := by
  subst e; rfl
theorem flight_congr (c : Dev nD) (fw : BufOf F c mW) {o o' : Fin 2 → ℕ} (e : o = o') (h h') : flight c fw o h = flight c fw o' h' := by
  subst e; rfl

/-! ## What is held between points -/

/-- The panel after `j`'s on its way; after the last panel's start, nothing. -/
def next (c : Dev nD) (j : Fin 16) : sProp 𝕄 :=
  if h : j.1 + 1 < 16 then flight c (V m c main_arg2) (pOff (j.1 + 1)) (pInb h)
  else iprop((∃ f, pt (F := F) c mF f) ∗ semVal ((c : Thread nD τ), osm) 0 ∗ pt c mW (V m c main_arg2))

/-- After a point: the panel in use, cast; the next on its way; the generator's register. -/
def St (c : Dev nD) (t : Fin cfg0.N) : sProp 𝕄 :=
  iprop(pt c mB (k0_pay1 (panJ m c (jOf t))) ∗ next m c (jOf t) ∗ ∃ r, prngReg c r)

def Phi (c : Dev nD) (n : Fin (cfg0.N + 1)) : sProp 𝕄 :=
  if h : n.1 = 0 then Pipeline.ΦD osem0 spec0 H0 (V m) c else St m c ⟨n.1 - 1, by have := n.isLt; omega⟩

theorem Phi_zero (c : Dev nD) (n : Fin (cfg0.N + 1)) (h : n.1 = 0) : Phi m c n = Pipeline.ΦD osem0 spec0 H0 (V m) c := dif_pos h
theorem Phi_pos (c : Dev nD) (n : Fin (cfg0.N + 1)) (h : n.1 ≠ 0) :
    Phi m c n = St m c ⟨n.1 - 1, by have := n.isLt; omega⟩ := dif_neg h
theorem Phi_succ (c : Dev nD) (t : Fin cfg0.N) : Phi m c t.succ = St m c t := dif_neg (Nat.succ_ne_zero _)

/-! ## The proof data -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay3 (iblk m c 0 t) (k0_pay1 (panJ m c (jOf t)))
    | ⟨3, _⟩ => k0_pay2 (iblk m c 1 t) (k0_pay1 (panJ m c (jOf t)))
  Φ n := Phi m c n
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay3 (iblk m c 0 t) (k0_pay1 (panJ m c (jOf t))) := by dsimp only [dats]
theorem after3 (c : Dev nD) (t : Fin cfg0.N) : (dats m 0 c).after 3 t = k0_pay2 (iblk m c 1 t) (k0_pay1 (panJ m c (jOf t))) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- The decode rows' block is the same at every point. -/
theorem iblk1 (c : Dev nD) (t t' : Fin cfg0.N) : iblk m c 1 t = iblk m c 1 t' := rfl

theorem idle3 (t : Fin cfg0.N) : cfg0.idle 3 (cfg0.grid.coords t) = true ↔ t.1 % 8 ≠ 0 := by
  show (!(k0_cond1 (grid0.coords t) == 1#1)) = true ↔ _
  have h := not_congr (conds t).1
  refine Iff.trans ?_ h
  simp

theorem flush3 (t : Fin cfg0.N) : (cfg0.win 3).flush t = false ↔ t.1 % 8 ≠ 7 := by
  have h := not_congr (flush0_3 t)
  refine Iff.trans ?_ h
  simp

/-- Past a panel's first row the decode rows' result is held. -/
theorem before3 (c : Dev nD) (n : ℕ) : ∀ (hn : n < cfg0.N), n % 8 ≠ 0 → ∀ d, (dats m 0 c).before 3 ⟨n, hn⟩ d = (dats m 0 c).after 3 ⟨n, hn⟩ := by
  induction n with
  | zero => intro _ h; exact absurd rfl h
  | succ k ih =>
    intro hn h d
    have hk : k < cfg0.N := by omega
    have hj : jOf ⟨k, hk⟩ = jOf ⟨k + 1, hn⟩ := Fin.ext (show k / 8 = (k + 1) / 8 by omega)
    have hfl : (cfg0.win 3).flush ⟨k, hk⟩ = false := (flush3 ⟨k, hk⟩).mpr (show k % 8 ≠ 7 by omega)
    have e : (dats m 0 c).after 3 ⟨k, hk⟩ = (dats m 0 c).after 3 ⟨k + 1, hn⟩ := by
      rw [after3, after3, hj, iblk1 m c _ ⟨k + 1, hn⟩]
    rw [(dats m 0 c).before_of_pos 3 ⟨k + 1, hn⟩ (Nat.succ_ne_zero _) ((cfg0.win 3).fetch_out rfl _)]
    refine (if_neg (by show ¬ (cfg0.win 3).flush ⟨k, hk⟩ = true; rw [hfl]; exact Bool.false_ne_true)).trans ?_
    refine Eq.trans ?_ e
    show (dats m 0 c).left 3 ⟨k, hk⟩ d = _
    unfold Dat.left
    cases hi : cfg0.idle 3 (cfg0.grid.coords ⟨k, hk⟩)
    · rfl
    · exact ih hk ((idle3 ⟨k, hk⟩).mp hi) d

/-- The staging buffers of a point: the rows' block, the decode rows, the two results' blocks. -/
abbrev ms0_0 (t : Fin cfg0.N) : Memref sig .tc .vmem S1024x4096 .bf16 := win0_0.stage (cfg0.slots t 0)
abbrev ms0_1 (t : Fin cfg0.N) : Memref sig .tc .vmem S256x4096 .bf16 := win0_1.stage (cfg0.slots t 1)
abbrev ms0_2 (t : Fin cfg0.N) : Memref sig .tc .vmem S1024x1024 .bf16 := win0_2.stage (cfg0.slots t 2)
abbrev ms0_3 (t : Fin cfg0.N) : Memref sig .tc .vmem S256x1024 .bf16 := win0_3.stage (cfg0.slots t 3)

/-- The decode rows' result, held or just written, is what the point leaves. -/
theorem leaves3 (c : Dev nD) (t : Fin cfg0.N) :
    (owns (Ix := Unit) (Name := ℕ) (U := Pipeline.UD sig nD τ) (Lvl := ℕ) (c : Thread nD τ) (ms0_3 t) fullShare ((dats m 0 c).after 3 t) : sProp 𝕄)
      ⊢ (dats m 0 c).leavesExact 3 t := by
  unfold Dat.leavesExact
  cases hi : cfg0.idle 3 (cfg0.grid.coords t)
  · exact .rfl
  · cases hf : (cfg0.win 3).flush t
    · have hb := before3 m c t.1 t.isLt ((idle3 t).mp hi) ((dats m 0 c).after 3 t)
      show _ ⊢ iprop(∃ d, owns (c : Thread nD τ) (ms0_3 t) fullShare ((dats m 0 c).before 3 t d))
      iintro H
      iexists (dats m 0 c).after 3 t
      rw [show (dats m 0 c).before 3 t ((dats m 0 c).after 3 t) = (dats m 0 c).after 3 t from hb]
      iexact H
    · exact .rfl

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t)

/-- The triple of the body at a point. -/
abbrev Sound (c : Dev nD) (t : Fin cfg0.N) : Prop :=
  bodyPre m c t ⊢ wp frame (wpE (defs₀ (F := F)) Variants.none c none) Set.univ (bodyAt0 t) (fun _ => bodyPost m c t)

/-- A panel is the window of the weights at any offsets equal to its own. -/
theorem panJ_of (c : Dev nD) (j : Fin 16) (o : Fin 2 → ℕ) (h) (e : o = pOff j.1) : panR c (V m c main_arg2) o h = panJ m c j := by
  subst e; rfl

theorem off2 (t : Fin cfg0.N) : k0_off2 (grid0.coords t) = pOff ((jOf t).1 + 1) := by
  rw [k0_off2_eq, (conds t).2.2.2]
  rfl

/-- The copy started at a panel's first row is of the next panel. -/
theorem next_of (c : Dev nD) (t : Fin cfg0.N) (h : t.1 / 8 + 1 < 16) (h') :
    flight c (V m c main_arg2) (k0_off2 (grid0.coords t)) h' = next m c (jOf t) := by
  unfold next
  rw [dif_pos (show (jOf t).1 + 1 < 16 from h)]
  exact flight_congr c _ (off2 t) _ _

theorem next_last (c : Dev nD) (t : Fin cfg0.N) (h : ¬ t.1 / 8 + 1 < 16) :
    next m c (jOf t) = iprop((∃ f, pt (F := F) c mF f) ∗ semVal ((c : Thread nD τ), osm) 0 ∗ pt c mW (V m c main_arg2)) :=
  dif_neg h

/-- At a later panel's first row the panel is on its way. -/
theorem Phi_first (c : Dev nD) (t : Fin cfg0.N) (h8 : t.1 % 8 = 0) (h : ¬ t.1 / 8 = 0) :
    ∃ w, (dats m 0 c).Φ t.castSucc
      = iprop(pt c mB w ∗ flight c (V m c main_arg2) (pOff (jOf t).1) (pInb (jOf t).isLt) ∗ ∃ r, prngReg c r) := by
  have hN : t.1 < 128 := lt_of_lt_of_eq t.isLt N0
  have hlt : t.1 - 1 < cfg0.N := by omega
  refine ⟨k0_pay1 (panJ m c (jOf ⟨t.1 - 1, hlt⟩)), (Phi_pos m c t.castSucc (show t.1 ≠ 0 by omega)).trans ?_⟩
  have hj : (jOf ⟨t.1 - 1, hlt⟩).1 + 1 = (jOf t).1 := by
    show (t.1 - 1) / 8 + 1 = t.1 / 8
    omega
  show St m c ⟨t.1 - 1, hlt⟩ = _
  unfold St next
  rw [dif_pos (by rw [hj]; exact (jOf t).isLt)]
  rw [flight_congr c (V m c main_arg2) (congrArg pOff hj) _ (pInb (jOf t).isLt)]

/-- At any other row the panel in use is its own. -/
theorem Phi_row (c : Dev nD) (t : Fin cfg0.N) (h8 : ¬ t.1 % 8 = 0) : (dats m 0 c).Φ t.castSucc = St m c t := by
  have hN : t.1 < 128 := lt_of_lt_of_eq t.isLt N0
  refine (Phi_pos m c t.castSucc (show t.1 ≠ 0 by omega)).trans ?_
  unfold St
  have hj : jOf ⟨t.castSucc.1 - 1, by have := t.castSucc.isLt; have : t.castSucc.1 = t.1 := rfl; omega⟩ = jOf t := Fin.ext (by
    show (t.1 - 1) / 8 = t.1 / 8
    omega)
  rw [hj]

set_option maxHeartbeats 1000000 in
/-- The first point. -/
theorem sound_A (c : Dev nD) (t : Fin cfg0.N) (h8 : t.1 % 8 = 0) (hd : t.1 / 8 = 0) : Sound m c t := by
  have hc1 := (conds t).1.mpr h8
  have hc2 := (conds t).2.1.mpr hd
  have hc3 := (conds t).2.2.1.mpr (by omega)
  have hp := panJ_of m c (jOf t) ![0, 0] inb_S4096x16384_S4096x1024_0_0 (by show _ = ![0, 1024 * (t.1 / 8)]; rw [hd])
  have hn := next_of m c t (by omega) (k0_off2_inb (grid0.coords t) hc1 hc3)
  unfold Sound bodyPre bodyPost bodyAt0
  rw [show (dats m 0 c).Φ t.castSucc = _ from Phi_zero m c t.castSucc (show t.1 = 0 by omega), PhiD0_eq,
    show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2]
  simp only [before0, before1]
  iintro ⟨⟨⟨HF, HB⟩, Hg, Hs, Hw⟩, ⟨%W, -, HW⟩, ⟨%d0, H0⟩, ⟨%d1, H1⟩, ⟨%d2, H2⟩, ⟨%d3, H3⟩⟩
  iapply (run_A c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (iblk m c 0 t) (iblk m c 1 t) (V m c main_arg2) hc1 hc2 hc3 W _)
  isplitl [H0]; · iexact H0
  isplitl [H1]; · iexact H1
  isplitl [H2]; · iexists _; iexact H2
  isplitl [H3]; · iexists _; iexact H3
  isplitl [HB]; · iexact HB
  isplitl [HF]; · iexact HF
  isplitl [Hs]; · iexact Hs
  isplitl [Hw]; · iexact Hw
  rw [hn, hp]
  isplitl [HW]; · iexact HW
  iintro ⟨⟨H0, H1, H2, H3, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  iapply (leaves3 m c t)
  rw [after3]
  iexact H3

set_option maxHeartbeats 1000000 in
/-- A later panel's first row, the last panel's excepted. -/
theorem sound_B (c : Dev nD) (t : Fin cfg0.N) (h8 : t.1 % 8 = 0) (hd : ¬ t.1 / 8 = 0) (h3 : t.1 / 8 + 1 < 16) : Sound m c t := by
  have hc1 := (conds t).1.mpr h8
  have hc2 : ¬ k0_cond2 (grid0.coords t) = 1#1 := fun h => hd ((conds t).2.1.mp h)
  have hc3 : k0_cond3 (grid0.coords t) = 1#1 := (conds t).2.2.1.mpr h3
  have hp := panJ_of m c (jOf t) (pOff (jOf t).1) (pInb (jOf t).isLt) rfl
  have hn := next_of m c t h3 (k0_off2_inb (grid0.coords t) hc1 hc3)
  obtain ⟨w, hw⟩ := Phi_first m c t h8 hd
  unfold Sound bodyPre bodyPost bodyAt0
  rw [hw, show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2]
  simp only [before0, before1]
  iintro ⟨⟨HB, HF, Hg⟩, ⟨%W, -, HW⟩, ⟨%d0, H0⟩, ⟨%d1, H1⟩, ⟨%d2, H2⟩, ⟨%d3, H3⟩⟩
  iapply (run_B c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (iblk m c 0 t) (iblk m c 1 t) (V m c main_arg2) hc1 hc2 hc3 (pOff (jOf t).1) (pInb (jOf t).isLt) W _)
  isplitl [H0]; · iexact H0
  isplitl [H1]; · iexact H1
  isplitl [H2]; · iexists _; iexact H2
  isplitl [H3]; · iexists _; iexact H3
  isplitl [HB]; · iexists _; iexact HB
  isplitl [HF]; · iexact HF
  rw [hn, hp]
  isplitl [HW]; · iexact HW
  iintro ⟨⟨H0, H1, H2, H3, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  iapply (leaves3 m c t)
  rw [after3]
  iexact H3

set_option maxHeartbeats 1000000 in
/-- The last panel's first row. -/
theorem sound_C (c : Dev nD) (t : Fin cfg0.N) (h8 : t.1 % 8 = 0) (hd : ¬ t.1 / 8 = 0) (h3 : ¬ t.1 / 8 + 1 < 16) : Sound m c t := by
  have hc1 := (conds t).1.mpr h8
  have hc2 : ¬ k0_cond2 (grid0.coords t) = 1#1 := fun h => hd ((conds t).2.1.mp h)
  have hc3 : ¬ k0_cond3 (grid0.coords t) = 1#1 := fun h => h3 ((conds t).2.2.1.mp h)
  have hp := panJ_of m c (jOf t) (pOff (jOf t).1) (pInb (jOf t).isLt) rfl
  have hn := next_last m c t h3
  obtain ⟨w, hw⟩ := Phi_first m c t h8 hd
  unfold Sound bodyPre bodyPost bodyAt0
  rw [hw, show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2]
  simp only [before0, before1]
  iintro ⟨⟨HB, HF, Hg⟩, ⟨%W, -, HW⟩, ⟨%d0, H0⟩, ⟨%d1, H1⟩, ⟨%d2, H2⟩, ⟨%d3, H3⟩⟩
  iapply (run_C c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (iblk m c 0 t) (iblk m c 1 t) (V m c main_arg2) hc1 hc2 hc3 (pOff (jOf t).1) (pInb (jOf t).isLt) W _)
  isplitl [H0]; · iexact H0
  isplitl [H1]; · iexact H1
  isplitl [H2]; · iexists _; iexact H2
  isplitl [H3]; · iexists _; iexact H3
  isplitl [HB]; · iexists _; iexact HB
  isplitl [HF]; · iexact HF
  rw [hn, hp]
  isplitl [HW]; · iexact HW
  iintro ⟨⟨H0, H1, H2, H3, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  iapply (leaves3 m c t)
  rw [after3]
  iexact H3

set_option maxHeartbeats 1000000 in
/-- Any other row of a panel. -/
theorem sound_D (c : Dev nD) (t : Fin cfg0.N) (h8 : ¬ t.1 % 8 = 0) : Sound m c t := by
  have hc1 : ¬ k0_cond1 (grid0.coords t) = 1#1 := fun h => h8 ((conds t).1.mp h)
  have hb : ∀ d, (dats m 0 c).before 3 t d = (dats m 0 c).after 3 t := before3 m c t.1 t.isLt h8
  unfold Sound bodyPre bodyPost bodyAt0
  rw [Phi_row m c t h8, show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2]
  simp only [before0, before1, hb]
  iintro ⟨⟨HB, HN, Hg⟩, ⟨%W, -, HW⟩, ⟨%d0, H0⟩, ⟨%d1, H1⟩, ⟨%d2, H2⟩, ⟨%d3, H3⟩⟩
  iapply (run_D c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (iblk m c 0 t) (k0_pay1 (panJ m c (jOf t))) hc1 _)
  isplitl [H0]; · iexact H0
  isplitl [H2]; · iexists _; iexact H2
  isplitl [HB]; · iexact HB
  iintro ⟨H0, H2, HB⟩
  isplitl [HB HN Hg]
  · isplitl [HB]; · iexact HB
    isplitl [HN]; · iexact HN
    iexact Hg
  isplitl [HW]
  · iexists W; isplitr; · ipureintro; exact fun _ _ => Or.inl trivial
    iexact HW
  isplitl [H0]; · iexact H0
  isplitl [H1]; · iexact H1
  isplitl [H2]; · iexact H2
  iapply (leaves3 m c t)
  iexact H3

/-- The body at every point. -/
theorem sound_body (c : Dev nD) (t : Fin cfg0.N) : Sound m c t := by
  by_cases h8 : t.1 % 8 = 0
  · by_cases hd : t.1 / 8 = 0
    · exact sound_A m c t h8 hd
    · by_cases h3 : t.1 / 8 + 1 < 16
      · exact sound_B m c t h8 hd h3
      · exact sound_C m c t h8 hd h3
  · exact sound_D m c t h8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The last point leaves nothing under way. -/
theorem Phi_out (c : Dev nD) : (dats m 0 c).Φ (Fin.last cfg0.N) ⊢ Pipeline.ΦD osem0 spec0 H0 (V m) c := by
  have hlt : 127 < cfg0.N := by rw [N0]; omega
  have e : (dats m 0 c).Φ (Fin.last cfg0.N) = St m c ⟨127, hlt⟩ :=
    (Phi_pos m c (Fin.last cfg0.N) (show cfg0.N ≠ 0 by rw [N0]; omega)).trans (congrArg (St m c) (Fin.ext (show cfg0.N - 1 = 127 from congrArg (· - 1) N0)))
  rw [e, PhiD0_eq]
  unfold St
  rw [next_last m c ⟨127, hlt⟩ (by show ¬ 127 / 8 + 1 < 16; omega)]
  iintro ⟨HB, ⟨HF, Hs, Hw⟩, Hg⟩
  isplitl [HF HB]
  · isplitl [HF]; · iexact HF
    iexists _; iexact HB
  isplitl [Hg]; · iexact Hg
  isplitl [Hs]; · iexact Hs
  iexact Hw

set_option backward.isDefEq.respectTransparency.types false in
/-- The call runs to every block of the results holding what its point left, every other array untouched, every cell at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = _ from Phi_zero m c 0 rfl]) (hout := fun c => Phi_out m c)

/-- The call's frame: it runs without undefined behaviour to quiescence, with its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      (h.1 c).2 main_arg2 (Pipeline.mem_restRefs_of main_arg2 (by decide) (by decide))⟩, h.2⟩) (run_main m ρ)

end Cert.Up
end
-- ==== Proof.UpValue.lean ====
/-
  The values of `ffn_up`: both results of the call, entry by entry, over the arguments as launched.
-/
module

public import proofs.«01_k».proof.Proof.UpFrame
public import Idealize.ShloMosaic.Lib.Pipeline.ValueKit

@[expose] public section

set_option maxRecDepth 16384

noncomputable section

namespace Cert.Up

open Cert.Kernel2Ideal Cert.Kernel2Ideal.Gen Idealize.ShloMosaic Idealize.ShloMosaic.TcCoe Idealize.SL.Sem

/-- The square of the positive part. -/
def sq (s : EReal) : EReal := max s 0 * max s 0

variable (m : (ℓ : Loc nD τ sig) → Buf (Elt Ideal) ℓ) (c : Dev nD)

/-- The arguments as launched. -/
def argX : Vec Ideal S8192x4096 .bf16 := m ((c : Thread nD τ).loc main_arg0)
def argD : Vec Ideal S256x4096 .bf16 := m ((c : Thread nD τ).loc main_arg1)
def argW : Vec Ideal S4096x16384 .f32 := m ((c : Thread nD τ).loc main_arg2)

/-- Where each window's block lies, at a point. -/
theorem idx : ∀ t : Fin cfg0.N, win0_0.index t = ![t.1 % 8, 0] ∧ win0_1.index t = ![0, 0] ∧ win0_2.index t = ![t.1 % 8, t.1 / 8]
    ∧ win0_3.index t = ![0, t.1 / 8] :=
  (by decide +kernel : ∀ t : Fin grid0.N, win0_0.index t = ![t.1 % 8, 0] ∧ win0_1.index t = ![0, 0] ∧ win0_2.index t = ![t.1 % 8, t.1 / 8]
    ∧ win0_3.index t = ![0, t.1 / 8])

/-- A row of a block of rows, and a column of a panel, in the whole arrays. -/
def rowOf (t : Fin cfg0.N) (r : Fin 1024) : Fin 8192 := ⟨t.1 % 8 * 1024 + r.1, by omega⟩
def colOf (j : Fin 16) (n : Fin 1024) : Fin 16384 := ⟨j.1 * 1024 + n.1, by omega⟩

theorem blk0 (t : Fin cfg0.N) (r : Fin 1024) (k : Fin 4096) : (iblk m c 0 t : Vec Ideal S1024x4096 .bf16) (ix2 r k) = argX m c (ix2 (rowOf t r) k) := by
  have h := (idx t).1
  unfold argX rowOf
  blk_ext [iblk, h]

theorem blk1 (t : Fin cfg0.N) (r : Fin 256) (k : Fin 4096) : (iblk m c 1 t : Vec Ideal S256x4096 .bf16) (ix2 r k) = argD m c (ix2 r k) := by
  have h := (idx t).2.1
  unfold argD
  blk_ext [iblk, h]

theorem panJ_apply (j : Fin 16) (k : Fin 4096) (n : Fin 1024) : panJ m c j (ix2 k n) = argW m c (ix2 k (colOf j n)) := by
  unfold argW colOf panJ
  show V m c main_arg2 _ = m ((c : Thread nD τ).loc main_arg2) _
  refine congrArg (V m c main_arg2) ?_
  funext a
  fin_cases a
  · refine Fin.ext ?_
    show 0 + 1 * k.1 = k.1
    omega
  · refine Fin.ext ?_
    show 1024 * j.1 + 1 * n.1 = j.1 * 1024 + n.1
    omega

/-- A block of the prompt rows' result, entry by entry. -/
theorem pay3_apply (x : Vec Ideal S1024x4096 .bf16) (p : Vec Ideal S4096x1024 .f32) (r n : Fin 1024) :
    (k0_pay3 (F := Ideal) x (k0_pay1 (F := Ideal) p)) (ix2 r n) = sq (∑ k : Fin 4096, (x (ix2 r k) * p (ix2 k n) : EReal)) := by
  unfold sq
  pointwise [k0_pay3, k0_pay1]

/-- A block of the decode rows' result, entry by entry. -/
theorem pay2_apply (x : Vec Ideal S256x4096 .bf16) (p : Vec Ideal S4096x1024 .f32) (r : Fin 256) (n : Fin 1024) :
    (k0_pay2 (F := Ideal) x (k0_pay1 (F := Ideal) p)) (ix2 r n) = sq (∑ k : Fin 4096, (x (ix2 r k) * p (ix2 k n) : EReal)) := by
  unfold sq
  pointwise [k0_pay2, k0_pay1]

/-- The two results. -/
def upP : Vec Ideal S8192x16384 .bf16 := fun i => sq (∑ k : Fin 4096, (argX m c (ix2 (i 0) k) * argW m c (ix2 k (i 1)) : EReal))
def upD : Vec Ideal S256x16384 .bf16 := fun i => sq (∑ k : Fin 4096, (argD m c (ix2 (i 0) k) * argW m c (ix2 k (i 1)) : EReal))

theorem arr2 : (dats m 0 c).arrAt 2 cfg0.N = upP m c := by
  refine (dats m 0 c).arrAt_eq_of_covers 2 _ (by decide +kernel) fun t hf y => ?_
  have e := (idx t).2.2.1
  have hN : t.1 < 128 := lt_of_lt_of_eq t.isLt N0
  obtain ⟨r, n, rfl⟩ : ∃ (r n : Fin 1024), y = ix2 r n := ⟨y 0, y 1, by funext a; fin_cases a <;> rfl⟩
  rw [cast_eq, after2]
  refine (pay3_apply _ _ r n).trans ?_
  unfold upP
  have h0 : ((cfg0.win 2).blk t).view.emb (ix2 r n) (0 : Fin 2) = rowOf t r := Fin.ext (by blk_simp [e, rowOf])
  have h1 : ((cfg0.win 2).blk t).view.emb (ix2 r n) (1 : Fin 2) = colOf (jOf t) n := Fin.ext (by blk_simp [e, colOf, jOf])
  rw [h0, h1]
  refine congrArg sq (Finset.sum_congr rfl fun k _ => ?_)
  rw [blk0, panJ_apply]

theorem arr3 : (dats m 0 c).arrAt 3 cfg0.N = upD m c := by
  refine (dats m 0 c).arrAt_eq_of_covers 3 _ (by decide +kernel) fun t hf y => ?_
  have e := (idx t).2.2.2
  have hN : t.1 < 128 := lt_of_lt_of_eq t.isLt N0
  obtain ⟨r, n, rfl⟩ : ∃ (r : Fin 256) (n : Fin 1024), y = ix2 r n := ⟨y 0, y 1, by funext a; fin_cases a <;> rfl⟩
  rw [cast_eq, after3]
  refine (pay2_apply _ _ r n).trans ?_
  unfold upD
  have h0 : ((cfg0.win 3).blk t).view.emb (ix2 r n) (0 : Fin 2) = r := Fin.ext (by blk_simp [e])
  have h1 : ((cfg0.win 3).blk t).view.emb (ix2 r n) (1 : Fin 2) = colOf (jOf t) n := Fin.ext (by blk_simp [e, colOf, jOf])
  rw [h0, h1]
  refine congrArg sq (Finset.sum_congr rfl fun k _ => ?_)
  rw [blk1, panJ_apply]

end Cert.Up

end
-- ==== Proof.UpAgree.lean ====
/-
  `ffn_up` against its reference: the reference's results entry by entry, and their agreement with the call's.
-/
module

public import proofs.«01_k».proof.Proof.UpValue
public import proofs.«01_k».proof.Proof.Gen.Reference2Ideal.Run
public import Idealize.ShloMosaic.Lib.Claim
public import Idealize.ShloMosaic.Lib.Quiescent

@[expose] public section

set_option maxRecDepth 16384

noncomputable section

namespace Cert.Up

open Idealize.ShloMosaic Idealize.ShloMosaic.TcCoe Idealize.SL.Sem

section Reference
open Cert.Reference2Ideal Cert.Reference2Ideal.Gen

/-- The reference's two results as the program computes them. -/
def refP (x : Vec Ideal S8192x4096 .bf16) (w : Vec Ideal S4096x16384 .f32) : Vec Ideal S8192x16384 .bf16 :=
  truncf .bf16 (mulf
    (maximumf (Host.dotGeneral (F := Ideal) (φ₁ := .f32) (φ₂ := .f32) dot_S8192x4096_S4096x16384_S8192x16384_1_0_0_1_n_n none (extf .f32 x bitsLt_bf16_f32) w) (broadcastInDim S8192x16384 ![] bcast_S_S8192x16384 (constant S_ .f32 0x00000000#32)))
    (maximumf (Host.dotGeneral (F := Ideal) (φ₁ := .f32) (φ₂ := .f32) dot_S8192x4096_S4096x16384_S8192x16384_1_0_0_1_n_n none (extf .f32 x bitsLt_bf16_f32) w) (broadcastInDim S8192x16384 ![] bcast_S_S8192x16384 (constant S_ .f32 0x00000000#32)))) bitsLt_bf16_f32
def refD (x : Vec Ideal S256x4096 .bf16) (w : Vec Ideal S4096x16384 .f32) : Vec Ideal S256x16384 .bf16 :=
  truncf .bf16 (mulf
    (maximumf (Host.dotGeneral (F := Ideal) (φ₁ := .f32) (φ₂ := .f32) dot_S256x4096_S4096x16384_S256x16384_1_0_0_1_n_n none (extf .f32 x bitsLt_bf16_f32) w) (broadcastInDim S256x16384 ![] bcast_S_S256x16384 (constant S_ .f32 0x00000000#32)))
    (maximumf (Host.dotGeneral (F := Ideal) (φ₁ := .f32) (φ₂ := .f32) dot_S256x4096_S4096x16384_S256x16384_1_0_0_1_n_n none (extf .f32 x bitsLt_bf16_f32) w) (broadcastInDim S256x16384 ![] bcast_S_S256x16384 (constant S_ .f32 0x00000000#32)))) bitsLt_bf16_f32

theorem refP_apply (x : Vec Ideal S8192x4096 .bf16) (w : Vec Ideal S4096x16384 .f32) (r : Fin 8192) (n : Fin 16384) :
    refP x w (ix2 r n) = sq (∑ k : Fin 4096, (x (ix2 r k) * w (ix2 k n) : EReal)) := by
  unfold sq refP
  pointwise []

theorem refD_apply (x : Vec Ideal S256x4096 .bf16) (w : Vec Ideal S4096x16384 .f32) (r : Fin 256) (n : Fin 16384) :
    refD x w (ix2 r n) = sq (∑ k : Fin 4096, (x (ix2 r k) * w (ix2 k n) : EReal)) := by
  unfold sq refD
  pointwise []

/-- The reference's run: its two results, its arguments unchanged, its counters at zero. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v8) = refP (m ((c.tc : Thread nD τ).loc main_arg0)) (m ((c.tc : Thread nD τ).loc main_arg2))
      ∧ r.2.mem ((c.tc : Thread nD τ).loc main_v9) = refD (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  θ_run_mono (Cert.Reference2Ideal.Value.run m ρ) fun r h => ⟨h, sem_eq_zero_of_no_sems (by decide) _⟩

end Reference

section Agree
open Cert.Kernel2Ideal Cert.Kernel2Ideal.Gen

variable (m : (ℓ : Loc nD τ sig) → Buf (Elt Ideal) ℓ) (ρ : Dev nD → PrngReg) (c : Dev nD)

/-- The call's run, read: its two results and its arguments. -/
theorem up_run : θ_run defs (onTc (τ := τ) (main (F := Ideal))) ⟨m, fun _ => 0, ρ⟩ (fun r => ∀ c : Dev nD,
      r.2.mem ((c.tc : Thread nD τ).loc main_v0_0) = upP m c
      ∧ r.2.mem ((c.tc : Thread nD τ).loc main_v0_1) = upD m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (run_main m ρ) fun _ h c => ⟨((h.1 c).1 2).trans (arr2 m c), ((h.1 c).1 3).trans (arr3 m c),
    ((h.1 c).1 0).trans (((dats m 0 c).arrAt_in 0 rfl _).trans (A_eq m c 0)),
    ((h.1 c).1 1).trans (((dats m 0 c).arrAt_in 1 rfl _).trans (A_eq m c 1)),
    (h.1 c).2 main_arg2 (Pipeline.mem_restRefs_of main_arg2 (by decide) (by decide))⟩

/-- On equal arguments the reference's first result is the call's. -/
theorem p_agree (x : Vec Ideal S8192x4096 .bf16) (w : Vec Ideal S4096x16384 .f32) (hx : x = argX m c) (hw : w = argW m c) :
    refP x w = upP m c := by
  subst hx hw
  funext i
  have hi : i = ix2 (i 0) (i 1) := by funext a; fin_cases a <;> rfl
  rw [hi]
  exact refP_apply _ _ (i 0) (i 1)

/-- On equal arguments the reference's second result is the call's. -/
theorem d_agree (x : Vec Ideal S256x4096 .bf16) (w : Vec Ideal S4096x16384 .f32) (hx : x = argD m c) (hw : w = argW m c) :
    refD x w = upD m c := by
  subst hx hw
  funext i
  have hi : i = ix2 (i 0) (i 1) := by funext a; fin_cases a <;> rfl
  rw [hi]
  exact refD_apply _ _ (i 0) (i 1)

end Agree

end Cert.Up

end
-- ==== Proof.UpBits.lean ====
/-
  `ffn_up` as printed: its body table is its ideal reading's, so its frame is the one already proved.
-/
module

public import proofs.«01_k».proof.Proof.UpFrame
public import proofs.«01_k».proof.Proof.Gen.Kernel2
public import proofs.«01_k».proof.Kernel2
public import Idealize.ShloMosaic.PureOps.BitExact

@[expose] public section

set_option maxRecDepth 16384

noncomputable section

namespace Cert.Up

open Idealize.ShloMosaic Idealize.ShloMosaic.TcCoe Idealize.SL.Sem
open Cert.Kernel2 Cert.Kernel2.Gen

/-- The two programs' kernels are one. -/
theorem defs₀_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | ⟨0, _⟩, (t, s) => rfl

/-- The two programs' body tables are one. -/
theorem defs_eq : Cert.Kernel2.defs (F := Bits) = Cert.Kernel2Ideal.defs (F := Bits) :=
  congrArg (Pipeline.defs Cert.Kernel2.pcfgs) defs₀_eq

/-- The frame of the call as printed. -/
theorem frame_bits (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact frame (F := Bits) m ρ

end Cert.Up

end
-- ==== Proof.DownBase.lean ====
/-
  `ffn_down` is four calls, one per quarter of the inner dimension, each adding its product to the last one's results.
  What the four have in common: the panels of the weights each call copies itself, and a call as an item of the program,
  entered from the buffers in HBM at given contents and left with its results replaced.
-/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Regions
public import Idealize.ShloMosaic.Lib.Pipeline.RegionArraysD
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

/-- The proof's user algebra: the pipeline library's beside the transfers' counters. -/
local notation "𝕄" => MT nD τ sig Unit (Elt F) ℕ (Pipeline.UD sig nD τ) ℕ

/-- The weights, left whole in HBM. -/
abbrev mW : Memref sig .tc .hbm S16384x4096 .f32 := Memref.whole main_arg2

/-- The window of the weights at offsets `o`. -/
abbrev pan (o : Fin 2 → ℕ) (h : ∀ a, o a + S4096x1024.size a ≤ S16384x4096.size a) : Memref sig .tc .hbm S4096x1024 .f32 :=
  mW.slice (Rect.unit (s := S16384x4096) o S4096x1024.size h) (fun _ => rfl)

abbrev BufOf (F : FTy → Type) (c : Dev nD) {sp : Space} {S : Shape} {e : EltTy} (M : Memref sig .tc sp S e) : Type :=
  Buf (Elt F) (M.view.loc (c : Thread nD τ))

/-- A whole buffer held at contents. -/
abbrev pt (c : Dev nD) {sp : Space} {S : Shape} {e : EltTy} (M : Memref sig .tc sp S e) (f : BufOf F c M) : sProp 𝕄 :=
  M.view.loc (c : Thread nD τ) ↦{fullShare} f

/-- The window of the weights at `o`, as a value. -/
abbrev panR (c : Dev nD) (fw : BufOf F c mW) (o : Fin 2 → ℕ) (h : ∀ a, o a + S4096x1024.size a ≤ S16384x4096.size a) : Vec F S4096x1024 .f32 :=
  (pan o h).view.read (Elt F) fw

theorem panR_congr (c : Dev nD) (fw : BufOf F c mW) {o o' : Fin 2 → ℕ} (e : o = o') (h h') : panR c fw o h = panR c fw o' h' := by
  subst e; rfl

/-- A store over all of a whole buffer leaves what was stored. -/
theorem writes_whole (b : Ref sig .tc) (f v : b.ty.Contents (Elt F)) {off : Fin b.ty.shape.rank → ℕ} (h : ∀ a, off a + b.ty.shape.size a ≤ b.ty.shape.size a) :
    (View.whole b).writes (Elt F) f [⟨Rect.unit off b.ty.shape.size h, v⟩] = v :=
  (View.read_whole b _).symm.trans (View.read_writes_full (View.whole b) f h v [])

/-- The buffers of the core in HBM, at given contents. -/
abbrev Ent (F : FTy → Type) : Type := Dev nD → Valuation τ sig (Elt F)

/-- The weights are the one array each call reads itself. -/
def H0 : Finset (Ref sig .tc) := {main_arg2}
theorem hbmPts_eq (c : Dev nD) (V : (c : Dev nD) → (b : Ref sig .tc) → Buf (Elt F) ((c : Thread nD τ).loc b)) :
    (bigSep H0 (fun b => ((c : Thread nD τ).loc b) ↦{fullShare} V c b) : sProp 𝕄) = pt c mW (V c main_arg2) := by
  rw [BI.bigSep_eq_bigSepL_of_eq [main_arg2] (by decide) (by decide)]; rfl

/-- The program's pairs of semaphores and levels: no core owes another anything. -/
abbrev L : GSem nD τ sig → Finset Unit := fun _ => ∅
abbrev lv : GSem nD τ sig → Unit → ℕ := fun _ _ => 0

/-- What the core holds between two calls beside its buffers: its generator's register, and that it owes nothing. -/
abbrev R (c : Dev nD) : sProp 𝕄 := iprop((∃ r, prngReg c r) ∗ ∃ W, owes (c : Thread nD τ) (0 : CellTallies nD τ sig Unit) W)

/-- The thread state between two calls: the buffers in HBM at `V`, and the rest. -/
abbrev At (V : Ent F) (c : Dev nD) : sProp 𝕄 := iprop(StableHlo.held (c : Thread nD τ) (Pipeline.ucRefs τ sig) (V c) ∗ R c)

section Item

variable (pdats : (p : Fin 4) → (c : Dev nD) → Dat τ (Elt F) Unit ℕ (Pipeline.UD sig nD τ) ℕ (cfgs p) c) (p : Fin 4)
  (kit : Pipeline.LaunchFacts (nD := nD) (τ := τ) cfgs p)

include kit in
/-- The buffers in HBM, taken apart: the call's arrays, the weights, and the others. -/
theorem split (hH : Pipeline.hbmRefs (τ := τ) H0 ⊆ Pipeline.ucRefs τ sig \ Pipeline.arrRefs (cfgs p).spec)
    (hshare : ∀ c w, (pdats p c).share w = fullShare) (c : Dev nD)
    (G : (w : Fin (cfgs p).W) → Buf (Elt F) (((cfgs p).win w).arr.view.loc (c : Thread nD τ))) (V : Valuation τ sig (Elt F))
    (hG : ∀ w, G w = V (Proc.devRef .tc (Pipeline.arrRef (cfgs p).spec w))) :
    (StableHlo.held (c : Thread nD τ) (Pipeline.ucRefs τ sig) V : sProp 𝕄)
      = iprop((pdats p c).arrays G ∗ (bigSep H0 fun b => ((c : Thread nD τ).loc b) ↦{fullShare} V (Proc.devRef .tc b))
          ∗ StableHlo.held (c : Thread nD τ) ((Pipeline.ucRefs τ sig \ Pipeline.arrRefs (cfgs p).spec) \ Pipeline.hbmRefs H0) V) := by
  rw [StableHlo.held_sub_split (c : Thread nD τ) (Pipeline.arrRefs_sub_ucRefs (cfgs p).spec kit.win.arr_unscoped) V,
    StableHlo.held_sub_split (c : Thread nD τ) hH V, Pipeline.held_hbm]
  exact congrArg (fun A => iprop(A ∗ _)) (Pipeline.arrays_held (pcfgs (F := F)) adm pdats p kit.toP c (hshare c) G V hG).symm

variable (osem : Fin 1 → SemLoc sig) (ho : Pipeline.OwnSemFacts (cfgs p).spec osem)
  (hH : Pipeline.hbmRefs (τ := τ) H0 ⊆ Pipeline.ucRefs τ sig \ Pipeline.arrRefs (cfgs p).spec)
  (hshare : ∀ c w, (pdats p c).share w = fullShare) (howed : ∀ c t, (pdats p c).owed t = 0) (hrec : ∀ c, (pdats p c).recorded 0 = Set.univ)
  (hbody : ∀ c, Pipeline.BodyObligationLoose (pdats p c) (defs₀ (F := F)) Variants.none () Set.univ)
  (V V' : Ent F)
  (hA : ∀ c w, (pdats p c).arrAt w 0 = V c (Proc.devRef .tc (Pipeline.arrRef (cfgs p).spec w)))
  (hA' : ∀ c w, (pdats p c).arrAt w (cfgs p).N = V' c (Proc.devRef .tc (Pipeline.arrRef (cfgs p).spec w)))
  (hoff : ∀ c b, b ∉ Pipeline.arrRefs (cfgs p).spec → V c b = V' c b)
  (hin : ∀ c, Pipeline.ΦD osem (cfgs p).spec H0 (fun c b => V c (Proc.devRef .tc b)) c ⊢ (pdats p c).Φ 0)
  (hout : ∀ c, (pdats p c).Φ (Fin.last (cfgs p).N) ⊢ Pipeline.ΦD osem (cfgs p).spec H0 (fun c b => V c (Proc.devRef .tc b)) c)

/-- A call as an item of the program: entered from the buffers in HBM at `V`, left with them at `V'`. -/
def item : RegionSeg (pcfgs (F := F)) adm pdats () (defs₀ (F := F)) Variants.none L lv p where
  win := kit.win.to₀
  block_pos := kit.block_pos
  stage_whole := kit.stage_whole
  K := Fin 1
  osem := osem
  ho := ho
  hbody := hbody
  hwaits := Pipeline.hwaits_of_owed_zero _ _ _ _ L lv p howed
  pre := At V
  post := At V'
  X c := iprop((∃ r, prngReg c r) ∗ Pipeline.ownSems0 osem c ∗ bigSep H0 fun b => ((c : Thread nD τ).loc b) ↦{fullShare} V c (Proc.devRef .tc b))
  Y c := iprop((∃ r, prngReg c r) ∗ bigSep H0 fun b => ((c : Thread nD τ).loc b) ↦{fullShare} V c (Proc.devRef .tc b))
  Z c := StableHlo.held (c : Thread nD τ) ((Pipeline.ucRefs τ sig \ Pipeline.arrRefs (cfgs p).spec) \ Pipeline.hbmRefs H0) (V c)
  hentry c := by
    unfold At
    rw [Pipeline.prefHeld_of_none _ rfl, split pdats p kit hH hshare c ((pdats p c).arrAt · 0) (V c) (hA c)]
    iintro ⟨⟨⟨Ha, Hw, Hz⟩, Hg, HO⟩, Hs, -⟩
    imodintro
    isplitl [Ha]; · iexact Ha
    isplitr; · iempintro
    isplitl [HO]
    · unfold Dat.owesAt Pipeline.owesWithin Dat.bound
      rw [howed c 0, hrec c]
      icases HO with ⟨%W, HO⟩; iexists W; isplitr; · ipureintro; exact fun _ _ => Or.inl trivial
      iexact HO
    isplitl [Hg Hs Hw]
    · isplitl [Hg]; · iexact Hg
      isplitl [Hs]; · iexact Hs
      iexact Hw
    iexact Hz
  hin c := by
    refine BIBase.Entails.trans ?_ (hin c)
    rw [Pipeline.ΦD_eq]
    iintro ⟨⟨Hg, Hs, Hw⟩, -, Hr⟩
    isplitl [Hr]; · iexact Hr
    isplitl [Hg]; · iexact Hg
    isplitl [Hs]; · iexact Hs
    iexact Hw
  hout c := by
    refine (hout c).trans ?_
    rw [Pipeline.ΦD_eq]
    iintro ⟨Hr, Hg, Hs, Hw⟩
    isplitl [Hg Hw]
    · isplitl [Hg]; · iexact Hg
      iexact Hw
    isplitl [Hs]; · iexact Hs
    iexact Hr
  hexit c := by
    unfold At
    rw [split pdats p kit hH hshare c ((pdats p c).arrAt · (cfgs p).N) (V' c) (hA' c), ← Pipeline.held_hbm, ← Pipeline.held_hbm,
      StableHlo.held_congr (c : Thread nD τ) (S := (Pipeline.ucRefs τ sig \ Pipeline.arrRefs (cfgs p).spec) \ Pipeline.hbmRefs H0) (fun b hb => hoff c b (Finset.mem_sdiff.mp (Finset.mem_sdiff.mp hb).1).2),
      StableHlo.held_congr (c : Thread nD τ) (S := Pipeline.hbmRefs H0) (fun b hb => hoff c b (Finset.mem_sdiff.mp (hH hb)).2)]
    iintro ⟨Ha, HO, ⟨Hg, Hw⟩, Hz⟩
    imodintro
    isplitl [Ha Hw Hz]
    · isplitl [Ha]; · iexact Ha
      isplitl [Hw]; · iexact Hw
      iexact Hz
    isplitl [Hg]; · iexact Hg
    unfold Dat.owesAt Pipeline.owesWithin
    rw [howed c (Fin.last _)]
    icases HO with ⟨%W, -, HO⟩; iexists W; iexact HO

end Item

end Cert.Down
end
-- ==== Proof.DownRun0.lean ====
/-
  The body of the first call of `ffn_down` run at a point, in its four cases: the first point, a later first row of a
  panel, the first row of the last panel, and any other row.
-/
module

public import proofs.«01_k».proof.Proof.DownBase

@[expose] public section

set_option maxRecDepth 16384

noncomputable section

namespace Cert.Down0

open Cert.Kernel3Ideal Cert.Kernel3Ideal.Gen Cert.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The panel being copied; the panel in use, cast. -/
abbrev mF : Memref sig .tc .vmem S4096x1024 .f32 := Memref.whole cc0_scratch0
abbrev mB : Memref sig .tc .vmem S4096x1024 .bf16 := Memref.whole cc0_scratch1

/-- The call's one DMA cell. -/
abbrev osm : SemLoc sig := SemLoc.dma 11

/-- The panel at `o` on its way into the panel buffer, and the rest of the weights. -/
def flight (c : Dev nD) (fw : BufOf F c mW) (o : Fin 2 → ℕ) (h : ∀ a, o a + S4096x1024.size a ≤ S16384x4096.size a) : sProp 𝕄 :=
  iprop(∃ f0 : BufOf F c mF, Transfers.Flight countersEmb (c : Thread nD τ) osm () 524288
      iprop((mF.view.loc (c : Thread nD τ) ↦{fullShare} mF.view.write (Elt F) f0 (ReadAs.same.apply ((pan o h).view.read (Elt F) fw)) Finset.univ)
        ∗ (mW.view.loc (c : Thread nD τ) ↦[(pan o h).view.set]{fullShare} fw))
    ∗ (mW.view.loc (c : Thread nD τ) ↦[Finset.univ \ (pan o h).view.set]{fullShare} fw))

variable (c : Dev nD) (i : grid0.Coords)
  (arg2 : Memref sig .tc .vmem S512x4096 .bf16) (harg2 : arg2.IsWhole) (arg4 : Memref sig .tc .vmem S256x4096 .bf16) (harg4 : arg4.IsWhole)
  (arg5 : Memref sig .tc .vmem S512x1024 .f32) (harg5 : arg5.IsWhole) (arg6 : Memref sig .tc .vmem S256x1024 .f32) (harg6 : arg6.IsWhole)
  (arg7 : Memref sig .tc .vmem S512x1024 .f32) (harg7 : arg7.IsWhole) (arg8 : Memref sig .tc .vmem S256x1024 .f32) (harg8 : arg8.IsWhole)
  (x : Vec F S512x4096 .bf16) (xd : Vec F S256x4096 .bf16) (y : Vec F S512x1024 .f32) (yd : Vec F S256x1024 .f32) (w : BufOf F c mB) (fw : BufOf F c mW)

/-- The body at a point of this program. -/
abbrev body : Prog (TpuEff nD τ sig (Elt F) Λ₀ .tc) PUnit :=
  cc0_ffn_down i arg2 harg2 mW (Memref.isWhole_whole _) arg4 harg4 arg5 harg5 arg6 harg6 arg7 harg7 arg8 harg8 mF (Memref.isWhole_whole _) mB (Memref.isWhole_whole _) cc0_scratch2

set_option maxHeartbeats 1000000 in
/-- A row that is not a panel's first: only the block product is stored. -/
theorem run_D (hc1 : ¬ k0_cond1 i = 1#1) (K : PUnit → sProp 𝕄) :
    iprop(owns (c : Thread nD τ) arg2 fullShare x ∗ owns (c : Thread nD τ) arg5 fullShare y ∗ (∃ d, owns (c : Thread nD τ) arg7 fullShare d) ∗ pt c mB w
        ∗ (iprop(owns (c : Thread nD τ) arg2 fullShare x ∗ owns (c : Thread nD τ) arg5 fullShare y ∗ owns (c : Thread nD τ) arg7 fullShare (k0_pay3 x w y) ∗ pt c mB w) -∗ K ⟨⟩))
      ⊢ wp frame (wpE (defs₀ (F := F)) Variants.none c none) Set.univ (body i arg2 harg2 arg4 harg4 arg5 harg5 arg6 harg6 arg7 harg7 arg8 harg8) K := by
  unfold body
  simp only [cc0_ffn_down_eq_skeleton]; unfold cc0_ffn_down_skel
  unfold owns
  iintro ⟨⟨%f2, %hf2, H2⟩, ⟨%f5, %hf5, H5⟩, ⟨%d7, %f7, -, H7⟩, HB, Hk⟩
  obtain rfl := harg2.eq_unread hf2
  obtain rfl := harg5.eq_unread hf5
  sl_exec (disch := first | sl_exact hc1)
  sl_step
  iapply Hk
  isplitl [H2]
  · iexists _; isplitr; · ipureintro; exact harg2.read_unread _
    iexact H2
  isplitl [H5]
  · iexists _; isplitr; · ipureintro; exact harg5.read_unread _
    iexact H5
  isplitl [H7]
  · iexists _; isplitr; swap; · iexact H7
    ipureintro
    refine (View.read_writes_full _ _ _ _ _).trans ?_
    rw [View.readAt_full, View.readAt_full, View.readAt_full, harg2.read_unread, harg5.read_unread]
    rfl
  iexact HB

/-- What the body leaves at a panel's first row, over the panel `p`. -/
abbrev left (c : Dev nD) (arg2 : Memref sig .tc .vmem S512x4096 .bf16) (arg4 : Memref sig .tc .vmem S256x4096 .bf16)
    (arg5 : Memref sig .tc .vmem S512x1024 .f32) (arg6 : Memref sig .tc .vmem S256x1024 .f32)
    (arg7 : Memref sig .tc .vmem S512x1024 .f32) (arg8 : Memref sig .tc .vmem S256x1024 .f32)
    (x : Vec F S512x4096 .bf16) (xd : Vec F S256x4096 .bf16) (y : Vec F S512x1024 .f32) (yd : Vec F S256x1024 .f32) (p : Vec F S4096x1024 .f32) : sProp 𝕄 :=
  iprop(owns (c : Thread nD τ) arg2 fullShare x ∗ owns (c : Thread nD τ) arg4 fullShare xd
    ∗ owns (c : Thread nD τ) arg5 fullShare y ∗ owns (c : Thread nD τ) arg6 fullShare yd
    ∗ owns (c : Thread nD τ) arg7 fullShare (k0_pay3 x (k0_pay1 p) y) ∗ owns (c : Thread nD τ) arg8 fullShare (k0_pay2 xd (k0_pay1 p) yd)
    ∗ pt c mB (k0_pay1 p))

/-- The whole-buffer store of the cast panel leaves it. -/
theorem cast_left (fB : BufOf F c mB) (v : Vec F S4096x1024 .bf16) (h) :
    mB.view.writes (Elt F) fB [⟨Rect.unit (s := S4096x1024) ![0, 0] S4096x1024.size h, v⟩] = v :=
  writes_whole cc0_scratch1 fB v h

/-- What is loaded of the panel buffer after a panel was copied over all of it: the panel. -/
theorem load_flight (f0 : BufOf F c mF) (v : Vec F S4096x1024 .f32) (h) :
    mF.view.readAt (Elt F) (Rect.unit (s := S4096x1024) ![0, 0] S4096x1024.size h).toLoadRect
      (mF.view.write (Elt F) f0 (ReadAs.same.apply v) Finset.univ) = v := by
  rw [View.readAt_full, ReadAs.apply_same]
  exact congrArg (mF.view.read (Elt F)) (View.write_whole_univ cc0_scratch0 f0 v)

set_option maxHeartbeats 2000000 in
/-- The first point: panel 0 is copied and waited for, cast, and panel 1's copy started. -/
theorem run_A (hc1 : k0_cond1 i = 1#1) (hc2 : k0_cond2 i = 1#1) (hc3 : k0_cond3 i = 1#1) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ (∃ f, pt (F := F) c mF f) ∗ semVal ((c : Thread nD τ), osm) 0 ∗ pt c mW fw ∗ owes (c : Thread nD τ) 0 W
        ∗ (iprop(left c arg2 arg4 arg5 arg6 arg7 arg8 x xd y yd (panR c fw ![0, 0] inb_S16384x4096_S4096x1024_0_0)
            ∗ flight c fw (k0_off2 i) (k0_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc0_ffn_down_eq_skeleton]; unfold cc0_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HF⟩, HS, HW, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_A.sl.v26 c fw fF = k0_pay1 (panR c fw ![0, 0] inb_S16384x4096_S4096x1024_0_0) := by
    unfold run_A.sl.v26 run_A.sl.HB_1 run_A.sl.dma0
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_A.sl.HB_1 c fw fF) = k0_pay1 (panR c fw ![0, 0] inb_S16384x4096_S4096x1024_0_0) := by
        unfold run_A.sl.HB_1 run_A.sl.dma0
        rw [cast_left, load_flight]; try rfl
      rw [e2]; iexact HB
  isplitl [HS HW]
  · unfold run_A.sl.dma3; iexists _; isplitl [HS]; · iexact HS
    iexact HW
  iexists _; iexact HO

set_option maxHeartbeats 2000000 in
/-- A later panel's first row: the panel is waited for, cast, and the next one's copy started. -/
theorem run_B (hc1 : k0_cond1 i = 1#1) (hc2 : ¬ k0_cond2 i = 1#1) (hc3 : k0_cond3 i = 1#1) (o : Fin 2 → ℕ) (h : ∀ a, o a + S4096x1024.size a ≤ S16384x4096.size a) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ flight c fw o h ∗ owes (c : Thread nD τ) 0 W
        ∗ (iprop(left c arg2 arg4 arg5 arg6 arg7 arg8 x xd y yd (panR c fw o h)
            ∗ flight c fw (k0_off2 i) (k0_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc0_ffn_down_eq_skeleton]; unfold cc0_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HS, HW⟩, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_B.sl.v26 c fw o h fF = k0_pay1 (panR c fw o h) := by
    unfold run_B.sl.v26 run_B.sl.HB_1
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_B.sl.HB_1 c fw o h fF) = k0_pay1 (panR c fw o h) := by
        unfold run_B.sl.HB_1
        rw [cast_left, load_flight]; try rfl
      rw [e2]; iexact HB
  isplitl [HS HW]
  · unfold run_B.sl.dma3; iexists _; isplitl [HS]; · iexact HS
    iexact HW
  iexists _; iexact HO

set_option maxHeartbeats 2000000 in
/-- The last panel's first row: the panel is waited for and cast, and no copy is started. -/
theorem run_C (hc1 : k0_cond1 i = 1#1) (hc2 : ¬ k0_cond2 i = 1#1) (hc3 : ¬ k0_cond3 i = 1#1) (o : Fin 2 → ℕ) (h : ∀ a, o a + S4096x1024.size a ≤ S16384x4096.size a) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ flight c fw o h ∗ owes (c : Thread nD τ) 0 W
        ∗ (iprop(left c arg2 arg4 arg5 arg6 arg7 arg8 x xd y yd (panR c fw o h)
            ∗ ((∃ f, pt (F := F) c mF f) ∗ semVal ((c : Thread nD τ), osm) 0 ∗ pt c mW fw)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc0_ffn_down_eq_skeleton]; unfold cc0_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HS, HW⟩, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_C.sl.v26 c fw o h fF = k0_pay1 (panR c fw o h) := by
    unfold run_C.sl.v26 run_C.sl.HB_1
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_C.sl.HB_1 c fw o h fF) = k0_pay1 (panR c fw o h) := by
        unfold run_C.sl.HB_1
        rw [cast_left, load_flight]; try rfl
      rw [e2]; iexact HB
  isplitl [HS HW HS_dst]
  · isplitl [HS_dst]; · iexists _; iexact HS_dst
    isplitl [HS]; · iexact HS
    iexact HW
  iexists _; iexact HO

end Cert.Down0
end
-- ==== Proof.DownFrame0.lean ====
/-
  The first call of `ffn_down`: what is held between points (the panel in use cast, the next one on its way), what each
  block holds after a point, and the body at every point.
-/
module

public import proofs.«01_k».proof.Proof.DownRun0

@[expose] public section

set_option maxRecDepth 16384

noncomputable section

namespace Cert.Down0

open Cert.Kernel3Ideal Cert.Kernel3Ideal.Gen Cert.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : Ent F)

/-- The buffers as the call finds them. -/
abbrev V (c : Dev nD) (b : Ref sig .tc) : Buf (Elt F) ((c : Thread nD τ).loc b) := m c (Proc.devRef .tc b)

/-- The call's one DMA cell, of its own. -/
abbrev osem0 : Fin 1 → SemLoc sig := ![osm]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), osm) 0 := by
  rw [Pipeline.ownSems0_eq_of_list c osem0 [0] (by decide) (by decide)]; rfl

theorem hH0 : Pipeline.hbmRefs (τ := τ) H0 ⊆ Pipeline.ucRefs τ sig \ Pipeline.arrRefs spec0 := by decide

/-- What the call does not touch: the scoped buffers of the other calls, and the generator's register. -/
def Rst (F : FTy → Type) (c : Dev nD) : sProp (MT nD τ sig Unit (Elt F) ℕ (Pipeline.UD sig nD τ) ℕ) :=
  iprop(Pipeline.scopedRestBut (Ix := Unit) (Name := ℕ) (U := Pipeline.UD sig nD τ) (Lvl := ℕ) (Val := Elt F) spec0 c [cc0_scratch0, cc0_scratch1] ∗ ∃ r, prngReg c r)

theorem PhiD0_eq (c : Dev nD) :
    (Pipeline.ΦD osem0 spec0 H0 (V m) c : sProp 𝕄)
      = iprop((((∃ f, pt (F := F) c mF f) ∗ (∃ f, pt (F := F) c mB f))
          ∗ Pipeline.scopedRestBut (Ix := Unit) (Name := ℕ) (U := Pipeline.UD sig nD τ) (Lvl := ℕ) (Val := Elt F) spec0 c [cc0_scratch0, cc0_scratch1]) ∗ (∃ r, prngReg c r)
          ∗ semVal ((c : Thread nD τ), osm) 0 ∗ pt c mW (V m c main_arg2)) := by
  rw [Pipeline.ΦD_eq, scopedRest0_split, ownSems00_eq, hbmPts_eq c (V m)]

/-! ## The schedule -/

theorem N0 : cfg0.N = 64 := N_0

/-- The panel of a point. -/
def jOf (t : Fin cfg0.N) : Fin 4 := ⟨t.1 / 16, by have h : t.1 < 64 := lt_of_lt_of_eq t.isLt N0; omega⟩

/-- When each branch of the body is taken, and where it reads. -/
theorem conds : ∀ t : Fin cfg0.N, (k0_cond1 (grid0.coords t) = 1#1 ↔ t.1 % 16 = 0) ∧ (k0_cond2 (grid0.coords t) = 1#1 ↔ t.1 / 16 = 0)
    ∧ (k0_cond3 (grid0.coords t) = 1#1 ↔ t.1 / 16 + 1 < 4) ∧ (grid0.coords t 0).val = t.1 / 16 :=
  (by decide +kernel : ∀ t : Fin grid0.N, (k0_cond1 (grid0.coords t) = 1#1 ↔ t.1 % 16 = 0) ∧ (k0_cond2 (grid0.coords t) = 1#1 ↔ t.1 / 16 = 0)
    ∧ (k0_cond3 (grid0.coords t) = 1#1 ↔ t.1 / 16 + 1 < 4) ∧ (grid0.coords t 0).val = t.1 / 16)

/-- A panel's offsets in the weights. -/
abbrev pOff (j : ℕ) : Fin 2 → ℕ := ![0, 1024 * j]
theorem pInb {j : ℕ} (h : j < 4) : ∀ a, pOff j a + S4096x1024.size a ≤ S16384x4096.size a := by
  intro a
  fin_cases a
  · show 0 + 4096 ≤ 16384
    omega
  · show 1024 * j + 1024 ≤ 4096
    omega

/-- A panel of the weights. -/
def panJ (c : Dev nD) (j : Fin 4) : Vec F S4096x1024 .f32 := panR c (V m c main_arg2) (pOff j) (pInb j.isLt)

theorem flight_congr (c : Dev nD) (fw : BufOf F c mW) {o o' : Fin 2 → ℕ} (e : o = o') (h h') : flight c fw o h = flight c fw o' h' := by
  subst e; rfl

/-! ## What is held between points -/

/-- The panel after `j`'s on its way; after the last panel's start, nothing. -/
def next (c : Dev nD) (j : Fin 4) : sProp 𝕄 :=
  if h : j.1 + 1 < 4 then flight c (V m c main_arg2) (pOff (j.1 + 1)) (pInb h)
  else iprop((∃ f, pt (F := F) c mF f) ∗ semVal ((c : Thread nD τ), osm) 0 ∗ pt c mW (V m c main_arg2))

/-- After a point: the panel in use, cast; the next on its way; what the call does not touch. -/
def St (c : Dev nD) (t : Fin cfg0.N) : sProp 𝕄 :=
  iprop(pt c mB (k0_pay1 (panJ m c (jOf t))) ∗ next m c (jOf t) ∗ Rst F c)

def Phi (c : Dev nD) (n : Fin (cfg0.N + 1)) : sProp 𝕄 :=
  if h : n.1 = 0 then Pipeline.ΦD osem0 spec0 H0 (V m) c else St m c ⟨n.1 - 1, by have := n.isLt; omega⟩

theorem Phi_zero (c : Dev nD) (n : Fin (cfg0.N + 1)) (h : n.1 = 0) : Phi m c n = Pipeline.ΦD osem0 spec0 H0 (V m) c := dif_pos h
theorem Phi_pos (c : Dev nD) (n : Fin (cfg0.N + 1)) (h : n.1 ≠ 0) :
    Phi m c n = St m c ⟨n.1 - 1, by have := n.isLt; omega⟩ := dif_neg h
theorem Phi_succ (c : Dev nD) (t : Fin cfg0.N) : Phi m c t.succ = St m c t := dif_neg (Nat.succ_ne_zero _)

/-! ## The proof data -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dat (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (iblk m c 0 t) (k0_pay1 (panJ m c (jOf t))) (iblk m c 2 t)
    | ⟨5, _⟩ => k0_pay2 (iblk m c 1 t) (k0_pay1 (panJ m c (jOf t))) (iblk m c 3 t)
  Φ n := Phi m c n
  q _ := fullShare
  owed _ := 0

theorem A_eq (c : Dev nD) (w : Fin cfg0.W) : (dat m c).A w = V m c (Pipeline.arrRef spec0 w) := by
  dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = k0_pay3 (iblk m c 0 t) (k0_pay1 (panJ m c (jOf t))) (iblk m c 2 t) := by dsimp only [dat]
theorem after5 (c : Dev nD) (t : Fin cfg0.N) : (dat m c).after 5 t = k0_pay2 (iblk m c 1 t) (k0_pay1 (panJ m c (jOf t))) (iblk m c 3 t) := by dsimp only [dat]

theorem before0 (c : Dev nD) (t : Fin cfg0.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat m c).before 2 t d = iblk m c 2 t :=
  ((dat m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat m c).before 3 t d = iblk m c 3 t :=
  ((dat m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The decode rows' block is the same at every point. -/
theorem iblk1 (c : Dev nD) (t t' : Fin cfg0.N) : iblk m c 1 t = iblk m c 1 t' := rfl

/-- What is added to their product is the same at every row of a panel. -/
theorem iblk3 (c : Dev nD) (t t' : Fin cfg0.N) (h : jOf t = jOf t') : iblk m c 3 t = iblk m c 3 t' := by
  have e : (cfg0.win 3).index t = (cfg0.win 3).index t' := by
    have hc : (grid0.coords t 0).val = (grid0.coords t' 0).val := by
      rw [(conds t).2.2.2, (conds t').2.2.2]; exact congrArg Fin.val h
    show cc0_transform_4 (grid0.coords t) = cc0_transform_4 (grid0.coords t')
    unfold cc0_transform_4
    rw [hc]
  have f := (dat m c).fetched_congr 3 e rfl (iblk m c 3 t)
  unfold Dat.fetched Dat.blockOf at f
  rw [A_eq] at f
  exact f

theorem idle5 (t : Fin cfg0.N) : cfg0.idle 5 (cfg0.grid.coords t) = true ↔ t.1 % 16 ≠ 0 := by
  show (!(k0_cond1 (grid0.coords t) == 1#1)) = true ↔ _
  have h := not_congr (conds t).1
  refine Iff.trans ?_ h
  simp

theorem flush5 (t : Fin cfg0.N) : (cfg0.win 5).flush t = false ↔ t.1 % 16 ≠ 15 := by
  have h := not_congr (flush0_5 t)
  refine Iff.trans ?_ h
  simp

/-- Past a panel's first row the decode rows' result is held. -/
theorem before5 (c : Dev nD) (n : ℕ) : ∀ (hn : n < cfg0.N), n % 16 ≠ 0 → ∀ d, (dat m c).before 5 ⟨n, hn⟩ d = (dat m c).after 5 ⟨n, hn⟩ := by
  induction n with
  | zero => intro _ h; exact absurd rfl h
  | succ k ih =>
    intro hn h d
    have hk : k < cfg0.N := by omega
    have hj : jOf ⟨k, hk⟩ = jOf ⟨k + 1, hn⟩ := Fin.ext (show k / 16 = (k + 1) / 16 by omega)
    have hfl : (cfg0.win 5).flush ⟨k, hk⟩ = false := (flush5 ⟨k, hk⟩).mpr (show k % 16 ≠ 15 by omega)
    have e : (dat m c).after 5 ⟨k, hk⟩ = (dat m c).after 5 ⟨k + 1, hn⟩ := by
      rw [after5, after5, hj, iblk1 m c _ ⟨k + 1, hn⟩, iblk3 m c _ ⟨k + 1, hn⟩ hj]
    rw [(dat m c).before_of_pos 5 ⟨k + 1, hn⟩ (Nat.succ_ne_zero _) ((cfg0.win 5).fetch_out rfl _)]
    refine (if_neg (by show ¬ (cfg0.win 5).flush ⟨k, hk⟩ = true; rw [hfl]; exact Bool.false_ne_true)).trans ?_
    refine Eq.trans ?_ e
    show (dat m c).left 5 ⟨k, hk⟩ d = _
    unfold Dat.left
    cases hi : cfg0.idle 5 (cfg0.grid.coords ⟨k, hk⟩)
    · rfl
    · exact ih hk ((idle5 ⟨k, hk⟩).mp hi) d

/-- The staging buffers of a point: the rows' block, the decode rows, what is added to the product of each, the two results' blocks. -/
abbrev ms0_0 (t : Fin cfg0.N) : Memref sig .tc .vmem S512x4096 .bf16 := win0_0.stage (cfg0.slots t 0)
abbrev ms0_1 (t : Fin cfg0.N) : Memref sig .tc .vmem S256x4096 .bf16 := win0_1.stage (cfg0.slots t 1)
abbrev ms0_2 (t : Fin cfg0.N) : Memref sig .tc .vmem S512x1024 .f32 := win0_2.stage (cfg0.slots t 2)
abbrev ms0_3 (t : Fin cfg0.N) : Memref sig .tc .vmem S256x1024 .f32 := win0_3.stage (cfg0.slots t 3)
abbrev ms0_4 (t : Fin cfg0.N) : Memref sig .tc .vmem S512x1024 .f32 := win0_4.stage (cfg0.slots t 4)
abbrev ms0_5 (t : Fin cfg0.N) : Memref sig .tc .vmem S256x1024 .f32 := win0_5.stage (cfg0.slots t 5)

/-- The decode rows' result, held or just written, is what the point leaves. -/
theorem leaves5 (c : Dev nD) (t : Fin cfg0.N) :
    (owns (Ix := Unit) (Name := ℕ) (U := Pipeline.UD sig nD τ) (Lvl := ℕ) (c : Thread nD τ) (ms0_5 t) fullShare ((dat m c).after 5 t) : sProp 𝕄)
      ⊢ (dat m c).leavesExact 5 t := by
  unfold Dat.leavesExact
  cases hi : cfg0.idle 5 (cfg0.grid.coords t)
  · exact .rfl
  · cases hf : (cfg0.win 5).flush t
    · have hb := before5 m c t.1 t.isLt ((idle5 t).mp hi) ((dat m c).after 5 t)
      show _ ⊢ iprop(∃ d, owns (c : Thread nD τ) (ms0_5 t) fullShare ((dat m c).before 5 t d))
      iintro H
      iexists (dat m c).after 5 t
      rw [show (dat m c).before 5 t ((dat m c).after 5 t) = (dat m c).after 5 t from hb]
      iexact H
    · exact .rfl

/-! ## The body at every point -/

def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d)))

def bodyPost (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ (dat m c).leavesExact 5 t)

/-- The triple of the body at a point. -/
abbrev Sound (c : Dev nD) (t : Fin cfg0.N) : Prop :=
  bodyPre m c t ⊢ wp frame (wpE (defs₀ (F := F)) Variants.none c none) Set.univ (bodyAt0 t) (fun _ => bodyPost m c t)

/-- A panel is the window of the weights at any offsets equal to its own. -/
theorem panJ_of (c : Dev nD) (j : Fin 4) (o : Fin 2 → ℕ) (h) (e : o = pOff j.1) : panR c (V m c main_arg2) o h = panJ m c j := by
  subst e; rfl

theorem off2 (t : Fin cfg0.N) : k0_off2 (grid0.coords t) = pOff ((jOf t).1 + 1) := by
  rw [k0_off2_eq, (conds t).2.2.2]
  rfl

/-- The copy started at a panel's first row is of the next panel. -/
theorem next_of (c : Dev nD) (t : Fin cfg0.N) (h : t.1 / 16 + 1 < 4) (h') :
    flight c (V m c main_arg2) (k0_off2 (grid0.coords t)) h' = next m c (jOf t) := by
  unfold next
  rw [dif_pos (show (jOf t).1 + 1 < 4 from h)]
  exact flight_congr c _ (off2 t) _ _

theorem next_last (c : Dev nD) (t : Fin cfg0.N) (h : ¬ t.1 / 16 + 1 < 4) :
    next m c (jOf t) = iprop((∃ f, pt (F := F) c mF f) ∗ semVal ((c : Thread nD τ), osm) 0 ∗ pt c mW (V m c main_arg2)) :=
  dif_neg h

/-- At a later panel's first row the panel is on its way. -/
theorem Phi_first (c : Dev nD) (t : Fin cfg0.N) (h8 : t.1 % 16 = 0) (h : ¬ t.1 / 16 = 0) :
    ∃ w, (dat m c).Φ t.castSucc
      = iprop(pt c mB w ∗ flight c (V m c main_arg2) (pOff (jOf t).1) (pInb (jOf t).isLt) ∗ Rst F c) := by
  have hN : t.1 < 64 := lt_of_lt_of_eq t.isLt N0
  have hlt : t.1 - 1 < cfg0.N := by omega
  refine ⟨k0_pay1 (panJ m c (jOf ⟨t.1 - 1, hlt⟩)), (Phi_pos m c t.castSucc (show t.1 ≠ 0 by omega)).trans ?_⟩
  have hj : (jOf ⟨t.1 - 1, hlt⟩).1 + 1 = (jOf t).1 := by
    show (t.1 - 1) / 16 + 1 = t.1 / 16
    omega
  show St m c ⟨t.1 - 1, hlt⟩ = _
  unfold St next
  rw [dif_pos (by rw [hj]; exact (jOf t).isLt)]
  rw [flight_congr c (V m c main_arg2) (congrArg pOff hj) _ (pInb (jOf t).isLt)]

/-- At any other row the panel in use is its own. -/
theorem Phi_row (c : Dev nD) (t : Fin cfg0.N) (h8 : ¬ t.1 % 16 = 0) : (dat m c).Φ t.castSucc = St m c t := by
  have hN : t.1 < 64 := lt_of_lt_of_eq t.isLt N0
  refine (Phi_pos m c t.castSucc (show t.1 ≠ 0 by omega)).trans ?_
  unfold St
  have hj : jOf ⟨t.castSucc.1 - 1, by have := t.castSucc.isLt; have : t.castSucc.1 = t.1 := rfl; omega⟩ = jOf t := Fin.ext (by
    show (t.1 - 1) / 16 = t.1 / 16
    omega)
  rw [hj]

set_option maxHeartbeats 1000000 in
/-- The first point. -/
theorem sound_A (c : Dev nD) (t : Fin cfg0.N) (h8 : t.1 % 16 = 0) (hd : t.1 / 16 = 0) : Sound m c t := by
  have hc1 := (conds t).1.mpr h8
  have hc2 := (conds t).2.1.mpr hd
  have hc3 := (conds t).2.2.1.mpr (by omega)
  have hp := panJ_of m c (jOf t) ![0, 0] inb_S16384x4096_S4096x1024_0_0 (by show _ = ![0, 1024 * (t.1 / 16)]; rw [hd])
  have hn := next_of m c t (by omega) (k0_off2_inb (grid0.coords t) hc1 hc3)
  unfold Sound bodyPre bodyPost bodyAt0
  rw [show (dat m c).Φ t.castSucc = _ from Phi_zero m c t.castSucc (show t.1 = 0 by omega), PhiD0_eq,
    show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨⟨⟨HF, HB⟩, Hr⟩, Hg, Hs, Hw⟩, ⟨%W, -, HW⟩, ⟨%d0, H0⟩, ⟨%d1, H1⟩, ⟨%d2, H2⟩, ⟨%d3, H3⟩, ⟨%d4, H4⟩, ⟨%d5, H5⟩⟩
  iapply (run_A c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (iblk m c 0 t) (iblk m c 1 t) (iblk m c 2 t) (iblk m c 3 t) (V m c main_arg2) hc1 hc2 hc3 W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexact HB
  isplitl [HF]; · iexact HF
  isplitl [Hs]; · iexact Hs
  isplitl [Hw]; · iexact Hw
  rw [hn, hp]
  isplitl [HW]; · iexact HW
  iintro ⟨⟨H0, H1, H2, H3, H4, H5, HB⟩, HN, ⟨%W', HW'⟩⟩
  isplitl [HB HN Hr Hg]
  · isplitl [HB]; · iexact HB
    isplitl [HN]; · iexact HN
    unfold Rst
    isplitl [Hr]; · iexact Hr
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- A later panel's first row, the last panel's excepted. -/
theorem sound_B (c : Dev nD) (t : Fin cfg0.N) (h8 : t.1 % 16 = 0) (hd : ¬ t.1 / 16 = 0) (h3 : t.1 / 16 + 1 < 4) : Sound m c t := by
  have hc1 := (conds t).1.mpr h8
  have hc2 : ¬ k0_cond2 (grid0.coords t) = 1#1 := fun h => hd ((conds t).2.1.mp h)
  have hc3 : k0_cond3 (grid0.coords t) = 1#1 := (conds t).2.2.1.mpr h3
  have hp := panJ_of m c (jOf t) (pOff (jOf t).1) (pInb (jOf t).isLt) rfl
  have hn := next_of m c t h3 (k0_off2_inb (grid0.coords t) hc1 hc3)
  obtain ⟨w, hw⟩ := Phi_first m c t h8 hd
  unfold Sound bodyPre bodyPost bodyAt0
  rw [hw, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨HB, HF, Hg⟩, ⟨%W, -, HW⟩, ⟨%d0, H0⟩, ⟨%d1, H1⟩, ⟨%d2, H2⟩, ⟨%d3, H3⟩, ⟨%d4, H4⟩, ⟨%d5, H5⟩⟩
  iapply (run_B c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (iblk m c 0 t) (iblk m c 1 t) (iblk m c 2 t) (iblk m c 3 t) (V m c main_arg2) hc1 hc2 hc3 (pOff (jOf t).1) (pInb (jOf t).isLt) W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexists _; iexact HB
  isplitl [HF]; · iexact HF
  rw [hn, hp]
  isplitl [HW]; · iexact HW
  iintro ⟨⟨H0, H1, H2, H3, H4, H5, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- The last panel's first row. -/
theorem sound_C (c : Dev nD) (t : Fin cfg0.N) (h8 : t.1 % 16 = 0) (hd : ¬ t.1 / 16 = 0) (h3 : ¬ t.1 / 16 + 1 < 4) : Sound m c t := by
  have hc1 := (conds t).1.mpr h8
  have hc2 : ¬ k0_cond2 (grid0.coords t) = 1#1 := fun h => hd ((conds t).2.1.mp h)
  have hc3 : ¬ k0_cond3 (grid0.coords t) = 1#1 := fun h => h3 ((conds t).2.2.1.mp h)
  have hp := panJ_of m c (jOf t) (pOff (jOf t).1) (pInb (jOf t).isLt) rfl
  have hn := next_last m c t h3
  obtain ⟨w, hw⟩ := Phi_first m c t h8 hd
  unfold Sound bodyPre bodyPost bodyAt0
  rw [hw, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨HB, HF, Hg⟩, ⟨%W, -, HW⟩, ⟨%d0, H0⟩, ⟨%d1, H1⟩, ⟨%d2, H2⟩, ⟨%d3, H3⟩, ⟨%d4, H4⟩, ⟨%d5, H5⟩⟩
  iapply (run_C c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (iblk m c 0 t) (iblk m c 1 t) (iblk m c 2 t) (iblk m c 3 t) (V m c main_arg2) hc1 hc2 hc3 (pOff (jOf t).1) (pInb (jOf t).isLt) W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexists _; iexact HB
  isplitl [HF]; · iexact HF
  rw [hn, hp]
  isplitl [HW]; · iexact HW
  iintro ⟨⟨H0, H1, H2, H3, H4, H5, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- Any other row of a panel. -/
theorem sound_D (c : Dev nD) (t : Fin cfg0.N) (h8 : ¬ t.1 % 16 = 0) : Sound m c t := by
  have hc1 : ¬ k0_cond1 (grid0.coords t) = 1#1 := fun h => h8 ((conds t).1.mp h)
  have hb : ∀ d, (dat m c).before 5 t d = (dat m c).after 5 t := before5 m c t.1 t.isLt h8
  unfold Sound bodyPre bodyPost bodyAt0
  rw [Phi_row m c t h8, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3, hb]
  iintro ⟨⟨HB, HN, Hg⟩, ⟨%W, -, HW⟩, ⟨%d0, H0⟩, ⟨%d1, H1⟩, ⟨%d2, H2⟩, ⟨%d3, H3⟩, ⟨%d4, H4⟩, ⟨%d5, H5⟩⟩
  iapply (run_D c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (iblk m c 0 t) (iblk m c 2 t) (k0_pay1 (panJ m c (jOf t))) hc1 _)
  isplitl [H0]; · iexact H0
  isplitl [H2]; · iexact H2
  isplitl [H4]; · iexists _; iexact H4
  isplitl [HB]; · iexact HB
  iintro ⟨H0, H2, H4, HB⟩
  isplitl [HB HN Hg]
  · isplitl [HB]; · iexact HB
    isplitl [HN]; · iexact HN
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iapply (leaves5 m c t)
  iexact H5

/-- The body at every point. -/
theorem sound_body (c : Dev nD) (t : Fin cfg0.N) : Sound m c t := by
  by_cases h8 : t.1 % 16 = 0
  · by_cases hd : t.1 / 16 = 0
    · exact sound_A m c t h8 hd
    · by_cases h3 : t.1 / 16 + 1 < 4
      · exact sound_B m c t h8 hd h3
      · exact sound_C m c t h8 hd h3
  · exact sound_D m c t h8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The end -/

/-- The last point leaves nothing under way. -/
theorem Phi_out (c : Dev nD) : (dat m c).Φ (Fin.last cfg0.N) ⊢ Pipeline.ΦD osem0 spec0 H0 (V m) c := by
  have hlt : 63 < cfg0.N := by rw [N0]; omega
  have e : (dat m c).Φ (Fin.last cfg0.N) = St m c ⟨63, hlt⟩ :=
    (Phi_pos m c (Fin.last cfg0.N) (show cfg0.N ≠ 0 by rw [N0]; omega)).trans (congrArg (St m c) (Fin.ext (show cfg0.N - 1 = 63 from congrArg (· - 1) N0)))
  rw [e, PhiD0_eq]
  unfold St Rst
  rw [next_last m c ⟨63, hlt⟩ (by show ¬ 63 / 16 + 1 < 4; omega)]
  iintro ⟨HB, ⟨HF, Hs, Hw⟩, Hr, Hg⟩
  isplitl [HF HB Hr]
  · isplitl [HF HB]
    · isplitl [HF]; · iexact HF
      iexists _; iexact HB
    iexact Hr
  isplitl [Hg]; · iexact Hg
  isplitl [Hs]; · iexact Hs
  iexact Hw

end Cert.Down0
end
-- ==== Proof.DownRun1.lean ====
/-
  The body of the second call of `ffn_down` run at a point, in its four cases: the first point, a later first row of a
  panel, the first row of the last panel, and any other row.
-/
module

public import proofs.«01_k».proof.Proof.DownBase

@[expose] public section

set_option maxRecDepth 16384

noncomputable section

namespace Cert.Down1

open Cert.Kernel3Ideal Cert.Kernel3Ideal.Gen Cert.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The panel being copied; the panel in use, cast. -/
abbrev mF : Memref sig .tc .vmem S4096x1024 .f32 := Memref.whole cc1_scratch0
abbrev mB : Memref sig .tc .vmem S4096x1024 .bf16 := Memref.whole cc1_scratch1

/-- The call's one DMA cell. -/
abbrev osm : SemLoc sig := SemLoc.dma 23

/-- The panel at `o` on its way into the panel buffer, and the rest of the weights. -/
def flight (c : Dev nD) (fw : BufOf F c mW) (o : Fin 2 → ℕ) (h : ∀ a, o a + S4096x1024.size a ≤ S16384x4096.size a) : sProp 𝕄 :=
  iprop(∃ f0 : BufOf F c mF, Transfers.Flight countersEmb (c : Thread nD τ) osm () 524288
      iprop((mF.view.loc (c : Thread nD τ) ↦{fullShare} mF.view.write (Elt F) f0 (ReadAs.same.apply ((pan o h).view.read (Elt F) fw)) Finset.univ)
        ∗ (mW.view.loc (c : Thread nD τ) ↦[(pan o h).view.set]{fullShare} fw))
    ∗ (mW.view.loc (c : Thread nD τ) ↦[Finset.univ \ (pan o h).view.set]{fullShare} fw))

variable (c : Dev nD) (i : grid1.Coords)
  (arg2 : Memref sig .tc .vmem S512x4096 .bf16) (harg2 : arg2.IsWhole) (arg4 : Memref sig .tc .vmem S256x4096 .bf16) (harg4 : arg4.IsWhole)
  (arg5 : Memref sig .tc .vmem S512x1024 .f32) (harg5 : arg5.IsWhole) (arg6 : Memref sig .tc .vmem S256x1024 .f32) (harg6 : arg6.IsWhole)
  (arg7 : Memref sig .tc .vmem S512x1024 .f32) (harg7 : arg7.IsWhole) (arg8 : Memref sig .tc .vmem S256x1024 .f32) (harg8 : arg8.IsWhole)
  (x : Vec F S512x4096 .bf16) (xd : Vec F S256x4096 .bf16) (y : Vec F S512x1024 .f32) (yd : Vec F S256x1024 .f32) (w : BufOf F c mB) (fw : BufOf F c mW)

/-- The body at a point of this program. -/
abbrev body : Prog (TpuEff nD τ sig (Elt F) Λ₀ .tc) PUnit :=
  cc1_ffn_down i arg2 harg2 mW (Memref.isWhole_whole _) arg4 harg4 arg5 harg5 arg6 harg6 arg7 harg7 arg8 harg8 mF (Memref.isWhole_whole _) mB (Memref.isWhole_whole _) cc1_scratch2

set_option maxHeartbeats 1000000 in
/-- A row that is not a panel's first: only the block product is stored. -/
theorem run_D (hc1 : ¬ k1_cond1 i = 1#1) (K : PUnit → sProp 𝕄) :
    iprop(owns (c : Thread nD τ) arg2 fullShare x ∗ owns (c : Thread nD τ) arg5 fullShare y ∗ (∃ d, owns (c : Thread nD τ) arg7 fullShare d) ∗ pt c mB w
        ∗ (iprop(owns (c : Thread nD τ) arg2 fullShare x ∗ owns (c : Thread nD τ) arg5 fullShare y ∗ owns (c : Thread nD τ) arg7 fullShare (k1_pay3 x w y) ∗ pt c mB w) -∗ K ⟨⟩))
      ⊢ wp frame (wpE (defs₀ (F := F)) Variants.none c none) Set.univ (body i arg2 harg2 arg4 harg4 arg5 harg5 arg6 harg6 arg7 harg7 arg8 harg8) K := by
  unfold body
  simp only [cc1_ffn_down_eq_skeleton]; unfold cc1_ffn_down_skel
  unfold owns
  iintro ⟨⟨%f2, %hf2, H2⟩, ⟨%f5, %hf5, H5⟩, ⟨%d7, %f7, -, H7⟩, HB, Hk⟩
  obtain rfl := harg2.eq_unread hf2
  obtain rfl := harg5.eq_unread hf5
  sl_exec (disch := first | sl_exact hc1)
  sl_step
  iapply Hk
  isplitl [H2]
  · iexists _; isplitr; · ipureintro; exact harg2.read_unread _
    iexact H2
  isplitl [H5]
  · iexists _; isplitr; · ipureintro; exact harg5.read_unread _
    iexact H5
  isplitl [H7]
  · iexists _; isplitr; swap; · iexact H7
    ipureintro
    refine (View.read_writes_full _ _ _ _ _).trans ?_
    rw [View.readAt_full, View.readAt_full, View.readAt_full, harg2.read_unread, harg5.read_unread]
    rfl
  iexact HB

/-- What the body leaves at a panel's first row, over the panel `p`. -/
abbrev left (c : Dev nD) (arg2 : Memref sig .tc .vmem S512x4096 .bf16) (arg4 : Memref sig .tc .vmem S256x4096 .bf16)
    (arg5 : Memref sig .tc .vmem S512x1024 .f32) (arg6 : Memref sig .tc .vmem S256x1024 .f32)
    (arg7 : Memref sig .tc .vmem S512x1024 .f32) (arg8 : Memref sig .tc .vmem S256x1024 .f32)
    (x : Vec F S512x4096 .bf16) (xd : Vec F S256x4096 .bf16) (y : Vec F S512x1024 .f32) (yd : Vec F S256x1024 .f32) (p : Vec F S4096x1024 .f32) : sProp 𝕄 :=
  iprop(owns (c : Thread nD τ) arg2 fullShare x ∗ owns (c : Thread nD τ) arg4 fullShare xd
    ∗ owns (c : Thread nD τ) arg5 fullShare y ∗ owns (c : Thread nD τ) arg6 fullShare yd
    ∗ owns (c : Thread nD τ) arg7 fullShare (k1_pay3 x (k1_pay1 p) y) ∗ owns (c : Thread nD τ) arg8 fullShare (k1_pay2 xd (k1_pay1 p) yd)
    ∗ pt c mB (k1_pay1 p))

/-- The whole-buffer store of the cast panel leaves it. -/
theorem cast_left (fB : BufOf F c mB) (v : Vec F S4096x1024 .bf16) (h) :
    mB.view.writes (Elt F) fB [⟨Rect.unit (s := S4096x1024) ![0, 0] S4096x1024.size h, v⟩] = v :=
  writes_whole cc1_scratch1 fB v h

/-- What is loaded of the panel buffer after a panel was copied over all of it: the panel. -/
theorem load_flight (f0 : BufOf F c mF) (v : Vec F S4096x1024 .f32) (h) :
    mF.view.readAt (Elt F) (Rect.unit (s := S4096x1024) ![0, 0] S4096x1024.size h).toLoadRect
      (mF.view.write (Elt F) f0 (ReadAs.same.apply v) Finset.univ) = v := by
  rw [View.readAt_full, ReadAs.apply_same]
  exact congrArg (mF.view.read (Elt F)) (View.write_whole_univ cc1_scratch0 f0 v)

set_option maxHeartbeats 2000000 in
/-- The first point: panel 0 is copied and waited for, cast, and panel 1's copy started. -/
theorem run_A (hc1 : k1_cond1 i = 1#1) (hc2 : k1_cond2 i = 1#1) (hc3 : k1_cond3 i = 1#1) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ (∃ f, pt (F := F) c mF f) ∗ semVal ((c : Thread nD τ), osm) 0 ∗ pt c mW fw ∗ owes (c : Thread nD τ) 0 W
        ∗ (iprop(left c arg2 arg4 arg5 arg6 arg7 arg8 x xd y yd (panR c fw ![4096, 0] inb_S16384x4096_S4096x1024_4096_0)
            ∗ flight c fw (k1_off2 i) (k1_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc1_ffn_down_eq_skeleton]; unfold cc1_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HF⟩, HS, HW, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_A.sl.v27 c fw fF = k1_pay1 (panR c fw ![4096, 0] inb_S16384x4096_S4096x1024_4096_0) := by
    unfold run_A.sl.v27 run_A.sl.HB_1 run_A.sl.dma0
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_A.sl.HB_1 c fw fF) = k1_pay1 (panR c fw ![4096, 0] inb_S16384x4096_S4096x1024_4096_0) := by
        unfold run_A.sl.HB_1 run_A.sl.dma0
        rw [cast_left, load_flight]; try rfl
      rw [e2]; iexact HB
  isplitl [HS HW]
  · unfold run_A.sl.dma3; iexists _; isplitl [HS]; · iexact HS
    iexact HW
  iexists _; iexact HO

set_option maxHeartbeats 2000000 in
/-- A later panel's first row: the panel is waited for, cast, and the next one's copy started. -/
theorem run_B (hc1 : k1_cond1 i = 1#1) (hc2 : ¬ k1_cond2 i = 1#1) (hc3 : k1_cond3 i = 1#1) (o : Fin 2 → ℕ) (h : ∀ a, o a + S4096x1024.size a ≤ S16384x4096.size a) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ flight c fw o h ∗ owes (c : Thread nD τ) 0 W
        ∗ (iprop(left c arg2 arg4 arg5 arg6 arg7 arg8 x xd y yd (panR c fw o h)
            ∗ flight c fw (k1_off2 i) (k1_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc1_ffn_down_eq_skeleton]; unfold cc1_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HS, HW⟩, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_B.sl.v27 c fw o h fF = k1_pay1 (panR c fw o h) := by
    unfold run_B.sl.v27 run_B.sl.HB_1
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_B.sl.HB_1 c fw o h fF) = k1_pay1 (panR c fw o h) := by
        unfold run_B.sl.HB_1
        rw [cast_left, load_flight]; try rfl
      rw [e2]; iexact HB
  isplitl [HS HW]
  · unfold run_B.sl.dma3; iexists _; isplitl [HS]; · iexact HS
    iexact HW
  iexists _; iexact HO

set_option maxHeartbeats 2000000 in
/-- The last panel's first row: the panel is waited for and cast, and no copy is started. -/
theorem run_C (hc1 : k1_cond1 i = 1#1) (hc2 : ¬ k1_cond2 i = 1#1) (hc3 : ¬ k1_cond3 i = 1#1) (o : Fin 2 → ℕ) (h : ∀ a, o a + S4096x1024.size a ≤ S16384x4096.size a) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ flight c fw o h ∗ owes (c : Thread nD τ) 0 W
        ∗ (iprop(left c arg2 arg4 arg5 arg6 arg7 arg8 x xd y yd (panR c fw o h)
            ∗ ((∃ f, pt (F := F) c mF f) ∗ semVal ((c : Thread nD τ), osm) 0 ∗ pt c mW fw)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc1_ffn_down_eq_skeleton]; unfold cc1_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HS, HW⟩, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_C.sl.v27 c fw o h fF = k1_pay1 (panR c fw o h) := by
    unfold run_C.sl.v27 run_C.sl.HB_1
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_C.sl.HB_1 c fw o h fF) = k1_pay1 (panR c fw o h) := by
        unfold run_C.sl.HB_1
        rw [cast_left, load_flight]; try rfl
      rw [e2]; iexact HB
  isplitl [HS HW HS_dst]
  · isplitl [HS_dst]; · iexists _; iexact HS_dst
    isplitl [HS]; · iexact HS
    iexact HW
  iexists _; iexact HO

end Cert.Down1
end
-- ==== Proof.DownFrame1.lean ====
/-
  The second call of `ffn_down`: what is held between points (the panel in use cast, the next one on its way), what each
  block holds after a point, and the body at every point.
-/
module

public import proofs.«01_k».proof.Proof.DownRun1

@[expose] public section

set_option maxRecDepth 16384

noncomputable section

namespace Cert.Down1

open Cert.Kernel3Ideal Cert.Kernel3Ideal.Gen Cert.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : Ent F)

/-- The buffers as the call finds them. -/
abbrev V (c : Dev nD) (b : Ref sig .tc) : Buf (Elt F) ((c : Thread nD τ).loc b) := m c (Proc.devRef .tc b)

/-- The call's one DMA cell, of its own. -/
abbrev osem1 : Fin 1 → SemLoc sig := ![osm]
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = semVal ((c : Thread nD τ), osm) 0 := by
  rw [Pipeline.ownSems0_eq_of_list c osem1 [0] (by decide) (by decide)]; rfl

theorem hH0 : Pipeline.hbmRefs (τ := τ) H0 ⊆ Pipeline.ucRefs τ sig \ Pipeline.arrRefs spec1 := by decide

/-- What the call does not touch: the scoped buffers of the other calls, and the generator's register. -/
def Rst (F : FTy → Type) (c : Dev nD) : sProp (MT nD τ sig Unit (Elt F) ℕ (Pipeline.UD sig nD τ) ℕ) :=
  iprop(Pipeline.scopedRestBut (Ix := Unit) (Name := ℕ) (U := Pipeline.UD sig nD τ) (Lvl := ℕ) (Val := Elt F) spec1 c [cc1_scratch0, cc1_scratch1] ∗ ∃ r, prngReg c r)

theorem PhiD1_eq (c : Dev nD) :
    (Pipeline.ΦD osem1 spec1 H0 (V m) c : sProp 𝕄)
      = iprop((((∃ f, pt (F := F) c mF f) ∗ (∃ f, pt (F := F) c mB f))
          ∗ Pipeline.scopedRestBut (Ix := Unit) (Name := ℕ) (U := Pipeline.UD sig nD τ) (Lvl := ℕ) (Val := Elt F) spec1 c [cc1_scratch0, cc1_scratch1]) ∗ (∃ r, prngReg c r)
          ∗ semVal ((c : Thread nD τ), osm) 0 ∗ pt c mW (V m c main_arg2)) := by
  rw [Pipeline.ΦD_eq, scopedRest1_split, ownSems01_eq, hbmPts_eq c (V m)]

/-! ## The schedule -/

theorem N0 : cfg1.N = 64 := N_1

/-- The panel of a point. -/
def jOf (t : Fin cfg1.N) : Fin 4 := ⟨t.1 / 16, by have h : t.1 < 64 := lt_of_lt_of_eq t.isLt N0; omega⟩

/-- When each branch of the body is taken, and where it reads. -/
theorem conds : ∀ t : Fin cfg1.N, (k1_cond1 (grid1.coords t) = 1#1 ↔ t.1 % 16 = 0) ∧ (k1_cond2 (grid1.coords t) = 1#1 ↔ t.1 / 16 = 0)
    ∧ (k1_cond3 (grid1.coords t) = 1#1 ↔ t.1 / 16 + 1 < 4) ∧ (grid1.coords t 0).val = t.1 / 16 :=
  (by decide +kernel : ∀ t : Fin grid1.N, (k1_cond1 (grid1.coords t) = 1#1 ↔ t.1 % 16 = 0) ∧ (k1_cond2 (grid1.coords t) = 1#1 ↔ t.1 / 16 = 0)
    ∧ (k1_cond3 (grid1.coords t) = 1#1 ↔ t.1 / 16 + 1 < 4) ∧ (grid1.coords t 0).val = t.1 / 16)

/-- A panel's offsets in the weights. -/
abbrev pOff (j : ℕ) : Fin 2 → ℕ := ![4096, 1024 * j]
theorem pInb {j : ℕ} (h : j < 4) : ∀ a, pOff j a + S4096x1024.size a ≤ S16384x4096.size a := by
  intro a
  fin_cases a
  · show 4096 + 4096 ≤ 16384
    omega
  · show 1024 * j + 1024 ≤ 4096
    omega

/-- A panel of the weights. -/
def panJ (c : Dev nD) (j : Fin 4) : Vec F S4096x1024 .f32 := panR c (V m c main_arg2) (pOff j) (pInb j.isLt)

theorem flight_congr (c : Dev nD) (fw : BufOf F c mW) {o o' : Fin 2 → ℕ} (e : o = o') (h h') : flight c fw o h = flight c fw o' h' := by
  subst e; rfl

/-! ## What is held between points -/

/-- The panel after `j`'s on its way; after the last panel's start, nothing. -/
def next (c : Dev nD) (j : Fin 4) : sProp 𝕄 :=
  if h : j.1 + 1 < 4 then flight c (V m c main_arg2) (pOff (j.1 + 1)) (pInb h)
  else iprop((∃ f, pt (F := F) c mF f) ∗ semVal ((c : Thread nD τ), osm) 0 ∗ pt c mW (V m c main_arg2))

/-- After a point: the panel in use, cast; the next on its way; what the call does not touch. -/
def St (c : Dev nD) (t : Fin cfg1.N) : sProp 𝕄 :=
  iprop(pt c mB (k1_pay1 (panJ m c (jOf t))) ∗ next m c (jOf t) ∗ Rst F c)

def Phi (c : Dev nD) (n : Fin (cfg1.N + 1)) : sProp 𝕄 :=
  if h : n.1 = 0 then Pipeline.ΦD osem1 spec1 H0 (V m) c else St m c ⟨n.1 - 1, by have := n.isLt; omega⟩

theorem Phi_zero (c : Dev nD) (n : Fin (cfg1.N + 1)) (h : n.1 = 0) : Phi m c n = Pipeline.ΦD osem1 spec1 H0 (V m) c := dif_pos h
theorem Phi_pos (c : Dev nD) (n : Fin (cfg1.N + 1)) (h : n.1 ≠ 0) :
    Phi m c n = St m c ⟨n.1 - 1, by have := n.isLt; omega⟩ := dif_neg h
theorem Phi_succ (c : Dev nD) (t : Fin cfg1.N) : Phi m c t.succ = St m c t := dif_neg (Nat.succ_ne_zero _)

/-! ## The proof data -/

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

def dat (c : Dev nD) : Dat τ (Elt F) Unit ℕ (Pipeline.UD sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => k1_pay3 (iblk m c 0 t) (k1_pay1 (panJ m c (jOf t))) (iblk m c 2 t)
    | ⟨5, _⟩ => k1_pay2 (iblk m c 1 t) (k1_pay1 (panJ m c (jOf t))) (iblk m c 3 t)
  Φ n := Phi m c n
  q _ := fullShare
  owed _ := 0

theorem A_eq (c : Dev nD) (w : Fin cfg1.W) : (dat m c).A w = V m c (Pipeline.arrRef spec1 w) := by
  dsimp only [dat]
theorem after0 (c : Dev nD) (t : Fin cfg1.N) : (dat m c).after 0 t = iblk m c 0 t := by dsimp only [dat]
theorem after1 (c : Dev nD) (t : Fin cfg1.N) : (dat m c).after 1 t = iblk m c 1 t := by dsimp only [dat]
theorem after2 (c : Dev nD) (t : Fin cfg1.N) : (dat m c).after 2 t = iblk m c 2 t := by dsimp only [dat]
theorem after3 (c : Dev nD) (t : Fin cfg1.N) : (dat m c).after 3 t = iblk m c 3 t := by dsimp only [dat]
theorem after4 (c : Dev nD) (t : Fin cfg1.N) : (dat m c).after 4 t = k1_pay3 (iblk m c 0 t) (k1_pay1 (panJ m c (jOf t))) (iblk m c 2 t) := by dsimp only [dat]
theorem after5 (c : Dev nD) (t : Fin cfg1.N) : (dat m c).after 5 t = k1_pay2 (iblk m c 1 t) (k1_pay1 (panJ m c (jOf t))) (iblk m c 3 t) := by dsimp only [dat]

theorem before0 (c : Dev nD) (t : Fin cfg1.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat m c).before 2 t d = iblk m c 2 t :=
  ((dat m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat m c).before 3 t d = iblk m c 3 t :=
  ((dat m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The decode rows' block is the same at every point. -/
theorem iblk1 (c : Dev nD) (t t' : Fin cfg1.N) : iblk m c 1 t = iblk m c 1 t' := rfl

/-- What is added to their product is the same at every row of a panel. -/
theorem iblk3 (c : Dev nD) (t t' : Fin cfg1.N) (h : jOf t = jOf t') : iblk m c 3 t = iblk m c 3 t' := by
  have e : (cfg1.win 3).index t = (cfg1.win 3).index t' := by
    have hc : (grid1.coords t 0).val = (grid1.coords t' 0).val := by
      rw [(conds t).2.2.2, (conds t').2.2.2]; exact congrArg Fin.val h
    show cc1_transform_4 (grid1.coords t) = cc1_transform_4 (grid1.coords t')
    unfold cc1_transform_4
    rw [hc]
  have f := (dat m c).fetched_congr 3 e rfl (iblk m c 3 t)
  unfold Dat.fetched Dat.blockOf at f
  rw [A_eq] at f
  exact f

theorem idle5 (t : Fin cfg1.N) : cfg1.idle 5 (cfg1.grid.coords t) = true ↔ t.1 % 16 ≠ 0 := by
  show (!(k1_cond1 (grid1.coords t) == 1#1)) = true ↔ _
  have h := not_congr (conds t).1
  refine Iff.trans ?_ h
  simp

theorem flush5 (t : Fin cfg1.N) : (cfg1.win 5).flush t = false ↔ t.1 % 16 ≠ 15 := by
  have h := not_congr (flush1_5 t)
  refine Iff.trans ?_ h
  simp

/-- Past a panel's first row the decode rows' result is held. -/
theorem before5 (c : Dev nD) (n : ℕ) : ∀ (hn : n < cfg1.N), n % 16 ≠ 0 → ∀ d, (dat m c).before 5 ⟨n, hn⟩ d = (dat m c).after 5 ⟨n, hn⟩ := by
  induction n with
  | zero => intro _ h; exact absurd rfl h
  | succ k ih =>
    intro hn h d
    have hk : k < cfg1.N := by omega
    have hj : jOf ⟨k, hk⟩ = jOf ⟨k + 1, hn⟩ := Fin.ext (show k / 16 = (k + 1) / 16 by omega)
    have hfl : (cfg1.win 5).flush ⟨k, hk⟩ = false := (flush5 ⟨k, hk⟩).mpr (show k % 16 ≠ 15 by omega)
    have e : (dat m c).after 5 ⟨k, hk⟩ = (dat m c).after 5 ⟨k + 1, hn⟩ := by
      rw [after5, after5, hj, iblk1 m c _ ⟨k + 1, hn⟩, iblk3 m c _ ⟨k + 1, hn⟩ hj]
    rw [(dat m c).before_of_pos 5 ⟨k + 1, hn⟩ (Nat.succ_ne_zero _) ((cfg1.win 5).fetch_out rfl _)]
    refine (if_neg (by show ¬ (cfg1.win 5).flush ⟨k, hk⟩ = true; rw [hfl]; exact Bool.false_ne_true)).trans ?_
    refine Eq.trans ?_ e
    show (dat m c).left 5 ⟨k, hk⟩ d = _
    unfold Dat.left
    cases hi : cfg1.idle 5 (cfg1.grid.coords ⟨k, hk⟩)
    · rfl
    · exact ih hk ((idle5 ⟨k, hk⟩).mp hi) d

/-- The staging buffers of a point: the rows' block, the decode rows, what is added to the product of each, the two results' blocks. -/
abbrev ms1_0 (t : Fin cfg1.N) : Memref sig .tc .vmem S512x4096 .bf16 := win1_0.stage (cfg1.slots t 0)
abbrev ms1_1 (t : Fin cfg1.N) : Memref sig .tc .vmem S256x4096 .bf16 := win1_1.stage (cfg1.slots t 1)
abbrev ms1_2 (t : Fin cfg1.N) : Memref sig .tc .vmem S512x1024 .f32 := win1_2.stage (cfg1.slots t 2)
abbrev ms1_3 (t : Fin cfg1.N) : Memref sig .tc .vmem S256x1024 .f32 := win1_3.stage (cfg1.slots t 3)
abbrev ms1_4 (t : Fin cfg1.N) : Memref sig .tc .vmem S512x1024 .f32 := win1_4.stage (cfg1.slots t 4)
abbrev ms1_5 (t : Fin cfg1.N) : Memref sig .tc .vmem S256x1024 .f32 := win1_5.stage (cfg1.slots t 5)

/-- The decode rows' result, held or just written, is what the point leaves. -/
theorem leaves5 (c : Dev nD) (t : Fin cfg1.N) :
    (owns (Ix := Unit) (Name := ℕ) (U := Pipeline.UD sig nD τ) (Lvl := ℕ) (c : Thread nD τ) (ms1_5 t) fullShare ((dat m c).after 5 t) : sProp 𝕄)
      ⊢ (dat m c).leavesExact 5 t := by
  unfold Dat.leavesExact
  cases hi : cfg1.idle 5 (cfg1.grid.coords t)
  · exact .rfl
  · cases hf : (cfg1.win 5).flush t
    · have hb := before5 m c t.1 t.isLt ((idle5 t).mp hi) ((dat m c).after 5 t)
      show _ ⊢ iprop(∃ d, owns (c : Thread nD τ) (ms1_5 t) fullShare ((dat m c).before 5 t d))
      iintro H
      iexists (dat m c).after 5 t
      rw [show (dat m c).before 5 t ((dat m c).after 5 t) = (dat m c).after 5 t from hb]
      iexact H
    · exact .rfl

/-! ## The body at every point -/

def bodyPre (c : Dev nD) (t : Fin cfg1.N) : sProp 𝕄 :=
  iprop((dat m c).Φ t.castSucc ∗ (dat m c).owesAt () t.castSucc
    ∗ (∃ d, owns (c : Thread nD τ) (ms1_0 t) fullShare ((dat m c).before 0 t d))
    ∗ (∃ d, owns (c : Thread nD τ) (ms1_1 t) fullShare ((dat m c).before 1 t d))
    ∗ (∃ d, owns (c : Thread nD τ) (ms1_2 t) fullShare ((dat m c).before 2 t d))
    ∗ (∃ d, owns (c : Thread nD τ) (ms1_3 t) fullShare ((dat m c).before 3 t d))
    ∗ (∃ d, owns (c : Thread nD τ) (ms1_4 t) fullShare ((dat m c).before 4 t d))
    ∗ (∃ d, owns (c : Thread nD τ) (ms1_5 t) fullShare ((dat m c).before 5 t d)))

def bodyPost (c : Dev nD) (t : Fin cfg1.N) : sProp 𝕄 :=
  iprop((dat m c).Φ t.succ ∗ (dat m c).owesAt () t.succ
    ∗ owns (c : Thread nD τ) (ms1_0 t) fullShare ((dat m c).after 0 t)
    ∗ owns (c : Thread nD τ) (ms1_1 t) fullShare ((dat m c).after 1 t)
    ∗ owns (c : Thread nD τ) (ms1_2 t) fullShare ((dat m c).after 2 t)
    ∗ owns (c : Thread nD τ) (ms1_3 t) fullShare ((dat m c).after 3 t)
    ∗ owns (c : Thread nD τ) (ms1_4 t) fullShare ((dat m c).after 4 t)
    ∗ (dat m c).leavesExact 5 t)

/-- The triple of the body at a point. -/
abbrev Sound (c : Dev nD) (t : Fin cfg1.N) : Prop :=
  bodyPre m c t ⊢ wp frame (wpE (defs₀ (F := F)) Variants.none c none) Set.univ (bodyAt1 t) (fun _ => bodyPost m c t)

/-- A panel is the window of the weights at any offsets equal to its own. -/
theorem panJ_of (c : Dev nD) (j : Fin 4) (o : Fin 2 → ℕ) (h) (e : o = pOff j.1) : panR c (V m c main_arg2) o h = panJ m c j := by
  subst e; rfl

theorem off2 (t : Fin cfg1.N) : k1_off2 (grid1.coords t) = pOff ((jOf t).1 + 1) := by
  rw [k1_off2_eq, (conds t).2.2.2]
  rfl

/-- The copy started at a panel's first row is of the next panel. -/
theorem next_of (c : Dev nD) (t : Fin cfg1.N) (h : t.1 / 16 + 1 < 4) (h') :
    flight c (V m c main_arg2) (k1_off2 (grid1.coords t)) h' = next m c (jOf t) := by
  unfold next
  rw [dif_pos (show (jOf t).1 + 1 < 4 from h)]
  exact flight_congr c _ (off2 t) _ _

theorem next_last (c : Dev nD) (t : Fin cfg1.N) (h : ¬ t.1 / 16 + 1 < 4) :
    next m c (jOf t) = iprop((∃ f, pt (F := F) c mF f) ∗ semVal ((c : Thread nD τ), osm) 0 ∗ pt c mW (V m c main_arg2)) :=
  dif_neg h

/-- At a later panel's first row the panel is on its way. -/
theorem Phi_first (c : Dev nD) (t : Fin cfg1.N) (h8 : t.1 % 16 = 0) (h : ¬ t.1 / 16 = 0) :
    ∃ w, (dat m c).Φ t.castSucc
      = iprop(pt c mB w ∗ flight c (V m c main_arg2) (pOff (jOf t).1) (pInb (jOf t).isLt) ∗ Rst F c) := by
  have hN : t.1 < 64 := lt_of_lt_of_eq t.isLt N0
  have hlt : t.1 - 1 < cfg1.N := by omega
  refine ⟨k1_pay1 (panJ m c (jOf ⟨t.1 - 1, hlt⟩)), (Phi_pos m c t.castSucc (show t.1 ≠ 0 by omega)).trans ?_⟩
  have hj : (jOf ⟨t.1 - 1, hlt⟩).1 + 1 = (jOf t).1 := by
    show (t.1 - 1) / 16 + 1 = t.1 / 16
    omega
  show St m c ⟨t.1 - 1, hlt⟩ = _
  unfold St next
  rw [dif_pos (by rw [hj]; exact (jOf t).isLt)]
  rw [flight_congr c (V m c main_arg2) (congrArg pOff hj) _ (pInb (jOf t).isLt)]

/-- At any other row the panel in use is its own. -/
theorem Phi_row (c : Dev nD) (t : Fin cfg1.N) (h8 : ¬ t.1 % 16 = 0) : (dat m c).Φ t.castSucc = St m c t := by
  have hN : t.1 < 64 := lt_of_lt_of_eq t.isLt N0
  refine (Phi_pos m c t.castSucc (show t.1 ≠ 0 by omega)).trans ?_
  unfold St
  have hj : jOf ⟨t.castSucc.1 - 1, by have := t.castSucc.isLt; have : t.castSucc.1 = t.1 := rfl; omega⟩ = jOf t := Fin.ext (by
    show (t.1 - 1) / 16 = t.1 / 16
    omega)
  rw [hj]

set_option maxHeartbeats 1000000 in
/-- The first point. -/
theorem sound_A (c : Dev nD) (t : Fin cfg1.N) (h8 : t.1 % 16 = 0) (hd : t.1 / 16 = 0) : Sound m c t := by
  have hc1 := (conds t).1.mpr h8
  have hc2 := (conds t).2.1.mpr hd
  have hc3 := (conds t).2.2.1.mpr (by omega)
  have hp := panJ_of m c (jOf t) ![4096, 0] inb_S16384x4096_S4096x1024_4096_0 (by show _ = ![4096, 1024 * (t.1 / 16)]; rw [hd])
  have hn := next_of m c t (by omega) (k1_off2_inb (grid1.coords t) hc1 hc3)
  unfold Sound bodyPre bodyPost bodyAt1
  rw [show (dat m c).Φ t.castSucc = _ from Phi_zero m c t.castSucc (show t.1 = 0 by omega), PhiD1_eq,
    show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨⟨⟨HF, HB⟩, Hr⟩, Hg, Hs, Hw⟩, ⟨%W, -, HW⟩, ⟨%d0, H0⟩, ⟨%d1, H1⟩, ⟨%d2, H2⟩, ⟨%d3, H3⟩, ⟨%d4, H4⟩, ⟨%d5, H5⟩⟩
  iapply (run_A c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) (ms1_5 t) (hstage1_5 ((cfg1.slots t 5).cast nbuf1_5)) (iblk m c 0 t) (iblk m c 1 t) (iblk m c 2 t) (iblk m c 3 t) (V m c main_arg2) hc1 hc2 hc3 W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexact HB
  isplitl [HF]; · iexact HF
  isplitl [Hs]; · iexact Hs
  isplitl [Hw]; · iexact Hw
  rw [hn, hp]
  isplitl [HW]; · iexact HW
  iintro ⟨⟨H0, H1, H2, H3, H4, H5, HB⟩, HN, ⟨%W', HW'⟩⟩
  isplitl [HB HN Hr Hg]
  · isplitl [HB]; · iexact HB
    isplitl [HN]; · iexact HN
    unfold Rst
    isplitl [Hr]; · iexact Hr
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- A later panel's first row, the last panel's excepted. -/
theorem sound_B (c : Dev nD) (t : Fin cfg1.N) (h8 : t.1 % 16 = 0) (hd : ¬ t.1 / 16 = 0) (h3 : t.1 / 16 + 1 < 4) : Sound m c t := by
  have hc1 := (conds t).1.mpr h8
  have hc2 : ¬ k1_cond2 (grid1.coords t) = 1#1 := fun h => hd ((conds t).2.1.mp h)
  have hc3 : k1_cond3 (grid1.coords t) = 1#1 := (conds t).2.2.1.mpr h3
  have hp := panJ_of m c (jOf t) (pOff (jOf t).1) (pInb (jOf t).isLt) rfl
  have hn := next_of m c t h3 (k1_off2_inb (grid1.coords t) hc1 hc3)
  obtain ⟨w, hw⟩ := Phi_first m c t h8 hd
  unfold Sound bodyPre bodyPost bodyAt1
  rw [hw, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨HB, HF, Hg⟩, ⟨%W, -, HW⟩, ⟨%d0, H0⟩, ⟨%d1, H1⟩, ⟨%d2, H2⟩, ⟨%d3, H3⟩, ⟨%d4, H4⟩, ⟨%d5, H5⟩⟩
  iapply (run_B c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) (ms1_5 t) (hstage1_5 ((cfg1.slots t 5).cast nbuf1_5)) (iblk m c 0 t) (iblk m c 1 t) (iblk m c 2 t) (iblk m c 3 t) (V m c main_arg2) hc1 hc2 hc3 (pOff (jOf t).1) (pInb (jOf t).isLt) W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexists _; iexact HB
  isplitl [HF]; · iexact HF
  rw [hn, hp]
  isplitl [HW]; · iexact HW
  iintro ⟨⟨H0, H1, H2, H3, H4, H5, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- The last panel's first row. -/
theorem sound_C (c : Dev nD) (t : Fin cfg1.N) (h8 : t.1 % 16 = 0) (hd : ¬ t.1 / 16 = 0) (h3 : ¬ t.1 / 16 + 1 < 4) : Sound m c t := by
  have hc1 := (conds t).1.mpr h8
  have hc2 : ¬ k1_cond2 (grid1.coords t) = 1#1 := fun h => hd ((conds t).2.1.mp h)
  have hc3 : ¬ k1_cond3 (grid1.coords t) = 1#1 := fun h => h3 ((conds t).2.2.1.mp h)
  have hp := panJ_of m c (jOf t) (pOff (jOf t).1) (pInb (jOf t).isLt) rfl
  have hn := next_last m c t h3
  obtain ⟨w, hw⟩ := Phi_first m c t h8 hd
  unfold Sound bodyPre bodyPost bodyAt1
  rw [hw, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨HB, HF, Hg⟩, ⟨%W, -, HW⟩, ⟨%d0, H0⟩, ⟨%d1, H1⟩, ⟨%d2, H2⟩, ⟨%d3, H3⟩, ⟨%d4, H4⟩, ⟨%d5, H5⟩⟩
  iapply (run_C c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) (ms1_5 t) (hstage1_5 ((cfg1.slots t 5).cast nbuf1_5)) (iblk m c 0 t) (iblk m c 1 t) (iblk m c 2 t) (iblk m c 3 t) (V m c main_arg2) hc1 hc2 hc3 (pOff (jOf t).1) (pInb (jOf t).isLt) W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexists _; iexact HB
  isplitl [HF]; · iexact HF
  rw [hn, hp]
  isplitl [HW]; · iexact HW
  iintro ⟨⟨H0, H1, H2, H3, H4, H5, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- Any other row of a panel. -/
theorem sound_D (c : Dev nD) (t : Fin cfg1.N) (h8 : ¬ t.1 % 16 = 0) : Sound m c t := by
  have hc1 : ¬ k1_cond1 (grid1.coords t) = 1#1 := fun h => h8 ((conds t).1.mp h)
  have hb : ∀ d, (dat m c).before 5 t d = (dat m c).after 5 t := before5 m c t.1 t.isLt h8
  unfold Sound bodyPre bodyPost bodyAt1
  rw [Phi_row m c t h8, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3, hb]
  iintro ⟨⟨HB, HN, Hg⟩, ⟨%W, -, HW⟩, ⟨%d0, H0⟩, ⟨%d1, H1⟩, ⟨%d2, H2⟩, ⟨%d3, H3⟩, ⟨%d4, H4⟩, ⟨%d5, H5⟩⟩
  iapply (run_D c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) (ms1_5 t) (hstage1_5 ((cfg1.slots t 5).cast nbuf1_5)) (iblk m c 0 t) (iblk m c 2 t) (k1_pay1 (panJ m c (jOf t))) hc1 _)
  isplitl [H0]; · iexact H0
  isplitl [H2]; · iexact H2
  isplitl [H4]; · iexists _; iexact H4
  isplitl [HB]; · iexact HB
  iintro ⟨H0, H2, H4, HB⟩
  isplitl [HB HN Hg]
  · isplitl [HB]; · iexact HB
    isplitl [HN]; · iexact HN
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iapply (leaves5 m c t)
  iexact H5

/-- The body at every point. -/
theorem sound_body (c : Dev nD) (t : Fin cfg1.N) : Sound m c t := by
  by_cases h8 : t.1 % 16 = 0
  · by_cases hd : t.1 / 16 = 0
    · exact sound_A m c t h8 hd
    · by_cases h3 : t.1 / 16 + 1 < 4
      · exact sound_B m c t h8 hd h3
      · exact sound_C m c t h8 hd h3
  · exact sound_D m c t h8

theorem defs₀_row (t : Fin cfg1.N) : defs₀ (F := F) .tc cfg1.body (cfg1.bodyArgs t (cfg1.slots t)) = bodyAt1 t := by
  unfold defs₀; rw [Defs.onTc_tc]

theorem body_obligation (c : Dev nD) : BodyObligation (dat (F := F) m c) (defs₀ (F := F)) Variants.none () Set.univ := fun t => by
  rw [bigSep_W1, bigSep_W1, defs₀_row]
  exact triple_restated (sound_body m c t) rfl .rfl fun _ => .rfl

/-! ## The end -/

/-- The last point leaves nothing under way. -/
theorem Phi_out (c : Dev nD) : (dat m c).Φ (Fin.last cfg1.N) ⊢ Pipeline.ΦD osem1 spec1 H0 (V m) c := by
  have hlt : 63 < cfg1.N := by rw [N0]; omega
  have e : (dat m c).Φ (Fin.last cfg1.N) = St m c ⟨63, hlt⟩ :=
    (Phi_pos m c (Fin.last cfg1.N) (show cfg1.N ≠ 0 by rw [N0]; omega)).trans (congrArg (St m c) (Fin.ext (show cfg1.N - 1 = 63 from congrArg (· - 1) N0)))
  rw [e, PhiD1_eq]
  unfold St Rst
  rw [next_last m c ⟨63, hlt⟩ (by show ¬ 63 / 16 + 1 < 4; omega)]
  iintro ⟨HB, ⟨HF, Hs, Hw⟩, Hr, Hg⟩
  isplitl [HF HB Hr]
  · isplitl [HF HB]
    · isplitl [HF]; · iexact HF
      iexists _; iexact HB
    iexact Hr
  isplitl [Hg]; · iexact Hg
  isplitl [Hs]; · iexact Hs
  iexact Hw

end Cert.Down1
end
-- ==== Proof.DownRun2.lean ====
/-
  The body of the third call of `ffn_down` run at a point, in its four cases: the first point, a later first row of a
  panel, the first row of the last panel, and any other row.
-/
module

public import proofs.«01_k».proof.Proof.DownBase

@[expose] public section

set_option maxRecDepth 16384

noncomputable section

namespace Cert.Down2

open Cert.Kernel3Ideal Cert.Kernel3Ideal.Gen Cert.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The panel being copied; the panel in use, cast. -/
abbrev mF : Memref sig .tc .vmem S4096x1024 .f32 := Memref.whole cc2_scratch0
abbrev mB : Memref sig .tc .vmem S4096x1024 .bf16 := Memref.whole cc2_scratch1

/-- The call's one DMA cell. -/
abbrev osm : SemLoc sig := SemLoc.dma 35

/-- The panel at `o` on its way into the panel buffer, and the rest of the weights. -/
def flight (c : Dev nD) (fw : BufOf F c mW) (o : Fin 2 → ℕ) (h : ∀ a, o a + S4096x1024.size a ≤ S16384x4096.size a) : sProp 𝕄 :=
  iprop(∃ f0 : BufOf F c mF, Transfers.Flight countersEmb (c : Thread nD τ) osm () 524288
      iprop((mF.view.loc (c : Thread nD τ) ↦{fullShare} mF.view.write (Elt F) f0 (ReadAs.same.apply ((pan o h).view.read (Elt F) fw)) Finset.univ)
        ∗ (mW.view.loc (c : Thread nD τ) ↦[(pan o h).view.set]{fullShare} fw))
    ∗ (mW.view.loc (c : Thread nD τ) ↦[Finset.univ \ (pan o h).view.set]{fullShare} fw))

variable (c : Dev nD) (i : grid2.Coords)
  (arg2 : Memref sig .tc .vmem S512x4096 .bf16) (harg2 : arg2.IsWhole) (arg4 : Memref sig .tc .vmem S256x4096 .bf16) (harg4 : arg4.IsWhole)
  (arg5 : Memref sig .tc .vmem S512x1024 .f32) (harg5 : arg5.IsWhole) (arg6 : Memref sig .tc .vmem S256x1024 .f32) (harg6 : arg6.IsWhole)
  (arg7 : Memref sig .tc .vmem S512x1024 .f32) (harg7 : arg7.IsWhole) (arg8 : Memref sig .tc .vmem S256x1024 .f32) (harg8 : arg8.IsWhole)
  (x : Vec F S512x4096 .bf16) (xd : Vec F S256x4096 .bf16) (y : Vec F S512x1024 .f32) (yd : Vec F S256x1024 .f32) (w : BufOf F c mB) (fw : BufOf F c mW)

/-- The body at a point of this program. -/
abbrev body : Prog (TpuEff nD τ sig (Elt F) Λ₀ .tc) PUnit :=
  cc2_ffn_down i arg2 harg2 mW (Memref.isWhole_whole _) arg4 harg4 arg5 harg5 arg6 harg6 arg7 harg7 arg8 harg8 mF (Memref.isWhole_whole _) mB (Memref.isWhole_whole _) cc2_scratch2

set_option maxHeartbeats 1000000 in
/-- A row that is not a panel's first: only the block product is stored. -/
theorem run_D (hc1 : ¬ k2_cond1 i = 1#1) (K : PUnit → sProp 𝕄) :
    iprop(owns (c : Thread nD τ) arg2 fullShare x ∗ owns (c : Thread nD τ) arg5 fullShare y ∗ (∃ d, owns (c : Thread nD τ) arg7 fullShare d) ∗ pt c mB w
        ∗ (iprop(owns (c : Thread nD τ) arg2 fullShare x ∗ owns (c : Thread nD τ) arg5 fullShare y ∗ owns (c : Thread nD τ) arg7 fullShare (k2_pay3 x w y) ∗ pt c mB w) -∗ K ⟨⟩))
      ⊢ wp frame (wpE (defs₀ (F := F)) Variants.none c none) Set.univ (body i arg2 harg2 arg4 harg4 arg5 harg5 arg6 harg6 arg7 harg7 arg8 harg8) K := by
  unfold body
  simp only [cc2_ffn_down_eq_skeleton]; unfold cc2_ffn_down_skel
  unfold owns
  iintro ⟨⟨%f2, %hf2, H2⟩, ⟨%f5, %hf5, H5⟩, ⟨%d7, %f7, -, H7⟩, HB, Hk⟩
  obtain rfl := harg2.eq_unread hf2
  obtain rfl := harg5.eq_unread hf5
  sl_exec (disch := first | sl_exact hc1)
  sl_step
  iapply Hk
  isplitl [H2]
  · iexists _; isplitr; · ipureintro; exact harg2.read_unread _
    iexact H2
  isplitl [H5]
  · iexists _; isplitr; · ipureintro; exact harg5.read_unread _
    iexact H5
  isplitl [H7]
  · iexists _; isplitr; swap; · iexact H7
    ipureintro
    refine (View.read_writes_full _ _ _ _ _).trans ?_
    rw [View.readAt_full, View.readAt_full, View.readAt_full, harg2.read_unread, harg5.read_unread]
    rfl
  iexact HB

/-- What the body leaves at a panel's first row, over the panel `p`. -/
abbrev left (c : Dev nD) (arg2 : Memref sig .tc .vmem S512x4096 .bf16) (arg4 : Memref sig .tc .vmem S256x4096 .bf16)
    (arg5 : Memref sig .tc .vmem S512x1024 .f32) (arg6 : Memref sig .tc .vmem S256x1024 .f32)
    (arg7 : Memref sig .tc .vmem S512x1024 .f32) (arg8 : Memref sig .tc .vmem S256x1024 .f32)
    (x : Vec F S512x4096 .bf16) (xd : Vec F S256x4096 .bf16) (y : Vec F S512x1024 .f32) (yd : Vec F S256x1024 .f32) (p : Vec F S4096x1024 .f32) : sProp 𝕄 :=
  iprop(owns (c : Thread nD τ) arg2 fullShare x ∗ owns (c : Thread nD τ) arg4 fullShare xd
    ∗ owns (c : Thread nD τ) arg5 fullShare y ∗ owns (c : Thread nD τ) arg6 fullShare yd
    ∗ owns (c : Thread nD τ) arg7 fullShare (k2_pay3 x (k2_pay1 p) y) ∗ owns (c : Thread nD τ) arg8 fullShare (k2_pay2 xd (k2_pay1 p) yd)
    ∗ pt c mB (k2_pay1 p))

/-- The whole-buffer store of the cast panel leaves it. -/
theorem cast_left (fB : BufOf F c mB) (v : Vec F S4096x1024 .bf16) (h) :
    mB.view.writes (Elt F) fB [⟨Rect.unit (s := S4096x1024) ![0, 0] S4096x1024.size h, v⟩] = v :=
  writes_whole cc2_scratch1 fB v h

/-- What is loaded of the panel buffer after a panel was copied over all of it: the panel. -/
theorem load_flight (f0 : BufOf F c mF) (v : Vec F S4096x1024 .f32) (h) :
    mF.view.readAt (Elt F) (Rect.unit (s := S4096x1024) ![0, 0] S4096x1024.size h).toLoadRect
      (mF.view.write (Elt F) f0 (ReadAs.same.apply v) Finset.univ) = v := by
  rw [View.readAt_full, ReadAs.apply_same]
  exact congrArg (mF.view.read (Elt F)) (View.write_whole_univ cc2_scratch0 f0 v)

set_option maxHeartbeats 2000000 in
/-- The first point: panel 0 is copied and waited for, cast, and panel 1's copy started. -/
theorem run_A (hc1 : k2_cond1 i = 1#1) (hc2 : k2_cond2 i = 1#1) (hc3 : k2_cond3 i = 1#1) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ (∃ f, pt (F := F) c mF f) ∗ semVal ((c : Thread nD τ), osm) 0 ∗ pt c mW fw ∗ owes (c : Thread nD τ) 0 W
        ∗ (iprop(left c arg2 arg4 arg5 arg6 arg7 arg8 x xd y yd (panR c fw ![8192, 0] inb_S16384x4096_S4096x1024_8192_0)
            ∗ flight c fw (k2_off2 i) (k2_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc2_ffn_down_eq_skeleton]; unfold cc2_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HF⟩, HS, HW, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_A.sl.v27 c fw fF = k2_pay1 (panR c fw ![8192, 0] inb_S16384x4096_S4096x1024_8192_0) := by
    unfold run_A.sl.v27 run_A.sl.HB_1 run_A.sl.dma0
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_A.sl.HB_1 c fw fF) = k2_pay1 (panR c fw ![8192, 0] inb_S16384x4096_S4096x1024_8192_0) := by
        unfold run_A.sl.HB_1 run_A.sl.dma0
        rw [cast_left, load_flight]; try rfl
      rw [e2]; iexact HB
  isplitl [HS HW]
  · unfold run_A.sl.dma3; iexists _; isplitl [HS]; · iexact HS
    iexact HW
  iexists _; iexact HO

set_option maxHeartbeats 2000000 in
/-- A later panel's first row: the panel is waited for, cast, and the next one's copy started. -/
theorem run_B (hc1 : k2_cond1 i = 1#1) (hc2 : ¬ k2_cond2 i = 1#1) (hc3 : k2_cond3 i = 1#1) (o : Fin 2 → ℕ) (h : ∀ a, o a + S4096x1024.size a ≤ S16384x4096.size a) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ flight c fw o h ∗ owes (c : Thread nD τ) 0 W
        ∗ (iprop(left c arg2 arg4 arg5 arg6 arg7 arg8 x xd y yd (panR c fw o h)
            ∗ flight c fw (k2_off2 i) (k2_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc2_ffn_down_eq_skeleton]; unfold cc2_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HS, HW⟩, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_B.sl.v27 c fw o h fF = k2_pay1 (panR c fw o h) := by
    unfold run_B.sl.v27 run_B.sl.HB_1
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_B.sl.HB_1 c fw o h fF) = k2_pay1 (panR c fw o h) := by
        unfold run_B.sl.HB_1
        rw [cast_left, load_flight]; try rfl
      rw [e2]; iexact HB
  isplitl [HS HW]
  · unfold run_B.sl.dma3; iexists _; isplitl [HS]; · iexact HS
    iexact HW
  iexists _; iexact HO

set_option maxHeartbeats 2000000 in
/-- The last panel's first row: the panel is waited for and cast, and no copy is started. -/
theorem run_C (hc1 : k2_cond1 i = 1#1) (hc2 : ¬ k2_cond2 i = 1#1) (hc3 : ¬ k2_cond3 i = 1#1) (o : Fin 2 → ℕ) (h : ∀ a, o a + S4096x1024.size a ≤ S16384x4096.size a) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ flight c fw o h ∗ owes (c : Thread nD τ) 0 W
        ∗ (iprop(left c arg2 arg4 arg5 arg6 arg7 arg8 x xd y yd (panR c fw o h)
            ∗ ((∃ f, pt (F := F) c mF f) ∗ semVal ((c : Thread nD τ), osm) 0 ∗ pt c mW fw)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc2_ffn_down_eq_skeleton]; unfold cc2_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HS, HW⟩, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_C.sl.v27 c fw o h fF = k2_pay1 (panR c fw o h) := by
    unfold run_C.sl.v27 run_C.sl.HB_1
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_C.sl.HB_1 c fw o h fF) = k2_pay1 (panR c fw o h) := by
        unfold run_C.sl.HB_1
        rw [cast_left, load_flight]; try rfl
      rw [e2]; iexact HB
  isplitl [HS HW HS_dst]
  · isplitl [HS_dst]; · iexists _; iexact HS_dst
    isplitl [HS]; · iexact HS
    iexact HW
  iexists _; iexact HO

end Cert.Down2
end
-- ==== Proof.DownFrame2.lean ====
/-
  The third call of `ffn_down`: what is held between points (the panel in use cast, the next one on its way), what each
  block holds after a point, and the body at every point.
-/
module

public import proofs.«01_k».proof.Proof.DownRun2

@[expose] public section

set_option maxRecDepth 16384

noncomputable section

namespace Cert.Down2

open Cert.Kernel3Ideal Cert.Kernel3Ideal.Gen Cert.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : Ent F)

/-- The buffers as the call finds them. -/
abbrev V (c : Dev nD) (b : Ref sig .tc) : Buf (Elt F) ((c : Thread nD τ).loc b) := m c (Proc.devRef .tc b)

/-- The call's one DMA cell, of its own. -/
abbrev osem2 : Fin 1 → SemLoc sig := ![osm]
theorem ownSemFacts2 : Pipeline.OwnSemFacts spec2 osem2 := by decide
theorem ownSems02_eq (c : Dev nD) :
    (Pipeline.ownSems0 (Ix := Unit) (Name := ℕ) (U := Pipeline.UD sig nD τ) (Lvl := ℕ) (Val := Elt F) (τ := τ) osem2 c : sProp 𝕄)
      = semVal ((c : Thread nD τ), osm) 0 := by
  rw [Pipeline.ownSems0_eq_of_list c osem2 [0] (by decide) (by decide)]; rfl

theorem hH0 : Pipeline.hbmRefs (τ := τ) H0 ⊆ Pipeline.ucRefs τ sig \ Pipeline.arrRefs spec2 := by decide

/-- What the call does not touch: the scoped buffers of the other calls, and the generator's register. -/
def Rst (F : FTy → Type) (c : Dev nD) : sProp (MT nD τ sig Unit (Elt F) ℕ (Pipeline.UD sig nD τ) ℕ) :=
  iprop(Pipeline.scopedRestBut (Ix := Unit) (Name := ℕ) (U := Pipeline.UD sig nD τ) (Lvl := ℕ) (Val := Elt F) spec2 c [cc2_scratch0, cc2_scratch1] ∗ ∃ r, prngReg c r)

theorem PhiD2_eq (c : Dev nD) :
    (Pipeline.ΦD osem2 spec2 H0 (V m) c : sProp 𝕄)
      = iprop((((∃ f, pt (F := F) c mF f) ∗ (∃ f, pt (F := F) c mB f))
          ∗ Pipeline.scopedRestBut (Ix := Unit) (Name := ℕ) (U := Pipeline.UD sig nD τ) (Lvl := ℕ) (Val := Elt F) spec2 c [cc2_scratch0, cc2_scratch1]) ∗ (∃ r, prngReg c r)
          ∗ semVal ((c : Thread nD τ), osm) 0 ∗ pt c mW (V m c main_arg2)) := by
  rw [Pipeline.ΦD_eq, scopedRest2_split, ownSems02_eq, hbmPts_eq c (V m)]

/-! ## The schedule -/

theorem N0 : cfg2.N = 64 := N_2

/-- The panel of a point. -/
def jOf (t : Fin cfg2.N) : Fin 4 := ⟨t.1 / 16, by have h : t.1 < 64 := lt_of_lt_of_eq t.isLt N0; omega⟩

/-- When each branch of the body is taken, and where it reads. -/
theorem conds : ∀ t : Fin cfg2.N, (k2_cond1 (grid2.coords t) = 1#1 ↔ t.1 % 16 = 0) ∧ (k2_cond2 (grid2.coords t) = 1#1 ↔ t.1 / 16 = 0)
    ∧ (k2_cond3 (grid2.coords t) = 1#1 ↔ t.1 / 16 + 1 < 4) ∧ (grid2.coords t 0).val = t.1 / 16 :=
  (by decide +kernel : ∀ t : Fin grid2.N, (k2_cond1 (grid2.coords t) = 1#1 ↔ t.1 % 16 = 0) ∧ (k2_cond2 (grid2.coords t) = 1#1 ↔ t.1 / 16 = 0)
    ∧ (k2_cond3 (grid2.coords t) = 1#1 ↔ t.1 / 16 + 1 < 4) ∧ (grid2.coords t 0).val = t.1 / 16)

/-- A panel's offsets in the weights. -/
abbrev pOff (j : ℕ) : Fin 2 → ℕ := ![8192, 1024 * j]
theorem pInb {j : ℕ} (h : j < 4) : ∀ a, pOff j a + S4096x1024.size a ≤ S16384x4096.size a := by
  intro a
  fin_cases a
  · show 8192 + 4096 ≤ 16384
    omega
  · show 1024 * j + 1024 ≤ 4096
    omega

/-- A panel of the weights. -/
def panJ (c : Dev nD) (j : Fin 4) : Vec F S4096x1024 .f32 := panR c (V m c main_arg2) (pOff j) (pInb j.isLt)

theorem flight_congr (c : Dev nD) (fw : BufOf F c mW) {o o' : Fin 2 → ℕ} (e : o = o') (h h') : flight c fw o h = flight c fw o' h' := by
  subst e; rfl

/-! ## What is held between points -/

/-- The panel after `j`'s on its way; after the last panel's start, nothing. -/
def next (c : Dev nD) (j : Fin 4) : sProp 𝕄 :=
  if h : j.1 + 1 < 4 then flight c (V m c main_arg2) (pOff (j.1 + 1)) (pInb h)
  else iprop((∃ f, pt (F := F) c mF f) ∗ semVal ((c : Thread nD τ), osm) 0 ∗ pt c mW (V m c main_arg2))

/-- After a point: the panel in use, cast; the next on its way; what the call does not touch. -/
def St (c : Dev nD) (t : Fin cfg2.N) : sProp 𝕄 :=
  iprop(pt c mB (k2_pay1 (panJ m c (jOf t))) ∗ next m c (jOf t) ∗ Rst F c)

def Phi (c : Dev nD) (n : Fin (cfg2.N + 1)) : sProp 𝕄 :=
  if h : n.1 = 0 then Pipeline.ΦD osem2 spec2 H0 (V m) c else St m c ⟨n.1 - 1, by have := n.isLt; omega⟩

theorem Phi_zero (c : Dev nD) (n : Fin (cfg2.N + 1)) (h : n.1 = 0) : Phi m c n = Pipeline.ΦD osem2 spec2 H0 (V m) c := dif_pos h
theorem Phi_pos (c : Dev nD) (n : Fin (cfg2.N + 1)) (h : n.1 ≠ 0) :
    Phi m c n = St m c ⟨n.1 - 1, by have := n.isLt; omega⟩ := dif_neg h
theorem Phi_succ (c : Dev nD) (t : Fin cfg2.N) : Phi m c t.succ = St m c t := dif_neg (Nat.succ_ne_zero _)

/-! ## The proof data -/

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (V m c (Pipeline.arrRef spec2 w))

def dat (c : Dev nD) : Dat τ (Elt F) Unit ℕ (Pipeline.UD sig nD τ) ℕ cfg2 c where
  A w := V m c (Pipeline.arrRef spec2 w)
  after w t := match w with
    | ⟨0, _⟩ => iblk m c 0 t
    | ⟨1, _⟩ => iblk m c 1 t
    | ⟨2, _⟩ => iblk m c 2 t
    | ⟨3, _⟩ => iblk m c 3 t
    | ⟨4, _⟩ => k2_pay3 (iblk m c 0 t) (k2_pay1 (panJ m c (jOf t))) (iblk m c 2 t)
    | ⟨5, _⟩ => k2_pay2 (iblk m c 1 t) (k2_pay1 (panJ m c (jOf t))) (iblk m c 3 t)
  Φ n := Phi m c n
  q _ := fullShare
  owed _ := 0

theorem A_eq (c : Dev nD) (w : Fin cfg2.W) : (dat m c).A w = V m c (Pipeline.arrRef spec2 w) := by
  dsimp only [dat]
theorem after0 (c : Dev nD) (t : Fin cfg2.N) : (dat m c).after 0 t = iblk m c 0 t := by dsimp only [dat]
theorem after1 (c : Dev nD) (t : Fin cfg2.N) : (dat m c).after 1 t = iblk m c 1 t := by dsimp only [dat]
theorem after2 (c : Dev nD) (t : Fin cfg2.N) : (dat m c).after 2 t = iblk m c 2 t := by dsimp only [dat]
theorem after3 (c : Dev nD) (t : Fin cfg2.N) : (dat m c).after 3 t = iblk m c 3 t := by dsimp only [dat]
theorem after4 (c : Dev nD) (t : Fin cfg2.N) : (dat m c).after 4 t = k2_pay3 (iblk m c 0 t) (k2_pay1 (panJ m c (jOf t))) (iblk m c 2 t) := by dsimp only [dat]
theorem after5 (c : Dev nD) (t : Fin cfg2.N) : (dat m c).after 5 t = k2_pay2 (iblk m c 1 t) (k2_pay1 (panJ m c (jOf t))) (iblk m c 3 t) := by dsimp only [dat]

theorem before0 (c : Dev nD) (t : Fin cfg2.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat m c).before 2 t d = iblk m c 2 t :=
  ((dat m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg2.N) (d) : (dat m c).before 3 t d = iblk m c 3 t :=
  ((dat m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The decode rows' block is the same at every point. -/
theorem iblk1 (c : Dev nD) (t t' : Fin cfg2.N) : iblk m c 1 t = iblk m c 1 t' := rfl

/-- What is added to their product is the same at every row of a panel. -/
theorem iblk3 (c : Dev nD) (t t' : Fin cfg2.N) (h : jOf t = jOf t') : iblk m c 3 t = iblk m c 3 t' := by
  have e : (cfg2.win 3).index t = (cfg2.win 3).index t' := by
    have hc : (grid2.coords t 0).val = (grid2.coords t' 0).val := by
      rw [(conds t).2.2.2, (conds t').2.2.2]; exact congrArg Fin.val h
    show cc2_transform_4 (grid2.coords t) = cc2_transform_4 (grid2.coords t')
    unfold cc2_transform_4
    rw [hc]
  have f := (dat m c).fetched_congr 3 e rfl (iblk m c 3 t)
  unfold Dat.fetched Dat.blockOf at f
  rw [A_eq] at f
  exact f

theorem idle5 (t : Fin cfg2.N) : cfg2.idle 5 (cfg2.grid.coords t) = true ↔ t.1 % 16 ≠ 0 := by
  show (!(k2_cond1 (grid2.coords t) == 1#1)) = true ↔ _
  have h := not_congr (conds t).1
  refine Iff.trans ?_ h
  simp

theorem flush5 (t : Fin cfg2.N) : (cfg2.win 5).flush t = false ↔ t.1 % 16 ≠ 15 := by
  have h := not_congr (flush2_5 t)
  refine Iff.trans ?_ h
  simp

/-- Past a panel's first row the decode rows' result is held. -/
theorem before5 (c : Dev nD) (n : ℕ) : ∀ (hn : n < cfg2.N), n % 16 ≠ 0 → ∀ d, (dat m c).before 5 ⟨n, hn⟩ d = (dat m c).after 5 ⟨n, hn⟩ := by
  induction n with
  | zero => intro _ h; exact absurd rfl h
  | succ k ih =>
    intro hn h d
    have hk : k < cfg2.N := by omega
    have hj : jOf ⟨k, hk⟩ = jOf ⟨k + 1, hn⟩ := Fin.ext (show k / 16 = (k + 1) / 16 by omega)
    have hfl : (cfg2.win 5).flush ⟨k, hk⟩ = false := (flush5 ⟨k, hk⟩).mpr (show k % 16 ≠ 15 by omega)
    have e : (dat m c).after 5 ⟨k, hk⟩ = (dat m c).after 5 ⟨k + 1, hn⟩ := by
      rw [after5, after5, hj, iblk1 m c _ ⟨k + 1, hn⟩, iblk3 m c _ ⟨k + 1, hn⟩ hj]
    rw [(dat m c).before_of_pos 5 ⟨k + 1, hn⟩ (Nat.succ_ne_zero _) ((cfg2.win 5).fetch_out rfl _)]
    refine (if_neg (by show ¬ (cfg2.win 5).flush ⟨k, hk⟩ = true; rw [hfl]; exact Bool.false_ne_true)).trans ?_
    refine Eq.trans ?_ e
    show (dat m c).left 5 ⟨k, hk⟩ d = _
    unfold Dat.left
    cases hi : cfg2.idle 5 (cfg2.grid.coords ⟨k, hk⟩)
    · rfl
    · exact ih hk ((idle5 ⟨k, hk⟩).mp hi) d

/-- The staging buffers of a point: the rows' block, the decode rows, what is added to the product of each, the two results' blocks. -/
abbrev ms2_0 (t : Fin cfg2.N) : Memref sig .tc .vmem S512x4096 .bf16 := win2_0.stage (cfg2.slots t 0)
abbrev ms2_1 (t : Fin cfg2.N) : Memref sig .tc .vmem S256x4096 .bf16 := win2_1.stage (cfg2.slots t 1)
abbrev ms2_2 (t : Fin cfg2.N) : Memref sig .tc .vmem S512x1024 .f32 := win2_2.stage (cfg2.slots t 2)
abbrev ms2_3 (t : Fin cfg2.N) : Memref sig .tc .vmem S256x1024 .f32 := win2_3.stage (cfg2.slots t 3)
abbrev ms2_4 (t : Fin cfg2.N) : Memref sig .tc .vmem S512x1024 .f32 := win2_4.stage (cfg2.slots t 4)
abbrev ms2_5 (t : Fin cfg2.N) : Memref sig .tc .vmem S256x1024 .f32 := win2_5.stage (cfg2.slots t 5)

/-- The decode rows' result, held or just written, is what the point leaves. -/
theorem leaves5 (c : Dev nD) (t : Fin cfg2.N) :
    (owns (Ix := Unit) (Name := ℕ) (U := Pipeline.UD sig nD τ) (Lvl := ℕ) (c : Thread nD τ) (ms2_5 t) fullShare ((dat m c).after 5 t) : sProp 𝕄)
      ⊢ (dat m c).leavesExact 5 t := by
  unfold Dat.leavesExact
  cases hi : cfg2.idle 5 (cfg2.grid.coords t)
  · exact .rfl
  · cases hf : (cfg2.win 5).flush t
    · have hb := before5 m c t.1 t.isLt ((idle5 t).mp hi) ((dat m c).after 5 t)
      show _ ⊢ iprop(∃ d, owns (c : Thread nD τ) (ms2_5 t) fullShare ((dat m c).before 5 t d))
      iintro H
      iexists (dat m c).after 5 t
      rw [show (dat m c).before 5 t ((dat m c).after 5 t) = (dat m c).after 5 t from hb]
      iexact H
    · exact .rfl

/-! ## The body at every point -/

def bodyPre (c : Dev nD) (t : Fin cfg2.N) : sProp 𝕄 :=
  iprop((dat m c).Φ t.castSucc ∗ (dat m c).owesAt () t.castSucc
    ∗ (∃ d, owns (c : Thread nD τ) (ms2_0 t) fullShare ((dat m c).before 0 t d))
    ∗ (∃ d, owns (c : Thread nD τ) (ms2_1 t) fullShare ((dat m c).before 1 t d))
    ∗ (∃ d, owns (c : Thread nD τ) (ms2_2 t) fullShare ((dat m c).before 2 t d))
    ∗ (∃ d, owns (c : Thread nD τ) (ms2_3 t) fullShare ((dat m c).before 3 t d))
    ∗ (∃ d, owns (c : Thread nD τ) (ms2_4 t) fullShare ((dat m c).before 4 t d))
    ∗ (∃ d, owns (c : Thread nD τ) (ms2_5 t) fullShare ((dat m c).before 5 t d)))

def bodyPost (c : Dev nD) (t : Fin cfg2.N) : sProp 𝕄 :=
  iprop((dat m c).Φ t.succ ∗ (dat m c).owesAt () t.succ
    ∗ owns (c : Thread nD τ) (ms2_0 t) fullShare ((dat m c).after 0 t)
    ∗ owns (c : Thread nD τ) (ms2_1 t) fullShare ((dat m c).after 1 t)
    ∗ owns (c : Thread nD τ) (ms2_2 t) fullShare ((dat m c).after 2 t)
    ∗ owns (c : Thread nD τ) (ms2_3 t) fullShare ((dat m c).after 3 t)
    ∗ owns (c : Thread nD τ) (ms2_4 t) fullShare ((dat m c).after 4 t)
    ∗ (dat m c).leavesExact 5 t)

/-- The triple of the body at a point. -/
abbrev Sound (c : Dev nD) (t : Fin cfg2.N) : Prop :=
  bodyPre m c t ⊢ wp frame (wpE (defs₀ (F := F)) Variants.none c none) Set.univ (bodyAt2 t) (fun _ => bodyPost m c t)

/-- A panel is the window of the weights at any offsets equal to its own. -/
theorem panJ_of (c : Dev nD) (j : Fin 4) (o : Fin 2 → ℕ) (h) (e : o = pOff j.1) : panR c (V m c main_arg2) o h = panJ m c j := by
  subst e; rfl

theorem off2 (t : Fin cfg2.N) : k2_off2 (grid2.coords t) = pOff ((jOf t).1 + 1) := by
  rw [k2_off2_eq, (conds t).2.2.2]
  rfl

/-- The copy started at a panel's first row is of the next panel. -/
theorem next_of (c : Dev nD) (t : Fin cfg2.N) (h : t.1 / 16 + 1 < 4) (h') :
    flight c (V m c main_arg2) (k2_off2 (grid2.coords t)) h' = next m c (jOf t) := by
  unfold next
  rw [dif_pos (show (jOf t).1 + 1 < 4 from h)]
  exact flight_congr c _ (off2 t) _ _

theorem next_last (c : Dev nD) (t : Fin cfg2.N) (h : ¬ t.1 / 16 + 1 < 4) :
    next m c (jOf t) = iprop((∃ f, pt (F := F) c mF f) ∗ semVal ((c : Thread nD τ), osm) 0 ∗ pt c mW (V m c main_arg2)) :=
  dif_neg h

/-- At a later panel's first row the panel is on its way. -/
theorem Phi_first (c : Dev nD) (t : Fin cfg2.N) (h8 : t.1 % 16 = 0) (h : ¬ t.1 / 16 = 0) :
    ∃ w, (dat m c).Φ t.castSucc
      = iprop(pt c mB w ∗ flight c (V m c main_arg2) (pOff (jOf t).1) (pInb (jOf t).isLt) ∗ Rst F c) := by
  have hN : t.1 < 64 := lt_of_lt_of_eq t.isLt N0
  have hlt : t.1 - 1 < cfg2.N := by omega
  refine ⟨k2_pay1 (panJ m c (jOf ⟨t.1 - 1, hlt⟩)), (Phi_pos m c t.castSucc (show t.1 ≠ 0 by omega)).trans ?_⟩
  have hj : (jOf ⟨t.1 - 1, hlt⟩).1 + 1 = (jOf t).1 := by
    show (t.1 - 1) / 16 + 1 = t.1 / 16
    omega
  show St m c ⟨t.1 - 1, hlt⟩ = _
  unfold St next
  rw [dif_pos (by rw [hj]; exact (jOf t).isLt)]
  rw [flight_congr c (V m c main_arg2) (congrArg pOff hj) _ (pInb (jOf t).isLt)]

/-- At any other row the panel in use is its own. -/
theorem Phi_row (c : Dev nD) (t : Fin cfg2.N) (h8 : ¬ t.1 % 16 = 0) : (dat m c).Φ t.castSucc = St m c t := by
  have hN : t.1 < 64 := lt_of_lt_of_eq t.isLt N0
  refine (Phi_pos m c t.castSucc (show t.1 ≠ 0 by omega)).trans ?_
  unfold St
  have hj : jOf ⟨t.castSucc.1 - 1, by have := t.castSucc.isLt; have : t.castSucc.1 = t.1 := rfl; omega⟩ = jOf t := Fin.ext (by
    show (t.1 - 1) / 16 = t.1 / 16
    omega)
  rw [hj]

set_option maxHeartbeats 1000000 in
/-- The first point. -/
theorem sound_A (c : Dev nD) (t : Fin cfg2.N) (h8 : t.1 % 16 = 0) (hd : t.1 / 16 = 0) : Sound m c t := by
  have hc1 := (conds t).1.mpr h8
  have hc2 := (conds t).2.1.mpr hd
  have hc3 := (conds t).2.2.1.mpr (by omega)
  have hp := panJ_of m c (jOf t) ![8192, 0] inb_S16384x4096_S4096x1024_8192_0 (by show _ = ![8192, 1024 * (t.1 / 16)]; rw [hd])
  have hn := next_of m c t (by omega) (k2_off2_inb (grid2.coords t) hc1 hc3)
  unfold Sound bodyPre bodyPost bodyAt2
  rw [show (dat m c).Φ t.castSucc = _ from Phi_zero m c t.castSucc (show t.1 = 0 by omega), PhiD2_eq,
    show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨⟨⟨HF, HB⟩, Hr⟩, Hg, Hs, Hw⟩, ⟨%W, -, HW⟩, ⟨%d0, H0⟩, ⟨%d1, H1⟩, ⟨%d2, H2⟩, ⟨%d3, H3⟩, ⟨%d4, H4⟩, ⟨%d5, H5⟩⟩
  iapply (run_A c (grid2.coords t) (ms2_0 t) (hstage2_0 ((cfg2.slots t 0).cast nbuf2_0)) (ms2_1 t) (hstage2_1 ((cfg2.slots t 1).cast nbuf2_1)) (ms2_2 t) (hstage2_2 ((cfg2.slots t 2).cast nbuf2_2)) (ms2_3 t) (hstage2_3 ((cfg2.slots t 3).cast nbuf2_3)) (ms2_4 t) (hstage2_4 ((cfg2.slots t 4).cast nbuf2_4)) (ms2_5 t) (hstage2_5 ((cfg2.slots t 5).cast nbuf2_5)) (iblk m c 0 t) (iblk m c 1 t) (iblk m c 2 t) (iblk m c 3 t) (V m c main_arg2) hc1 hc2 hc3 W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexact HB
  isplitl [HF]; · iexact HF
  isplitl [Hs]; · iexact Hs
  isplitl [Hw]; · iexact Hw
  rw [hn, hp]
  isplitl [HW]; · iexact HW
  iintro ⟨⟨H0, H1, H2, H3, H4, H5, HB⟩, HN, ⟨%W', HW'⟩⟩
  isplitl [HB HN Hr Hg]
  · isplitl [HB]; · iexact HB
    isplitl [HN]; · iexact HN
    unfold Rst
    isplitl [Hr]; · iexact Hr
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- A later panel's first row, the last panel's excepted. -/
theorem sound_B (c : Dev nD) (t : Fin cfg2.N) (h8 : t.1 % 16 = 0) (hd : ¬ t.1 / 16 = 0) (h3 : t.1 / 16 + 1 < 4) : Sound m c t := by
  have hc1 := (conds t).1.mpr h8
  have hc2 : ¬ k2_cond2 (grid2.coords t) = 1#1 := fun h => hd ((conds t).2.1.mp h)
  have hc3 : k2_cond3 (grid2.coords t) = 1#1 := (conds t).2.2.1.mpr h3
  have hp := panJ_of m c (jOf t) (pOff (jOf t).1) (pInb (jOf t).isLt) rfl
  have hn := next_of m c t h3 (k2_off2_inb (grid2.coords t) hc1 hc3)
  obtain ⟨w, hw⟩ := Phi_first m c t h8 hd
  unfold Sound bodyPre bodyPost bodyAt2
  rw [hw, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨HB, HF, Hg⟩, ⟨%W, -, HW⟩, ⟨%d0, H0⟩, ⟨%d1, H1⟩, ⟨%d2, H2⟩, ⟨%d3, H3⟩, ⟨%d4, H4⟩, ⟨%d5, H5⟩⟩
  iapply (run_B c (grid2.coords t) (ms2_0 t) (hstage2_0 ((cfg2.slots t 0).cast nbuf2_0)) (ms2_1 t) (hstage2_1 ((cfg2.slots t 1).cast nbuf2_1)) (ms2_2 t) (hstage2_2 ((cfg2.slots t 2).cast nbuf2_2)) (ms2_3 t) (hstage2_3 ((cfg2.slots t 3).cast nbuf2_3)) (ms2_4 t) (hstage2_4 ((cfg2.slots t 4).cast nbuf2_4)) (ms2_5 t) (hstage2_5 ((cfg2.slots t 5).cast nbuf2_5)) (iblk m c 0 t) (iblk m c 1 t) (iblk m c 2 t) (iblk m c 3 t) (V m c main_arg2) hc1 hc2 hc3 (pOff (jOf t).1) (pInb (jOf t).isLt) W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexists _; iexact HB
  isplitl [HF]; · iexact HF
  rw [hn, hp]
  isplitl [HW]; · iexact HW
  iintro ⟨⟨H0, H1, H2, H3, H4, H5, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- The last panel's first row. -/
theorem sound_C (c : Dev nD) (t : Fin cfg2.N) (h8 : t.1 % 16 = 0) (hd : ¬ t.1 / 16 = 0) (h3 : ¬ t.1 / 16 + 1 < 4) : Sound m c t := by
  have hc1 := (conds t).1.mpr h8
  have hc2 : ¬ k2_cond2 (grid2.coords t) = 1#1 := fun h => hd ((conds t).2.1.mp h)
  have hc3 : ¬ k2_cond3 (grid2.coords t) = 1#1 := fun h => h3 ((conds t).2.2.1.mp h)
  have hp := panJ_of m c (jOf t) (pOff (jOf t).1) (pInb (jOf t).isLt) rfl
  have hn := next_last m c t h3
  obtain ⟨w, hw⟩ := Phi_first m c t h8 hd
  unfold Sound bodyPre bodyPost bodyAt2
  rw [hw, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨HB, HF, Hg⟩, ⟨%W, -, HW⟩, ⟨%d0, H0⟩, ⟨%d1, H1⟩, ⟨%d2, H2⟩, ⟨%d3, H3⟩, ⟨%d4, H4⟩, ⟨%d5, H5⟩⟩
  iapply (run_C c (grid2.coords t) (ms2_0 t) (hstage2_0 ((cfg2.slots t 0).cast nbuf2_0)) (ms2_1 t) (hstage2_1 ((cfg2.slots t 1).cast nbuf2_1)) (ms2_2 t) (hstage2_2 ((cfg2.slots t 2).cast nbuf2_2)) (ms2_3 t) (hstage2_3 ((cfg2.slots t 3).cast nbuf2_3)) (ms2_4 t) (hstage2_4 ((cfg2.slots t 4).cast nbuf2_4)) (ms2_5 t) (hstage2_5 ((cfg2.slots t 5).cast nbuf2_5)) (iblk m c 0 t) (iblk m c 1 t) (iblk m c 2 t) (iblk m c 3 t) (V m c main_arg2) hc1 hc2 hc3 (pOff (jOf t).1) (pInb (jOf t).isLt) W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexists _; iexact HB
  isplitl [HF]; · iexact HF
  rw [hn, hp]
  isplitl [HW]; · iexact HW
  iintro ⟨⟨H0, H1, H2, H3, H4, H5, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- Any other row of a panel. -/
theorem sound_D (c : Dev nD) (t : Fin cfg2.N) (h8 : ¬ t.1 % 16 = 0) : Sound m c t := by
  have hc1 : ¬ k2_cond1 (grid2.coords t) = 1#1 := fun h => h8 ((conds t).1.mp h)
  have hb : ∀ d, (dat m c).before 5 t d = (dat m c).after 5 t := before5 m c t.1 t.isLt h8
  unfold Sound bodyPre bodyPost bodyAt2
  rw [Phi_row m c t h8, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3, hb]
  iintro ⟨⟨HB, HN, Hg⟩, ⟨%W, -, HW⟩, ⟨%d0, H0⟩, ⟨%d1, H1⟩, ⟨%d2, H2⟩, ⟨%d3, H3⟩, ⟨%d4, H4⟩, ⟨%d5, H5⟩⟩
  iapply (run_D c (grid2.coords t) (ms2_0 t) (hstage2_0 ((cfg2.slots t 0).cast nbuf2_0)) (ms2_1 t) (hstage2_1 ((cfg2.slots t 1).cast nbuf2_1)) (ms2_2 t) (hstage2_2 ((cfg2.slots t 2).cast nbuf2_2)) (ms2_3 t) (hstage2_3 ((cfg2.slots t 3).cast nbuf2_3)) (ms2_4 t) (hstage2_4 ((cfg2.slots t 4).cast nbuf2_4)) (ms2_5 t) (hstage2_5 ((cfg2.slots t 5).cast nbuf2_5)) (iblk m c 0 t) (iblk m c 2 t) (k2_pay1 (panJ m c (jOf t))) hc1 _)
  isplitl [H0]; · iexact H0
  isplitl [H2]; · iexact H2
  isplitl [H4]; · iexists _; iexact H4
  isplitl [HB]; · iexact HB
  iintro ⟨H0, H2, H4, HB⟩
  isplitl [HB HN Hg]
  · isplitl [HB]; · iexact HB
    isplitl [HN]; · iexact HN
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iapply (leaves5 m c t)
  iexact H5

/-- The body at every point. -/
theorem sound_body (c : Dev nD) (t : Fin cfg2.N) : Sound m c t := by
  by_cases h8 : t.1 % 16 = 0
  · by_cases hd : t.1 / 16 = 0
    · exact sound_A m c t h8 hd
    · by_cases h3 : t.1 / 16 + 1 < 4
      · exact sound_B m c t h8 hd h3
      · exact sound_C m c t h8 hd h3
  · exact sound_D m c t h8

theorem defs₀_row (t : Fin cfg2.N) : defs₀ (F := F) .tc cfg2.body (cfg2.bodyArgs t (cfg2.slots t)) = bodyAt2 t := by
  unfold defs₀; rw [Defs.onTc_tc]

theorem body_obligation (c : Dev nD) : BodyObligation (dat (F := F) m c) (defs₀ (F := F)) Variants.none () Set.univ := fun t => by
  rw [bigSep_W2, bigSep_W2, defs₀_row]
  exact triple_restated (sound_body m c t) rfl .rfl fun _ => .rfl

/-! ## The end -/

/-- The last point leaves nothing under way. -/
theorem Phi_out (c : Dev nD) : (dat m c).Φ (Fin.last cfg2.N) ⊢ Pipeline.ΦD osem2 spec2 H0 (V m) c := by
  have hlt : 63 < cfg2.N := by rw [N0]; omega
  have e : (dat m c).Φ (Fin.last cfg2.N) = St m c ⟨63, hlt⟩ :=
    (Phi_pos m c (Fin.last cfg2.N) (show cfg2.N ≠ 0 by rw [N0]; omega)).trans (congrArg (St m c) (Fin.ext (show cfg2.N - 1 = 63 from congrArg (· - 1) N0)))
  rw [e, PhiD2_eq]
  unfold St Rst
  rw [next_last m c ⟨63, hlt⟩ (by show ¬ 63 / 16 + 1 < 4; omega)]
  iintro ⟨HB, ⟨HF, Hs, Hw⟩, Hr, Hg⟩
  isplitl [HF HB Hr]
  · isplitl [HF HB]
    · isplitl [HF]; · iexact HF
      iexists _; iexact HB
    iexact Hr
  isplitl [Hg]; · iexact Hg
  isplitl [Hs]; · iexact Hs
  iexact Hw

end Cert.Down2
end
-- ==== Proof.DownRun3.lean ====
/-
  The body of the fourth call of `ffn_down` run at a point, in its four cases: the first point, a later first row of a
  panel, the first row of the last panel, and any other row.
-/
module

public import proofs.«01_k».proof.Proof.DownBase

@[expose] public section

set_option maxRecDepth 16384

noncomputable section

namespace Cert.Down3

open Cert.Kernel3Ideal Cert.Kernel3Ideal.Gen Cert.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The panel being copied; the panel in use, cast. -/
abbrev mF : Memref sig .tc .vmem S4096x1024 .f32 := Memref.whole cc3_scratch0
abbrev mB : Memref sig .tc .vmem S4096x1024 .bf16 := Memref.whole cc3_scratch1

/-- The call's one DMA cell. -/
abbrev osm : SemLoc sig := SemLoc.dma 47

/-- The panel at `o` on its way into the panel buffer, and the rest of the weights. -/
def flight (c : Dev nD) (fw : BufOf F c mW) (o : Fin 2 → ℕ) (h : ∀ a, o a + S4096x1024.size a ≤ S16384x4096.size a) : sProp 𝕄 :=
  iprop(∃ f0 : BufOf F c mF, Transfers.Flight countersEmb (c : Thread nD τ) osm () 524288
      iprop((mF.view.loc (c : Thread nD τ) ↦{fullShare} mF.view.write (Elt F) f0 (ReadAs.same.apply ((pan o h).view.read (Elt F) fw)) Finset.univ)
        ∗ (mW.view.loc (c : Thread nD τ) ↦[(pan o h).view.set]{fullShare} fw))
    ∗ (mW.view.loc (c : Thread nD τ) ↦[Finset.univ \ (pan o h).view.set]{fullShare} fw))

variable (c : Dev nD) (i : grid3.Coords)
  (arg2 : Memref sig .tc .vmem S512x4096 .bf16) (harg2 : arg2.IsWhole) (arg4 : Memref sig .tc .vmem S256x4096 .bf16) (harg4 : arg4.IsWhole)
  (arg5 : Memref sig .tc .vmem S512x1024 .f32) (harg5 : arg5.IsWhole) (arg6 : Memref sig .tc .vmem S256x1024 .f32) (harg6 : arg6.IsWhole)
  (arg7 : Memref sig .tc .vmem S512x1024 .f32) (harg7 : arg7.IsWhole) (arg8 : Memref sig .tc .vmem S256x1024 .f32) (harg8 : arg8.IsWhole)
  (x : Vec F S512x4096 .bf16) (xd : Vec F S256x4096 .bf16) (y : Vec F S512x1024 .f32) (yd : Vec F S256x1024 .f32) (w : BufOf F c mB) (fw : BufOf F c mW)

/-- The body at a point of this program. -/
abbrev body : Prog (TpuEff nD τ sig (Elt F) Λ₀ .tc) PUnit :=
  cc3_ffn_down i arg2 harg2 mW (Memref.isWhole_whole _) arg4 harg4 arg5 harg5 arg6 harg6 arg7 harg7 arg8 harg8 mF (Memref.isWhole_whole _) mB (Memref.isWhole_whole _) cc3_scratch2

set_option maxHeartbeats 1000000 in
/-- A row that is not a panel's first: only the block product is stored. -/
theorem run_D (hc1 : ¬ k3_cond1 i = 1#1) (K : PUnit → sProp 𝕄) :
    iprop(owns (c : Thread nD τ) arg2 fullShare x ∗ owns (c : Thread nD τ) arg5 fullShare y ∗ (∃ d, owns (c : Thread nD τ) arg7 fullShare d) ∗ pt c mB w
        ∗ (iprop(owns (c : Thread nD τ) arg2 fullShare x ∗ owns (c : Thread nD τ) arg5 fullShare y ∗ owns (c : Thread nD τ) arg7 fullShare (k3_pay3 x w y) ∗ pt c mB w) -∗ K ⟨⟩))
      ⊢ wp frame (wpE (defs₀ (F := F)) Variants.none c none) Set.univ (body i arg2 harg2 arg4 harg4 arg5 harg5 arg6 harg6 arg7 harg7 arg8 harg8) K := by
  unfold body
  simp only [cc3_ffn_down_eq_skeleton]; unfold cc3_ffn_down_skel
  unfold owns
  iintro ⟨⟨%f2, %hf2, H2⟩, ⟨%f5, %hf5, H5⟩, ⟨%d7, %f7, -, H7⟩, HB, Hk⟩
  obtain rfl := harg2.eq_unread hf2
  obtain rfl := harg5.eq_unread hf5
  sl_exec (disch := first | sl_exact hc1)
  sl_step
  iapply Hk
  isplitl [H2]
  · iexists _; isplitr; · ipureintro; exact harg2.read_unread _
    iexact H2
  isplitl [H5]
  · iexists _; isplitr; · ipureintro; exact harg5.read_unread _
    iexact H5
  isplitl [H7]
  · iexists _; isplitr; swap; · iexact H7
    ipureintro
    refine (View.read_writes_full _ _ _ _ _).trans ?_
    rw [View.readAt_full, View.readAt_full, View.readAt_full, harg2.read_unread, harg5.read_unread]
    rfl
  iexact HB

/-- What the body leaves at a panel's first row, over the panel `p`. -/
abbrev left (c : Dev nD) (arg2 : Memref sig .tc .vmem S512x4096 .bf16) (arg4 : Memref sig .tc .vmem S256x4096 .bf16)
    (arg5 : Memref sig .tc .vmem S512x1024 .f32) (arg6 : Memref sig .tc .vmem S256x1024 .f32)
    (arg7 : Memref sig .tc .vmem S512x1024 .f32) (arg8 : Memref sig .tc .vmem S256x1024 .f32)
    (x : Vec F S512x4096 .bf16) (xd : Vec F S256x4096 .bf16) (y : Vec F S512x1024 .f32) (yd : Vec F S256x1024 .f32) (p : Vec F S4096x1024 .f32) : sProp 𝕄 :=
  iprop(owns (c : Thread nD τ) arg2 fullShare x ∗ owns (c : Thread nD τ) arg4 fullShare xd
    ∗ owns (c : Thread nD τ) arg5 fullShare y ∗ owns (c : Thread nD τ) arg6 fullShare yd
    ∗ owns (c : Thread nD τ) arg7 fullShare (k3_pay3 x (k3_pay1 p) y) ∗ owns (c : Thread nD τ) arg8 fullShare (k3_pay2 xd (k3_pay1 p) yd)
    ∗ pt c mB (k3_pay1 p))

/-- The whole-buffer store of the cast panel leaves it. -/
theorem cast_left (fB : BufOf F c mB) (v : Vec F S4096x1024 .bf16) (h) :
    mB.view.writes (Elt F) fB [⟨Rect.unit (s := S4096x1024) ![0, 0] S4096x1024.size h, v⟩] = v :=
  writes_whole cc3_scratch1 fB v h

/-- What is loaded of the panel buffer after a panel was copied over all of it: the panel. -/
theorem load_flight (f0 : BufOf F c mF) (v : Vec F S4096x1024 .f32) (h) :
    mF.view.readAt (Elt F) (Rect.unit (s := S4096x1024) ![0, 0] S4096x1024.size h).toLoadRect
      (mF.view.write (Elt F) f0 (ReadAs.same.apply v) Finset.univ) = v := by
  rw [View.readAt_full, ReadAs.apply_same]
  exact congrArg (mF.view.read (Elt F)) (View.write_whole_univ cc3_scratch0 f0 v)

set_option maxHeartbeats 2000000 in
/-- The first point: panel 0 is copied and waited for, cast, and panel 1's copy started. -/
theorem run_A (hc1 : k3_cond1 i = 1#1) (hc2 : k3_cond2 i = 1#1) (hc3 : k3_cond3 i = 1#1) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ (∃ f, pt (F := F) c mF f) ∗ semVal ((c : Thread nD τ), osm) 0 ∗ pt c mW fw ∗ owes (c : Thread nD τ) 0 W
        ∗ (iprop(left c arg2 arg4 arg5 arg6 arg7 arg8 x xd y yd (panR c fw ![12288, 0] inb_S16384x4096_S4096x1024_12288_0)
            ∗ flight c fw (k3_off2 i) (k3_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc3_ffn_down_eq_skeleton]; unfold cc3_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HF⟩, HS, HW, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_A.sl.v27 c fw fF = k3_pay1 (panR c fw ![12288, 0] inb_S16384x4096_S4096x1024_12288_0) := by
    unfold run_A.sl.v27 run_A.sl.HB_1 run_A.sl.dma0
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_A.sl.HB_1 c fw fF) = k3_pay1 (panR c fw ![12288, 0] inb_S16384x4096_S4096x1024_12288_0) := by
        unfold run_A.sl.HB_1 run_A.sl.dma0
        rw [cast_left, load_flight]; try rfl
      rw [e2]; iexact HB
  isplitl [HS HW]
  · unfold run_A.sl.dma3; iexists _; isplitl [HS]; · iexact HS
    iexact HW
  iexists _; iexact HO

set_option maxHeartbeats 2000000 in
/-- A later panel's first row: the panel is waited for, cast, and the next one's copy started. -/
theorem run_B (hc1 : k3_cond1 i = 1#1) (hc2 : ¬ k3_cond2 i = 1#1) (hc3 : k3_cond3 i = 1#1) (o : Fin 2 → ℕ) (h : ∀ a, o a + S4096x1024.size a ≤ S16384x4096.size a) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ flight c fw o h ∗ owes (c : Thread nD τ) 0 W
        ∗ (iprop(left c arg2 arg4 arg5 arg6 arg7 arg8 x xd y yd (panR c fw o h)
            ∗ flight c fw (k3_off2 i) (k3_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc3_ffn_down_eq_skeleton]; unfold cc3_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HS, HW⟩, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_B.sl.v27 c fw o h fF = k3_pay1 (panR c fw o h) := by
    unfold run_B.sl.v27 run_B.sl.HB_1
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_B.sl.HB_1 c fw o h fF) = k3_pay1 (panR c fw o h) := by
        unfold run_B.sl.HB_1
        rw [cast_left, load_flight]; try rfl
      rw [e2]; iexact HB
  isplitl [HS HW]
  · unfold run_B.sl.dma3; iexists _; isplitl [HS]; · iexact HS
    iexact HW
  iexists _; iexact HO

set_option maxHeartbeats 2000000 in
/-- The last panel's first row: the panel is waited for and cast, and no copy is started. -/
theorem run_C (hc1 : k3_cond1 i = 1#1) (hc2 : ¬ k3_cond2 i = 1#1) (hc3 : ¬ k3_cond3 i = 1#1) (o : Fin 2 → ℕ) (h : ∀ a, o a + S4096x1024.size a ≤ S16384x4096.size a) (W : Waits sig Unit) (K : PUnit → sProp 𝕄) :
    iprop(owns (c : Thread nD τ) arg2 fullShare x ∗ owns (c : Thread nD τ) arg4 fullShare xd
        ∗ owns (c : Thread nD τ) arg5 fullShare y ∗ owns (c : Thread nD τ) arg6 fullShare yd
        ∗ (∃ d, owns (c : Thread nD τ) arg7 fullShare d) ∗ (∃ d, owns (c : Thread nD τ) arg8 fullShare d)
        ∗ (∃ f, pt (F := F) c mB f) ∗ flight c fw o h ∗ owes (c : Thread nD τ) 0 W
        ∗ (iprop(left c arg2 arg4 arg5 arg6 arg7 arg8 x xd y yd (panR c fw o h)
            ∗ ((∃ f, pt (F := F) c mF f) ∗ semVal ((c : Thread nD τ), osm) 0 ∗ pt c mW fw)
            ∗ ∃ W', owes (c : Thread nD τ) 0 W') -∗ K ⟨⟩))
      ⊢ wp frame (wpE (defs₀ (F := F)) Variants.none c none) Set.univ (body i arg2 harg2 arg4 harg4 arg5 harg5 arg6 harg6 arg7 harg7 arg8 harg8) K := by
  unfold body left
  simp only [cc3_ffn_down_eq_skeleton]; unfold cc3_ffn_down_skel
  unfold owns flight
  iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%fB, HB⟩, ⟨%fF, HS, HW⟩, HO, Hk⟩
  obtain rfl := harg2.eq_unread hf2
  obtain rfl := harg4.eq_unread hf4
  obtain rfl := harg5.eq_unread hf5
  obtain rfl := harg6.eq_unread hf6
  sl_exec (disch := first | sl_exact hc1 | sl_exact hc2 | sl_exact hc3)
  sl_step
  have e1 : run_C.sl.v27 c fw o h fF = k3_pay1 (panR c fw o h) := by
    unfold run_C.sl.v27 run_C.sl.HB_1
    rw [View.readCov_full, load_flight]; try rfl
  iapply Hk
  isplitl [H2 H4 H5 H6 H7 H8 HB]
  · isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      refine (View.read_writes_full _ _ _ _ _).trans ?_
      rw [View.readAt_full, View.readAt_full, harg2.read_unread, harg5.read_unread, e1]
    isplitl [H8]
    · iexists _; isplitr; swap; · iexact H8
      ipureintro
      refine (View.read_writes_full _ _ _ _ _).trans ?_
      rw [View.readAt_full, View.readAt_full, harg4.read_unread, harg6.read_unread, e1]
    · have e2 : mB.view.writes (Elt F) fB (run_C.sl.HB_1 c fw o h fF) = k3_pay1 (panR c fw o h) := by
        unfold run_C.sl.HB_1
        rw [cast_left, load_flight]; try rfl
      rw [e2]; iexact HB
  isplitl [HS HW HS_dst]
  · isplitl [HS_dst]; · iexists _; iexact HS_dst
    isplitl [HS]; · iexact HS
    iexact HW
  iexists _; iexact HO

end Cert.Down3
end
-- ==== Proof.DownFrame3.lean ====
/-
  The fourth call of `ffn_down`: what is held between points (the panel in use cast, the next one on its way), what each
  block holds after a point, and the body at every point.
-/
module

public import proofs.«01_k».proof.Proof.DownRun3

@[expose] public section

set_option maxRecDepth 16384

noncomputable section

namespace Cert.Down3

open Cert.Kernel3Ideal Cert.Kernel3Ideal.Gen Cert.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : Ent F)

/-- The buffers as the call finds them. -/
abbrev V (c : Dev nD) (b : Ref sig .tc) : Buf (Elt F) ((c : Thread nD τ).loc b) := m c (Proc.devRef .tc b)

/-- The call's one DMA cell, of its own. -/
abbrev osem3 : Fin 1 → SemLoc sig := ![osm]
theorem ownSemFacts3 : Pipeline.OwnSemFacts spec3 osem3 := by decide
theorem ownSems03_eq (c : Dev nD) :
    (Pipeline.ownSems0 (Ix := Unit) (Name := ℕ) (U := Pipeline.UD sig nD τ) (Lvl := ℕ) (Val := Elt F) (τ := τ) osem3 c : sProp 𝕄)
      = semVal ((c : Thread nD τ), osm) 0 := by
  rw [Pipeline.ownSems0_eq_of_list c osem3 [0] (by decide) (by decide)]; rfl

theorem hH0 : Pipeline.hbmRefs (τ := τ) H0 ⊆ Pipeline.ucRefs τ sig \ Pipeline.arrRefs spec3 := by decide

/-- What the call does not touch: the scoped buffers of the other calls, and the generator's register. -/
def Rst (F : FTy → Type) (c : Dev nD) : sProp (MT nD τ sig Unit (Elt F) ℕ (Pipeline.UD sig nD τ) ℕ) :=
  iprop(Pipeline.scopedRestBut (Ix := Unit) (Name := ℕ) (U := Pipeline.UD sig nD τ) (Lvl := ℕ) (Val := Elt F) spec3 c [cc3_scratch0, cc3_scratch1] ∗ ∃ r, prngReg c r)

theorem PhiD3_eq (c : Dev nD) :
    (Pipeline.ΦD osem3 spec3 H0 (V m) c : sProp 𝕄)
      = iprop((((∃ f, pt (F := F) c mF f) ∗ (∃ f, pt (F := F) c mB f))
          ∗ Pipeline.scopedRestBut (Ix := Unit) (Name := ℕ) (U := Pipeline.UD sig nD τ) (Lvl := ℕ) (Val := Elt F) spec3 c [cc3_scratch0, cc3_scratch1]) ∗ (∃ r, prngReg c r)
          ∗ semVal ((c : Thread nD τ), osm) 0 ∗ pt c mW (V m c main_arg2)) := by
  rw [Pipeline.ΦD_eq, scopedRest3_split, ownSems03_eq, hbmPts_eq c (V m)]

/-! ## The schedule -/

theorem N0 : cfg3.N = 64 := N_3

/-- The panel of a point. -/
def jOf (t : Fin cfg3.N) : Fin 4 := ⟨t.1 / 16, by have h : t.1 < 64 := lt_of_lt_of_eq t.isLt N0; omega⟩

/-- When each branch of the body is taken, and where it reads. -/
theorem conds : ∀ t : Fin cfg3.N, (k3_cond1 (grid3.coords t) = 1#1 ↔ t.1 % 16 = 0) ∧ (k3_cond2 (grid3.coords t) = 1#1 ↔ t.1 / 16 = 0)
    ∧ (k3_cond3 (grid3.coords t) = 1#1 ↔ t.1 / 16 + 1 < 4) ∧ (grid3.coords t 0).val = t.1 / 16 :=
  (by decide +kernel : ∀ t : Fin grid3.N, (k3_cond1 (grid3.coords t) = 1#1 ↔ t.1 % 16 = 0) ∧ (k3_cond2 (grid3.coords t) = 1#1 ↔ t.1 / 16 = 0)
    ∧ (k3_cond3 (grid3.coords t) = 1#1 ↔ t.1 / 16 + 1 < 4) ∧ (grid3.coords t 0).val = t.1 / 16)

/-- A panel's offsets in the weights. -/
abbrev pOff (j : ℕ) : Fin 2 → ℕ := ![12288, 1024 * j]
theorem pInb {j : ℕ} (h : j < 4) : ∀ a, pOff j a + S4096x1024.size a ≤ S16384x4096.size a := by
  intro a
  fin_cases a
  · show 12288 + 4096 ≤ 16384
    omega
  · show 1024 * j + 1024 ≤ 4096
    omega

/-- A panel of the weights. -/
def panJ (c : Dev nD) (j : Fin 4) : Vec F S4096x1024 .f32 := panR c (V m c main_arg2) (pOff j) (pInb j.isLt)

theorem flight_congr (c : Dev nD) (fw : BufOf F c mW) {o o' : Fin 2 → ℕ} (e : o = o') (h h') : flight c fw o h = flight c fw o' h' := by
  subst e; rfl

/-! ## What is held between points -/

/-- The panel after `j`'s on its way; after the last panel's start, nothing. -/
def next (c : Dev nD) (j : Fin 4) : sProp 𝕄 :=
  if h : j.1 + 1 < 4 then flight c (V m c main_arg2) (pOff (j.1 + 1)) (pInb h)
  else iprop((∃ f, pt (F := F) c mF f) ∗ semVal ((c : Thread nD τ), osm) 0 ∗ pt c mW (V m c main_arg2))

/-- After a point: the panel in use, cast; the next on its way; what the call does not touch. -/
def St (c : Dev nD) (t : Fin cfg3.N) : sProp 𝕄 :=
  iprop(pt c mB (k3_pay1 (panJ m c (jOf t))) ∗ next m c (jOf t) ∗ Rst F c)

def Phi (c : Dev nD) (n : Fin (cfg3.N + 1)) : sProp 𝕄 :=
  if h : n.1 = 0 then Pipeline.ΦD osem3 spec3 H0 (V m) c else St m c ⟨n.1 - 1, by have := n.isLt; omega⟩

theorem Phi_zero (c : Dev nD) (n : Fin (cfg3.N + 1)) (h : n.1 = 0) : Phi m c n = Pipeline.ΦD osem3 spec3 H0 (V m) c := dif_pos h
theorem Phi_pos (c : Dev nD) (n : Fin (cfg3.N + 1)) (h : n.1 ≠ 0) :
    Phi m c n = St m c ⟨n.1 - 1, by have := n.isLt; omega⟩ := dif_neg h
theorem Phi_succ (c : Dev nD) (t : Fin cfg3.N) : Phi m c t.succ = St m c t := dif_neg (Nat.succ_ne_zero _)

/-! ## The proof data -/

/-- Window `w`'s block at point `t`. -/
def iblk (c : Dev nD) (w : Fin cfg3.W) (t : Fin cfg3.N) : ((cfg3.win w).xblock (cfg3.grid.coords t)).Idx → Elt F (cfg3.win w).elt :=
  ((cfg3.win w).blk t).view.read (Elt F) (V m c (Pipeline.arrRef spec3 w))

def dat (c : Dev nD) : Dat τ (Elt F) Unit ℕ (Pipeline.UD sig nD τ) ℕ cfg3 c where
  A w := V m c (Pipeline.arrRef spec3 w)
  after w t := match w with
    | ⟨0, _⟩ => iblk m c 0 t
    | ⟨1, _⟩ => iblk m c 1 t
    | ⟨2, _⟩ => iblk m c 2 t
    | ⟨3, _⟩ => iblk m c 3 t
    | ⟨4, _⟩ => k3_pay3 (iblk m c 0 t) (k3_pay1 (panJ m c (jOf t))) (iblk m c 2 t)
    | ⟨5, _⟩ => k3_pay2 (iblk m c 1 t) (k3_pay1 (panJ m c (jOf t))) (iblk m c 3 t)
  Φ n := Phi m c n
  q _ := fullShare
  owed _ := 0

theorem A_eq (c : Dev nD) (w : Fin cfg3.W) : (dat m c).A w = V m c (Pipeline.arrRef spec3 w) := by
  dsimp only [dat]
theorem after0 (c : Dev nD) (t : Fin cfg3.N) : (dat m c).after 0 t = iblk m c 0 t := by dsimp only [dat]
theorem after1 (c : Dev nD) (t : Fin cfg3.N) : (dat m c).after 1 t = iblk m c 1 t := by dsimp only [dat]
theorem after2 (c : Dev nD) (t : Fin cfg3.N) : (dat m c).after 2 t = iblk m c 2 t := by dsimp only [dat]
theorem after3 (c : Dev nD) (t : Fin cfg3.N) : (dat m c).after 3 t = iblk m c 3 t := by dsimp only [dat]
theorem after4 (c : Dev nD) (t : Fin cfg3.N) : (dat m c).after 4 t = k3_pay3 (iblk m c 0 t) (k3_pay1 (panJ m c (jOf t))) (iblk m c 2 t) := by dsimp only [dat]
theorem after5 (c : Dev nD) (t : Fin cfg3.N) : (dat m c).after 5 t = k3_pay2 (iblk m c 1 t) (k3_pay1 (panJ m c (jOf t))) (iblk m c 3 t) := by dsimp only [dat]

theorem before0 (c : Dev nD) (t : Fin cfg3.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg3.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg3.N) (d) : (dat m c).before 2 t d = iblk m c 2 t :=
  ((dat m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg3.N) (d) : (dat m c).before 3 t d = iblk m c 3 t :=
  ((dat m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The decode rows' block is the same at every point. -/
theorem iblk1 (c : Dev nD) (t t' : Fin cfg3.N) : iblk m c 1 t = iblk m c 1 t' := rfl

/-- What is added to their product is the same at every row of a panel. -/
theorem iblk3 (c : Dev nD) (t t' : Fin cfg3.N) (h : jOf t = jOf t') : iblk m c 3 t = iblk m c 3 t' := by
  have e : (cfg3.win 3).index t = (cfg3.win 3).index t' := by
    have hc : (grid3.coords t 0).val = (grid3.coords t' 0).val := by
      rw [(conds t).2.2.2, (conds t').2.2.2]; exact congrArg Fin.val h
    show cc3_transform_4 (grid3.coords t) = cc3_transform_4 (grid3.coords t')
    unfold cc3_transform_4
    rw [hc]
  have f := (dat m c).fetched_congr 3 e rfl (iblk m c 3 t)
  unfold Dat.fetched Dat.blockOf at f
  rw [A_eq] at f
  exact f

theorem idle5 (t : Fin cfg3.N) : cfg3.idle 5 (cfg3.grid.coords t) = true ↔ t.1 % 16 ≠ 0 := by
  show (!(k3_cond1 (grid3.coords t) == 1#1)) = true ↔ _
  have h := not_congr (conds t).1
  refine Iff.trans ?_ h
  simp

theorem flush5 (t : Fin cfg3.N) : (cfg3.win 5).flush t = false ↔ t.1 % 16 ≠ 15 := by
  have h := not_congr (flush3_5 t)
  refine Iff.trans ?_ h
  simp

/-- Past a panel's first row the decode rows' result is held. -/
theorem before5 (c : Dev nD) (n : ℕ) : ∀ (hn : n < cfg3.N), n % 16 ≠ 0 → ∀ d, (dat m c).before 5 ⟨n, hn⟩ d = (dat m c).after 5 ⟨n, hn⟩ := by
  induction n with
  | zero => intro _ h; exact absurd rfl h
  | succ k ih =>
    intro hn h d
    have hk : k < cfg3.N := by omega
    have hj : jOf ⟨k, hk⟩ = jOf ⟨k + 1, hn⟩ := Fin.ext (show k / 16 = (k + 1) / 16 by omega)
    have hfl : (cfg3.win 5).flush ⟨k, hk⟩ = false := (flush5 ⟨k, hk⟩).mpr (show k % 16 ≠ 15 by omega)
    have e : (dat m c).after 5 ⟨k, hk⟩ = (dat m c).after 5 ⟨k + 1, hn⟩ := by
      rw [after5, after5, hj, iblk1 m c _ ⟨k + 1, hn⟩, iblk3 m c _ ⟨k + 1, hn⟩ hj]
    rw [(dat m c).before_of_pos 5 ⟨k + 1, hn⟩ (Nat.succ_ne_zero _) ((cfg3.win 5).fetch_out rfl _)]
    refine (if_neg (by show ¬ (cfg3.win 5).flush ⟨k, hk⟩ = true; rw [hfl]; exact Bool.false_ne_true)).trans ?_
    refine Eq.trans ?_ e
    show (dat m c).left 5 ⟨k, hk⟩ d = _
    unfold Dat.left
    cases hi : cfg3.idle 5 (cfg3.grid.coords ⟨k, hk⟩)
    · rfl
    · exact ih hk ((idle5 ⟨k, hk⟩).mp hi) d

/-- The staging buffers of a point: the rows' block, the decode rows, what is added to the product of each, the two results' blocks. -/
abbrev ms3_0 (t : Fin cfg3.N) : Memref sig .tc .vmem S512x4096 .bf16 := win3_0.stage (cfg3.slots t 0)
abbrev ms3_1 (t : Fin cfg3.N) : Memref sig .tc .vmem S256x4096 .bf16 := win3_1.stage (cfg3.slots t 1)
abbrev ms3_2 (t : Fin cfg3.N) : Memref sig .tc .vmem S512x1024 .f32 := win3_2.stage (cfg3.slots t 2)
abbrev ms3_3 (t : Fin cfg3.N) : Memref sig .tc .vmem S256x1024 .f32 := win3_3.stage (cfg3.slots t 3)
abbrev ms3_4 (t : Fin cfg3.N) : Memref sig .tc .vmem S512x1024 .f32 := win3_4.stage (cfg3.slots t 4)
abbrev ms3_5 (t : Fin cfg3.N) : Memref sig .tc .vmem S256x1024 .f32 := win3_5.stage (cfg3.slots t 5)

/-- The decode rows' result, held or just written, is what the point leaves. -/
theorem leaves5 (c : Dev nD) (t : Fin cfg3.N) :
    (owns (Ix := Unit) (Name := ℕ) (U := Pipeline.UD sig nD τ) (Lvl := ℕ) (c : Thread nD τ) (ms3_5 t) fullShare ((dat m c).after 5 t) : sProp 𝕄)
      ⊢ (dat m c).leavesExact 5 t := by
  unfold Dat.leavesExact
  cases hi : cfg3.idle 5 (cfg3.grid.coords t)
  · exact .rfl
  · cases hf : (cfg3.win 5).flush t
    · have hb := before5 m c t.1 t.isLt ((idle5 t).mp hi) ((dat m c).after 5 t)
      show _ ⊢ iprop(∃ d, owns (c : Thread nD τ) (ms3_5 t) fullShare ((dat m c).before 5 t d))
      iintro H
      iexists (dat m c).after 5 t
      rw [show (dat m c).before 5 t ((dat m c).after 5 t) = (dat m c).after 5 t from hb]
      iexact H
    · exact .rfl

/-! ## The body at every point -/

def bodyPre (c : Dev nD) (t : Fin cfg3.N) : sProp 𝕄 :=
  iprop((dat m c).Φ t.castSucc ∗ (dat m c).owesAt () t.castSucc
    ∗ (∃ d, owns (c : Thread nD τ) (ms3_0 t) fullShare ((dat m c).before 0 t d))
    ∗ (∃ d, owns (c : Thread nD τ) (ms3_1 t) fullShare ((dat m c).before 1 t d))
    ∗ (∃ d, owns (c : Thread nD τ) (ms3_2 t) fullShare ((dat m c).before 2 t d))
    ∗ (∃ d, owns (c : Thread nD τ) (ms3_3 t) fullShare ((dat m c).before 3 t d))
    ∗ (∃ d, owns (c : Thread nD τ) (ms3_4 t) fullShare ((dat m c).before 4 t d))
    ∗ (∃ d, owns (c : Thread nD τ) (ms3_5 t) fullShare ((dat m c).before 5 t d)))

def bodyPost (c : Dev nD) (t : Fin cfg3.N) : sProp 𝕄 :=
  iprop((dat m c).Φ t.succ ∗ (dat m c).owesAt () t.succ
    ∗ owns (c : Thread nD τ) (ms3_0 t) fullShare ((dat m c).after 0 t)
    ∗ owns (c : Thread nD τ) (ms3_1 t) fullShare ((dat m c).after 1 t)
    ∗ owns (c : Thread nD τ) (ms3_2 t) fullShare ((dat m c).after 2 t)
    ∗ owns (c : Thread nD τ) (ms3_3 t) fullShare ((dat m c).after 3 t)
    ∗ owns (c : Thread nD τ) (ms3_4 t) fullShare ((dat m c).after 4 t)
    ∗ (dat m c).leavesExact 5 t)

/-- The triple of the body at a point. -/
abbrev Sound (c : Dev nD) (t : Fin cfg3.N) : Prop :=
  bodyPre m c t ⊢ wp frame (wpE (defs₀ (F := F)) Variants.none c none) Set.univ (bodyAt3 t) (fun _ => bodyPost m c t)

/-- A panel is the window of the weights at any offsets equal to its own. -/
theorem panJ_of (c : Dev nD) (j : Fin 4) (o : Fin 2 → ℕ) (h) (e : o = pOff j.1) : panR c (V m c main_arg2) o h = panJ m c j := by
  subst e; rfl

theorem off2 (t : Fin cfg3.N) : k3_off2 (grid3.coords t) = pOff ((jOf t).1 + 1) := by
  rw [k3_off2_eq, (conds t).2.2.2]
  rfl

/-- The copy started at a panel's first row is of the next panel. -/
theorem next_of (c : Dev nD) (t : Fin cfg3.N) (h : t.1 / 16 + 1 < 4) (h') :
    flight c (V m c main_arg2) (k3_off2 (grid3.coords t)) h' = next m c (jOf t) := by
  unfold next
  rw [dif_pos (show (jOf t).1 + 1 < 4 from h)]
  exact flight_congr c _ (off2 t) _ _

theorem next_last (c : Dev nD) (t : Fin cfg3.N) (h : ¬ t.1 / 16 + 1 < 4) :
    next m c (jOf t) = iprop((∃ f, pt (F := F) c mF f) ∗ semVal ((c : Thread nD τ), osm) 0 ∗ pt c mW (V m c main_arg2)) :=
  dif_neg h

/-- At a later panel's first row the panel is on its way. -/
theorem Phi_first (c : Dev nD) (t : Fin cfg3.N) (h8 : t.1 % 16 = 0) (h : ¬ t.1 / 16 = 0) :
    ∃ w, (dat m c).Φ t.castSucc
      = iprop(pt c mB w ∗ flight c (V m c main_arg2) (pOff (jOf t).1) (pInb (jOf t).isLt) ∗ Rst F c) := by
  have hN : t.1 < 64 := lt_of_lt_of_eq t.isLt N0
  have hlt : t.1 - 1 < cfg3.N := by omega
  refine ⟨k3_pay1 (panJ m c (jOf ⟨t.1 - 1, hlt⟩)), (Phi_pos m c t.castSucc (show t.1 ≠ 0 by omega)).trans ?_⟩
  have hj : (jOf ⟨t.1 - 1, hlt⟩).1 + 1 = (jOf t).1 := by
    show (t.1 - 1) / 16 + 1 = t.1 / 16
    omega
  show St m c ⟨t.1 - 1, hlt⟩ = _
  unfold St next
  rw [dif_pos (by rw [hj]; exact (jOf t).isLt)]
  rw [flight_congr c (V m c main_arg2) (congrArg pOff hj) _ (pInb (jOf t).isLt)]

/-- At any other row the panel in use is its own. -/
theorem Phi_row (c : Dev nD) (t : Fin cfg3.N) (h8 : ¬ t.1 % 16 = 0) : (dat m c).Φ t.castSucc = St m c t := by
  have hN : t.1 < 64 := lt_of_lt_of_eq t.isLt N0
  refine (Phi_pos m c t.castSucc (show t.1 ≠ 0 by omega)).trans ?_
  unfold St
  have hj : jOf ⟨t.castSucc.1 - 1, by have := t.castSucc.isLt; have : t.castSucc.1 = t.1 := rfl; omega⟩ = jOf t := Fin.ext (by
    show (t.1 - 1) / 16 = t.1 / 16
    omega)
  rw [hj]

set_option maxHeartbeats 1000000 in
/-- The first point. -/
theorem sound_A (c : Dev nD) (t : Fin cfg3.N) (h8 : t.1 % 16 = 0) (hd : t.1 / 16 = 0) : Sound m c t := by
  have hc1 := (conds t).1.mpr h8
  have hc2 := (conds t).2.1.mpr hd
  have hc3 := (conds t).2.2.1.mpr (by omega)
  have hp := panJ_of m c (jOf t) ![12288, 0] inb_S16384x4096_S4096x1024_12288_0 (by show _ = ![12288, 1024 * (t.1 / 16)]; rw [hd])
  have hn := next_of m c t (by omega) (k3_off2_inb (grid3.coords t) hc1 hc3)
  unfold Sound bodyPre bodyPost bodyAt3
  rw [show (dat m c).Φ t.castSucc = _ from Phi_zero m c t.castSucc (show t.1 = 0 by omega), PhiD3_eq,
    show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨⟨⟨HF, HB⟩, Hr⟩, Hg, Hs, Hw⟩, ⟨%W, -, HW⟩, ⟨%d0, H0⟩, ⟨%d1, H1⟩, ⟨%d2, H2⟩, ⟨%d3, H3⟩, ⟨%d4, H4⟩, ⟨%d5, H5⟩⟩
  iapply (run_A c (grid3.coords t) (ms3_0 t) (hstage3_0 ((cfg3.slots t 0).cast nbuf3_0)) (ms3_1 t) (hstage3_1 ((cfg3.slots t 1).cast nbuf3_1)) (ms3_2 t) (hstage3_2 ((cfg3.slots t 2).cast nbuf3_2)) (ms3_3 t) (hstage3_3 ((cfg3.slots t 3).cast nbuf3_3)) (ms3_4 t) (hstage3_4 ((cfg3.slots t 4).cast nbuf3_4)) (ms3_5 t) (hstage3_5 ((cfg3.slots t 5).cast nbuf3_5)) (iblk m c 0 t) (iblk m c 1 t) (iblk m c 2 t) (iblk m c 3 t) (V m c main_arg2) hc1 hc2 hc3 W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexact HB
  isplitl [HF]; · iexact HF
  isplitl [Hs]; · iexact Hs
  isplitl [Hw]; · iexact Hw
  rw [hn, hp]
  isplitl [HW]; · iexact HW
  iintro ⟨⟨H0, H1, H2, H3, H4, H5, HB⟩, HN, ⟨%W', HW'⟩⟩
  isplitl [HB HN Hr Hg]
  · isplitl [HB]; · iexact HB
    isplitl [HN]; · iexact HN
    unfold Rst
    isplitl [Hr]; · iexact Hr
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- A later panel's first row, the last panel's excepted. -/
theorem sound_B (c : Dev nD) (t : Fin cfg3.N) (h8 : t.1 % 16 = 0) (hd : ¬ t.1 / 16 = 0) (h3 : t.1 / 16 + 1 < 4) : Sound m c t := by
  have hc1 := (conds t).1.mpr h8
  have hc2 : ¬ k3_cond2 (grid3.coords t) = 1#1 := fun h => hd ((conds t).2.1.mp h)
  have hc3 : k3_cond3 (grid3.coords t) = 1#1 := (conds t).2.2.1.mpr h3
  have hp := panJ_of m c (jOf t) (pOff (jOf t).1) (pInb (jOf t).isLt) rfl
  have hn := next_of m c t h3 (k3_off2_inb (grid3.coords t) hc1 hc3)
  obtain ⟨w, hw⟩ := Phi_first m c t h8 hd
  unfold Sound bodyPre bodyPost bodyAt3
  rw [hw, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨HB, HF, Hg⟩, ⟨%W, -, HW⟩, ⟨%d0, H0⟩, ⟨%d1, H1⟩, ⟨%d2, H2⟩, ⟨%d3, H3⟩, ⟨%d4, H4⟩, ⟨%d5, H5⟩⟩
  iapply (run_B c (grid3.coords t) (ms3_0 t) (hstage3_0 ((cfg3.slots t 0).cast nbuf3_0)) (ms3_1 t) (hstage3_1 ((cfg3.slots t 1).cast nbuf3_1)) (ms3_2 t) (hstage3_2 ((cfg3.slots t 2).cast nbuf3_2)) (ms3_3 t) (hstage3_3 ((cfg3.slots t 3).cast nbuf3_3)) (ms3_4 t) (hstage3_4 ((cfg3.slots t 4).cast nbuf3_4)) (ms3_5 t) (hstage3_5 ((cfg3.slots t 5).cast nbuf3_5)) (iblk m c 0 t) (iblk m c 1 t) (iblk m c 2 t) (iblk m c 3 t) (V m c main_arg2) hc1 hc2 hc3 (pOff (jOf t).1) (pInb (jOf t).isLt) W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexists _; iexact HB
  isplitl [HF]; · iexact HF
  rw [hn, hp]
  isplitl [HW]; · iexact HW
  iintro ⟨⟨H0, H1, H2, H3, H4, H5, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- The last panel's first row. -/
theorem sound_C (c : Dev nD) (t : Fin cfg3.N) (h8 : t.1 % 16 = 0) (hd : ¬ t.1 / 16 = 0) (h3 : ¬ t.1 / 16 + 1 < 4) : Sound m c t := by
  have hc1 := (conds t).1.mpr h8
  have hc2 : ¬ k3_cond2 (grid3.coords t) = 1#1 := fun h => hd ((conds t).2.1.mp h)
  have hc3 : ¬ k3_cond3 (grid3.coords t) = 1#1 := fun h => h3 ((conds t).2.2.1.mp h)
  have hp := panJ_of m c (jOf t) (pOff (jOf t).1) (pInb (jOf t).isLt) rfl
  have hn := next_last m c t h3
  obtain ⟨w, hw⟩ := Phi_first m c t h8 hd
  unfold Sound bodyPre bodyPost bodyAt3
  rw [hw, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3]
  iintro ⟨⟨HB, HF, Hg⟩, ⟨%W, -, HW⟩, ⟨%d0, H0⟩, ⟨%d1, H1⟩, ⟨%d2, H2⟩, ⟨%d3, H3⟩, ⟨%d4, H4⟩, ⟨%d5, H5⟩⟩
  iapply (run_C c (grid3.coords t) (ms3_0 t) (hstage3_0 ((cfg3.slots t 0).cast nbuf3_0)) (ms3_1 t) (hstage3_1 ((cfg3.slots t 1).cast nbuf3_1)) (ms3_2 t) (hstage3_2 ((cfg3.slots t 2).cast nbuf3_2)) (ms3_3 t) (hstage3_3 ((cfg3.slots t 3).cast nbuf3_3)) (ms3_4 t) (hstage3_4 ((cfg3.slots t 4).cast nbuf3_4)) (ms3_5 t) (hstage3_5 ((cfg3.slots t 5).cast nbuf3_5)) (iblk m c 0 t) (iblk m c 1 t) (iblk m c 2 t) (iblk m c 3 t) (V m c main_arg2) hc1 hc2 hc3 (pOff (jOf t).1) (pInb (jOf t).isLt) W _)
  isplitl [H0]; · iexact H0
  isplitl [H1]; · iexact H1
  isplitl [H2]; · iexact H2
  isplitl [H3]; · iexact H3
  isplitl [H4]; · iexists _; iexact H4
  isplitl [H5]; · iexists _; iexact H5
  isplitl [HB]; · iexists _; iexact HB
  isplitl [HF]; · iexact HF
  rw [hn, hp]
  isplitl [HW]; · iexact HW
  iintro ⟨⟨H0, H1, H2, H3, H4, H5, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iapply (leaves5 m c t)
  rw [after5]
  iexact H5

set_option maxHeartbeats 1000000 in
/-- Any other row of a panel. -/
theorem sound_D (c : Dev nD) (t : Fin cfg3.N) (h8 : ¬ t.1 % 16 = 0) : Sound m c t := by
  have hc1 : ¬ k3_cond1 (grid3.coords t) = 1#1 := fun h => h8 ((conds t).1.mp h)
  have hb : ∀ d, (dat m c).before 5 t d = (dat m c).after 5 t := before5 m c t.1 t.isLt h8
  unfold Sound bodyPre bodyPost bodyAt3
  rw [Phi_row m c t h8, show (dat m c).Φ t.succ = _ from Phi_succ m c t]
  unfold St
  unfold Dat.owesAt Pipeline.owesWithin
  rw [show (dat m c).owed t.castSucc = 0 from rfl, show (dat m c).owed t.succ = 0 from rfl]
  rw [after0, after1, after2, after3, after4]
  simp only [before0, before1, before2, before3, hb]
  iintro ⟨⟨HB, HN, Hg⟩, ⟨%W, -, HW⟩, ⟨%d0, H0⟩, ⟨%d1, H1⟩, ⟨%d2, H2⟩, ⟨%d3, H3⟩, ⟨%d4, H4⟩, ⟨%d5, H5⟩⟩
  iapply (run_D c (grid3.coords t) (ms3_0 t) (hstage3_0 ((cfg3.slots t 0).cast nbuf3_0)) (ms3_1 t) (hstage3_1 ((cfg3.slots t 1).cast nbuf3_1)) (ms3_2 t) (hstage3_2 ((cfg3.slots t 2).cast nbuf3_2)) (ms3_3 t) (hstage3_3 ((cfg3.slots t 3).cast nbuf3_3)) (ms3_4 t) (hstage3_4 ((cfg3.slots t 4).cast nbuf3_4)) (ms3_5 t) (hstage3_5 ((cfg3.slots t 5).cast nbuf3_5)) (iblk m c 0 t) (iblk m c 2 t) (k3_pay1 (panJ m c (jOf t))) hc1 _)
  isplitl [H0]; · iexact H0
  isplitl [H2]; · iexact H2
  isplitl [H4]; · iexists _; iexact H4
  isplitl [HB]; · iexact HB
  iintro ⟨H0, H2, H4, HB⟩
  isplitl [HB HN Hg]
  · isplitl [HB]; · iexact HB
    isplitl [HN]; · iexact HN
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iapply (leaves5 m c t)
  iexact H5

/-- The body at every point. -/
theorem sound_body (c : Dev nD) (t : Fin cfg3.N) : Sound m c t := by
  by_cases h8 : t.1 % 16 = 0
  · by_cases hd : t.1 / 16 = 0
    · exact sound_A m c t h8 hd
    · by_cases h3 : t.1 / 16 + 1 < 4
      · exact sound_B m c t h8 hd h3
      · exact sound_C m c t h8 hd h3
  · exact sound_D m c t h8

theorem defs₀_row (t : Fin cfg3.N) : defs₀ (F := F) .tc cfg3.body (cfg3.bodyArgs t (cfg3.slots t)) = bodyAt3 t := by
  unfold defs₀; rw [Defs.onTc_tc]

theorem body_obligation (c : Dev nD) : BodyObligation (dat (F := F) m c) (defs₀ (F := F)) Variants.none () Set.univ := fun t => by
  rw [bigSep_W3, bigSep_W3, defs₀_row]
  exact triple_restated (sound_body m c t) rfl .rfl fun _ => .rfl

/-! ## The end -/

/-- The last point leaves nothing under way. -/
theorem Phi_out (c : Dev nD) : (dat m c).Φ (Fin.last cfg3.N) ⊢ Pipeline.ΦD osem3 spec3 H0 (V m) c := by
  have hlt : 63 < cfg3.N := by rw [N0]; omega
  have e : (dat m c).Φ (Fin.last cfg3.N) = St m c ⟨63, hlt⟩ :=
    (Phi_pos m c (Fin.last cfg3.N) (show cfg3.N ≠ 0 by rw [N0]; omega)).trans (congrArg (St m c) (Fin.ext (show cfg3.N - 1 = 63 from congrArg (· - 1) N0)))
  rw [e, PhiD3_eq]
  unfold St Rst
  rw [next_last m c ⟨63, hlt⟩ (by show ¬ 63 / 16 + 1 < 4; omega)]
  iintro ⟨HB, ⟨HF, Hs, Hw⟩, Hr, Hg⟩
  isplitl [HF HB Hr]
  · isplitl [HF HB]
    · isplitl [HF]; · iexact HF
      iexists _; iexact HB
    iexact Hr
  isplitl [Hg]; · iexact Hg
  isplitl [Hs]; · iexact Hs
  iexact Hw

end Cert.Down3
end
-- ==== Proof.DownMain.lean ====
/-
  The run of `ffn_down`: its four calls one after the other, each entered from the buffers in HBM as the last one left
  them, and what the whole leaves in its results and its arguments.
-/
module

public import proofs.«01_k».proof.Proof.DownFrame0
public import proofs.«01_k».proof.Proof.DownFrame1
public import proofs.«01_k».proof.Proof.DownFrame2
public import proofs.«01_k».proof.Proof.DownFrame3

@[expose] public section

set_option maxRecDepth 16384

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

/-- The proof's user algebra: the pipeline library's beside the transfers' counters. -/
local notation "𝕄" => MT nD τ sig Unit (Elt F) ℕ (Pipeline.UD sig nD τ) ℕ

/-- What the first call leaves in HBM: its two results replaced. -/
def step0 (V : Ent F) : Ent F := fun c =>
  Function.update (Function.update (V c) main_v0_0 ((Down0.dat V c).arrAt 4 cfg0.N)) main_v0_1 ((Down0.dat V c).arrAt 5 cfg0.N)
theorem step0_0 (V : Ent F) (c : Dev nD) : step0 V c main_v0_0 = (Down0.dat V c).arrAt 4 cfg0.N := by
  unfold step0
  rw [Function.update_of_ne (StableHlo.devRef_ne_of_ne (by decide)), Function.update_self]
theorem step0_1 (V : Ent F) (c : Dev nD) : step0 V c main_v0_1 = (Down0.dat V c).arrAt 5 cfg0.N := by
  unfold step0
  rw [Function.update_self]
theorem step0_dev (V : Ent F) (c : Dev nD) (b : DevRef τ sig) (h0 : b ≠ Proc.devRef .tc main_v0_0) (h1 : b ≠ Proc.devRef .tc main_v0_1) :
    step0 V c b = V c b := by
  unfold step0
  rw [Function.update_of_ne h1, Function.update_of_ne h0]
theorem step0_of (V : Ent F) (c : Dev nD) (r : Ref sig .tc) (h0 : r ≠ main_v0_0) (h1 : r ≠ main_v0_1) : step0 V c r = V c r :=
  step0_dev V c _ (StableHlo.devRef_ne_of_ne h0) (StableHlo.devRef_ne_of_ne h1)

/-- What the second call leaves in HBM: its two results replaced. -/
def step1 (V : Ent F) : Ent F := fun c =>
  Function.update (Function.update (V c) main_v1_0 ((Down1.dat V c).arrAt 4 cfg1.N)) main_v1_1 ((Down1.dat V c).arrAt 5 cfg1.N)
theorem step1_0 (V : Ent F) (c : Dev nD) : step1 V c main_v1_0 = (Down1.dat V c).arrAt 4 cfg1.N := by
  unfold step1
  rw [Function.update_of_ne (StableHlo.devRef_ne_of_ne (by decide)), Function.update_self]
theorem step1_1 (V : Ent F) (c : Dev nD) : step1 V c main_v1_1 = (Down1.dat V c).arrAt 5 cfg1.N := by
  unfold step1
  rw [Function.update_self]
theorem step1_dev (V : Ent F) (c : Dev nD) (b : DevRef τ sig) (h0 : b ≠ Proc.devRef .tc main_v1_0) (h1 : b ≠ Proc.devRef .tc main_v1_1) :
    step1 V c b = V c b := by
  unfold step1
  rw [Function.update_of_ne h1, Function.update_of_ne h0]
theorem step1_of (V : Ent F) (c : Dev nD) (r : Ref sig .tc) (h0 : r ≠ main_v1_0) (h1 : r ≠ main_v1_1) : step1 V c r = V c r :=
  step1_dev V c _ (StableHlo.devRef_ne_of_ne h0) (StableHlo.devRef_ne_of_ne h1)

/-- What the third call leaves in HBM: its two results replaced. -/
def step2 (V : Ent F) : Ent F := fun c =>
  Function.update (Function.update (V c) main_v2_0 ((Down2.dat V c).arrAt 4 cfg2.N)) main_v2_1 ((Down2.dat V c).arrAt 5 cfg2.N)
theorem step2_0 (V : Ent F) (c : Dev nD) : step2 V c main_v2_0 = (Down2.dat V c).arrAt 4 cfg2.N := by
  unfold step2
  rw [Function.update_of_ne (StableHlo.devRef_ne_of_ne (by decide)), Function.update_self]
theorem step2_1 (V : Ent F) (c : Dev nD) : step2 V c main_v2_1 = (Down2.dat V c).arrAt 5 cfg2.N := by
  unfold step2
  rw [Function.update_self]
theorem step2_dev (V : Ent F) (c : Dev nD) (b : DevRef τ sig) (h0 : b ≠ Proc.devRef .tc main_v2_0) (h1 : b ≠ Proc.devRef .tc main_v2_1) :
    step2 V c b = V c b := by
  unfold step2
  rw [Function.update_of_ne h1, Function.update_of_ne h0]
theorem step2_of (V : Ent F) (c : Dev nD) (r : Ref sig .tc) (h0 : r ≠ main_v2_0) (h1 : r ≠ main_v2_1) : step2 V c r = V c r :=
  step2_dev V c _ (StableHlo.devRef_ne_of_ne h0) (StableHlo.devRef_ne_of_ne h1)

/-- What the fourth call leaves in HBM: its two results replaced. -/
def step3 (V : Ent F) : Ent F := fun c =>
  Function.update (Function.update (V c) main_v3_0 ((Down3.dat V c).arrAt 4 cfg3.N)) main_v3_1 ((Down3.dat V c).arrAt 5 cfg3.N)
theorem step3_0 (V : Ent F) (c : Dev nD) : step3 V c main_v3_0 = (Down3.dat V c).arrAt 4 cfg3.N := by
  unfold step3
  rw [Function.update_of_ne (StableHlo.devRef_ne_of_ne (by decide)), Function.update_self]
theorem step3_1 (V : Ent F) (c : Dev nD) : step3 V c main_v3_1 = (Down3.dat V c).arrAt 5 cfg3.N := by
  unfold step3
  rw [Function.update_self]
theorem step3_dev (V : Ent F) (c : Dev nD) (b : DevRef τ sig) (h0 : b ≠ Proc.devRef .tc main_v3_0) (h1 : b ≠ Proc.devRef .tc main_v3_1) :
    step3 V c b = V c b := by
  unfold step3
  rw [Function.update_of_ne h1, Function.update_of_ne h0]
theorem step3_of (V : Ent F) (c : Dev nD) (r : Ref sig .tc) (h0 : r ≠ main_v3_0) (h1 : r ≠ main_v3_1) : step3 V c r = V c r :=
  step3_dev V c _ (StableHlo.devRef_ne_of_ne h0) (StableHlo.devRef_ne_of_ne h1)

variable (m : (ℓ : Loc nD τ sig) → Buf (Elt F) ℓ) (ρ : Dev nD → PrngReg)

/-- The buffers as launched, and after each call. -/
def U0 : Ent F := fun c b => m ((c : Thread nD τ).1, b)
def U1 : Ent F := step0 (U0 m)
def U2 : Ent F := step1 (U1 m)
def U3 : Ent F := step2 (U2 m)
def U4 : Ent F := step3 (U3 m)

/-- The calls' proof data. -/
def pdats : (p : Fin 4) → (c : Dev nD) → Dat τ (Elt F) Unit ℕ (Pipeline.UD sig nD τ) ℕ (cfgs p) c
  | ⟨0, _⟩ => Down0.dat (U0 m)
  | ⟨1, _⟩ => Down1.dat (U1 m)
  | ⟨2, _⟩ => Down2.dat (U2 m)
  | ⟨3, _⟩ => Down3.dat (U3 m)

/-- The first call's arrays as it leaves them. -/
theorem final0 (c : Dev nD) (w : Fin cfg0.W) : (Down0.dat (U0 m) c).arrAt w cfg0.N = U1 m c (Proc.devRef .tc (Pipeline.arrRef spec0 w)) :=
  match w with
    | ⟨0, _⟩ => ((Down0.dat (U0 m) c).arrAt_in 0 rfl _).trans ((Down0.A_eq (U0 m) c 0).trans (step0_of (U0 m) c main_arg0 (by decide) (by decide)).symm)
    | ⟨1, _⟩ => ((Down0.dat (U0 m) c).arrAt_in 1 rfl _).trans ((Down0.A_eq (U0 m) c 1).trans (step0_of (U0 m) c main_arg1 (by decide) (by decide)).symm)
    | ⟨2, _⟩ => ((Down0.dat (U0 m) c).arrAt_in 2 rfl _).trans ((Down0.A_eq (U0 m) c 2).trans (step0_of (U0 m) c main_arg3 (by decide) (by decide)).symm)
    | ⟨3, _⟩ => ((Down0.dat (U0 m) c).arrAt_in 3 rfl _).trans ((Down0.A_eq (U0 m) c 3).trans (step0_of (U0 m) c main_arg4 (by decide) (by decide)).symm)
    | ⟨4, _⟩ => (step0_0 (U0 m) c).symm
    | ⟨5, _⟩ => (step0_1 (U0 m) c).symm

/-- The first call as an item of the program. -/
def item0 : RegionSeg (pcfgs (F := F)) adm (pdats m) () (defs₀ (F := F)) Variants.none L lv 0 :=
  item (pdats m) 0 launch0 Down0.osem0 Down0.ownSemFacts0 Down0.hH0
    (fun c => (Down0.dat (U0 m) c).share_full fun _ => rfl) (fun _ _ => rfl) (fun _ => rfl)
    (fun c => (Down0.body_obligation (U0 m) c).loose) (U0 m) (U1 m)
    (fun c w => Down0.A_eq (U0 m) c w) (final0 m)
    (fun c b hb => (step0_dev (U0 m) c b (fun h => hb (h ▸ by decide)) (fun h => hb (h ▸ by decide))).symm)
    (fun c => by rw [show (pdats m 0 c).Φ 0 = _ from Down0.Phi_zero (U0 m) c 0 rfl]; exact .rfl)
    (fun c => Down0.Phi_out (U0 m) c)

/-- The second call's arrays as it leaves them. -/
theorem final1 (c : Dev nD) (w : Fin cfg1.W) : (Down1.dat (U1 m) c).arrAt w cfg1.N = U2 m c (Proc.devRef .tc (Pipeline.arrRef spec1 w)) :=
  match w with
    | ⟨0, _⟩ => ((Down1.dat (U1 m) c).arrAt_in 0 rfl _).trans ((Down1.A_eq (U1 m) c 0).trans (step1_of (U1 m) c main_arg0 (by decide) (by decide)).symm)
    | ⟨1, _⟩ => ((Down1.dat (U1 m) c).arrAt_in 1 rfl _).trans ((Down1.A_eq (U1 m) c 1).trans (step1_of (U1 m) c main_arg1 (by decide) (by decide)).symm)
    | ⟨2, _⟩ => ((Down1.dat (U1 m) c).arrAt_in 2 rfl _).trans ((Down1.A_eq (U1 m) c 2).trans (step1_of (U1 m) c main_v0_0 (by decide) (by decide)).symm)
    | ⟨3, _⟩ => ((Down1.dat (U1 m) c).arrAt_in 3 rfl _).trans ((Down1.A_eq (U1 m) c 3).trans (step1_of (U1 m) c main_v0_1 (by decide) (by decide)).symm)
    | ⟨4, _⟩ => (step1_0 (U1 m) c).symm
    | ⟨5, _⟩ => (step1_1 (U1 m) c).symm

/-- The second call as an item of the program. -/
def item1 : RegionSeg (pcfgs (F := F)) adm (pdats m) () (defs₀ (F := F)) Variants.none L lv 1 :=
  item (pdats m) 1 launch1 Down1.osem1 Down1.ownSemFacts1 Down1.hH0
    (fun c => (Down1.dat (U1 m) c).share_full fun _ => rfl) (fun _ _ => rfl) (fun _ => rfl)
    (fun c => (Down1.body_obligation (U1 m) c).loose) (U1 m) (U2 m)
    (fun c w => Down1.A_eq (U1 m) c w) (final1 m)
    (fun c b hb => (step1_dev (U1 m) c b (fun h => hb (h ▸ by decide)) (fun h => hb (h ▸ by decide))).symm)
    (fun c => by rw [show (pdats m 1 c).Φ 0 = _ from Down1.Phi_zero (U1 m) c 0 rfl]; exact .rfl)
    (fun c => Down1.Phi_out (U1 m) c)

/-- The third call's arrays as it leaves them. -/
theorem final2 (c : Dev nD) (w : Fin cfg2.W) : (Down2.dat (U2 m) c).arrAt w cfg2.N = U3 m c (Proc.devRef .tc (Pipeline.arrRef spec2 w)) :=
  match w with
    | ⟨0, _⟩ => ((Down2.dat (U2 m) c).arrAt_in 0 rfl _).trans ((Down2.A_eq (U2 m) c 0).trans (step2_of (U2 m) c main_arg0 (by decide) (by decide)).symm)
    | ⟨1, _⟩ => ((Down2.dat (U2 m) c).arrAt_in 1 rfl _).trans ((Down2.A_eq (U2 m) c 1).trans (step2_of (U2 m) c main_arg1 (by decide) (by decide)).symm)
    | ⟨2, _⟩ => ((Down2.dat (U2 m) c).arrAt_in 2 rfl _).trans ((Down2.A_eq (U2 m) c 2).trans (step2_of (U2 m) c main_v1_0 (by decide) (by decide)).symm)
    | ⟨3, _⟩ => ((Down2.dat (U2 m) c).arrAt_in 3 rfl _).trans ((Down2.A_eq (U2 m) c 3).trans (step2_of (U2 m) c main_v1_1 (by decide) (by decide)).symm)
    | ⟨4, _⟩ => (step2_0 (U2 m) c).symm
    | ⟨5, _⟩ => (step2_1 (U2 m) c).symm

/-- The third call as an item of the program. -/
def item2 : RegionSeg (pcfgs (F := F)) adm (pdats m) () (defs₀ (F := F)) Variants.none L lv 2 :=
  item (pdats m) 2 launch2 Down2.osem2 Down2.ownSemFacts2 Down2.hH0
    (fun c => (Down2.dat (U2 m) c).share_full fun _ => rfl) (fun _ _ => rfl) (fun _ => rfl)
    (fun c => (Down2.body_obligation (U2 m) c).loose) (U2 m) (U3 m)
    (fun c w => Down2.A_eq (U2 m) c w) (final2 m)
    (fun c b hb => (step2_dev (U2 m) c b (fun h => hb (h ▸ by decide)) (fun h => hb (h ▸ by decide))).symm)
    (fun c => by rw [show (pdats m 2 c).Φ 0 = _ from Down2.Phi_zero (U2 m) c 0 rfl]; exact .rfl)
    (fun c => Down2.Phi_out (U2 m) c)

/-- The fourth call's arrays as it leaves them. -/
theorem final3 (c : Dev nD) (w : Fin cfg3.W) : (Down3.dat (U3 m) c).arrAt w cfg3.N = U4 m c (Proc.devRef .tc (Pipeline.arrRef spec3 w)) :=
  match w with
    | ⟨0, _⟩ => ((Down3.dat (U3 m) c).arrAt_in 0 rfl _).trans ((Down3.A_eq (U3 m) c 0).trans (step3_of (U3 m) c main_arg0 (by decide) (by decide)).symm)
    | ⟨1, _⟩ => ((Down3.dat (U3 m) c).arrAt_in 1 rfl _).trans ((Down3.A_eq (U3 m) c 1).trans (step3_of (U3 m) c main_arg1 (by decide) (by decide)).symm)
    | ⟨2, _⟩ => ((Down3.dat (U3 m) c).arrAt_in 2 rfl _).trans ((Down3.A_eq (U3 m) c 2).trans (step3_of (U3 m) c main_v2_0 (by decide) (by decide)).symm)
    | ⟨3, _⟩ => ((Down3.dat (U3 m) c).arrAt_in 3 rfl _).trans ((Down3.A_eq (U3 m) c 3).trans (step3_of (U3 m) c main_v2_1 (by decide) (by decide)).symm)
    | ⟨4, _⟩ => (step3_0 (U3 m) c).symm
    | ⟨5, _⟩ => (step3_1 (U3 m) c).symm

/-- The fourth call as an item of the program. -/
def item3 : RegionSeg (pcfgs (F := F)) adm (pdats m) () (defs₀ (F := F)) Variants.none L lv 3 :=
  item (pdats m) 3 launch3 Down3.osem3 Down3.ownSemFacts3 Down3.hH0
    (fun c => (Down3.dat (U3 m) c).share_full fun _ => rfl) (fun _ _ => rfl) (fun _ => rfl)
    (fun c => (Down3.body_obligation (U3 m) c).loose) (U3 m) (U4 m)
    (fun c w => Down3.A_eq (U3 m) c w) (final3 m)
    (fun c b hb => (step3_dev (U3 m) c b (fun h => hb (h ▸ by decide)) (fun h => hb (h ▸ by decide))).symm)
    (fun c => by rw [show (pdats m 3 c).Φ 0 = _ from Down3.Phi_zero (U3 m) c 0 rfl]; exact .rfl)
    (fun c => Down3.Phi_out (U3 m) c)

/-- The launch's ghost state: the pipelines' rounds, and no transfer counted. -/
def u₀ : Pipeline.UD sig nD τ := (initOf (Pipeline.cells (Pipeline.pin (pcfgs (F := F)) adm) cellOf_inj) (Pipeline.launchToks (Pipeline.pin (pcfgs (F := F)) adm) cellOf_inj), 1)

abbrev EP : Emb (URounds (GSem nD τ sig) Unit) 𝕄 := embL

/-- The program runs to every buffer in HBM as the four calls leave it, every cell at zero. -/
theorem run_main : θ_run defs (onTc (τ := τ) (main (F := F))) ⟨m, fun _ => 0, ρ⟩ (fun r => (∀ c : Dev nD, ∀ b ∈ Pipeline.ucRefs τ sig,
      r.2.mem ((c : Thread nD τ).1, b) = U4 m c b) ∧ r.2.sem = fun _ => 0) :=
  Pipeline.θ_run_regions_kit_sems (pcfgs (F := F)) adm (pdats m) () cellOf_inj EP defs₀ Variants.none L lv m ρ main
    [.region (item0 m), .region (item1 m), .region (item2 m), .region (item3 m)]
    (fun c Q => by rw [main_segs adm (pdats m) () Variants.none L lv (item0 m) (item1 m) (item2 m) (item3 m) c])
    (by simp only [Pipeline.Seg.pipes_region, Pipeline.Seg.pipes_nil]; decide) (O₀ := 0) (hL := fun _ _ => rfl) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := At (U0 m)) (Tₙ := fun c => iprop(StableHlo.held (c : Thread nD τ) (Pipeline.ucRefs τ sig) (U4 m c) ∗ ∃ r, prngReg c r))
    (hch := ⟨fun _ => .rfl, fun _ => .rfl, fun _ => .rfl, fun _ => .rfl, fun c => by
      show At (U4 m) c ⊢ _
      unfold At
      iintro ⟨Hh, Hg, HO⟩
      isplitl [Hh Hg]
      · isplitl [Hh]; · iexact Hh
        iexact Hg
      iexact HO⟩)
    (hinit := by
      refine Pipeline.initEach L lv fun c => ?_
      rw [show unscopedBufs c (fun b => m ((c : Thread nD τ).loc b)) = StableHlo.held (c : Thread nD τ) (Pipeline.ucRefs τ sig) (U0 m c) from Pipeline.unscopedBufs_held c (U0 m c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem ((c : Thread nD τ).1, b) = U4 m c b)
    (hfin := fun c s' => by
      unfold StableHlo.held
      iintro ⟨⟨Hh, -⟩, HSI⟩
      ihave Hr := (pointsTo_read_all (Pipeline.ucRefs τ sig) (fun b => ((c : Thread nD τ).1, b)) (U4 m c) s') $$ [Hh HSI]
      · isplitl [Hh] <;> iassumption
      icases Hr with ⟨%h, HSI⟩
      imodintro
      isplitr; · ipureintro; exact h
      iexact HSI)
    (hQ := fun _ h hz => ⟨h, funext fun g => hz g (.inr (regions_no_unscoped g.2))⟩)

/-- A buffer of the program in HBM is one of those the run speaks of. -/
theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- No call replaces an argument. -/
theorem U4_arg (c : Dev nD) (r : Ref sig .tc) (h : r ∉ ([main_v0_0, main_v0_1, main_v1_0, main_v1_1, main_v2_0, main_v2_1, main_v3_0, main_v3_1] : List (Ref sig .tc))) :
    U4 m c r = m ((c : Thread nD τ).loc r) := by
  simp only [List.mem_cons, not_or, List.not_mem_nil, not_false_eq_true, and_true] at h
  obtain ⟨a0, a1, b0, b1, c0, c1, d0, d1⟩ := h
  exact (step3_of (U3 m) c r d0 d1).trans ((step2_of (U2 m) c r c0 c1).trans ((step1_of (U1 m) c r b0 b1).trans (step0_of (U0 m) c r a0 a1)))

/-- The program's frame: it runs without undefined behaviour to quiescence, with its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c _ (mem_uc main_arg0 (by decide))).trans (U4_arg m c main_arg0 (by decide)),
    (h.1 c _ (mem_uc main_arg1 (by decide))).trans (U4_arg m c main_arg1 (by decide)),
    (h.1 c _ (mem_uc main_arg2 (by decide))).trans (U4_arg m c main_arg2 (by decide)),
    (h.1 c _ (mem_uc main_arg3 (by decide))).trans (U4_arg m c main_arg3 (by decide)),
    (h.1 c _ (mem_uc main_arg4 (by decide))).trans (U4_arg m c main_arg4 (by decide))⟩, h.2⟩) (run_main m ρ)

end Cert.Down
end
-- ==== Proof.DownSum.lean ====
/-
  What `ffn_down` computes, a quarter of the inner dimension at a time.
-/
module

public import proofs.«01_k».proof.Proof.DownBase
public import Idealize.ShloMosaic.Lib.Pipeline.ValueKit

@[expose] public section

set_option maxRecDepth 16384

noncomputable section

namespace Cert.Down

open Cert.Kernel3Ideal Cert.Kernel3Ideal.Gen Idealize.ShloMosaic Idealize.ShloMosaic.TcCoe Idealize.SL.Sem

/-- A place of a quarter of the inner dimension, in the whole. -/
def part (q : Fin 4) (k : Fin 4096) : Fin 16384 := ⟨q.1 * 4096 + k.1, by omega⟩

/-- A quarter of the product, added to what was there. -/
def addP (q : Fin 4) (x : Vec Ideal S8192x16384 .bf16) (w : Vec Ideal S16384x4096 .f32) (y : Vec Ideal S8192x4096 .f32) : Vec Ideal S8192x4096 .f32 :=
  fun i => (y i : EReal) + ∑ k : Fin 4096, (x (ix2 (i 0) (part q k)) * w (ix2 (part q k) (i 1)) : EReal)
def addD (q : Fin 4) (x : Vec Ideal S256x16384 .bf16) (w : Vec Ideal S16384x4096 .f32) (y : Vec Ideal S256x4096 .f32) : Vec Ideal S256x4096 .f32 :=
  fun i => (y i : EReal) + ∑ k : Fin 4096, (x (ix2 (i 0) (part q k)) * w (ix2 (part q k) (i 1)) : EReal)

/-- A sum over the inner dimension is the sum of its quarters'. -/
theorem sum_quarters (f : Fin 16384 → EReal) :
    ∑ k, f k = (∑ k, f (part 0 k)) + (∑ k, f (part 1 k)) + (∑ k, f (part 2 k)) + (∑ k, f (part 3 k)) := by
  have e : ∑ k, f k = ∑ q : Fin 4, ∑ k : Fin 4096, f (part q k) := by
    rw [← Equiv.sum_comp (finProdFinEquiv (m := 4) (n := 4096)) f, Fintype.sum_prod_type]
    refine Finset.sum_congr rfl fun q _ => Finset.sum_congr rfl fun k _ => congrArg f (Fin.ext ?_)
    show k.1 + 4096 * q.1 = q.1 * 4096 + k.1
    omega
  rw [e, Fin.sum_univ_four]

/-- The four quarters added one after the other are the whole product added. -/
theorem addP_all (x : Vec Ideal S8192x16384 .bf16) (w : Vec Ideal S16384x4096 .f32) (y : Vec Ideal S8192x4096 .f32) (r : Fin 8192) (n : Fin 4096) :
    addP 3 x w (addP 2 x w (addP 1 x w (addP 0 x w y))) (ix2 r n) = (y (ix2 r n) : EReal) + ∑ k : Fin 16384, (x (ix2 r k) * w (ix2 k n) : EReal) := by
  rw [sum_quarters (fun k => x (ix2 r k) * w (ix2 k n))]
  simp only [← add_assoc]
  rfl
theorem addD_all (x : Vec Ideal S256x16384 .bf16) (w : Vec Ideal S16384x4096 .f32) (y : Vec Ideal S256x4096 .f32) (r : Fin 256) (n : Fin 4096) :
    addD 3 x w (addD 2 x w (addD 1 x w (addD 0 x w y))) (ix2 r n) = (y (ix2 r n) : EReal) + ∑ k : Fin 16384, (x (ix2 r k) * w (ix2 k n) : EReal) := by
  rw [sum_quarters (fun k => x (ix2 r k) * w (ix2 k n))]
  simp only [← add_assoc]
  rfl

end Cert.Down

end
-- ==== Proof.DownValue0.lean ====
/-
  The values of the first call of `ffn_down`: both its results, entry by entry, over the buffers it is entered with.
-/
module

public import proofs.«01_k».proof.Proof.DownFrame0
public import proofs.«01_k».proof.Proof.DownSum
public import Idealize.ShloMosaic.Lib.Pipeline.ValueKit

@[expose] public section

set_option maxRecDepth 16384

noncomputable section

namespace Cert.Down0

open Cert.Kernel3Ideal Cert.Kernel3Ideal.Gen Cert.Down Idealize.ShloMosaic Idealize.ShloMosaic.TcCoe Idealize.SL.Sem

variable (m : Ent Ideal) (c : Dev nD)

/-- What the call reads. -/
def argX : Vec Ideal S8192x16384 .bf16 := V m c main_arg0
def argD : Vec Ideal S256x16384 .bf16 := V m c main_arg1
def argW : Vec Ideal S16384x4096 .f32 := V m c main_arg2
def argY : Vec Ideal S8192x4096 .f32 := V m c main_arg3
def argYD : Vec Ideal S256x4096 .f32 := V m c main_arg4

/-- Where each window's block lies, at a point. -/
theorem idx : ∀ t : Fin cfg0.N, win0_0.index t = ![t.1 % 16, 0] ∧ win0_1.index t = ![0, 0] ∧ win0_2.index t = ![t.1 % 16, t.1 / 16]
    ∧ win0_3.index t = ![0, t.1 / 16] ∧ win0_4.index t = ![t.1 % 16, t.1 / 16] ∧ win0_5.index t = ![0, t.1 / 16] :=
  (by decide +kernel : ∀ t : Fin grid0.N, win0_0.index t = ![t.1 % 16, 0] ∧ win0_1.index t = ![0, 0] ∧ win0_2.index t = ![t.1 % 16, t.1 / 16]
    ∧ win0_3.index t = ![0, t.1 / 16] ∧ win0_4.index t = ![t.1 % 16, t.1 / 16] ∧ win0_5.index t = ![0, t.1 / 16])

/-- A row of a block of rows, and a column of a panel, in the whole arrays. -/
def rowOf (t : Fin cfg0.N) (r : Fin 512) : Fin 8192 := ⟨t.1 % 16 * 512 + r.1, by omega⟩
def colOf (j : Fin 4) (n : Fin 1024) : Fin 4096 := ⟨j.1 * 1024 + n.1, by omega⟩

theorem blk0 (t : Fin cfg0.N) (r : Fin 512) (k : Fin 4096) : (iblk m c 0 t : Vec Ideal S512x4096 .bf16) (ix2 r k) = argX m c (ix2 (rowOf t r) (part 0 k)) := by
  have h := (idx t).1
  unfold argX rowOf part
  blk_ext [iblk, h]

theorem blk1 (t : Fin cfg0.N) (r : Fin 256) (k : Fin 4096) : (iblk m c 1 t : Vec Ideal S256x4096 .bf16) (ix2 r k) = argD m c (ix2 r (part 0 k)) := by
  have h := (idx t).2.1
  unfold argD part
  blk_ext [iblk, h]

theorem blk2 (t : Fin cfg0.N) (r : Fin 512) (n : Fin 1024) : (iblk m c 2 t : Vec Ideal S512x1024 .f32) (ix2 r n) = argY m c (ix2 (rowOf t r) (colOf (jOf t) n)) := by
  have h := (idx t).2.2.1
  unfold argY rowOf colOf jOf
  blk_ext [iblk, h]

theorem blk3 (t : Fin cfg0.N) (r : Fin 256) (n : Fin 1024) : (iblk m c 3 t : Vec Ideal S256x1024 .f32) (ix2 r n) = argYD m c (ix2 r (colOf (jOf t) n)) := by
  have h := (idx t).2.2.2.1
  unfold argYD colOf jOf
  blk_ext [iblk, h]

theorem panJ_apply (j : Fin 4) (k : Fin 4096) (n : Fin 1024) : panJ m c j (ix2 k n) = argW m c (ix2 (part 0 k) (colOf j n)) := by
  unfold argW colOf panJ
  refine congrArg (V m c main_arg2) ?_
  funext a
  fin_cases a
  · refine Fin.ext ?_
    show 0 + 1 * k.1 = 0 * 4096 + k.1
    omega
  · refine Fin.ext ?_
    show 1024 * j.1 + 1 * n.1 = j.1 * 1024 + n.1
    omega

/-- A block of the prompt rows' result, entry by entry. -/
theorem pay3_apply (x : Vec Ideal S512x4096 .bf16) (p : Vec Ideal S4096x1024 .f32) (y : Vec Ideal S512x1024 .f32) (r : Fin 512) (n : Fin 1024) :
    (k0_pay3 (F := Ideal) x (k0_pay1 (F := Ideal) p) y) (ix2 r n) = (y (ix2 r n) : EReal) + ∑ k : Fin 4096, (x (ix2 r k) * p (ix2 k n) : EReal) := by
  pointwise [k0_pay3, k0_pay1]

/-- A block of the decode rows' result, entry by entry. -/
theorem pay2_apply (x : Vec Ideal S256x4096 .bf16) (p : Vec Ideal S4096x1024 .f32) (y : Vec Ideal S256x1024 .f32) (r : Fin 256) (n : Fin 1024) :
    (k0_pay2 (F := Ideal) x (k0_pay1 (F := Ideal) p) y) (ix2 r n) = (y (ix2 r n) : EReal) + ∑ k : Fin 4096, (x (ix2 r k) * p (ix2 k n) : EReal) := by
  pointwise [k0_pay2, k0_pay1]

/-- The prompt rows' result: a quarter of the product added to what was there. -/
theorem arr4 : (dat m c).arrAt 4 cfg0.N = addP 0 (argX m c) (argW m c) (argY m c) := by
  refine (dat m c).arrAt_eq_of_covers 4 _ (by decide +kernel) fun t hf y => ?_
  have e := (idx t).2.2.2.2.1
  have hN : t.1 < 64 := lt_of_lt_of_eq t.isLt N0
  obtain ⟨r, n, rfl⟩ : ∃ (r : Fin 512) (n : Fin 1024), y = ix2 r n := ⟨y 0, y 1, by funext a; fin_cases a <;> rfl⟩
  rw [cast_eq, after4]
  refine (pay3_apply _ _ _ r n).trans ?_
  have h0 : ((cfg0.win 4).blk t).view.emb (ix2 r n) (0 : Fin 2) = rowOf t r := Fin.ext (by blk_simp [e, rowOf])
  have h1 : ((cfg0.win 4).blk t).view.emb (ix2 r n) (1 : Fin 2) = colOf (jOf t) n := Fin.ext (by blk_simp [e, colOf, jOf])
  have hy : ((cfg0.win 4).blk t).view.emb (ix2 r n) = ix2 (rowOf t r) (colOf (jOf t) n) := by
    funext a; fin_cases a
    · exact h0
    · exact h1
  rw [hy]
  unfold addP
  rw [blk2]
  refine congrArg (fun s : EReal => (argY m c (ix2 (rowOf t r) (colOf (jOf t) n)) : EReal) + s) (Finset.sum_congr rfl fun k _ => ?_)
  rw [blk0, panJ_apply]
  rfl

/-- The decode rows' result: a quarter of the product added to what was there. -/
theorem arr5 : (dat m c).arrAt 5 cfg0.N = addD 0 (argD m c) (argW m c) (argYD m c) := by
  refine (dat m c).arrAt_eq_of_covers 5 _ (by decide +kernel) fun t hf y => ?_
  have e := (idx t).2.2.2.2.2
  have hN : t.1 < 64 := lt_of_lt_of_eq t.isLt N0
  obtain ⟨r, n, rfl⟩ : ∃ (r : Fin 256) (n : Fin 1024), y = ix2 r n := ⟨y 0, y 1, by funext a; fin_cases a <;> rfl⟩
  rw [cast_eq, after5]
  refine (pay2_apply _ _ _ r n).trans ?_
  have h0 : ((cfg0.win 5).blk t).view.emb (ix2 r n) (0 : Fin 2) = r := Fin.ext (by blk_simp [e])
  have h1 : ((cfg0.win 5).blk t).view.emb (ix2 r n) (1 : Fin 2) = colOf (jOf t) n := Fin.ext (by blk_simp [e, colOf, jOf])
  have hy : ((cfg0.win 5).blk t).view.emb (ix2 r n) = ix2 r (colOf (jOf t) n) := by
    funext a; fin_cases a
    · exact h0
    · exact h1
  rw [hy]
  unfold addD
  rw [blk3]
  refine congrArg (fun s : EReal => (argYD m c (ix2 r (colOf (jOf t) n)) : EReal) + s) (Finset.sum_congr rfl fun k _ => ?_)
  rw [blk1, panJ_apply]
  rfl

end Cert.Down0

end
-- ==== Proof.DownValue1.lean ====
/-
  The values of the second call of `ffn_down`: both its results, entry by entry, over the buffers it is entered with.
-/
module

public import proofs.«01_k».proof.Proof.DownFrame1
public import proofs.«01_k».proof.Proof.DownSum
public import Idealize.ShloMosaic.Lib.Pipeline.ValueKit

@[expose] public section

set_option maxRecDepth 16384

noncomputable section

namespace Cert.Down1

open Cert.Kernel3Ideal Cert.Kernel3Ideal.Gen Cert.Down Idealize.ShloMosaic Idealize.ShloMosaic.TcCoe Idealize.SL.Sem

variable (m : Ent Ideal) (c : Dev nD)

/-- What the call reads. -/
def argX : Vec Ideal S8192x16384 .bf16 := V m c main_arg0
def argD : Vec Ideal S256x16384 .bf16 := V m c main_arg1
def argW : Vec Ideal S16384x4096 .f32 := V m c main_arg2
def argY : Vec Ideal S8192x4096 .f32 := V m c main_v0_0
def argYD : Vec Ideal S256x4096 .f32 := V m c main_v0_1

/-- Where each window's block lies, at a point. -/
theorem idx : ∀ t : Fin cfg1.N, win1_0.index t = ![t.1 % 16, 1] ∧ win1_1.index t = ![0, 1] ∧ win1_2.index t = ![t.1 % 16, t.1 / 16]
    ∧ win1_3.index t = ![0, t.1 / 16] ∧ win1_4.index t = ![t.1 % 16, t.1 / 16] ∧ win1_5.index t = ![0, t.1 / 16] :=
  (by decide +kernel : ∀ t : Fin grid1.N, win1_0.index t = ![t.1 % 16, 1] ∧ win1_1.index t = ![0, 1] ∧ win1_2.index t = ![t.1 % 16, t.1 / 16]
    ∧ win1_3.index t = ![0, t.1 / 16] ∧ win1_4.index t = ![t.1 % 16, t.1 / 16] ∧ win1_5.index t = ![0, t.1 / 16])

/-- A row of a block of rows, and a column of a panel, in the whole arrays. -/
def rowOf (t : Fin cfg1.N) (r : Fin 512) : Fin 8192 := ⟨t.1 % 16 * 512 + r.1, by omega⟩
def colOf (j : Fin 4) (n : Fin 1024) : Fin 4096 := ⟨j.1 * 1024 + n.1, by omega⟩

theorem blk0 (t : Fin cfg1.N) (r : Fin 512) (k : Fin 4096) : (iblk m c 0 t : Vec Ideal S512x4096 .bf16) (ix2 r k) = argX m c (ix2 (rowOf t r) (part 1 k)) := by
  have h := (idx t).1
  unfold argX rowOf part
  blk_ext [iblk, h]

theorem blk1 (t : Fin cfg1.N) (r : Fin 256) (k : Fin 4096) : (iblk m c 1 t : Vec Ideal S256x4096 .bf16) (ix2 r k) = argD m c (ix2 r (part 1 k)) := by
  have h := (idx t).2.1
  unfold argD part
  blk_ext [iblk, h]

theorem blk2 (t : Fin cfg1.N) (r : Fin 512) (n : Fin 1024) : (iblk m c 2 t : Vec Ideal S512x1024 .f32) (ix2 r n) = argY m c (ix2 (rowOf t r) (colOf (jOf t) n)) := by
  have h := (idx t).2.2.1
  unfold argY rowOf colOf jOf
  blk_ext [iblk, h]

theorem blk3 (t : Fin cfg1.N) (r : Fin 256) (n : Fin 1024) : (iblk m c 3 t : Vec Ideal S256x1024 .f32) (ix2 r n) = argYD m c (ix2 r (colOf (jOf t) n)) := by
  have h := (idx t).2.2.2.1
  unfold argYD colOf jOf
  blk_ext [iblk, h]

theorem panJ_apply (j : Fin 4) (k : Fin 4096) (n : Fin 1024) : panJ m c j (ix2 k n) = argW m c (ix2 (part 1 k) (colOf j n)) := by
  unfold argW colOf panJ
  refine congrArg (V m c main_arg2) ?_
  funext a
  fin_cases a
  · refine Fin.ext ?_
    show 4096 + 1 * k.1 = 1 * 4096 + k.1
    omega
  · refine Fin.ext ?_
    show 1024 * j.1 + 1 * n.1 = j.1 * 1024 + n.1
    omega

/-- A block of the prompt rows' result, entry by entry. -/
theorem pay3_apply (x : Vec Ideal S512x4096 .bf16) (p : Vec Ideal S4096x1024 .f32) (y : Vec Ideal S512x1024 .f32) (r : Fin 512) (n : Fin 1024) :
    (k1_pay3 (F := Ideal) x (k1_pay1 (F := Ideal) p) y) (ix2 r n) = (y (ix2 r n) : EReal) + ∑ k : Fin 4096, (x (ix2 r k) * p (ix2 k n) : EReal) := by
  pointwise [k1_pay3, k1_pay1]

/-- A block of the decode rows' result, entry by entry. -/
theorem pay2_apply (x : Vec Ideal S256x4096 .bf16) (p : Vec Ideal S4096x1024 .f32) (y : Vec Ideal S256x1024 .f32) (r : Fin 256) (n : Fin 1024) :
    (k1_pay2 (F := Ideal) x (k1_pay1 (F := Ideal) p) y) (ix2 r n) = (y (ix2 r n) : EReal) + ∑ k : Fin 4096, (x (ix2 r k) * p (ix2 k n) : EReal) := by
  pointwise [k1_pay2, k1_pay1]

/-- The prompt rows' result: a quarter of the product added to what was there. -/
theorem arr4 : (dat m c).arrAt 4 cfg1.N = addP 1 (argX m c) (argW m c) (argY m c) := by
  refine (dat m c).arrAt_eq_of_covers 4 _ (by decide +kernel) fun t hf y => ?_
  have e := (idx t).2.2.2.2.1
  have hN : t.1 < 64 := lt_of_lt_of_eq t.isLt N0
  obtain ⟨r, n, rfl⟩ : ∃ (r : Fin 512) (n : Fin 1024), y = ix2 r n := ⟨y 0, y 1, by funext a; fin_cases a <;> rfl⟩
  rw [cast_eq, after4]
  refine (pay3_apply _ _ _ r n).trans ?_
  have h0 : ((cfg1.win 4).blk t).view.emb (ix2 r n) (0 : Fin 2) = rowOf t r := Fin.ext (by blk_simp [e, rowOf])
  have h1 : ((cfg1.win 4).blk t).view.emb (ix2 r n) (1 : Fin 2) = colOf (jOf t) n := Fin.ext (by blk_simp [e, colOf, jOf])
  have hy : ((cfg1.win 4).blk t).view.emb (ix2 r n) = ix2 (rowOf t r) (colOf (jOf t) n) := by
    funext a; fin_cases a
    · exact h0
    · exact h1
  rw [hy]
  unfold addP
  rw [blk2]
  refine congrArg (fun s : EReal => (argY m c (ix2 (rowOf t r) (colOf (jOf t) n)) : EReal) + s) (Finset.sum_congr rfl fun k _ => ?_)
  rw [blk0, panJ_apply]
  rfl

/-- The decode rows' result: a quarter of the product added to what was there. -/
theorem arr5 : (dat m c).arrAt 5 cfg1.N = addD 1 (argD m c) (argW m c) (argYD m c) := by
  refine (dat m c).arrAt_eq_of_covers 5 _ (by decide +kernel) fun t hf y => ?_
  have e := (idx t).2.2.2.2.2
  have hN : t.1 < 64 := lt_of_lt_of_eq t.isLt N0
  obtain ⟨r, n, rfl⟩ : ∃ (r : Fin 256) (n : Fin 1024), y = ix2 r n := ⟨y 0, y 1, by funext a; fin_cases a <;> rfl⟩
  rw [cast_eq, after5]
  refine (pay2_apply _ _ _ r n).trans ?_
  have h0 : ((cfg1.win 5).blk t).view.emb (ix2 r n) (0 : Fin 2) = r := Fin.ext (by blk_simp [e])
  have h1 : ((cfg1.win 5).blk t).view.emb (ix2 r n) (1 : Fin 2) = colOf (jOf t) n := Fin.ext (by blk_simp [e, colOf, jOf])
  have hy : ((cfg1.win 5).blk t).view.emb (ix2 r n) = ix2 r (colOf (jOf t) n) := by
    funext a; fin_cases a
    · exact h0
    · exact h1
  rw [hy]
  unfold addD
  rw [blk3]
  refine congrArg (fun s : EReal => (argYD m c (ix2 r (colOf (jOf t) n)) : EReal) + s) (Finset.sum_congr rfl fun k _ => ?_)
  rw [blk1, panJ_apply]
  rfl

end Cert.Down1

end
-- ==== Proof.DownValue2.lean ====
/-
  The values of the third call of `ffn_down`: both its results, entry by entry, over the buffers it is entered with.
-/
module

public import proofs.«01_k».proof.Proof.DownFrame2
public import proofs.«01_k».proof.Proof.DownSum
public import Idealize.ShloMosaic.Lib.Pipeline.ValueKit

@[expose] public section

set_option maxRecDepth 16384

noncomputable section

namespace Cert.Down2

open Cert.Kernel3Ideal Cert.Kernel3Ideal.Gen Cert.Down Idealize.ShloMosaic Idealize.ShloMosaic.TcCoe Idealize.SL.Sem

variable (m : Ent Ideal) (c : Dev nD)

/-- What the call reads. -/
def argX : Vec Ideal S8192x16384 .bf16 := V m c main_arg0
def argD : Vec Ideal S256x16384 .bf16 := V m c main_arg1
def argW : Vec Ideal S16384x4096 .f32 := V m c main_arg2
def argY : Vec Ideal S8192x4096 .f32 := V m c main_v1_0
def argYD : Vec Ideal S256x4096 .f32 := V m c main_v1_1

/-- Where each window's block lies, at a point. -/
theorem idx : ∀ t : Fin cfg2.N, win2_0.index t = ![t.1 % 16, 2] ∧ win2_1.index t = ![0, 2] ∧ win2_2.index t = ![t.1 % 16, t.1 / 16]
    ∧ win2_3.index t = ![0, t.1 / 16] ∧ win2_4.index t = ![t.1 % 16, t.1 / 16] ∧ win2_5.index t = ![0, t.1 / 16] :=
  (by decide +kernel : ∀ t : Fin grid2.N, win2_0.index t = ![t.1 % 16, 2] ∧ win2_1.index t = ![0, 2] ∧ win2_2.index t = ![t.1 % 16, t.1 / 16]
    ∧ win2_3.index t = ![0, t.1 / 16] ∧ win2_4.index t = ![t.1 % 16, t.1 / 16] ∧ win2_5.index t = ![0, t.1 / 16])

/-- A row of a block of rows, and a column of a panel, in the whole arrays. -/
def rowOf (t : Fin cfg2.N) (r : Fin 512) : Fin 8192 := ⟨t.1 % 16 * 512 + r.1, by omega⟩
def colOf (j : Fin 4) (n : Fin 1024) : Fin 4096 := ⟨j.1 * 1024 + n.1, by omega⟩

theorem blk0 (t : Fin cfg2.N) (r : Fin 512) (k : Fin 4096) : (iblk m c 0 t : Vec Ideal S512x4096 .bf16) (ix2 r k) = argX m c (ix2 (rowOf t r) (part 2 k)) := by
  have h := (idx t).1
  unfold argX rowOf part
  blk_ext [iblk, h]

theorem blk1 (t : Fin cfg2.N) (r : Fin 256) (k : Fin 4096) : (iblk m c 1 t : Vec Ideal S256x4096 .bf16) (ix2 r k) = argD m c (ix2 r (part 2 k)) := by
  have h := (idx t).2.1
  unfold argD part
  blk_ext [iblk, h]

theorem blk2 (t : Fin cfg2.N) (r : Fin 512) (n : Fin 1024) : (iblk m c 2 t : Vec Ideal S512x1024 .f32) (ix2 r n) = argY m c (ix2 (rowOf t r) (colOf (jOf t) n)) := by
  have h := (idx t).2.2.1
  unfold argY rowOf colOf jOf
  blk_ext [iblk, h]

theorem blk3 (t : Fin cfg2.N) (r : Fin 256) (n : Fin 1024) : (iblk m c 3 t : Vec Ideal S256x1024 .f32) (ix2 r n) = argYD m c (ix2 r (colOf (jOf t) n)) := by
  have h := (idx t).2.2.2.1
  unfold argYD colOf jOf
  blk_ext [iblk, h]

theorem panJ_apply (j : Fin 4) (k : Fin 4096) (n : Fin 1024) : panJ m c j (ix2 k n) = argW m c (ix2 (part 2 k) (colOf j n)) := by
  unfold argW colOf panJ
  refine congrArg (V m c main_arg2) ?_
  funext a
  fin_cases a
  · refine Fin.ext ?_
    show 8192 + 1 * k.1 = 2 * 4096 + k.1
    omega
  · refine Fin.ext ?_
    show 1024 * j.1 + 1 * n.1 = j.1 * 1024 + n.1
    omega

/-- A block of the prompt rows' result, entry by entry. -/
theorem pay3_apply (x : Vec Ideal S512x4096 .bf16) (p : Vec Ideal S4096x1024 .f32) (y : Vec Ideal S512x1024 .f32) (r : Fin 512) (n : Fin 1024) :
    (k2_pay3 (F := Ideal) x (k2_pay1 (F := Ideal) p) y) (ix2 r n) = (y (ix2 r n) : EReal) + ∑ k : Fin 4096, (x (ix2 r k) * p (ix2 k n) : EReal) := by
  pointwise [k2_pay3, k2_pay1]

/-- A block of the decode rows' result, entry by entry. -/
theorem pay2_apply (x : Vec Ideal S256x4096 .bf16) (p : Vec Ideal S4096x1024 .f32) (y : Vec Ideal S256x1024 .f32) (r : Fin 256) (n : Fin 1024) :
    (k2_pay2 (F := Ideal) x (k2_pay1 (F := Ideal) p) y) (ix2 r n) = (y (ix2 r n) : EReal) + ∑ k : Fin 4096, (x (ix2 r k) * p (ix2 k n) : EReal) := by
  pointwise [k2_pay2, k2_pay1]

/-- The prompt rows' result: a quarter of the product added to what was there. -/
theorem arr4 : (dat m c).arrAt 4 cfg2.N = addP 2 (argX m c) (argW m c) (argY m c) := by
  refine (dat m c).arrAt_eq_of_covers 4 _ (by decide +kernel) fun t hf y => ?_
  have e := (idx t).2.2.2.2.1
  have hN : t.1 < 64 := lt_of_lt_of_eq t.isLt N0
  obtain ⟨r, n, rfl⟩ : ∃ (r : Fin 512) (n : Fin 1024), y = ix2 r n := ⟨y 0, y 1, by funext a; fin_cases a <;> rfl⟩
  rw [cast_eq, after4]
  refine (pay3_apply _ _ _ r n).trans ?_
  have h0 : ((cfg2.win 4).blk t).view.emb (ix2 r n) (0 : Fin 2) = rowOf t r := Fin.ext (by blk_simp [e, rowOf])
  have h1 : ((cfg2.win 4).blk t).view.emb (ix2 r n) (1 : Fin 2) = colOf (jOf t) n := Fin.ext (by blk_simp [e, colOf, jOf])
  have hy : ((cfg2.win 4).blk t).view.emb (ix2 r n) = ix2 (rowOf t r) (colOf (jOf t) n) := by
    funext a; fin_cases a
    · exact h0
    · exact h1
  rw [hy]
  unfold addP
  rw [blk2]
  refine congrArg (fun s : EReal => (argY m c (ix2 (rowOf t r) (colOf (jOf t) n)) : EReal) + s) (Finset.sum_congr rfl fun k _ => ?_)
  rw [blk0, panJ_apply]
  rfl

/-- The decode rows' result: a quarter of the product added to what was there. -/
theorem arr5 : (dat m c).arrAt 5 cfg2.N = addD 2 (argD m c) (argW m c) (argYD m c) := by
  refine (dat m c).arrAt_eq_of_covers 5 _ (by decide +kernel) fun t hf y => ?_
  have e := (idx t).2.2.2.2.2
  have hN : t.1 < 64 := lt_of_lt_of_eq t.isLt N0
  obtain ⟨r, n, rfl⟩ : ∃ (r : Fin 256) (n : Fin 1024), y = ix2 r n := ⟨y 0, y 1, by funext a; fin_cases a <;> rfl⟩
  rw [cast_eq, after5]
  refine (pay2_apply _ _ _ r n).trans ?_
  have h0 : ((cfg2.win 5).blk t).view.emb (ix2 r n) (0 : Fin 2) = r := Fin.ext (by blk_simp [e])
  have h1 : ((cfg2.win 5).blk t).view.emb (ix2 r n) (1 : Fin 2) = colOf (jOf t) n := Fin.ext (by blk_simp [e, colOf, jOf])
  have hy : ((cfg2.win 5).blk t).view.emb (ix2 r n) = ix2 r (colOf (jOf t) n) := by
    funext a; fin_cases a
    · exact h0
    · exact h1
  rw [hy]
  unfold addD
  rw [blk3]
  refine congrArg (fun s : EReal => (argYD m c (ix2 r (colOf (jOf t) n)) : EReal) + s) (Finset.sum_congr rfl fun k _ => ?_)
  rw [blk1, panJ_apply]
  rfl

end Cert.Down2

end
-- ==== Proof.DownValue3.lean ====
/-
  The values of the fourth call of `ffn_down`: both its results, entry by entry, over the buffers it is entered with.
-/
module

public import proofs.«01_k».proof.Proof.DownFrame3
public import proofs.«01_k».proof.Proof.DownSum
public import Idealize.ShloMosaic.Lib.Pipeline.ValueKit

@[expose] public section

set_option maxRecDepth 16384

noncomputable section

namespace Cert.Down3

open Cert.Kernel3Ideal Cert.Kernel3Ideal.Gen Cert.Down Idealize.ShloMosaic Idealize.ShloMosaic.TcCoe Idealize.SL.Sem

variable (m : Ent Ideal) (c : Dev nD)

/-- What the call reads. -/
def argX : Vec Ideal S8192x16384 .bf16 := V m c main_arg0
def argD : Vec Ideal S256x16384 .bf16 := V m c main_arg1
def argW : Vec Ideal S16384x4096 .f32 := V m c main_arg2
def argY : Vec Ideal S8192x4096 .f32 := V m c main_v2_0
def argYD : Vec Ideal S256x4096 .f32 := V m c main_v2_1

/-- Where each window's block lies, at a point. -/
theorem idx : ∀ t : Fin cfg3.N, win3_0.index t = ![t.1 % 16, 3] ∧ win3_1.index t = ![0, 3] ∧ win3_2.index t = ![t.1 % 16, t.1 / 16]
    ∧ win3_3.index t = ![0, t.1 / 16] ∧ win3_4.index t = ![t.1 % 16, t.1 / 16] ∧ win3_5.index t = ![0, t.1 / 16] :=
  (by decide +kernel : ∀ t : Fin grid3.N, win3_0.index t = ![t.1 % 16, 3] ∧ win3_1.index t = ![0, 3] ∧ win3_2.index t = ![t.1 % 16, t.1 / 16]
    ∧ win3_3.index t = ![0, t.1 / 16] ∧ win3_4.index t = ![t.1 % 16, t.1 / 16] ∧ win3_5.index t = ![0, t.1 / 16])

/-- A row of a block of rows, and a column of a panel, in the whole arrays. -/
def rowOf (t : Fin cfg3.N) (r : Fin 512) : Fin 8192 := ⟨t.1 % 16 * 512 + r.1, by omega⟩
def colOf (j : Fin 4) (n : Fin 1024) : Fin 4096 := ⟨j.1 * 1024 + n.1, by omega⟩

theorem blk0 (t : Fin cfg3.N) (r : Fin 512) (k : Fin 4096) : (iblk m c 0 t : Vec Ideal S512x4096 .bf16) (ix2 r k) = argX m c (ix2 (rowOf t r) (part 3 k)) := by
  have h := (idx t).1
  unfold argX rowOf part
  blk_ext [iblk, h]

theorem blk1 (t : Fin cfg3.N) (r : Fin 256) (k : Fin 4096) : (iblk m c 1 t : Vec Ideal S256x4096 .bf16) (ix2 r k) = argD m c (ix2 r (part 3 k)) := by
  have h := (idx t).2.1
  unfold argD part
  blk_ext [iblk, h]

theorem blk2 (t : Fin cfg3.N) (r : Fin 512) (n : Fin 1024) : (iblk m c 2 t : Vec Ideal S512x1024 .f32) (ix2 r n) = argY m c (ix2 (rowOf t r) (colOf (jOf t) n)) := by
  have h := (idx t).2.2.1
  unfold argY rowOf colOf jOf
  blk_ext [iblk, h]

theorem blk3 (t : Fin cfg3.N) (r : Fin 256) (n : Fin 1024) : (iblk m c 3 t : Vec Ideal S256x1024 .f32) (ix2 r n) = argYD m c (ix2 r (colOf (jOf t) n)) := by
  have h := (idx t).2.2.2.1
  unfold argYD colOf jOf
  blk_ext [iblk, h]

theorem panJ_apply (j : Fin 4) (k : Fin 4096) (n : Fin 1024) : panJ m c j (ix2 k n) = argW m c (ix2 (part 3 k) (colOf j n)) := by
  unfold argW colOf panJ
  refine congrArg (V m c main_arg2) ?_
  funext a
  fin_cases a
  · refine Fin.ext ?_
    show 12288 + 1 * k.1 = 3 * 4096 + k.1
    omega
  · refine Fin.ext ?_
    show 1024 * j.1 + 1 * n.1 = j.1 * 1024 + n.1
    omega

/-- A block of the prompt rows' result, entry by entry. -/
theorem pay3_apply (x : Vec Ideal S512x4096 .bf16) (p : Vec Ideal S4096x1024 .f32) (y : Vec Ideal S512x1024 .f32) (r : Fin 512) (n : Fin 1024) :
    (k3_pay3 (F := Ideal) x (k3_pay1 (F := Ideal) p) y) (ix2 r n) = (y (ix2 r n) : EReal) + ∑ k : Fin 4096, (x (ix2 r k) * p (ix2 k n) : EReal) := by
  pointwise [k3_pay3, k3_pay1]

/-- A block of the decode rows' result, entry by entry. -/
theorem pay2_apply (x : Vec Ideal S256x4096 .bf16) (p : Vec Ideal S4096x1024 .f32) (y : Vec Ideal S256x1024 .f32) (r : Fin 256) (n : Fin 1024) :
    (k3_pay2 (F := Ideal) x (k3_pay1 (F := Ideal) p) y) (ix2 r n) = (y (ix2 r n) : EReal) + ∑ k : Fin 4096, (x (ix2 r k) * p (ix2 k n) : EReal) := by
  pointwise [k3_pay2, k3_pay1]

/-- The prompt rows' result: a quarter of the product added to what was there. -/
theorem arr4 : (dat m c).arrAt 4 cfg3.N = addP 3 (argX m c) (argW m c) (argY m c) := by
  refine (dat m c).arrAt_eq_of_covers 4 _ (by decide +kernel) fun t hf y => ?_
  have e := (idx t).2.2.2.2.1
  have hN : t.1 < 64 := lt_of_lt_of_eq t.isLt N0
  obtain ⟨r, n, rfl⟩ : ∃ (r : Fin 512) (n : Fin 1024), y = ix2 r n := ⟨y 0, y 1, by funext a; fin_cases a <;> rfl⟩
  rw [cast_eq, after4]
  refine (pay3_apply _ _ _ r n).trans ?_
  have h0 : ((cfg3.win 4).blk t).view.emb (ix2 r n) (0 : Fin 2) = rowOf t r := Fin.ext (by blk_simp [e, rowOf])
  have h1 : ((cfg3.win 4).blk t).view.emb (ix2 r n) (1 : Fin 2) = colOf (jOf t) n := Fin.ext (by blk_simp [e, colOf, jOf])
  have hy : ((cfg3.win 4).blk t).view.emb (ix2 r n) = ix2 (rowOf t r) (colOf (jOf t) n) := by
    funext a; fin_cases a
    · exact h0
    · exact h1
  rw [hy]
  unfold addP
  rw [blk2]
  refine congrArg (fun s : EReal => (argY m c (ix2 (rowOf t r) (colOf (jOf t) n)) : EReal) + s) (Finset.sum_congr rfl fun k _ => ?_)
  rw [blk0, panJ_apply]
  rfl

/-- The decode rows' result: a quarter of the product added to what was there. -/
theorem arr5 : (dat m c).arrAt 5 cfg3.N = addD 3 (argD m c) (argW m c) (argYD m c) := by
  refine (dat m c).arrAt_eq_of_covers 5 _ (by decide +kernel) fun t hf y => ?_
  have e := (idx t).2.2.2.2.2
  have hN : t.1 < 64 := lt_of_lt_of_eq t.isLt N0
  obtain ⟨r, n, rfl⟩ : ∃ (r : Fin 256) (n : Fin 1024), y = ix2 r n := ⟨y 0, y 1, by funext a; fin_cases a <;> rfl⟩
  rw [cast_eq, after5]
  refine (pay2_apply _ _ _ r n).trans ?_
  have h0 : ((cfg3.win 5).blk t).view.emb (ix2 r n) (0 : Fin 2) = r := Fin.ext (by blk_simp [e])
  have h1 : ((cfg3.win 5).blk t).view.emb (ix2 r n) (1 : Fin 2) = colOf (jOf t) n := Fin.ext (by blk_simp [e, colOf, jOf])
  have hy : ((cfg3.win 5).blk t).view.emb (ix2 r n) = ix2 r (colOf (jOf t) n) := by
    funext a; fin_cases a
    · exact h0
    · exact h1
  rw [hy]
  unfold addD
  rw [blk3]
  refine congrArg (fun s : EReal => (argYD m c (ix2 r (colOf (jOf t) n)) : EReal) + s) (Finset.sum_congr rfl fun k _ => ?_)
  rw [blk1, panJ_apply]
  rfl

end Cert.Down3

end
-- ==== Proof.DownAgree.lean ====
/-
  `ffn_down` against its reference: the reference's results entry by entry, the program's after its four calls, and their
  agreement.
-/
module

public import proofs.«01_k».proof.Proof.DownMain
public import proofs.«01_k».proof.Proof.DownValue0
public import proofs.«01_k».proof.Proof.DownValue1
public import proofs.«01_k».proof.Proof.DownValue2
public import proofs.«01_k».proof.Proof.DownValue3
public import proofs.«01_k».proof.Proof.Gen.Reference3Ideal.Run
public import Idealize.ShloMosaic.Lib.Claim
public import Idealize.ShloMosaic.Lib.Quiescent

@[expose] public section

set_option maxRecDepth 16384

noncomputable section

namespace Cert.Down

open Idealize.ShloMosaic Idealize.ShloMosaic.TcCoe Idealize.SL.Sem

section Reference
open Cert.Reference3Ideal Cert.Reference3Ideal.Gen

/-- The reference's two results as the program computes them. -/
def refP (x : Vec Ideal S8192x16384 .bf16) (w : Vec Ideal S16384x4096 .f32) (y : Vec Ideal S8192x4096 .f32) : Vec Ideal S8192x4096 .f32 :=
  addf y (Host.dotGeneral (F := Ideal) (φ₁ := .f32) (φ₂ := .f32) dot_S8192x16384_S16384x4096_S8192x4096_1_0_0_1_n_n none (extf .f32 x bitsLt_bf16_f32) w)
def refD (x : Vec Ideal S256x16384 .bf16) (w : Vec Ideal S16384x4096 .f32) (y : Vec Ideal S256x4096 .f32) : Vec Ideal S256x4096 .f32 :=
  addf y (Host.dotGeneral (F := Ideal) (φ₁ := .f32) (φ₂ := .f32) dot_S256x16384_S16384x4096_S256x4096_1_0_0_1_n_n none (extf .f32 x bitsLt_bf16_f32) w)

theorem refP_apply (x : Vec Ideal S8192x16384 .bf16) (w : Vec Ideal S16384x4096 .f32) (y : Vec Ideal S8192x4096 .f32) (r : Fin 8192) (n : Fin 4096) :
    refP x w y (ix2 r n) = (y (ix2 r n) : EReal) + ∑ k : Fin 16384, (x (ix2 r k) * w (ix2 k n) : EReal) := by
  unfold refP
  pointwise []

theorem refD_apply (x : Vec Ideal S256x16384 .bf16) (w : Vec Ideal S16384x4096 .f32) (y : Vec Ideal S256x4096 .f32) (r : Fin 256) (n : Fin 4096) :
    refD x w y (ix2 r n) = (y (ix2 r n) : EReal) + ∑ k : Fin 16384, (x (ix2 r k) * w (ix2 k n) : EReal) := by
  unfold refD
  pointwise []

/-- The reference's run: its two results, its arguments unchanged, its counters at zero. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v2) = refP (m ((c.tc : Thread nD τ).loc main_arg0)) (m ((c.tc : Thread nD τ).loc main_arg2)) (m ((c.tc : Thread nD τ).loc main_arg3))
      ∧ r.2.mem ((c.tc : Thread nD τ).loc main_v5) = refD (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  θ_run_mono (Cert.Reference3Ideal.Value.run m ρ) fun r h => ⟨h, sem_eq_zero_of_no_sems (by decide) _⟩

end Reference

section Agree
open Cert.Kernel3Ideal Cert.Kernel3Ideal.Gen

variable (m : (ℓ : Loc nD τ sig) → Buf (Elt Ideal) ℓ) (ρ : Dev nD → PrngReg) (c : Dev nD)

/-- The arguments as launched. -/
def xP : Vec Ideal S8192x16384 .bf16 := m ((c.tc : Thread nD τ).loc main_arg0)
def xD : Vec Ideal S256x16384 .bf16 := m ((c.tc : Thread nD τ).loc main_arg1)
def wW : Vec Ideal S16384x4096 .f32 := m ((c.tc : Thread nD τ).loc main_arg2)
def yP : Vec Ideal S8192x4096 .f32 := m ((c.tc : Thread nD τ).loc main_arg3)
def yD : Vec Ideal S256x4096 .f32 := m ((c.tc : Thread nD τ).loc main_arg4)

/-- Every call reads the rows and the weights as launched. -/
theorem argX0 : Down0.argX (U0 m) c = xP m c := rfl
theorem argD0 : Down0.argD (U0 m) c = xD m c := rfl
theorem argW0 : Down0.argW (U0 m) c = wW m c := rfl
theorem argX1 : Down1.argX (U1 m) c = xP m c := step0_of (U0 m) c main_arg0 (by decide) (by decide)
theorem argD1 : Down1.argD (U1 m) c = xD m c := step0_of (U0 m) c main_arg1 (by decide) (by decide)
theorem argW1 : Down1.argW (U1 m) c = wW m c := step0_of (U0 m) c main_arg2 (by decide) (by decide)
theorem argX2 : Down2.argX (U2 m) c = xP m c := (step1_of (U1 m) c main_arg0 (by decide) (by decide)).trans (step0_of (U0 m) c main_arg0 (by decide) (by decide))
theorem argD2 : Down2.argD (U2 m) c = xD m c := (step1_of (U1 m) c main_arg1 (by decide) (by decide)).trans (step0_of (U0 m) c main_arg1 (by decide) (by decide))
theorem argW2 : Down2.argW (U2 m) c = wW m c := (step1_of (U1 m) c main_arg2 (by decide) (by decide)).trans (step0_of (U0 m) c main_arg2 (by decide) (by decide))
theorem argX3 : Down3.argX (U3 m) c = xP m c := (step2_of (U2 m) c main_arg0 (by decide) (by decide)).trans ((step1_of (U1 m) c main_arg0 (by decide) (by decide)).trans (step0_of (U0 m) c main_arg0 (by decide) (by decide)))
theorem argD3 : Down3.argD (U3 m) c = xD m c := (step2_of (U2 m) c main_arg1 (by decide) (by decide)).trans ((step1_of (U1 m) c main_arg1 (by decide) (by decide)).trans (step0_of (U0 m) c main_arg1 (by decide) (by decide)))
theorem argW3 : Down3.argW (U3 m) c = wW m c := (step2_of (U2 m) c main_arg2 (by decide) (by decide)).trans ((step1_of (U1 m) c main_arg2 (by decide) (by decide)).trans (step0_of (U0 m) c main_arg2 (by decide) (by decide)))

/-- The program's two results. -/
def downP : Vec Ideal S8192x4096 .f32 := addP 3 (xP m c) (wW m c) (addP 2 (xP m c) (wW m c) (addP 1 (xP m c) (wW m c) (addP 0 (xP m c) (wW m c) (yP m c))))
def downD : Vec Ideal S256x4096 .f32 := addD 3 (xD m c) (wW m c) (addD 2 (xD m c) (wW m c) (addD 1 (xD m c) (wW m c) (addD 0 (xD m c) (wW m c) (yD m c))))

theorem v0_0 : Down1.argY (U1 m) c = addP 0 (xP m c) (wW m c) (yP m c) := by
  refine (step0_0 (U0 m) c).trans ((Down0.arr4 (U0 m) c).trans ?_)
  rw [argX0, argW0]; rfl
theorem v0_1 : Down1.argYD (U1 m) c = addD 0 (xD m c) (wW m c) (yD m c) := by
  refine (step0_1 (U0 m) c).trans ((Down0.arr5 (U0 m) c).trans ?_)
  rw [argD0, argW0]; rfl
theorem v1_0 : Down2.argY (U2 m) c = addP 1 (xP m c) (wW m c) (addP 0 (xP m c) (wW m c) (yP m c)) := by
  refine (step1_0 (U1 m) c).trans ((Down1.arr4 (U1 m) c).trans ?_)
  rw [argX1, argW1, v0_0]
theorem v1_1 : Down2.argYD (U2 m) c = addD 1 (xD m c) (wW m c) (addD 0 (xD m c) (wW m c) (yD m c)) := by
  refine (step1_1 (U1 m) c).trans ((Down1.arr5 (U1 m) c).trans ?_)
  rw [argD1, argW1, v0_1]
theorem v2_0 : Down3.argY (U3 m) c = addP 2 (xP m c) (wW m c) (addP 1 (xP m c) (wW m c) (addP 0 (xP m c) (wW m c) (yP m c))) := by
  refine (step2_0 (U2 m) c).trans ((Down2.arr4 (U2 m) c).trans ?_)
  rw [argX2, argW2, v1_0]
theorem v2_1 : Down3.argYD (U3 m) c = addD 2 (xD m c) (wW m c) (addD 1 (xD m c) (wW m c) (addD 0 (xD m c) (wW m c) (yD m c))) := by
  refine (step2_1 (U2 m) c).trans ((Down2.arr5 (U2 m) c).trans ?_)
  rw [argD2, argW2, v1_1]
theorem v3_0 : U4 m c main_v3_0 = downP m c := by
  refine (step3_0 (U3 m) c).trans ((Down3.arr4 (U3 m) c).trans ?_)
  rw [argX3, argW3, v2_0]; rfl
theorem v3_1 : U4 m c main_v3_1 = downD m c := by
  refine (step3_1 (U3 m) c).trans ((Down3.arr5 (U3 m) c).trans ?_)
  rw [argD3, argW3, v2_1]; rfl

/-- The program's run, read: its two results and its arguments. -/
theorem down_run : θ_run defs (onTc (τ := τ) (main (F := Ideal))) ⟨m, fun _ => 0, ρ⟩ (fun r => ∀ c : Dev nD,
      r.2.mem ((c.tc : Thread nD τ).loc main_v3_0) = downP m c
      ∧ r.2.mem ((c.tc : Thread nD τ).loc main_v3_1) = downD m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (run_main m ρ) fun _ h c => ⟨(h.1 c _ (mem_uc main_v3_0 (by decide))).trans (v3_0 m c),
    (h.1 c _ (mem_uc main_v3_1 (by decide))).trans (v3_1 m c),
    (h.1 c _ (mem_uc main_arg0 (by decide))).trans (U4_arg m c main_arg0 (by decide)),
    (h.1 c _ (mem_uc main_arg1 (by decide))).trans (U4_arg m c main_arg1 (by decide)),
    (h.1 c _ (mem_uc main_arg2 (by decide))).trans (U4_arg m c main_arg2 (by decide)),
    (h.1 c _ (mem_uc main_arg3 (by decide))).trans (U4_arg m c main_arg3 (by decide)),
    (h.1 c _ (mem_uc main_arg4 (by decide))).trans (U4_arg m c main_arg4 (by decide))⟩

/-- On equal arguments the reference's first result is the program's. -/
theorem p_agree (x : Vec Ideal S8192x16384 .bf16) (w : Vec Ideal S16384x4096 .f32) (y : Vec Ideal S8192x4096 .f32) (hx : x = xP m c) (hw : w = wW m c) (hy : y = yP m c) :
    refP x w y = downP m c := by
  subst hx hw hy
  funext i
  have hi : i = ix2 (i 0) (i 1) := by funext a; fin_cases a <;> rfl
  rw [hi]
  exact (refP_apply _ _ _ (i 0) (i 1)).trans (addP_all _ _ _ (i 0) (i 1)).symm

/-- On equal arguments the reference's second result is the program's. -/
theorem d_agree (x : Vec Ideal S256x16384 .bf16) (w : Vec Ideal S16384x4096 .f32) (y : Vec Ideal S256x4096 .f32) (hx : x = xD m c) (hw : w = wW m c) (hy : y = yD m c) :
    refD x w y = downD m c := by
  subst hx hw hy
  funext i
  have hi : i = ix2 (i 0) (i 1) := by funext a; fin_cases a <;> rfl
  rw [hi]
  exact (refD_apply _ _ _ (i 0) (i 1)).trans (addD_all _ _ _ (i 0) (i 1)).symm

end Agree

end Cert.Down

end
-- ==== Proof.InRun.lean ====
/-
  The body of `in_proj` run at a point, in its four cases: the first point, a later first row of a panel, the first row of
  the last panel, and any other row.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Inp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The weights, left whole in HBM; the panel being copied; the panel in use, cast. -/
abbrev mW : Memref sig .tc .hbm S9248x4096 .f32 := Memref.whole main_v0
abbrev mF : Memref sig .tc .vmem S1024x4096 .f32 := Memref.whole cc0_scratch0
abbrev mB : Memref sig .tc .vmem S4096x1024 .bf16 := Memref.whole cc0_scratch1

/-- The window of the weights at offsets `o`. -/
abbrev pan (o : Fin 2 → ℕ) (h : ∀ a, o a + S1024x4096.size a ≤ S9248x4096.size a) : Memref sig .tc .hbm S1024x4096 .f32 :=
  mW.slice (Rect.unit (s := S9248x4096) o S1024x4096.size h) (fun _ => rfl)

abbrev BufOf (F : FTy → Type) (c : Dev nD) {sp : Space} {S : Shape} {e : EltTy} (M : Memref sig .tc sp S e) : Type :=
  Buf (Elt F) (M.view.loc (c : Thread nD τ))

/-- A whole buffer held at contents. -/
abbrev pt (c : Dev nD) {sp : Space} {S : Shape} {e : EltTy} (M : Memref sig .tc sp S e) (f : BufOf F c M) : sProp 𝕄 :=
  M.view.loc (c : Thread nD τ) ↦{fullShare} f

/-- The kernel's one DMA cell. -/
abbrev osm : SemLoc sig := SemLoc.dma 7

/-- The panel at `o` on its way into the panel buffer, and the rest of the weights. -/
def flight (c : Dev nD) (fw : BufOf F c mW) (o : Fin 2 → ℕ) (h : ∀ a, o a + S1024x4096.size a ≤ S9248x4096.size a) : sProp 𝕄 :=
  iprop(∃ f0 : BufOf F c mF, Transfers.Flight countersEmb (c : Thread nD τ) osm () 524288
      iprop((mF.view.loc (c : Thread nD τ) ↦{fullShare} mF.view.write (Elt F) f0 (ReadAs.same.apply ((pan o h).view.read (Elt F) fw)) Finset.univ)
        ∗ (mW.view.loc (c : Thread nD τ) ↦[(pan o h).view.set]{fullShare} fw))
    ∗ (mW.view.loc (c : Thread nD τ) ↦[Finset.univ \ (pan o h).view.set]{fullShare} fw))

variable (c : Dev nD) (i : grid0.Coords)
  (arg2 : Memref sig .tc .vmem S512x4096 .bf16) (harg2 : arg2.IsWhole) (arg4 : Memref sig .tc .vmem S256x4096 .bf16) (harg4 : arg4.IsWhole)
  (arg5 : Memref sig .tc .vmem S512x1024 .f32) (harg5 : arg5.IsWhole) (arg6 : Memref sig .tc .vmem S256x1024 .f32) (harg6 : arg6.IsWhole)
  (x : Vec F S512x4096 .bf16) (xd : Vec F S256x4096 .bf16) (w : BufOf F c mB) (fw : BufOf F c mW)

/-- The body at a point of this program. -/
abbrev body : Prog (TpuEff nD τ sig (Elt F) Λ₀ .tc) PUnit :=
  cc0_in_proj i arg2 harg2 mW (Memref.isWhole_whole _) arg4 harg4 arg5 harg5 arg6 harg6 mF (Memref.isWhole_whole _) mB (Memref.isWhole_whole _) cc0_scratch2

set_option maxHeartbeats 1000000 in
/-- A row that is not a panel's first: only the block product is stored. -/
theorem run_D (hc1 : ¬ k0_cond1 i = 1#1) (K : PUnit → sProp 𝕄) :
    iprop(owns (c : Thread nD τ) arg2 fullShare x ∗ (∃ d, owns (c : Thread nD τ) arg5 fullShare d) ∗ pt c mB w
        ∗ (iprop(owns (c : Thread nD τ) arg2 fullShare x ∗ owns (c : Thread nD τ) arg5 fullShare (k0_pay3 x w) ∗ pt c mB w) -∗ K ⟨⟩))
      ⊢ wp frame (wpE (defs₀ (F := F)) Variants.none c none) Set.univ (body i arg2 harg2 arg4 harg4 arg5 harg5 arg6 harg6) K := by
  unfold body
  simp only [cc0_in_proj_eq_skeleton]; unfold cc0_in_proj_skel
  unfold owns
  iintro ⟨⟨%f2, %hf2, H2⟩, ⟨%d5, %f5, -, H5⟩, HB, Hk⟩
  obtain rfl := harg2.eq_unread hf2
  sl_exec (disch := first | sl_exact hc1)
  sl_step
  iapply Hk
  isplitl [H2]
  · iexists _; isplitr; · ipureintro; exact harg2.read_unread _
    iexact H2
  isplitl [H5]
  · iexists _; isplitr; swap; · iexact H5
    ipureintro
    refine (View.read_writes_full _ _ _ _ _).trans ?_
    rw [View.readAt_full, View.readAt_full, harg2.read_unread]
    rfl
  iexact HB

/-- The window of the weights at `o`, as a value. -/
abbrev panR (c : Dev nD) (fw : BufOf F c mW) (o : Fin 2 → ℕ) (h : ∀ a, o a + S1024x4096.size a ≤ S9248x4096.size a) : Vec F S1024x4096 .f32 :=
  (pan o h).view.read (Elt F) fw

/-- What the body leaves at a panel's first row, over the panel `p`. -/
abbrev left (c : Dev nD) (arg2 : Memref sig .tc .vmem S512x4096 .bf16) (arg4 : Memref sig .tc .vmem S256x4096 .bf16)
    (arg5 : Memref sig .tc .vmem S512x1024 .f32) (arg6 : Memref sig .tc .vmem S256x1024 .f32)
    (x : Vec F S512x4096 .bf16) (xd : Vec F S256x4096 .bf16) (p : Vec F S1024x4096 .f32) : sProp 𝕄 :=
  iprop(owns (c : Thread nD τ) arg2 fullShare x ∗ owns (c : Thread nD τ) arg4 fullShare xd
    ∗ owns (c : Thread nD τ) arg5 fullShare (k0_pay3 x (k0_pay1 p)) ∗ owns (c : Thread nD τ) arg6 fullShare (k0_pay2 xd (k0_pay1 p))
    ∗ pt c mB (k0_pay1 p))

/-- A store over all of a whole buffer leaves what was stored. -/
theorem writes_whole (b : Ref sig .tc) (f v : b.ty.Contents (Elt F)) {off : Fin b.ty.shape.rank → ℕ} (h : ∀ a, off a + b.ty.shape.size a ≤ b.ty.shape.size a) :
    (View.whole b).writes (Elt F) f [⟨Rect.unit off b.ty.shape.size h, v⟩] = v :=
  (View.read_whole b _).symm.trans (View.read_writes_full (View.whole b) f h v [])

/-- The whole-buffer store of the cast panel leaves it. -/
theorem cast_left (fB : BufOf F c mB) (v : Vec F S4096x1024 .bf16) (h) :
    mB.view.writes (Elt F) fB [⟨Rect.unit (s := S4096x1024) ![0, 0] S4096x1024.size h, v⟩] = v :=
  writes_whole cc0_scratch1 fB v h

/-- What is loaded of the panel buffer after a panel was copied over all of it: the panel. -/
theorem load_flight (f0 : BufOf F c mF) (v : Vec F S1024x4096 .f32) (h) :
    mF.view.readAt (Elt F) (Rect.unit (s := S1024x4096) ![0, 0] S1024x4096.size h).toLoadRect
      (mF.view.write (Elt F) f0 (ReadAs.same.apply v) Finset.univ) = v := by
  rw [View.readAt_full, ReadAs.apply_same]
  exact congrArg (mF.view.read (Elt F)) (View.write_whole_univ cc0_scratch0 f0 v)

set_option maxHeartbeats 2000000 in
/-- The first point: panel 0 is copied and waited for, cast, and panel 1's copy started. -/
theorem run_A (hc1 : k0_cond1 i = 1#1) (hc2 : k0_cond2 i = 1#1) (hc3 : k0_cond3 i = 1#1) (W : Waits sig Unit) (K : PUnit → sProp 𝕄) :
    iprop(owns (c : Thread nD τ) arg2 fullShare x ∗ owns (c : Thread nD τ) arg4 fullShare xd
        ∗ (∃ d, owns (c : Thread nD τ) arg5 fullShare d) ∗ (∃ d, owns (c : Thread nD τ) arg6 fullShare d)
        ∗ (∃ f, pt (F := F) c mB f) ∗ (∃ f, pt (F := F) c mF f) ∗ semVal ((c : Thread nD τ), osm) 0 ∗ pt c mW fw ∗ owes (c : Thread nD τ) 0 W
        ∗ (iprop(left c arg2 arg4 arg5 arg6 x xd (panR c fw ![0, 0] inb_S9248x4096_S1024x4096_0_0)
            ∗ flight c fw (k0_off2 i) (k0_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6) K := by
  unfold body left
  simp only [cc0_in_proj_eq_skeleton]; unfold cc0_in_proj_skel
  unfold owns flight
  iintro ⟨⟨%f2, %hf2, H2⟩, ⟨%f4, %hf4, H4⟩, ⟨%d5, %f5, -, H5⟩, ⟨%d6, %f6, -, H6⟩, ⟨%fB, HB⟩, ⟨%fF, HF⟩, HS, HW, HO, Hk⟩
  obtain rfl := harg2.eq_unread hf2
  obtain rfl := harg4.eq_unread hf4
  sl_exec (disch := first | sl_exact hc1 | sl_exact hc2 | sl_exact hc3)
  sl_step
  have e1 : run_A.sl.v25 c fw fF = k0_pay1 (panR c fw ![0, 0] inb_S9248x4096_S1024x4096_0_0) := by
    unfold run_A.sl.v25 run_A.sl.HB_1 run_A.sl.dma0
    rw [View.readCov_full, load_flight]; try rfl
  iapply Hk
  isplitl [H2 H4 H5 H6 HB]
  · isplitl [H2]
    · iexists _; isplitr; · ipureintro; exact harg2.read_unread _
      iexact H2
    isplitl [H4]
    · iexists _; isplitr; · ipureintro; exact harg4.read_unread _
      iexact H4
    isplitl [H5]
    · iexists _; isplitr; swap; · iexact H5
      ipureintro
      refine (View.read_writes_full _ _ _ _ _).trans ?_
      rw [View.readAt_full, harg2.read_unread, e1]
    isplitl [H6]
    · iexists _; isplitr; swap; · iexact H6
      ipureintro
      refine (View.read_writes_full _ _ _ _ _).trans ?_
      rw [View.readAt_full, harg4.read_unread, e1]
    · have e2 : mB.view.writes (Elt F) fB (run_A.sl.HB_1 c fw fF) = k0_pay1 (panR c fw ![0, 0] inb_S9248x4096_S1024x4096_0_0) := by
        unfold run_A.sl.HB_1 run_A.sl.dma0
        rw [cast_left, load_flight]; try rfl
      rw [e2]; iexact HB
  isplitl [HS HW]
  · unfold run_A.sl.dma3; iexists _; isplitl [HS]; · iexact HS
    iexact HW
  iexists _; iexact HO

set_option maxHeartbeats 2000000 in
/-- A later panel's first row: the panel is waited for, cast, and the next one's copy started. -/
theorem run_B (hc1 : k0_cond1 i = 1#1) (hc2 : ¬ k0_cond2 i = 1#1) (hc3 : k0_cond3 i = 1#1) (o : Fin 2 → ℕ) (h : ∀ a, o a + S1024x4096.size a ≤ S9248x4096.size a) (W : Waits sig Unit) (K : PUnit → sProp 𝕄) :
    iprop(owns (c : Thread nD τ) arg2 fullShare x ∗ owns (c : Thread nD τ) arg4 fullShare xd
        ∗ (∃ d, owns (c : Thread nD τ) arg5 fullShare d) ∗ (∃ d, owns (c : Thread nD τ) arg6 fullShare d)
        ∗ (∃ f, pt (F := F) c mB f) ∗ flight c fw o h ∗ owes (c : Thread nD τ) 0 W
        ∗ (iprop(left c arg2 arg4 arg5 arg6 x xd (panR c fw o h)
            ∗ flight c fw (k0_off2 i) (k0_off2_inb i hc1 hc3)
            ∗ ∃ W', owes (c : Thread nD τ) 0 W') -∗ K ⟨⟩))
      ⊢ wp frame (wpE (defs₀ (F := F)) Variants.none c none) Set.univ (body i arg2 harg2 arg4 harg4 arg5 harg5 arg6 harg6) K := by
  unfold body left
  simp only [cc0_in_proj_eq_skeleton]; unfold cc0_in_proj_skel
  unfold owns flight
  iintro ⟨⟨%f2, %hf2, H2⟩, ⟨%f4, %hf4, H4⟩, ⟨%d5, %f5, -, H5⟩, ⟨%d6, %f6, -, H6⟩, ⟨%fB, HB⟩, ⟨%fF, HS, HW⟩, HO, Hk⟩
  obtain rfl := harg2.eq_unread hf2
  obtain rfl := harg4.eq_unread hf4
  sl_exec (disch := first | sl_exact hc1 | sl_exact hc2 | sl_exact hc3)
  sl_step
  have e1 : run_B.sl.v25 c fw o h fF = k0_pay1 (panR c fw o h) := by
    unfold run_B.sl.v25 run_B.sl.HB_1
    rw [View.readCov_full, load_flight]; try rfl
  iapply Hk
  isplitl [H2 H4 H5 H6 HB]
  · isplitl [H2]
    · iexists _; isplitr; · ipureintro; exact harg2.read_unread _
      iexact H2
    isplitl [H4]
    · iexists _; isplitr; · ipureintro; exact harg4.read_unread _
      iexact H4
    isplitl [H5]
    · iexists _; isplitr; swap; · iexact H5
      ipureintro
      refine (View.read_writes_full _ _ _ _ _).trans ?_
      rw [View.readAt_full, harg2.read_unread, e1]
    isplitl [H6]
    · iexists _; isplitr; swap; · iexact H6
      ipureintro
      refine (View.read_writes_full _ _ _ _ _).trans ?_
      rw [View.readAt_full, harg4.read_unread, e1]
    · have e2 : mB.view.writes (Elt F) fB (run_B.sl.HB_1 c fw o h fF) = k0_pay1 (panR c fw o h) := by
        unfold run_B.sl.HB_1
        rw [cast_left, load_flight]; try rfl
      rw [e2]; iexact HB
  isplitl [HS HW]
  · unfold run_B.sl.dma3; iexists _; isplitl [HS]; · iexact HS
    iexact HW
  iexists _; iexact HO

set_option maxHeartbeats 2000000 in
/-- The last panel's first row: the panel is waited for and cast, and no copy is started. -/
theorem run_C (hc1 : k0_cond1 i = 1#1) (hc2 : ¬ k0_cond2 i = 1#1) (hc3 : ¬ k0_cond3 i = 1#1) (o : Fin 2 → ℕ) (h : ∀ a, o a + S1024x4096.size a ≤ S9248x4096.size a) (W : Waits sig Unit) (K : PUnit → sProp 𝕄) :
    iprop(owns (c : Thread nD τ) arg2 fullShare x ∗ owns (c : Thread nD τ) arg4 fullShare xd
        ∗ (∃ d, owns (c : Thread nD τ) arg5 fullShare d) ∗ (∃ d, owns (c : Thread nD τ) arg6 fullShare d)
        ∗ (∃ f, pt (F := F) c mB f) ∗ flight c fw o h ∗ owes (c : Thread nD τ) 0 W
        ∗ (iprop(left c arg2 arg4 arg5 arg6 x xd (panR c fw o h)
            ∗ ((∃ f, pt (F := F) c mF f) ∗ semVal ((c : Thread nD τ), osm) 0 ∗ pt c mW fw)
            ∗ ∃ W', owes (c : Thread nD τ) 0 W') -∗ K ⟨⟩))
      ⊢ wp frame (wpE (defs₀ (F := F)) Variants.none c none) Set.univ (body i arg2 harg2 arg4 harg4 arg5 harg5 arg6 harg6) K := by
  unfold body left
  simp only [cc0_in_proj_eq_skeleton]; unfold cc0_in_proj_skel
  unfold owns flight
  iintro ⟨⟨%f2, %hf2, H2⟩, ⟨%f4, %hf4, H4⟩, ⟨%d5, %f5, -, H5⟩, ⟨%d6, %f6, -, H6⟩, ⟨%fB, HB⟩, ⟨%fF, HS, HW⟩, HO, Hk⟩
  obtain rfl := harg2.eq_unread hf2
  obtain rfl := harg4.eq_unread hf4
  sl_exec (disch := first | sl_exact hc1 | sl_exact hc2 | sl_exact hc3)
  sl_step
  have e1 : run_C.sl.v25 c fw o h fF = k0_pay1 (panR c fw o h) := by
    unfold run_C.sl.v25 run_C.sl.HB_1
    rw [View.readCov_full, load_flight]; try rfl
  iapply Hk
  isplitl [H2 H4 H5 H6 HB]
  · isplitl [H2]
    · iexists _; isplitr; · ipureintro; exact harg2.read_unread _
      iexact H2
    isplitl [H4]
    · iexists _; isplitr; · ipureintro; exact harg4.read_unread _
      iexact H4
    isplitl [H5]
    · iexists _; isplitr; swap; · iexact H5
      ipureintro
      refine (View.read_writes_full _ _ _ _ _).trans ?_
      rw [View.readAt_full, harg2.read_unread, e1]
    isplitl [H6]
    · iexists _; isplitr; swap; · iexact H6
      ipureintro
      refine (View.read_writes_full _ _ _ _ _).trans ?_
      rw [View.readAt_full, harg4.read_unread, e1]
    · have e2 : mB.view.writes (Elt F) fB (run_C.sl.HB_1 c fw o h fF) = k0_pay1 (panR c fw o h) := by
        unfold run_C.sl.HB_1
        rw [cast_left, load_flight]; try rfl
      rw [e2]; iexact HB
  isplitl [HS HW HS_dst]
  · isplitl [HS_dst]; · iexists _; iexact HS_dst
    isplitl [HS]; · iexact HS
    iexact HW
  iexists _; iexact HO

end Cert.Inp
end
-- ==== Proof.InFrame.lean ====
/-
  The frame of `in_proj`: what is held between points (the panel in use cast, the next one on its way), what each block
  holds after a point, the body at every point, and the run of the whole call.
-/
module

public import proofs.«01_k».proof.Proof.InRun
public import proofs.«01_k».proof.Proof.Gen.Kernel4Ideal.Frame

@[expose] public section

set_option maxRecDepth 9248

noncomputable section

namespace Cert.Inp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The kernel's one DMA cell, of its own. -/
abbrev osem0 : Fin 1 → SemLoc sig := ![osm]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), osm) 0 := by
  rw [Pipeline.ownSems0_eq_of_list c osem0 [0] (by decide) (by decide)]; rfl

/-- The weights are the one array the kernel reads itself. -/
def H0 : Finset (Ref sig .tc) := {main_v0}
theorem H0_sub : H0 ⊆ Pipeline.restRefs sig spec0 := by decide
theorem hbmPts0_eq (c : Dev nD) :
    (bigSep H0 (fun b => ((c : Thread nD τ).loc b) ↦{fullShare} V m c b) : sProp 𝕄) = pt c mW (V m c main_v0) := by
  rw [BI.bigSep_eq_bigSepL_of_eq [main_v0] (by decide) (by decide)]; rfl

theorem PhiD0_eq (c : Dev nD) :
    (Pipeline.ΦD osem0 spec0 H0 (V m) c : sProp 𝕄)
      = iprop(((∃ f, pt (F := F) c mF f) ∗ (∃ f, pt (F := F) c mB f)) ∗ (∃ r, prngReg c r)
          ∗ semVal ((c : Thread nD τ), osm) 0 ∗ pt c mW (V m c main_v0)) := by
  rw [Pipeline.ΦD_eq, scopedRest0_eq, ownSems00_eq, hbmPts0_eq]

/-! ## The schedule -/

theorem N0 : cfg0.N = 144 := N_0

/-- The panel of a point. -/
def jOf (t : Fin cfg0.N) : Fin 9 := ⟨t.1 / 16, by have h : t.1 < 144 := lt_of_lt_of_eq t.isLt N0; omega⟩

/-- When each branch of the body is taken, and where it reads. -/
theorem conds : ∀ t : Fin cfg0.N, (k0_cond1 (grid0.coords t) = 1#1 ↔ t.1 % 16 = 0) ∧ (k0_cond2 (grid0.coords t) = 1#1 ↔ t.1 / 16 = 0)
    ∧ (k0_cond3 (grid0.coords t) = 1#1 ↔ t.1 / 16 + 1 < 9) ∧ (grid0.coords t 0).val = t.1 / 16 :=
  (by decide +kernel : ∀ t : Fin grid0.N, (k0_cond1 (grid0.coords t) = 1#1 ↔ t.1 % 16 = 0) ∧ (k0_cond2 (grid0.coords t) = 1#1 ↔ t.1 / 16 = 0)
    ∧ (k0_cond3 (grid0.coords t) = 1#1 ↔ t.1 / 16 + 1 < 9) ∧ (grid0.coords t 0).val = t.1 / 16)

/-- A panel's offsets in the weights. -/
abbrev pOff (j : ℕ) : Fin 2 → ℕ := ![1024 * j, 0]
theorem pInb {j : ℕ} (h : j < 9) : ∀ a, pOff j a + S1024x4096.size a ≤ S9248x4096.size a := by
  intro a
  fin_cases a
  · show 1024 * j + 1024 ≤ 9248
    omega
  · show 0 + 4096 ≤ 4096
    omega

/-- A panel of the weights. -/
def panJ (c : Dev nD) (j : Fin 9) : Vec F S1024x4096 .f32 := panR c (V m c main_v0) (pOff j) (pInb j.isLt)

theorem panR_congr (c : Dev nD) (fw : BufOf F c mW) {o o' : Fin 2 → ℕ} (e : o = o') (h h') : panR c fw o h = panR c fw o' h' := by
  subst e; rfl
theorem flight_congr (c : Dev nD) (fw : BufOf F c mW) {o o' : Fin 2 → ℕ} (e : o = o') (h h') : flight c fw o h = flight c fw o' h' := by
  subst e; rfl

/-! ## What is held between points -/

/-- The panel after `j`'s on its way; after the last panel's start, nothing. -/
def next (c : Dev nD) (j : Fin 9) : sProp 𝕄 :=
  if h : j.1 + 1 < 9 then flight c (V m c main_v0) (pOff (j.1 + 1)) (pInb h)
  else iprop((∃ f, pt (F := F) c mF f) ∗ semVal ((c : Thread nD τ), osm) 0 ∗ pt c mW (V m c main_v0))

/-- After a point: the panel in use, cast; the next on its way; the generator's register. -/
def St (c : Dev nD) (t : Fin cfg0.N) : sProp 𝕄 :=
  iprop(pt c mB (k0_pay1 (panJ m c (jOf t))) ∗ next m c (jOf t) ∗ ∃ r, prngReg c r)

def Phi (c : Dev nD) (n : Fin (cfg0.N + 1)) : sProp 𝕄 :=
  if h : n.1 = 0 then Pipeline.ΦD osem0 spec0 H0 (V m) c else St m c ⟨n.1 - 1, by have := n.isLt; omega⟩

theorem Phi_zero (c : Dev nD) (n : Fin (cfg0.N + 1)) (h : n.1 = 0) : Phi m c n = Pipeline.ΦD osem0 spec0 H0 (V m) c := dif_pos h
theorem Phi_pos (c : Dev nD) (n : Fin (cfg0.N + 1)) (h : n.1 ≠ 0) :
    Phi m c n = St m c ⟨n.1 - 1, by have := n.isLt; omega⟩ := dif_neg h
theorem Phi_succ (c : Dev nD) (t : Fin cfg0.N) : Phi m c t.succ = St m c t := dif_neg (Nat.succ_ne_zero _)

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay3 (iblk m c 0 t) (k0_pay1 (panJ m c (jOf t)))
    | ⟨3, _⟩ => k0_pay2 (iblk m c 1 t) (k0_pay1 (panJ m c (jOf t)))
  Φ n := Phi m c n
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay3 (iblk m c 0 t) (k0_pay1 (panJ m c (jOf t))) := by dsimp only [dats]
theorem after3 (c : Dev nD) (t : Fin cfg0.N) : (dats m 0 c).after 3 t = k0_pay2 (iblk m c 1 t) (k0_pay1 (panJ m c (jOf t))) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- The decode rows' block is the same at every point. -/
theorem iblk1 (c : Dev nD) (t t' : Fin cfg0.N) : iblk m c 1 t = iblk m c 1 t' := rfl

theorem idle3 (t : Fin cfg0.N) : cfg0.idle 3 (cfg0.grid.coords t) = true ↔ t.1 % 16 ≠ 0 := by
  show (!(k0_cond1 (grid0.coords t) == 1#1)) = true ↔ _
  have h := not_congr (conds t).1
  refine Iff.trans ?_ h
  simp

theorem flush3 (t : Fin cfg0.N) : (cfg0.win 3).flush t = false ↔ t.1 % 16 ≠ 15 := by
  have h := not_congr (flush0_3 t)
  refine Iff.trans ?_ h
  simp

/-- Past a panel's first row the decode rows' result is held. -/
theorem before3 (c : Dev nD) (n : ℕ) : ∀ (hn : n < cfg0.N), n % 16 ≠ 0 → ∀ d, (dats m 0 c).before 3 ⟨n, hn⟩ d = (dats m 0 c).after 3 ⟨n, hn⟩ := by
  induction n with
  | zero => intro _ h; exact absurd rfl h
  | succ k ih =>
    intro hn h d
    have hk : k < cfg0.N := by omega
    have hj : jOf ⟨k, hk⟩ = jOf ⟨k + 1, hn⟩ := Fin.ext (show k / 16 = (k + 1) / 16 by omega)
    have hfl : (cfg0.win 3).flush ⟨k, hk⟩ = false := (flush3 ⟨k, hk⟩).mpr (show k % 16 ≠ 15 by omega)
    have e : (dats m 0 c).after 3 ⟨k, hk⟩ = (dats m 0 c).after 3 ⟨k + 1, hn⟩ := by
      rw [after3, after3, hj, iblk1 m c _ ⟨k + 1, hn⟩]
    rw [(dats m 0 c).before_of_pos 3 ⟨k + 1, hn⟩ (Nat.succ_ne_zero _) ((cfg0.win 3).fetch_out rfl _)]
    refine (if_neg (by show ¬ (cfg0.win 3).flush ⟨k, hk⟩ = true; rw [hfl]; exact Bool.false_ne_true)).trans ?_
    refine Eq.trans ?_ e
    show (dats m 0 c).left 3 ⟨k, hk⟩ d = _
    unfold Dat.left
    cases hi : cfg0.idle 3 (cfg0.grid.coords ⟨k, hk⟩)
    · rfl
    · exact ih hk ((idle3 ⟨k, hk⟩).mp hi) d

/-- The staging buffers of a point: the rows' block, the decode rows, the two results' blocks. -/
abbrev ms0_0 (t : Fin cfg0.N) : Memref sig .tc .vmem S512x4096 .bf16 := win0_0.stage (cfg0.slots t 0)
abbrev ms0_1 (t : Fin cfg0.N) : Memref sig .tc .vmem S256x4096 .bf16 := win0_1.stage (cfg0.slots t 1)
abbrev ms0_2 (t : Fin cfg0.N) : Memref sig .tc .vmem S512x1024 .f32 := win0_2.stage (cfg0.slots t 2)
abbrev ms0_3 (t : Fin cfg0.N) : Memref sig .tc .vmem S256x1024 .f32 := win0_3.stage (cfg0.slots t 3)

/-- The decode rows' result, held or just written, is what the point leaves. -/
theorem leaves3 (c : Dev nD) (t : Fin cfg0.N) :
    (owns (Ix := Unit) (Name := ℕ) (U := Pipeline.UD sig nD τ) (Lvl := ℕ) (c : Thread nD τ) (ms0_3 t) fullShare ((dats m 0 c).after 3 t) : sProp 𝕄)
      ⊢ (dats m 0 c).leavesExact 3 t := by
  unfold Dat.leavesExact
  cases hi : cfg0.idle 3 (cfg0.grid.coords t)
  · exact .rfl
  · cases hf : (cfg0.win 3).flush t
    · have hb := before3 m c t.1 t.isLt ((idle3 t).mp hi) ((dats m 0 c).after 3 t)
      show _ ⊢ iprop(∃ d, owns (c : Thread nD τ) (ms0_3 t) fullShare ((dats m 0 c).before 3 t d))
      iintro H
      iexists (dats m 0 c).after 3 t
      rw [show (dats m 0 c).before 3 t ((dats m 0 c).after 3 t) = (dats m 0 c).after 3 t from hb]
      iexact H
    · exact .rfl

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t)

/-- The triple of the body at a point. -/
abbrev Sound (c : Dev nD) (t : Fin cfg0.N) : Prop :=
  bodyPre m c t ⊢ wp frame (wpE (defs₀ (F := F)) Variants.none c none) Set.univ (bodyAt0 t) (fun _ => bodyPost m c t)

/-- A panel is the window of the weights at any offsets equal to its own. -/
theorem panJ_of (c : Dev nD) (j : Fin 9) (o : Fin 2 → ℕ) (h) (e : o = pOff j.1) : panR c (V m c main_v0) o h = panJ m c j := by
  subst e; rfl

theorem off2 (t : Fin cfg0.N) : k0_off2 (grid0.coords t) = pOff ((jOf t).1 + 1) := by
  rw [k0_off2_eq, (conds t).2.2.2]
  rfl

/-- The copy started at a panel's first row is of the next panel. -/
theorem next_of (c : Dev nD) (t : Fin cfg0.N) (h : t.1 / 16 + 1 < 9) (h') :
    flight c (V m c main_v0) (k0_off2 (grid0.coords t)) h' = next m c (jOf t) := by
  unfold next
  rw [dif_pos (show (jOf t).1 + 1 < 9 from h)]
  exact flight_congr c _ (off2 t) _ _

theorem next_last (c : Dev nD) (t : Fin cfg0.N) (h : ¬ t.1 / 16 + 1 < 9) :
    next m c (jOf t) = iprop((∃ f, pt (F := F) c mF f) ∗ semVal ((c : Thread nD τ), osm) 0 ∗ pt c mW (V m c main_v0)) :=
  dif_neg h

/-- At a later panel's first row the panel is on its way. -/
theorem Phi_first (c : Dev nD) (t : Fin cfg0.N) (h8 : t.1 % 16 = 0) (h : ¬ t.1 / 16 = 0) :
    ∃ w, (dats m 0 c).Φ t.castSucc
      = iprop(pt c mB w ∗ flight c (V m c main_v0) (pOff (jOf t).1) (pInb (jOf t).isLt) ∗ ∃ r, prngReg c r) := by
  have hN : t.1 < 144 := lt_of_lt_of_eq t.isLt N0
  have hlt : t.1 - 1 < cfg0.N := by omega
  refine ⟨k0_pay1 (panJ m c (jOf ⟨t.1 - 1, hlt⟩)), (Phi_pos m c t.castSucc (show t.1 ≠ 0 by omega)).trans ?_⟩
  have hj : (jOf ⟨t.1 - 1, hlt⟩).1 + 1 = (jOf t).1 := by
    show (t.1 - 1) / 16 + 1 = t.1 / 16
    omega
  show St m c ⟨t.1 - 1, hlt⟩ = _
  unfold St next
  rw [dif_pos (by rw [hj]; exact (jOf t).isLt)]
  rw [flight_congr c (V m c main_v0) (congrArg pOff hj) _ (pInb (jOf t).isLt)]

/-- At any other row the panel in use is its own. -/
theorem Phi_row (c : Dev nD) (t : Fin cfg0.N) (h8 : ¬ t.1 % 16 = 0) : (dats m 0 c).Φ t.castSucc = St m c t := by
  have hN : t.1 < 144 := lt_of_lt_of_eq t.isLt N0
  refine (Phi_pos m c t.castSucc (show t.1 ≠ 0 by omega)).trans ?_
  unfold St
  have hj : jOf ⟨t.castSucc.1 - 1, by have := t.castSucc.isLt; have : t.castSucc.1 = t.1 := rfl; omega⟩ = jOf t := Fin.ext (by
    show (t.1 - 1) / 16 = t.1 / 16
    omega)
  rw [hj]

set_option maxHeartbeats 1000000 in
/-- The first point. -/
theorem sound_A (c : Dev nD) (t : Fin cfg0.N) (h8 : t.1 % 16 = 0) (hd : t.1 / 16 = 0) : Sound m c t := by
  have hc1 := (conds t).1.mpr h8
  have hc2 := (conds t).2.1.mpr hd
  have hc3 := (conds t).2.2.1.mpr (by omega)
  have hp := panJ_of m c (jOf t) ![0, 0] inb_S9248x4096_S1024x4096_0_0 (by show _ = ![1024 * (t.1 / 16), 0]; rw [hd])
  have hn := next_of m c t (by omega) (k0_off2_inb (grid0.coords t) hc1 hc3)
  unfold Sound bodyPre bodyPost bodyAt0
  rw [show (dats m 0 c).Φ t.castSucc = _ from Phi_zero m c t.castSucc (show t.1 = 0 by omega), PhiD0_eq,
    show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2]
  simp only [before0, before1]
  iintro ⟨⟨⟨HF, HB⟩, Hg, Hs, Hw⟩, ⟨%W, -, HW⟩, ⟨%d0, H0⟩, ⟨%d1, H1⟩, ⟨%d2, H2⟩, ⟨%d3, H3⟩⟩
  iapply (run_A c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (iblk m c 0 t) (iblk m c 1 t) (V m c main_v0) hc1 hc2 hc3 W _)
  isplitl [H0]; · iexact H0
  isplitl [H1]; · iexact H1
  isplitl [H2]; · iexists _; iexact H2
  isplitl [H3]; · iexists _; iexact H3
  isplitl [HB]; · iexact HB
  isplitl [HF]; · iexact HF
  isplitl [Hs]; · iexact Hs
  isplitl [Hw]; · iexact Hw
  rw [hn, hp]
  isplitl [HW]; · iexact HW
  iintro ⟨⟨H0, H1, H2, H3, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  iapply (leaves3 m c t)
  rw [after3]
  iexact H3

set_option maxHeartbeats 1000000 in
/-- A later panel's first row, the last panel's excepted. -/
theorem sound_B (c : Dev nD) (t : Fin cfg0.N) (h8 : t.1 % 16 = 0) (hd : ¬ t.1 / 16 = 0) (h3 : t.1 / 16 + 1 < 9) : Sound m c t := by
  have hc1 := (conds t).1.mpr h8
  have hc2 : ¬ k0_cond2 (grid0.coords t) = 1#1 := fun h => hd ((conds t).2.1.mp h)
  have hc3 : k0_cond3 (grid0.coords t) = 1#1 := (conds t).2.2.1.mpr h3
  have hp := panJ_of m c (jOf t) (pOff (jOf t).1) (pInb (jOf t).isLt) rfl
  have hn := next_of m c t h3 (k0_off2_inb (grid0.coords t) hc1 hc3)
  obtain ⟨w, hw⟩ := Phi_first m c t h8 hd
  unfold Sound bodyPre bodyPost bodyAt0
  rw [hw, show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2]
  simp only [before0, before1]
  iintro ⟨⟨HB, HF, Hg⟩, ⟨%W, -, HW⟩, ⟨%d0, H0⟩, ⟨%d1, H1⟩, ⟨%d2, H2⟩, ⟨%d3, H3⟩⟩
  iapply (run_B c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (iblk m c 0 t) (iblk m c 1 t) (V m c main_v0) hc1 hc2 hc3 (pOff (jOf t).1) (pInb (jOf t).isLt) W _)
  isplitl [H0]; · iexact H0
  isplitl [H1]; · iexact H1
  isplitl [H2]; · iexists _; iexact H2
  isplitl [H3]; · iexists _; iexact H3
  isplitl [HB]; · iexists _; iexact HB
  isplitl [HF]; · iexact HF
  rw [hn, hp]
  isplitl [HW]; · iexact HW
  iintro ⟨⟨H0, H1, H2, H3, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  iapply (leaves3 m c t)
  rw [after3]
  iexact H3

set_option maxHeartbeats 1000000 in
/-- The last panel's first row. -/
theorem sound_C (c : Dev nD) (t : Fin cfg0.N) (h8 : t.1 % 16 = 0) (hd : ¬ t.1 / 16 = 0) (h3 : ¬ t.1 / 16 + 1 < 9) : Sound m c t := by
  have hc1 := (conds t).1.mpr h8
  have hc2 : ¬ k0_cond2 (grid0.coords t) = 1#1 := fun h => hd ((conds t).2.1.mp h)
  have hc3 : ¬ k0_cond3 (grid0.coords t) = 1#1 := fun h => h3 ((conds t).2.2.1.mp h)
  have hp := panJ_of m c (jOf t) (pOff (jOf t).1) (pInb (jOf t).isLt) rfl
  have hn := next_last m c t h3
  obtain ⟨w, hw⟩ := Phi_first m c t h8 hd
  unfold Sound bodyPre bodyPost bodyAt0
  rw [hw, show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2]
  simp only [before0, before1]
  iintro ⟨⟨HB, HF, Hg⟩, ⟨%W, -, HW⟩, ⟨%d0, H0⟩, ⟨%d1, H1⟩, ⟨%d2, H2⟩, ⟨%d3, H3⟩⟩
  iapply (run_C c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (iblk m c 0 t) (iblk m c 1 t) (V m c main_v0) hc1 hc2 hc3 (pOff (jOf t).1) (pInb (jOf t).isLt) W _)
  isplitl [H0]; · iexact H0
  isplitl [H1]; · iexact H1
  isplitl [H2]; · iexists _; iexact H2
  isplitl [H3]; · iexists _; iexact H3
  isplitl [HB]; · iexists _; iexact HB
  isplitl [HF]; · iexact HF
  rw [hn, hp]
  isplitl [HW]; · iexact HW
  iintro ⟨⟨H0, H1, H2, H3, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  iapply (leaves3 m c t)
  rw [after3]
  iexact H3

set_option maxHeartbeats 1000000 in
/-- Any other row of a panel. -/
theorem sound_D (c : Dev nD) (t : Fin cfg0.N) (h8 : ¬ t.1 % 16 = 0) : Sound m c t := by
  have hc1 : ¬ k0_cond1 (grid0.coords t) = 1#1 := fun h => h8 ((conds t).1.mp h)
  have hb : ∀ d, (dats m 0 c).before 3 t d = (dats m 0 c).after 3 t := before3 m c t.1 t.isLt h8
  unfold Sound bodyPre bodyPost bodyAt0
  rw [Phi_row m c t h8, show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2]
  simp only [before0, before1, hb]
  iintro ⟨⟨HB, HN, Hg⟩, ⟨%W, -, HW⟩, ⟨%d0, H0⟩, ⟨%d1, H1⟩, ⟨%d2, H2⟩, ⟨%d3, H3⟩⟩
  iapply (run_D c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (iblk m c 0 t) (k0_pay1 (panJ m c (jOf t))) hc1 _)
  isplitl [H0]; · iexact H0
  isplitl [H2]; · iexists _; iexact H2
  isplitl [HB]; · iexact HB
  iintro ⟨H0, H2, HB⟩
  isplitl [HB HN Hg]
  · isplitl [HB]; · iexact HB
    isplitl [HN]; · iexact HN
    iexact Hg
  isplitl [HW]
  · iexists W; isplitr; · ipureintro; exact fun _ _ => Or.inl trivial
    iexact HW
  isplitl [H0]; · iexact H0
  isplitl [H1]; · iexact H1
  isplitl [H2]; · iexact H2
  iapply (leaves3 m c t)
  iexact H3

/-- The body at every point. -/
theorem sound_body (c : Dev nD) (t : Fin cfg0.N) : Sound m c t := by
  by_cases h8 : t.1 % 16 = 0
  · by_cases hd : t.1 / 16 = 0
    · exact sound_A m c t h8 hd
    · by_cases h3 : t.1 / 16 + 1 < 9
      · exact sound_B m c t h8 hd h3
      · exact sound_C m c t h8 hd h3
  · exact sound_D m c t h8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The last point leaves nothing under way. -/
theorem Phi_out (c : Dev nD) : (dats m 0 c).Φ (Fin.last cfg0.N) ⊢ Pipeline.ΦD osem0 spec0 H0 (V m) c := by
  have hlt : 143 < cfg0.N := by rw [N0]; omega
  have e : (dats m 0 c).Φ (Fin.last cfg0.N) = St m c ⟨143, hlt⟩ :=
    (Phi_pos m c (Fin.last cfg0.N) (show cfg0.N ≠ 0 by rw [N0]; omega)).trans (congrArg (St m c) (Fin.ext (show cfg0.N - 1 = 143 from congrArg (· - 1) N0)))
  rw [e, PhiD0_eq]
  unfold St
  rw [next_last m c ⟨143, hlt⟩ (by show ¬ 143 / 16 + 1 < 9; omega)]
  iintro ⟨HB, ⟨HF, Hs, Hw⟩, Hg⟩
  isplitl [HF HB]
  · isplitl [HF]; · iexact HF
    iexists _; iexact HB
  isplitl [Hg]; · iexact Hg
  isplitl [Hs]; · iexact Hs
  iexact Hw

/-- The lines after the call touch none of what the kernel copies itself. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) fun b hb => ?_
  rw [show b = main_v0 from Finset.mem_singleton.mp hb]
  simp only [hostOps1, List.mem_cons, List.mem_nil_iff, or_false] at hop
  rcases hop with rfl | rfl | rfl | rfl | rfl | rfl
  all_goals
    simp only [StableHlo.unary_bufs, StableHlo.binary_bufs, StableHlo.reshape_bufs, Finset.mem_insert, Finset.mem_singleton, not_or]
    repeat' apply And.intro
    all_goals exact StableHlo.devRef_ne_of_ne (by decide)

set_option backward.isDefEq.respectTransparency.types false in
/-- The program runs to every block of the call's results holding what its point left, every other array as the lines after
    the call leave it, every cell at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain m Variants.none) (hA := A_eq m)
    (hin := fun c => by rw [show (dats m 0 c).Φ 0 = _ from Phi_zero m c 0 rfl]) (hout := fun c => Phi_out m c)

/-- What the lines after the call do not write is as the call left it. -/
theorem tail_of (c : Dev nD) (b : Ref sig .tc) (hb : ∀ op ∈ (hostOps1 : List (HloOp τ sig (Elt F))), Proc.devRef .tc b ∉ op.writes) (ha : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (by simpa using hb)]
  exact Pipeline.withArrays_of_ne _ c (V0 m c) _ b ha

/-- The lines after the call write neither the weights nor the state. -/
theorem tail_arg2 (c : Dev nD) : Pipeline.afterTail₀ cfgs (dats m) 0 (V0 m) [hostOps1] c main_arg2 = m ((c.tc : Thread nD τ).loc main_arg2) :=
  (tail_of m c main_arg2 (List.forall_iff_forall_mem.mp (by
    simp only [hostOps1, List.Forall, StableHlo.unary_writes, StableHlo.binary_writes, StableHlo.reshape_writes, Finset.mem_singleton]
    repeat' apply And.intro
    all_goals exact StableHlo.devRef_ne_of_ne (by decide))) (by decide)).trans (V_main_arg2 m c)
theorem tail_arg3 (c : Dev nD) : Pipeline.afterTail₀ cfgs (dats m) 0 (V0 m) [hostOps1] c main_arg3 = m ((c.tc : Thread nD τ).loc main_arg3) :=
  (tail_of m c main_arg3 (List.forall_iff_forall_mem.mp (by
    simp only [hostOps1, List.Forall, StableHlo.unary_writes, StableHlo.binary_writes, StableHlo.reshape_writes, Finset.mem_singleton]
    repeat' apply And.intro
    all_goals exact StableHlo.devRef_ne_of_ne (by decide))) (by decide)).trans (V_main_arg3 m c)

/-- The program's frame: it runs without undefined behaviour to quiescence, with its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (tail_arg2 m c),
      ((h.1 c).2 main_arg3 (Pipeline.mem_restRefs_of main_arg3 (by decide) (by decide))).trans (tail_arg3 m c)⟩, h.2⟩) (run_main m ρ)

end Cert.Inp
end
-- ==== Proof.InBits.lean ====
/-
  `in_proj` as printed: its body table is its ideal reading's, so its frame is the one already proved.
-/
module

public import proofs.«01_k».proof.Proof.InFrame
public import proofs.«01_k».proof.Proof.Gen.Kernel4
public import proofs.«01_k».proof.Kernel4
public import Idealize.ShloMosaic.PureOps.BitExact

@[expose] public section

set_option maxRecDepth 16384

noncomputable section

namespace Cert.Inp

open Idealize.ShloMosaic Idealize.ShloMosaic.TcCoe Idealize.SL.Sem
open Cert.Kernel4 Cert.Kernel4.Gen

/-- The two programs' kernels are one. -/
theorem defs₀_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | ⟨0, _⟩, (t, s) => rfl

/-- The two programs' body tables are one. -/
theorem defs_eq : Cert.Kernel4.defs (F := Bits) = Cert.Kernel4Ideal.defs (F := Bits) :=
  congrArg (Pipeline.defs Cert.Kernel4.pcfgs) defs₀_eq

/-- The frame of the call as printed. -/
theorem frame_bits (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact frame (F := Bits) m ρ

end Cert.Inp

end
-- ==== Proof.InValue.lean ====
/-
  The values of `in_proj`: both results of the call, entry by entry, over the arguments as launched.
-/
module

public import proofs.«01_k».proof.Proof.InFrame
public import Idealize.ShloMosaic.Lib.Pipeline.ValueKit

@[expose] public section

set_option maxRecDepth 16384

noncomputable section

namespace Cert.Inp

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The arguments as launched. -/
def argX : Vec Ideal S8192x4096 .bf16 := m ((c : Thread nD τ).loc main_arg0)
def argD : Vec Ideal S256x4096 .bf16 := m ((c : Thread nD τ).loc main_arg1)
/-- The column of the weights a result's column is. -/
def wcol (n : Fin 9216) : Fin 9248 := ⟨n.1, by omega⟩
def argS : Vec Ideal S32x3x4096 .f32 := m ((c : Thread nD τ).loc main_arg3)
def argW : Vec Ideal S4096x9248 .f32 := m ((c : Thread nD τ).loc main_arg2)

/-- Where each window's block lies, at a point. -/
theorem idx : ∀ t : Fin cfg0.N, win0_0.index t = ![t.1 % 16, 0] ∧ win0_1.index t = ![0, 0] ∧ win0_2.index t = ![t.1 % 16, t.1 / 16]
    ∧ win0_3.index t = ![0, t.1 / 16] :=
  (by decide +kernel : ∀ t : Fin grid0.N, win0_0.index t = ![t.1 % 16, 0] ∧ win0_1.index t = ![0, 0] ∧ win0_2.index t = ![t.1 % 16, t.1 / 16]
    ∧ win0_3.index t = ![0, t.1 / 16])

/-- A row of a block of rows, and a column of a panel, in the whole arrays. -/
def rowOf (t : Fin cfg0.N) (r : Fin 512) : Fin 8192 := ⟨t.1 % 16 * 512 + r.1, by omega⟩
def colOf (j : Fin 9) (n : Fin 1024) : Fin 9216 := ⟨j.1 * 1024 + n.1, by omega⟩

theorem blk0 (t : Fin cfg0.N) (r : Fin 512) (k : Fin 4096) : (iblk m c 0 t : Vec Ideal S512x4096 .bf16) (ix2 r k) = argX m c (ix2 (rowOf t r) k) := by
  have h := (idx t).1
  unfold rowOf
  refine Eq.trans ?_ (congrFun (V_main_arg0 m c) _)
  blk_ext [iblk, h]

theorem blk1 (t : Fin cfg0.N) (r : Fin 256) (k : Fin 4096) : (iblk m c 1 t : Vec Ideal S256x4096 .bf16) (ix2 r k) = argD m c (ix2 r k) := by
  have h := (idx t).2.1
  refine Eq.trans ?_ (congrFun (V_main_arg1 m c) _)
  blk_ext [iblk, h]

/-- The transposed weights, entry by entry. -/
theorem V_v0 (n : Fin 9248) (k : Fin 4096) : (V m c main_v0 : Vec Ideal S9248x4096 .f32) (ix2 n k) = argW m c (ix2 k n) := by
  have e : V m c main_v0 = transpose S9248x4096 [1, 0] (argW m c) transposes_S4096x9248_S9248x4096_1_0 := by
    unfold argW
    show StableHlo.after hostOps0 (fun b => m (c, b)) (Proc.devRef .tc main_v0) = _
    after_results <;> rfl
  rw [e]
  pointwise []

theorem panJ_apply (j : Fin 9) (k : Fin 4096) (n : Fin 1024) : panJ m c j (ix2 n k) = argW m c (ix2 k (wcol (colOf j n))) := by
  rw [← V_v0]
  unfold colOf wcol panJ
  show V m c main_v0 _ = V m c main_v0 _
  refine congrArg (V m c main_v0) ?_
  funext a
  fin_cases a
  · refine Fin.ext ?_
    show 1024 * j.1 + 1 * n.1 = j.1 * 1024 + n.1
    omega
  · refine Fin.ext ?_
    show 0 + 1 * k.1 = k.1
    omega

/-- A block of the prompt rows' result, entry by entry. -/
theorem pay3_apply (x : Vec Ideal S512x4096 .bf16) (p : Vec Ideal S1024x4096 .f32) (r : Fin 512) (n : Fin 1024) :
    (k0_pay3 (F := Ideal) x (k0_pay1 (F := Ideal) p)) (ix2 r n) = (∑ k : Fin 4096, (x (ix2 r k) * p (ix2 n k) : EReal)) := by
  pointwise [k0_pay3, k0_pay1]

/-- A block of the decode rows' result, entry by entry. -/
theorem pay2_apply (x : Vec Ideal S256x4096 .bf16) (p : Vec Ideal S1024x4096 .f32) (r : Fin 256) (n : Fin 1024) :
    (k0_pay2 (F := Ideal) x (k0_pay1 (F := Ideal) p)) (ix2 r n) = (∑ k : Fin 4096, (x (ix2 r k) * p (ix2 n k) : EReal)) := by
  pointwise [k0_pay2, k0_pay1]

/-- The two results. -/
def inP : Vec Ideal S8192x9216 .f32 := fun i => (∑ k : Fin 4096, (argX m c (ix2 (i 0) k) * argW m c (ix2 k (wcol (i 1))) : EReal))
def inD : Vec Ideal S256x9216 .f32 := fun i => (∑ k : Fin 4096, (argD m c (ix2 (i 0) k) * argW m c (ix2 k (wcol (i 1))) : EReal))

theorem arr2 : (dats m 0 c).arrAt 2 cfg0.N = inP m c := by
  refine (dats m 0 c).arrAt_eq_of_covers 2 _ (by decide +kernel) fun t hf y => ?_
  have e := (idx t).2.2.1
  have hN : t.1 < 144 := lt_of_lt_of_eq t.isLt N0
  obtain ⟨r, n, rfl⟩ : ∃ (r : Fin 512) (n : Fin 1024), y = ix2 r n := ⟨y 0, y 1, by funext a; fin_cases a <;> rfl⟩
  rw [cast_eq, after2]
  refine (pay3_apply _ _ r n).trans ?_
  unfold inP
  have h0 : ((cfg0.win 2).blk t).view.emb (ix2 r n) (0 : Fin 2) = rowOf t r := Fin.ext (by blk_simp [e, rowOf])
  have h1 : ((cfg0.win 2).blk t).view.emb (ix2 r n) (1 : Fin 2) = colOf (jOf t) n := Fin.ext (by blk_simp [e, colOf, jOf])
  rw [h0, h1]
  refine Finset.sum_congr rfl fun k _ => ?_
  rw [blk0, panJ_apply]

theorem arr3 : (dats m 0 c).arrAt 3 cfg0.N = inD m c := by
  refine (dats m 0 c).arrAt_eq_of_covers 3 _ (by decide +kernel) fun t hf y => ?_
  have e := (idx t).2.2.2
  have hN : t.1 < 144 := lt_of_lt_of_eq t.isLt N0
  obtain ⟨r, n, rfl⟩ : ∃ (r : Fin 256) (n : Fin 1024), y = ix2 r n := ⟨y 0, y 1, by funext a; fin_cases a <;> rfl⟩
  rw [cast_eq, after3]
  refine (pay2_apply _ _ r n).trans ?_
  unfold inD
  have h0 : ((cfg0.win 3).blk t).view.emb (ix2 r n) (0 : Fin 2) = r := Fin.ext (by blk_simp [e])
  have h1 : ((cfg0.win 3).blk t).view.emb (ix2 r n) (1 : Fin 2) = colOf (jOf t) n := Fin.ext (by blk_simp [e, colOf, jOf])
  rw [h0, h1]
  refine Finset.sum_congr rfl fun k _ => ?_
  rw [blk1, panJ_apply]

end Cert.Inp

end
-- ==== Proof.InAgree.lean ====
/-
  `in_proj` against its reference: the reference's results entry by entry, and their agreement with the call's, the two
  convolution states included.
-/
module

public import proofs.«01_k».proof.Proof.InValue
public import proofs.«01_k».proof.Proof.Gen.Reference4Ideal.Run
public import Idealize.ShloMosaic.Lib.Claim
public import Idealize.ShloMosaic.Lib.Quiescent

@[expose] public section

set_option maxRecDepth 16384

noncomputable section

namespace Cert.Inp

open Idealize.ShloMosaic Idealize.ShloMosaic.TcCoe Idealize.SL.Sem

section Reference
open Cert.Reference4Ideal Cert.Reference4Ideal.Gen

/-- The reference's two products, all columns. -/
def dotP (x : Vec Ideal S8192x4096 .bf16) (w : Vec Ideal S4096x9248 .f32) : Vec Ideal S8192x9248 .f32 :=
  Host.dotGeneral (F := Ideal) (φ₁ := .f32) (φ₂ := .f32) dot_S8192x4096_S4096x9248_S8192x9248_1_0_0_1_n_n none (extf .f32 x bitsLt_bf16_f32) w
def dotD (x : Vec Ideal S256x4096 .bf16) (w : Vec Ideal S4096x9248 .f32) : Vec Ideal S256x9248 .f32 :=
  Host.dotGeneral (F := Ideal) (φ₁ := .f32) (φ₂ := .f32) dot_S256x4096_S4096x9248_S256x9248_1_0_0_1_n_n none (extf .f32 x bitsLt_bf16_f32) w

theorem dotP_apply (x : Vec Ideal S8192x4096 .bf16) (w : Vec Ideal S4096x9248 .f32) (r : Fin 8192) (n : Fin 9248) :
    dotP x w (ix2 r n) = (∑ k : Fin 4096, (x (ix2 r k) * w (ix2 k n) : EReal)) := by
  unfold dotP
  pointwise []

theorem dotD_apply (x : Vec Ideal S256x4096 .bf16) (w : Vec Ideal S4096x9248 .f32) (r : Fin 256) (n : Fin 9248) :
    dotD x w (ix2 r n) = (∑ k : Fin 4096, (x (ix2 r k) * w (ix2 k n) : EReal)) := by
  unfold dotD
  pointwise []

/-- The reference's four results of its two products: the leading columns, and the convolution states. -/
def refP (p : Vec Ideal S8192x9248 .f32) : Vec Ideal S8192x9216 .f32 := extractStridedSlice S8192x9216 ![0, 0] p slices_S8192x9248_S8192x9216_0_0
def refD (p : Vec Ideal S256x9248 .f32) : Vec Ideal S256x9216 .f32 := extractStridedSlice S256x9216 ![0, 0] p slices_S256x9248_S256x9216_0_0
def refCP (p : Vec Ideal S8192x9248 .f32) : Vec Ideal S4x3x4096 .f32 :=
  extractStridedSlice S4x3x4096 ![0, 2048, 0]
    (concatenate S4x2051x4096 1 [⟨S4x3x4096, (broadcastInDim S4x3x4096 ![] bcast_S_S4x3x4096 (constant (F := Ideal) S_ .f32 0x00000000#32))⟩,
      ⟨S4x2048x4096, (shapeCast S4x2048x4096 (extractStridedSlice S8192x4096 ![0, 5120] p slices_S8192x9248_S8192x4096_0_5120) shapeCasts_S8192x4096_S4x2048x4096)⟩]
      concatenates_S4x3x4096_S4x2048x4096_S4x2051x4096_d1) slices_S4x2051x4096_S4x3x4096_0_2048_0
def refCD (s : Vec Ideal S32x3x4096 .f32) (p : Vec Ideal S256x9248 .f32) : Vec Ideal S32x3x4096 .f32 :=
  extractStridedSlice S32x3x4096 ![0, 8, 0]
    (concatenate S32x11x4096 1 [⟨S32x3x4096, s⟩,
      ⟨S32x8x4096, (shapeCast S32x8x4096 (extractStridedSlice S256x4096 ![0, 5120] p slices_S256x9248_S256x4096_0_5120) shapeCasts_S256x4096_S32x8x4096)⟩]
      concatenates_S32x3x4096_S32x8x4096_S32x11x4096_d1) slices_S32x11x4096_S32x3x4096_0_8_0

/-- Where an entry of the prompt's convolution state lies among the rows and the columns of the product. -/
def crow (b : Fin 4) (i : Fin 3) : Fin 8192 := ⟨b.1 * 2048 + 2045 + i.1, by omega⟩
def ccol (n : Fin 4096) : Fin 9216 := ⟨5120 + n.1, by omega⟩

theorem refCP_apply (p : Vec Ideal S8192x9248 .f32) (b : Fin 4) (i : Fin 3) (n : Fin 4096) :
    refCP p (ix3 b i n) = p (ix2 (crow b i) (wcol (ccol n))) := by
  unfold refCP
  rw [extractStridedSlice_apply _ _ _ _ (ix3 b (⟨2048 + i.1, by omega⟩ : Fin 2051) n) (by
    intro a
    fin_cases a
    · show b.1 = 0 + b.1; omega
    · show 2048 + i.1 = 2048 + i.1; rfl
    · show n.1 = 0 + n.1; omega)]
  rw [concatenate_pair_apply_right (t := S4x2051x4096) (s₁ := S4x3x4096) (s₂ := S4x2048x4096) 1 _ _ _ _ rfl rfl (ix3 b (⟨2045 + i.1, by omega⟩ : Fin 2048) n) (by
    intro a ha
    fin_cases a
    · rfl
    · exact absurd rfl ha
    · rfl) (by show 2045 + i.1 + 3 = 2048 + i.1; omega)]
  rw [shapeCast_apply _ _ _ (ix2 (crow b i) n) (by
    rw [Shape.rowMajor_val_two, Shape.rowMajor_val_three]
    show (b.1 * 2048 + 2045 + i.1) * 4096 + n.1 = (b.1 * 2048 + (2045 + i.1)) * 4096 + n.1
    omega)]
  exact extractStridedSlice_apply _ _ _ _ _ (by
    intro a
    fin_cases a
    · show b.1 * 2048 + 2045 + i.1 = 0 + (b.1 * 2048 + 2045 + i.1); omega
    · rfl)

/-- The reference's run: its four results, its arguments unchanged, its counters at zero. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v13) = refP (dotP (m ((c.tc : Thread nD τ).loc main_arg0)) (m ((c.tc : Thread nD τ).loc main_arg2)))
      ∧ r.2.mem ((c.tc : Thread nD τ).loc main_v14) = refD (dotD (m ((c.tc : Thread nD τ).loc main_arg1)) (m ((c.tc : Thread nD τ).loc main_arg2)))
      ∧ r.2.mem ((c.tc : Thread nD τ).loc main_v10) = refCP (dotP (m ((c.tc : Thread nD τ).loc main_arg0)) (m ((c.tc : Thread nD τ).loc main_arg2)))
      ∧ r.2.mem ((c.tc : Thread nD τ).loc main_v12) = refCD (m ((c.tc : Thread nD τ).loc main_arg3)) (dotD (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  θ_run_mono (Cert.Reference4Ideal.Value.run m ρ) fun r h => ⟨h, sem_eq_zero_of_no_sems (by decide) _⟩

end Reference

section Agree
open Cert.Kernel4Ideal Cert.Kernel4Ideal.Gen

variable (m : (ℓ : Loc nD τ sig) → Buf (Elt Ideal) ℓ) (ρ : Dev nD → PrngReg) (c : Dev nD)

/-- The lines after the call, of its two results: the convolution states. -/
def cpOf (p : Vec Ideal S8192x9216 .f32) : Vec Ideal S4x3x4096 .f32 :=
  extractStridedSlice S4x3x4096 ![0, 2045, 5120] (shapeCast S4x2048x9216 p shapeCasts_S8192x9216_S4x2048x9216) slices_S4x2048x9216_S4x3x4096_0_2045_5120
def cdOf (s : Vec Ideal S32x3x4096 .f32) (p : Vec Ideal S256x9216 .f32) : Vec Ideal S32x3x4096 .f32 :=
  extractStridedSlice S32x3x4096 ![0, 8, 0]
    (concatenate S32x11x4096 1 [⟨S32x3x4096, s⟩,
      ⟨S32x8x4096, (shapeCast S32x8x4096 (extractStridedSlice S256x4096 ![0, 5120] p slices_S256x9216_S256x4096_0_5120) shapeCasts_S256x4096_S32x8x4096)⟩]
      concatenates_S32x3x4096_S32x8x4096_S32x11x4096_d1) slices_S32x11x4096_S32x3x4096_0_8_0

theorem cpOf_apply (p : Vec Ideal S8192x9216 .f32) (b : Fin 4) (i : Fin 3) (n : Fin 4096) :
    cpOf p (ix3 b i n) = p (ix2 (crow b i) (ccol n)) := by
  unfold cpOf
  rw [extractStridedSlice_apply _ _ _ _ (ix3 b (⟨2045 + i.1, by omega⟩ : Fin 2048) (ccol n)) (by
    intro a
    fin_cases a
    · show b.1 = 0 + b.1; omega
    · rfl
    · rfl)]
  exact shapeCast_apply _ _ _ (ix2 (crow b i) (ccol n)) (by
    rw [Shape.rowMajor_val_two, Shape.rowMajor_val_three]
    show (b.1 * 2048 + 2045 + i.1) * 9216 + (5120 + n.1) = (b.1 * 2048 + (2045 + i.1)) * 9216 + (5120 + n.1)
    omega)

/-- The four results. -/
def inCP : Vec Ideal S4x3x4096 .f32 := cpOf (inP m c)
def inCD : Vec Ideal S32x3x4096 .f32 := cdOf (argS m c) (inD m c)

/-- What the buffers hold when the lines after the call begin. -/
def atTail : Valuation τ sig (Elt Ideal) := Pipeline.withArrays spec0 c (V0 m c) fun w => (dats m 0 c).arrAt w cfg0.N

theorem atTail_r0 : atTail m c (Proc.devRef .tc main_v1_0) = inP m c :=
  (Pipeline.withArrays_arr spec0 launch0.win.arr_inj c (V0 m c) _ 2).trans (arr2 m c)
theorem atTail_r1 : atTail m c (Proc.devRef .tc main_v1_1) = inD m c :=
  (Pipeline.withArrays_arr spec0 launch0.win.arr_inj c (V0 m c) _ 3).trans (arr3 m c)
theorem atTail_s : atTail m c (Proc.devRef .tc main_arg3) = argS m c :=
  (Pipeline.withArrays_of_ne spec0 c (V0 m c) _ main_arg3 (by exact (by decide : ∀ w, Pipeline.arrRef spec0 w ≠ main_arg3))).trans (V_main_arg3 m c)

theorem tail_v3 (W : Valuation τ sig (Elt Ideal)) :
    StableHlo.after hostOps1 W (Proc.devRef .tc main_v3) = cpOf (W (Proc.devRef .tc main_v1_0)) := by
  after_results <;> rfl
theorem tail_v7 (W : Valuation τ sig (Elt Ideal)) :
    StableHlo.after hostOps1 W (Proc.devRef .tc main_v7) = cdOf (W (Proc.devRef .tc main_arg3)) (W (Proc.devRef .tc main_v1_1)) := by
  after_results <;> rfl

theorem tail_cp : Pipeline.afterTail₀ cfgs (dats m) 0 (V0 m) [hostOps1] c main_v3 = inCP m c := by
  show StableHlo.after hostOps1 (atTail m c) (Proc.devRef .tc main_v3) = _
  rw [tail_v3, atTail_r0]
  rfl
theorem tail_cd : Pipeline.afterTail₀ cfgs (dats m) 0 (V0 m) [hostOps1] c main_v7 = inCD m c := by
  show StableHlo.after hostOps1 (atTail m c) (Proc.devRef .tc main_v7) = _
  rw [tail_v7, atTail_r1, atTail_s]
  rfl

/-- The call's run, read: its four results and its arguments. -/
theorem in_run : θ_run defs (onTc (τ := τ) (main (F := Ideal))) ⟨m, fun _ => 0, ρ⟩ (fun r => ∀ c : Dev nD,
      r.2.mem ((c.tc : Thread nD τ).loc main_v1_0) = inP m c
      ∧ r.2.mem ((c.tc : Thread nD τ).loc main_v1_1) = inD m c
      ∧ r.2.mem ((c.tc : Thread nD τ).loc main_v3) = inCP m c
      ∧ r.2.mem ((c.tc : Thread nD τ).loc main_v7) = inCD m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (run_main m ρ) fun _ h c => ⟨((h.1 c).1 2).trans (arr2 m c), ((h.1 c).1 3).trans (arr3 m c),
    ((h.1 c).2 main_v3 (Pipeline.mem_restRefs_of main_v3 (by decide) (by decide))).trans (tail_cp m c),
    ((h.1 c).2 main_v7 (Pipeline.mem_restRefs_of main_v7 (by decide) (by decide))).trans (tail_cd m c),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).2 main_arg2 (Pipeline.mem_restRefs_of main_arg2 (by decide) (by decide))).trans (tail_arg2 m c),
    ((h.1 c).2 main_arg3 (Pipeline.mem_restRefs_of main_arg3 (by decide) (by decide))).trans (tail_arg3 m c)⟩

/-- On equal arguments the reference's products are the call's results on the columns the call computes. -/
theorem dotP_eq (r : Fin 8192) (n : Fin 9216) : dotP (argX m c) (argW m c) (ix2 r (wcol n)) = inP m c (ix2 r n) := dotP_apply _ _ r (wcol n)
theorem dotD_eq (r : Fin 256) (n : Fin 9216) : dotD (argD m c) (argW m c) (ix2 r (wcol n)) = inD m c (ix2 r n) := dotD_apply _ _ r (wcol n)

/-- On equal arguments the reference's first result is the call's. -/
theorem p_agree (x : Vec Ideal S8192x4096 .bf16) (w : Vec Ideal S4096x9248 .f32) (hx : x = argX m c) (hw : w = argW m c) :
    refP (dotP x w) = inP m c := by
  subst hx hw
  funext i
  have hi : i = ix2 (i 0) (i 1) := by funext a; fin_cases a <;> rfl
  rw [hi]
  refine Eq.trans (extractStridedSlice_apply _ _ _ _ (ix2 (i 0) (wcol (i 1))) ?_) (dotP_eq m c (i 0) (i 1))
  intro a
  fin_cases a
  · exact (Nat.zero_add _).symm
  · exact (Nat.zero_add _).symm

/-- On equal arguments the reference's second result is the call's. -/
theorem d_agree (x : Vec Ideal S256x4096 .bf16) (w : Vec Ideal S4096x9248 .f32) (hx : x = argD m c) (hw : w = argW m c) :
    refD (dotD x w) = inD m c := by
  subst hx hw
  funext i
  have hi : i = ix2 (i 0) (i 1) := by funext a; fin_cases a <;> rfl
  rw [hi]
  refine Eq.trans (extractStridedSlice_apply _ _ _ _ (ix2 (i 0) (wcol (i 1))) ?_) (dotD_eq m c (i 0) (i 1))
  intro a
  fin_cases a
  · exact (Nat.zero_add _).symm
  · exact (Nat.zero_add _).symm

/-- On equal arguments the reference's convolution state of the prompts is the call's. -/
theorem cp_agree (x : Vec Ideal S8192x4096 .bf16) (w : Vec Ideal S4096x9248 .f32) (hx : x = argX m c) (hw : w = argW m c) :
    refCP (dotP x w) = inCP m c := by
  subst hx hw
  funext i
  have hi : i = ix3 (i 0) (i 1) (i 2) := by funext a; fin_cases a <;> rfl
  rw [hi]
  unfold inCP
  exact (refCP_apply _ (i 0) (i 1) (i 2)).trans ((dotP_eq m c _ _).trans (cpOf_apply _ (i 0) (i 1) (i 2)).symm)

/-- The columns the decode rows' convolution state keeps are the same of the reference's product and of the call's result. -/
theorem cols_agree : extractStridedSlice S256x4096 ![0, 5120] (dotD (argD m c) (argW m c)) Cert.Reference4Ideal.Gen.slices_S256x9248_S256x4096_0_5120
    = extractStridedSlice S256x4096 ![0, 5120] (inD m c) slices_S256x9216_S256x4096_0_5120 := by
  funext i
  have hi : i = ix2 (i 0) (i 1) := by funext a; fin_cases a <;> rfl
  rw [hi]
  refine (extractStridedSlice_apply _ _ _ _ (ix2 (i 0) (wcol (ccol (i 1)))) ?_).trans ((dotD_eq m c (i 0) (ccol (i 1))).trans
    (extractStridedSlice_apply _ _ _ _ (ix2 (i 0) (ccol (i 1))) ?_).symm)
  all_goals
    intro a
    fin_cases a
    · exact (Nat.zero_add _).symm
    · rfl

/-- On equal arguments the reference's convolution state of the decode rows is the call's. -/
theorem cd_agree (x : Vec Ideal S256x4096 .bf16) (w : Vec Ideal S4096x9248 .f32) (s : Vec Ideal S32x3x4096 .f32) (hx : x = argD m c) (hw : w = argW m c)
    (hs : s = argS m c) : refCD s (dotD x w) = inCD m c := by
  subst hx hw hs
  unfold refCD inCD cdOf
  rw [cols_agree]

end Agree

end Cert.Inp

end
-- ==== Proof.OutRun.lean ====
/-
  The body of `out_proj` run at a point, in its four cases: the first point, a later first row of a panel, the first row of
  the last panel, and any other row.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Outp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The weights, left whole in HBM; the panel being copied; the panel in use, cast. -/
abbrev mW : Memref sig .tc .hbm S4096x4096 .f32 := Memref.whole main_arg4
abbrev mF : Memref sig .tc .vmem S4096x1024 .f32 := Memref.whole cc0_scratch0
abbrev mB : Memref sig .tc .vmem S4096x1024 .bf16 := Memref.whole cc0_scratch1

/-- The window of the weights at offsets `o`. -/
abbrev pan (o : Fin 2 → ℕ) (h : ∀ a, o a + S4096x1024.size a ≤ S4096x4096.size a) : Memref sig .tc .hbm S4096x1024 .f32 :=
  mW.slice (Rect.unit (s := S4096x4096) o S4096x1024.size h) (fun _ => rfl)

abbrev BufOf (F : FTy → Type) (c : Dev nD) {sp : Space} {S : Shape} {e : EltTy} (M : Memref sig .tc sp S e) : Type :=
  Buf (Elt F) (M.view.loc (c : Thread nD τ))

/-- A whole buffer held at contents. -/
abbrev pt (c : Dev nD) {sp : Space} {S : Shape} {e : EltTy} (M : Memref sig .tc sp S e) (f : BufOf F c M) : sProp 𝕄 :=
  M.view.loc (c : Thread nD τ) ↦{fullShare} f

/-- The kernel's one DMA cell. -/
abbrev osm : SemLoc sig := SemLoc.dma 14

/-- The panel at `o` on its way into the panel buffer, and the rest of the weights. -/
def flight (c : Dev nD) (fw : BufOf F c mW) (o : Fin 2 → ℕ) (h : ∀ a, o a + S4096x1024.size a ≤ S4096x4096.size a) : sProp 𝕄 :=
  iprop(∃ f0 : BufOf F c mF, Transfers.Flight countersEmb (c : Thread nD τ) osm () 524288
      iprop((mF.view.loc (c : Thread nD τ) ↦{fullShare} mF.view.write (Elt F) f0 (ReadAs.same.apply ((pan o h).view.read (Elt F) fw)) Finset.univ)
        ∗ (mW.view.loc (c : Thread nD τ) ↦[(pan o h).view.set]{fullShare} fw))
    ∗ (mW.view.loc (c : Thread nD τ) ↦[Finset.univ \ (pan o h).view.set]{fullShare} fw))

variable (c : Dev nD) (i : grid0.Coords)
  (arg2 : Memref sig .tc .vmem S512x2048 .bf16) (harg2 : arg2.IsWhole) (arg3 : Memref sig .tc .vmem S512x2048 .bf16) (harg3 : arg3.IsWhole)
  (arg5 : Memref sig .tc .vmem S256x2048 .f32) (harg5 : arg5.IsWhole) (arg6 : Memref sig .tc .vmem S256x2048 .f32) (harg6 : arg6.IsWhole)
  (arg7 : Memref sig .tc .vmem S512x1024 .f32) (harg7 : arg7.IsWhole) (arg8 : Memref sig .tc .vmem S256x1024 .f32) (harg8 : arg8.IsWhole)
  (arg9 : Memref sig .tc .vmem S512x1024 .f32) (harg9 : arg9.IsWhole) (arg10 : Memref sig .tc .vmem S256x1024 .f32) (harg10 : arg10.IsWhole)
  (x x2 : Vec F S512x2048 .bf16) (xd xd2 : Vec F S256x2048 .f32) (y : Vec F S512x1024 .f32) (yd : Vec F S256x1024 .f32) (w : BufOf F c mB) (fw : BufOf F c mW)

/-- The panel's rows that multiply the first input, and those that multiply the second. -/
abbrev top (w : Vec F S4096x1024 .bf16) : Vec F S2048x1024 .bf16 :=
  mB.view.readAt (Elt F) (Rect.unit (s := S4096x1024) ![0, 0] S2048x1024.size inb_S4096x1024_S2048x1024_0_0).toLoadRect w
abbrev bot (w : Vec F S4096x1024 .bf16) : Vec F S2048x1024 .bf16 :=
  mB.view.readAt (Elt F) (Rect.unit (s := S4096x1024) ![2048, 0] S2048x1024.size inb_S4096x1024_S2048x1024_2048_0).toLoadRect w

/-- The body at a point of this program. -/
abbrev body : Prog (TpuEff nD τ sig (Elt F) Λ₀ .tc) PUnit :=
  cc0_out_proj i arg2 harg2 arg3 harg3 mW (Memref.isWhole_whole _) arg5 harg5 arg6 harg6 arg7 harg7 arg8 harg8 arg9 harg9 arg10 harg10 mF (Memref.isWhole_whole _) mB (Memref.isWhole_whole _) cc0_scratch2

set_option maxHeartbeats 1000000 in
/-- A row that is not a panel's first: only the block product is stored. -/
theorem run_D (hc1 : ¬ k0_cond1 i = 1#1) (K : PUnit → sProp 𝕄) :
    iprop(owns (c : Thread nD τ) arg2 fullShare x ∗ owns (c : Thread nD τ) arg3 fullShare x2 ∗ owns (c : Thread nD τ) arg7 fullShare y ∗ (∃ d, owns (c : Thread nD τ) arg9 fullShare d) ∗ pt c mB w
        ∗ (iprop(owns (c : Thread nD τ) arg2 fullShare x ∗ owns (c : Thread nD τ) arg3 fullShare x2 ∗ owns (c : Thread nD τ) arg7 fullShare y ∗ owns (c : Thread nD τ) arg9 fullShare (k0_pay3 x (top w) x2 (bot w) y) ∗ pt c mB w) -∗ K ⟨⟩))
      ⊢ wp frame (wpE (defs₀ (F := F)) Variants.none c none) Set.univ (body i arg2 harg2 arg3 harg3 arg5 harg5 arg6 harg6 arg7 harg7 arg8 harg8 arg9 harg9 arg10 harg10) K := by
  unfold body
  simp only [cc0_out_proj_eq_skeleton]; unfold cc0_out_proj_skel
  unfold owns
  iintro ⟨⟨%f2, %hf2, H2⟩, ⟨%f3, %hf3, H3⟩, ⟨%f7, %hf7, H7⟩, ⟨%d9, %f9, -, H9⟩, HB, Hk⟩
  obtain rfl := harg2.eq_unread hf2
  obtain rfl := harg3.eq_unread hf3
  obtain rfl := harg7.eq_unread hf7
  sl_exec (disch := first | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H7]
  · iexists _; isplitr; · ipureintro; exact harg7.read_unread _
    iexact H7
  isplitl [H9]
  · iexists _; isplitr; swap; · iexact H9
    ipureintro
    refine (View.read_writes_full _ _ _ _ _).trans ?_
    rw [View.readAt_full, View.readAt_full, View.readAt_full, harg2.read_unread, harg3.read_unread, harg7.read_unread]
    try rfl
  iexact HB

/-- The window of the weights at `o`, as a value. -/
abbrev panR (c : Dev nD) (fw : BufOf F c mW) (o : Fin 2 → ℕ) (h : ∀ a, o a + S4096x1024.size a ≤ S4096x4096.size a) : Vec F S4096x1024 .f32 :=
  (pan o h).view.read (Elt F) fw

/-- What the body leaves at a panel's first row, over the panel `p`. -/
abbrev left (c : Dev nD) (arg2 arg3 : Memref sig .tc .vmem S512x2048 .bf16) (arg5 arg6 : Memref sig .tc .vmem S256x2048 .f32)
    (arg7 : Memref sig .tc .vmem S512x1024 .f32) (arg8 : Memref sig .tc .vmem S256x1024 .f32)
    (arg9 : Memref sig .tc .vmem S512x1024 .f32) (arg10 : Memref sig .tc .vmem S256x1024 .f32)
    (x x2 : Vec F S512x2048 .bf16) (xd xd2 : Vec F S256x2048 .f32) (y : Vec F S512x1024 .f32) (yd : Vec F S256x1024 .f32) (p : Vec F S4096x1024 .f32) : sProp 𝕄 :=
  iprop(owns (c : Thread nD τ) arg2 fullShare x ∗ owns (c : Thread nD τ) arg3 fullShare x2
    ∗ owns (c : Thread nD τ) arg5 fullShare xd ∗ owns (c : Thread nD τ) arg6 fullShare xd2
    ∗ owns (c : Thread nD τ) arg7 fullShare y ∗ owns (c : Thread nD τ) arg8 fullShare yd
    ∗ owns (c : Thread nD τ) arg9 fullShare (k0_pay3 x (top (k0_pay1 p)) x2 (bot (k0_pay1 p)) y)
    ∗ owns (c : Thread nD τ) arg10 fullShare (k0_pay2 xd (top (k0_pay1 p)) xd2 (bot (k0_pay1 p)) yd)
    ∗ pt c mB (k0_pay1 p))

/-- A store over all of a whole buffer leaves what was stored. -/
theorem writes_whole (b : Ref sig .tc) (f v : b.ty.Contents (Elt F)) {off : Fin b.ty.shape.rank → ℕ} (h : ∀ a, off a + b.ty.shape.size a ≤ b.ty.shape.size a) :
    (View.whole b).writes (Elt F) f [⟨Rect.unit off b.ty.shape.size h, v⟩] = v :=
  (View.read_whole b _).symm.trans (View.read_writes_full (View.whole b) f h v [])

/-- The whole-buffer store of the cast panel leaves it. -/
theorem cast_left (fB : BufOf F c mB) (v : Vec F S4096x1024 .bf16) (h) :
    mB.view.writes (Elt F) fB [⟨Rect.unit (s := S4096x1024) ![0, 0] S4096x1024.size h, v⟩] = v :=
  writes_whole cc0_scratch1 fB v h

/-- What is loaded of the panel buffer after a panel was copied over all of it: the panel. -/
theorem load_flight (f0 : BufOf F c mF) (v : Vec F S4096x1024 .f32) (h) :
    mF.view.readAt (Elt F) (Rect.unit (s := S4096x1024) ![0, 0] S4096x1024.size h).toLoadRect
      (mF.view.write (Elt F) f0 (ReadAs.same.apply v) Finset.univ) = v := by
  rw [View.readAt_full, ReadAs.apply_same]
  exact congrArg (mF.view.read (Elt F)) (View.write_whole_univ cc0_scratch0 f0 v)

/-- After the cast panel is stored over all of its buffer, loading half of it loads that half of the panel. -/
theorem top_cov (v : Vec F S4096x1024 .bf16) (h) :
    mB.view.readCov (Val := Elt F) [⟨Rect.unit (s := S4096x1024) ![0, 0] S4096x1024.size h, v⟩]
      (Rect.unit (s := S4096x1024) ![0, 0] S2048x1024.size inb_S4096x1024_S2048x1024_0_0).toLoadRect = top v :=
  congrArg top (writes_whole cc0_scratch1 _ v h)
theorem bot_cov (v : Vec F S4096x1024 .bf16) (h) :
    mB.view.readCov (Val := Elt F) [⟨Rect.unit (s := S4096x1024) ![0, 0] S4096x1024.size h, v⟩]
      (Rect.unit (s := S4096x1024) ![2048, 0] S2048x1024.size inb_S4096x1024_S2048x1024_2048_0).toLoadRect = bot v :=
  congrArg bot (writes_whole cc0_scratch1 _ v h)

set_option maxHeartbeats 2000000 in
/-- The first point: panel 0 is copied and waited for, cast, and panel 1's copy started. -/
theorem run_A (hc1 : k0_cond1 i = 1#1) (hc2 : k0_cond2 i = 1#1) (hc3 : k0_cond3 i = 1#1) (W : Waits sig Unit) (K : PUnit → sProp 𝕄) :
    iprop(owns (c : Thread nD τ) arg2 fullShare x ∗ owns (c : Thread nD τ) arg3 fullShare x2
        ∗ owns (c : Thread nD τ) arg5 fullShare xd ∗ owns (c : Thread nD τ) arg6 fullShare xd2
        ∗ owns (c : Thread nD τ) arg7 fullShare y ∗ owns (c : Thread nD τ) arg8 fullShare yd
        ∗ (∃ d, owns (c : Thread nD τ) arg9 fullShare d) ∗ (∃ d, owns (c : Thread nD τ) arg10 fullShare d)
        ∗ (∃ f, pt (F := F) c mB f) ∗ (∃ f, pt (F := F) c mF f) ∗ semVal ((c : Thread nD τ), osm) 0 ∗ pt c mW fw ∗ owes (c : Thread nD τ) 0 W
        ∗ (iprop(left c arg2 arg3 arg5 arg6 arg7 arg8 arg9 arg10 x x2 xd xd2 y yd (panR c fw ![0, 0] inb_S4096x4096_S4096x1024_0_0)
            ∗ flight c fw (k0_off2 i) (k0_off2_inb i hc1 hc3)
            ∗ ∃ W', owes (c : Thread nD τ) 0 W') -∗ K ⟨⟩))
      ⊢ wp frame (wpE (defs₀ (F := F)) Variants.none c none) Set.univ (body i arg2 harg2 arg3 harg3 arg5 harg5 arg6 harg6 arg7 harg7 arg8 harg8 arg9 harg9 arg10 harg10) K := by
  unfold body left
  simp only [cc0_out_proj_eq_skeleton]; unfold cc0_out_proj_skel
  unfold owns flight
  iintro ⟨⟨%f2, %hf2, H2⟩, ⟨%f3, %hf3, H3⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fB, HB⟩, ⟨%fF, HF⟩, HS, HW, HO, Hk⟩
  obtain rfl := harg2.eq_unread hf2
  obtain rfl := harg3.eq_unread hf3
  obtain rfl := harg5.eq_unread hf5
  obtain rfl := harg6.eq_unread hf6
  obtain rfl := harg7.eq_unread hf7
  obtain rfl := harg8.eq_unread hf8
  sl_exec (disch := first | sl_exact hc1 | sl_exact hc2 | sl_exact hc3)
  sl_step
  have e1 : run_A.sl.v31 c fw fF = top (k0_pay1 (panR c fw ![0, 0] inb_S4096x4096_S4096x1024_0_0)) := by
    unfold run_A.sl.v31 run_A.sl.HB_1 run_A.sl.dma0
    rw [load_flight]; exact top_cov _ _
  have e2 : run_A.sl.v35 c fw fF = bot (k0_pay1 (panR c fw ![0, 0] inb_S4096x4096_S4096x1024_0_0)) := by
    unfold run_A.sl.v35 run_A.sl.HB_1 run_A.sl.dma0
    rw [load_flight]; exact bot_cov _ _
  iapply Hk
  isplitl [H2 H3 H5 H6 H7 H8 H9 H10 HB]
  · isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      refine (View.read_writes_full _ _ _ _ _).trans ?_
      rw [View.readAt_full, View.readAt_full, View.readAt_full, harg2.read_unread, harg3.read_unread, harg7.read_unread, e1, e2]
    isplitl [H10]
    · iexists _; isplitr; swap; · iexact H10
      ipureintro
      refine (View.read_writes_full _ _ _ _ _).trans ?_
      rw [View.readAt_full, View.readAt_full, View.readAt_full, harg5.read_unread, harg6.read_unread, harg8.read_unread, e1, e2]
    · have e3 : mB.view.writes (Elt F) fB (run_A.sl.HB_1 c fw fF) = k0_pay1 (panR c fw ![0, 0] inb_S4096x4096_S4096x1024_0_0) := by
        unfold run_A.sl.HB_1 run_A.sl.dma0
        rw [cast_left, load_flight]; try rfl
      rw [e3]; iexact HB
  isplitl [HS HW]
  · unfold run_A.sl.dma3; iexists _; isplitl [HS]; · iexact HS
    iexact HW
  iexists _; iexact HO

set_option maxHeartbeats 2000000 in
/-- A later panel's first row: the panel is waited for, cast, and the next one's copy started. -/
theorem run_B (hc1 : k0_cond1 i = 1#1) (hc2 : ¬ k0_cond2 i = 1#1) (hc3 : k0_cond3 i = 1#1) (o : Fin 2 → ℕ) (h : ∀ a, o a + S4096x1024.size a ≤ S4096x4096.size a) (W : Waits sig Unit) (K : PUnit → sProp 𝕄) :
    iprop(owns (c : Thread nD τ) arg2 fullShare x ∗ owns (c : Thread nD τ) arg3 fullShare x2
        ∗ owns (c : Thread nD τ) arg5 fullShare xd ∗ owns (c : Thread nD τ) arg6 fullShare xd2
        ∗ owns (c : Thread nD τ) arg7 fullShare y ∗ owns (c : Thread nD τ) arg8 fullShare yd
        ∗ (∃ d, owns (c : Thread nD τ) arg9 fullShare d) ∗ (∃ d, owns (c : Thread nD τ) arg10 fullShare d)
        ∗ (∃ f, pt (F := F) c mB f) ∗ flight c fw o h ∗ owes (c : Thread nD τ) 0 W
        ∗ (iprop(left c arg2 arg3 arg5 arg6 arg7 arg8 arg9 arg10 x x2 xd xd2 y yd (panR c fw o h)
            ∗ flight c fw (k0_off2 i) (k0_off2_inb i hc1 hc3)
            ∗ ∃ W', owes (c : Thread nD τ) 0 W') -∗ K ⟨⟩))
      ⊢ wp frame (wpE (defs₀ (F := F)) Variants.none c none) Set.univ (body i arg2 harg2 arg3 harg3 arg5 harg5 arg6 harg6 arg7 harg7 arg8 harg8 arg9 harg9 arg10 harg10) K := by
  unfold body left
  simp only [cc0_out_proj_eq_skeleton]; unfold cc0_out_proj_skel
  unfold owns flight
  iintro ⟨⟨%f2, %hf2, H2⟩, ⟨%f3, %hf3, H3⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fB, HB⟩, ⟨%fF, HS, HW⟩, HO, Hk⟩
  obtain rfl := harg2.eq_unread hf2
  obtain rfl := harg3.eq_unread hf3
  obtain rfl := harg5.eq_unread hf5
  obtain rfl := harg6.eq_unread hf6
  obtain rfl := harg7.eq_unread hf7
  obtain rfl := harg8.eq_unread hf8
  sl_exec (disch := first | sl_exact hc1 | sl_exact hc2 | sl_exact hc3)
  sl_step
  have e1 : run_B.sl.v31 c fw o h fF = top (k0_pay1 (panR c fw o h)) := by
    unfold run_B.sl.v31 run_B.sl.HB_1
    rw [load_flight]; exact top_cov _ _
  have e2 : run_B.sl.v35 c fw o h fF = bot (k0_pay1 (panR c fw o h)) := by
    unfold run_B.sl.v35 run_B.sl.HB_1
    rw [load_flight]; exact bot_cov _ _
  iapply Hk
  isplitl [H2 H3 H5 H6 H7 H8 H9 H10 HB]
  · isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      refine (View.read_writes_full _ _ _ _ _).trans ?_
      rw [View.readAt_full, View.readAt_full, View.readAt_full, harg2.read_unread, harg3.read_unread, harg7.read_unread, e1, e2]
    isplitl [H10]
    · iexists _; isplitr; swap; · iexact H10
      ipureintro
      refine (View.read_writes_full _ _ _ _ _).trans ?_
      rw [View.readAt_full, View.readAt_full, View.readAt_full, harg5.read_unread, harg6.read_unread, harg8.read_unread, e1, e2]
    · have e3 : mB.view.writes (Elt F) fB (run_B.sl.HB_1 c fw o h fF) = k0_pay1 (panR c fw o h) := by
        unfold run_B.sl.HB_1
        rw [cast_left, load_flight]; try rfl
      rw [e3]; iexact HB
  isplitl [HS HW]
  · unfold run_B.sl.dma3; iexists _; isplitl [HS]; · iexact HS
    iexact HW
  iexists _; iexact HO

set_option maxHeartbeats 2000000 in
/-- The last panel's first row: the panel is waited for and cast, and no copy is started. -/
theorem run_C (hc1 : k0_cond1 i = 1#1) (hc2 : ¬ k0_cond2 i = 1#1) (hc3 : ¬ k0_cond3 i = 1#1) (o : Fin 2 → ℕ) (h : ∀ a, o a + S4096x1024.size a ≤ S4096x4096.size a) (W : Waits sig Unit) (K : PUnit → sProp 𝕄) :
    iprop(owns (c : Thread nD τ) arg2 fullShare x ∗ owns (c : Thread nD τ) arg3 fullShare x2
        ∗ owns (c : Thread nD τ) arg5 fullShare xd ∗ owns (c : Thread nD τ) arg6 fullShare xd2
        ∗ owns (c : Thread nD τ) arg7 fullShare y ∗ owns (c : Thread nD τ) arg8 fullShare yd
        ∗ (∃ d, owns (c : Thread nD τ) arg9 fullShare d) ∗ (∃ d, owns (c : Thread nD τ) arg10 fullShare d)
        ∗ (∃ f, pt (F := F) c mB f) ∗ flight c fw o h ∗ owes (c : Thread nD τ) 0 W
        ∗ (iprop(left c arg2 arg3 arg5 arg6 arg7 arg8 arg9 arg10 x x2 xd xd2 y yd (panR c fw o h)
            ∗ ((∃ f, pt (F := F) c mF f) ∗ semVal ((c : Thread nD τ), osm) 0 ∗ pt c mW fw)
            ∗ ∃ W', owes (c : Thread nD τ) 0 W') -∗ K ⟨⟩))
      ⊢ wp frame (wpE (defs₀ (F := F)) Variants.none c none) Set.univ (body i arg2 harg2 arg3 harg3 arg5 harg5 arg6 harg6 arg7 harg7 arg8 harg8 arg9 harg9 arg10 harg10) K := by
  unfold body left
  simp only [cc0_out_proj_eq_skeleton]; unfold cc0_out_proj_skel
  unfold owns flight
  iintro ⟨⟨%f2, %hf2, H2⟩, ⟨%f3, %hf3, H3⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fB, HB⟩, ⟨%fF, HS, HW⟩, HO, Hk⟩
  obtain rfl := harg2.eq_unread hf2
  obtain rfl := harg3.eq_unread hf3
  obtain rfl := harg5.eq_unread hf5
  obtain rfl := harg6.eq_unread hf6
  obtain rfl := harg7.eq_unread hf7
  obtain rfl := harg8.eq_unread hf8
  sl_exec (disch := first | sl_exact hc1 | sl_exact hc2 | sl_exact hc3)
  sl_step
  have e1 : run_C.sl.v31 c fw o h fF = top (k0_pay1 (panR c fw o h)) := by
    unfold run_C.sl.v31 run_C.sl.HB_1
    rw [load_flight]; exact top_cov _ _
  have e2 : run_C.sl.v35 c fw o h fF = bot (k0_pay1 (panR c fw o h)) := by
    unfold run_C.sl.v35 run_C.sl.HB_1
    rw [load_flight]; exact bot_cov _ _
  iapply Hk
  isplitl [H2 H3 H5 H6 H7 H8 H9 H10 HB]
  · isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      refine (View.read_writes_full _ _ _ _ _).trans ?_
      rw [View.readAt_full, View.readAt_full, View.readAt_full, harg2.read_unread, harg3.read_unread, harg7.read_unread, e1, e2]
    isplitl [H10]
    · iexists _; isplitr; swap; · iexact H10
      ipureintro
      refine (View.read_writes_full _ _ _ _ _).trans ?_
      rw [View.readAt_full, View.readAt_full, View.readAt_full, harg5.read_unread, harg6.read_unread, harg8.read_unread, e1, e2]
    · have e3 : mB.view.writes (Elt F) fB (run_C.sl.HB_1 c fw o h fF) = k0_pay1 (panR c fw o h) := by
        unfold run_C.sl.HB_1
        rw [cast_left, load_flight]; try rfl
      rw [e3]; iexact HB
  isplitl [HS HW HS_dst]
  · isplitl [HS_dst]; · iexists _; iexact HS_dst
    isplitl [HS]; · iexact HS
    iexact HW
  iexists _; iexact HO

end Cert.Outp
end
-- ==== Proof.OutFrame.lean ====
/-
  The frame of `out_proj`: what is held between points (the panel in use cast, the next one on its way), what each block
  holds after a point, the body at every point, and the run of the whole call.
-/
module

public import proofs.«01_k».proof.Proof.OutRun
public import proofs.«01_k».proof.Proof.Gen.Kernel5Ideal.Frame

@[expose] public section

set_option maxRecDepth 16384

noncomputable section

namespace Cert.Outp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The kernel's one DMA cell, of its own. -/
abbrev osem0 : Fin 1 → SemLoc sig := ![osm]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), osm) 0 := by
  rw [Pipeline.ownSems0_eq_of_list c osem0 [0] (by decide) (by decide)]; rfl

/-- The weights are the one array the kernel reads itself. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V m c b) : sProp 𝕄) = pt c mW (V m c main_arg4) := by
  rw [BI.bigSep_eq_bigSepL_of_eq [main_arg4] (by decide) (by decide)]; rfl

theorem PhiD0_eq (c : Dev nD) :
    (Pipeline.ΦD osem0 spec0 H0 (V m) c : sProp 𝕄)
      = iprop(((∃ f, pt (F := F) c mF f) ∗ (∃ f, pt (F := F) c mB f)) ∗ (∃ r, prngReg c r)
          ∗ semVal ((c : Thread nD τ), osm) 0 ∗ pt c mW (V m c main_arg4)) := by
  rw [Pipeline.ΦD_eq, scopedRest0_eq, ownSems00_eq, hbmPts0_eq]

/-! ## The schedule -/

theorem N0 : cfg0.N = 64 := N_0

/-- The panel of a point. -/
def jOf (t : Fin cfg0.N) : Fin 4 := ⟨t.1 / 16, by have h : t.1 < 64 := lt_of_lt_of_eq t.isLt N0; omega⟩

/-- When each branch of the body is taken, and where it reads. -/
theorem conds : ∀ t : Fin cfg0.N, (k0_cond1 (grid0.coords t) = 1#1 ↔ t.1 % 16 = 0) ∧ (k0_cond2 (grid0.coords t) = 1#1 ↔ t.1 / 16 = 0)
    ∧ (k0_cond3 (grid0.coords t) = 1#1 ↔ t.1 / 16 + 1 < 4) ∧ (grid0.coords t 0).val = t.1 / 16 :=
  (by decide +kernel : ∀ t : Fin grid0.N, (k0_cond1 (grid0.coords t) = 1#1 ↔ t.1 % 16 = 0) ∧ (k0_cond2 (grid0.coords t) = 1#1 ↔ t.1 / 16 = 0)
    ∧ (k0_cond3 (grid0.coords t) = 1#1 ↔ t.1 / 16 + 1 < 4) ∧ (grid0.coords t 0).val = t.1 / 16)

/-- A panel's offsets in the weights. -/
abbrev pOff (j : ℕ) : Fin 2 → ℕ := ![0, 1024 * j]
theorem pInb {j : ℕ} (h : j < 4) : ∀ a, pOff j a + S4096x1024.size a ≤ S4096x4096.size a := by
  intro a
  fin_cases a
  · show 0 + 4096 ≤ 4096
    omega
  · show 1024 * j + 1024 ≤ 4096
    omega

/-- A panel of the weights. -/
def panJ (c : Dev nD) (j : Fin 4) : Vec F S4096x1024 .f32 := panR c (V m c main_arg4) (pOff j) (pInb j.isLt)

theorem flight_congr (c : Dev nD) (fw : BufOf F c mW) {o o' : Fin 2 → ℕ} (e : o = o') (h h') : flight c fw o h = flight c fw o' h' := by
  subst e; rfl

/-! ## What is held between points -/

/-- The panel after `j`'s on its way; after the last panel's start, nothing. -/
def next (c : Dev nD) (j : Fin 4) : sProp 𝕄 :=
  if h : j.1 + 1 < 4 then flight c (V m c main_arg4) (pOff (j.1 + 1)) (pInb h)
  else iprop((∃ f, pt (F := F) c mF f) ∗ semVal ((c : Thread nD τ), osm) 0 ∗ pt c mW (V m c main_arg4))

/-- After a point: the panel in use, cast; the next on its way; the generator's register. -/
def St (c : Dev nD) (t : Fin cfg0.N) : sProp 𝕄 :=
  iprop(pt c mB (k0_pay1 (panJ m c (jOf t))) ∗ next m c (jOf t) ∗ ∃ r, prngReg c r)

def Phi (c : Dev nD) (n : Fin (cfg0.N + 1)) : sProp 𝕄 :=
  if h : n.1 = 0 then Pipeline.ΦD osem0 spec0 H0 (V m) c else St m c ⟨n.1 - 1, by have := n.isLt; omega⟩

theorem Phi_zero (c : Dev nD) (n : Fin (cfg0.N + 1)) (h : n.1 = 0) : Phi m c n = Pipeline.ΦD osem0 spec0 H0 (V m) c := dif_pos h
theorem Phi_pos (c : Dev nD) (n : Fin (cfg0.N + 1)) (h : n.1 ≠ 0) :
    Phi m c n = St m c ⟨n.1 - 1, by have := n.isLt; omega⟩ := dif_neg h
theorem Phi_succ (c : Dev nD) (t : Fin cfg0.N) : Phi m c t.succ = St m c t := dif_neg (Nat.succ_ne_zero _)

/-! ## The proof data -/

/-- What a point stores of the rows' result, and of the decode rows'. -/
abbrev outP (c : Dev nD) (t : Fin cfg0.N) : Vec F S512x1024 .f32 :=
  k0_pay3 (iblk m c 0 t) (top (k0_pay1 (panJ m c (jOf t)))) (iblk m c 1 t) (bot (k0_pay1 (panJ m c (jOf t)))) (iblk m c 4 t)
abbrev outD (c : Dev nD) (t : Fin cfg0.N) : Vec F S256x1024 .f32 :=
  k0_pay2 (iblk m c 2 t) (top (k0_pay1 (panJ m c (jOf t)))) (iblk m c 3 t) (bot (k0_pay1 (panJ m c (jOf t)))) (iblk m c 5 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outP m c t
    | ⟨7, _⟩ => outD m c t
  Φ n := Phi m c n
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outP m c t := by dsimp only [dats]
theorem after7 (c : Dev nD) (t : Fin cfg0.N) : (dats m 0 c).after 7 t = outD m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- The decode rows' blocks are the same at every point. -/
theorem iblk2 (c : Dev nD) (t t' : Fin cfg0.N) : iblk m c 2 t = iblk m c 2 t' := rfl
theorem iblk3 (c : Dev nD) (t t' : Fin cfg0.N) : iblk m c 3 t = iblk m c 3 t' := rfl

/-- What is added to their product is the same at every row of a panel. -/
theorem iblk5 (c : Dev nD) (t t' : Fin cfg0.N) (h : jOf t = jOf t') : iblk m c 5 t = iblk m c 5 t' := by
  have e : (cfg0.win 5).index t = (cfg0.win 5).index t' := by
    have hc : (grid0.coords t 0).val = (grid0.coords t' 0).val := by
      rw [(conds t).2.2.2, (conds t').2.2.2]; exact congrArg Fin.val h
    show cc0_transform_6 (grid0.coords t) = cc0_transform_6 (grid0.coords t')
    unfold cc0_transform_6
    rw [hc]
  have f := (dats m 0 c).fetched_congr 5 e rfl (iblk m c 5 t)
  unfold Dat.fetched Dat.blockOf at f
  rw [A_eq] at f
  exact f

theorem idle7 (t : Fin cfg0.N) : cfg0.idle 7 (cfg0.grid.coords t) = true ↔ t.1 % 16 ≠ 0 := by
  show (!(k0_cond1 (grid0.coords t) == 1#1)) = true ↔ _
  have h := not_congr (conds t).1
  refine Iff.trans ?_ h
  simp

theorem flush7 (t : Fin cfg0.N) : (cfg0.win 7).flush t = false ↔ t.1 % 16 ≠ 15 := by
  have h := not_congr (flush0_7 t)
  refine Iff.trans ?_ h
  simp

/-- Past a panel's first row the decode rows' result is held. -/
theorem before7 (c : Dev nD) (n : ℕ) : ∀ (hn : n < cfg0.N), n % 16 ≠ 0 → ∀ d, (dats m 0 c).before 7 ⟨n, hn⟩ d = (dats m 0 c).after 7 ⟨n, hn⟩ := by
  induction n with
  | zero => intro _ h; exact absurd rfl h
  | succ k ih =>
    intro hn h d
    have hk : k < cfg0.N := by omega
    have hj : jOf ⟨k, hk⟩ = jOf ⟨k + 1, hn⟩ := Fin.ext (show k / 16 = (k + 1) / 16 by omega)
    have hfl : (cfg0.win 7).flush ⟨k, hk⟩ = false := (flush7 ⟨k, hk⟩).mpr (show k % 16 ≠ 15 by omega)
    have e : (dats m 0 c).after 7 ⟨k, hk⟩ = (dats m 0 c).after 7 ⟨k + 1, hn⟩ := by
      rw [after7, after7]; unfold outD; rw [hj, iblk2 m c _ ⟨k + 1, hn⟩, iblk3 m c _ ⟨k + 1, hn⟩, iblk5 m c _ ⟨k + 1, hn⟩ hj]
    rw [(dats m 0 c).before_of_pos 7 ⟨k + 1, hn⟩ (Nat.succ_ne_zero _) ((cfg0.win 7).fetch_out rfl _)]
    refine (if_neg (by show ¬ (cfg0.win 7).flush ⟨k, hk⟩ = true; rw [hfl]; exact Bool.false_ne_true)).trans ?_
    refine Eq.trans ?_ e
    show (dats m 0 c).left 7 ⟨k, hk⟩ d = _
    unfold Dat.left
    cases hi : cfg0.idle 7 (cfg0.grid.coords ⟨k, hk⟩)
    · rfl
    · exact ih hk ((idle7 ⟨k, hk⟩).mp hi) d

/-- The staging buffers of a point: the two inputs' blocks of the rows and of the decode rows, what is added to the product of each, the two results' blocks. -/
abbrev ms0_0 (t : Fin cfg0.N) : Memref sig .tc .vmem S512x2048 .bf16 := win0_0.stage (cfg0.slots t 0)
abbrev ms0_1 (t : Fin cfg0.N) : Memref sig .tc .vmem S512x2048 .bf16 := win0_1.stage (cfg0.slots t 1)
abbrev ms0_2 (t : Fin cfg0.N) : Memref sig .tc .vmem S256x2048 .f32 := win0_2.stage (cfg0.slots t 2)
abbrev ms0_3 (t : Fin cfg0.N) : Memref sig .tc .vmem S256x2048 .f32 := win0_3.stage (cfg0.slots t 3)
abbrev ms0_4 (t : Fin cfg0.N) : Memref sig .tc .vmem S512x1024 .f32 := win0_4.stage (cfg0.slots t 4)
abbrev ms0_5 (t : Fin cfg0.N) : Memref sig .tc .vmem S256x1024 .f32 := win0_5.stage (cfg0.slots t 5)
abbrev ms0_6 (t : Fin cfg0.N) : Memref sig .tc .vmem S512x1024 .f32 := win0_6.stage (cfg0.slots t 6)
abbrev ms0_7 (t : Fin cfg0.N) : Memref sig .tc .vmem S256x1024 .f32 := win0_7.stage (cfg0.slots t 7)

/-- The decode rows' result, held or just written, is what the point leaves. -/
theorem leaves7 (c : Dev nD) (t : Fin cfg0.N) :
    (owns (Ix := Unit) (Name := ℕ) (U := Pipeline.UD sig nD τ) (Lvl := ℕ) (c : Thread nD τ) (ms0_7 t) fullShare ((dats m 0 c).after 7 t) : sProp 𝕄)
      ⊢ (dats m 0 c).leavesExact 7 t := by
  unfold Dat.leavesExact
  cases hi : cfg0.idle 7 (cfg0.grid.coords t)
  · exact .rfl
  · cases hf : (cfg0.win 7).flush t
    · have hb := before7 m c t.1 t.isLt ((idle7 t).mp hi) ((dats m 0 c).after 7 t)
      show _ ⊢ iprop(∃ d, owns (c : Thread nD τ) (ms0_7 t) fullShare ((dats m 0 c).before 7 t d))
      iintro H
      iexists (dats m 0 c).after 7 t
      rw [show (dats m 0 c).before 7 t ((dats m 0 c).after 7 t) = (dats m 0 c).after 7 t from hb]
      iexact H
    · exact .rfl

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (dats m 0 c).leavesExact 7 t)

/-- The triple of the body at a point. -/
abbrev Sound (c : Dev nD) (t : Fin cfg0.N) : Prop :=
  bodyPre m c t ⊢ wp frame (wpE (defs₀ (F := F)) Variants.none c none) Set.univ (bodyAt0 t) (fun _ => bodyPost m c t)

/-- A panel is the window of the weights at any offsets equal to its own. -/
theorem panJ_of (c : Dev nD) (j : Fin 4) (o : Fin 2 → ℕ) (h) (e : o = pOff j.1) : panR c (V m c main_arg4) o h = panJ m c j := by
  subst e; rfl

theorem off2 (t : Fin cfg0.N) : k0_off2 (grid0.coords t) = pOff ((jOf t).1 + 1) := by
  rw [k0_off2_eq, (conds t).2.2.2]
  rfl

/-- The copy started at a panel's first row is of the next panel. -/
theorem next_of (c : Dev nD) (t : Fin cfg0.N) (h : t.1 / 16 + 1 < 4) (h') :
    flight c (V m c main_arg4) (k0_off2 (grid0.coords t)) h' = next m c (jOf t) := by
  unfold next
  rw [dif_pos (show (jOf t).1 + 1 < 4 from h)]
  exact flight_congr c _ (off2 t) _ _

theorem next_last (c : Dev nD) (t : Fin cfg0.N) (h : ¬ t.1 / 16 + 1 < 4) :
    next m c (jOf t) = iprop((∃ f, pt (F := F) c mF f) ∗ semVal ((c : Thread nD τ), osm) 0 ∗ pt c mW (V m c main_arg4)) :=
  dif_neg h

/-- At a later panel's first row the panel is on its way. -/
theorem Phi_first (c : Dev nD) (t : Fin cfg0.N) (h8 : t.1 % 16 = 0) (h : ¬ t.1 / 16 = 0) :
    ∃ w, (dats m 0 c).Φ t.castSucc
      = iprop(pt c mB w ∗ flight c (V m c main_arg4) (pOff (jOf t).1) (pInb (jOf t).isLt) ∗ ∃ r, prngReg c r) := by
  have hN : t.1 < 64 := lt_of_lt_of_eq t.isLt N0
  have hlt : t.1 - 1 < cfg0.N := by omega
  refine ⟨k0_pay1 (panJ m c (jOf ⟨t.1 - 1, hlt⟩)), (Phi_pos m c t.castSucc (show t.1 ≠ 0 by omega)).trans ?_⟩
  have hj : (jOf ⟨t.1 - 1, hlt⟩).1 + 1 = (jOf t).1 := by
    show (t.1 - 1) / 16 + 1 = t.1 / 16
    omega
  show St m c ⟨t.1 - 1, hlt⟩ = _
  unfold St next
  rw [dif_pos (by rw [hj]; exact (jOf t).isLt)]
  rw [flight_congr c (V m c main_arg4) (congrArg pOff hj) _ (pInb (jOf t).isLt)]

/-- At any other row the panel in use is its own. -/
theorem Phi_row (c : Dev nD) (t : Fin cfg0.N) (h8 : ¬ t.1 % 16 = 0) : (dats m 0 c).Φ t.castSucc = St m c t := by
  have hN : t.1 < 64 := lt_of_lt_of_eq t.isLt N0
  refine (Phi_pos m c t.castSucc (show t.1 ≠ 0 by omega)).trans ?_
  unfold St
  have hj : jOf ⟨t.castSucc.1 - 1, by have := t.castSucc.isLt; have : t.castSucc.1 = t.1 := rfl; omega⟩ = jOf t := Fin.ext (by
    show (t.1 - 1) / 16 = t.1 / 16
    omega)
  rw [hj]

set_option maxHeartbeats 1000000 in
/-- The first point. -/
theorem sound_A (c : Dev nD) (t : Fin cfg0.N) (h8 : t.1 % 16 = 0) (hd : t.1 / 16 = 0) : Sound m c t := by
  have hc1 := (conds t).1.mpr h8
  have hc2 := (conds t).2.1.mpr hd
  have hc3 := (conds t).2.2.1.mpr (by omega)
  have hp := panJ_of m c (jOf t) ![0, 0] inb_S4096x4096_S4096x1024_0_0 (by show _ = ![0, 1024 * (t.1 / 16)]; rw [hd])
  have hn := next_of m c t (by omega) (k0_off2_inb (grid0.coords t) hc1 hc3)
  unfold Sound bodyPre bodyPost bodyAt0
  rw [show (dats m 0 c).Φ t.castSucc = _ from Phi_zero m c t.castSucc (show t.1 = 0 by omega), PhiD0_eq,
    show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2, after3, after4, after5, after6]
  simp only [before0, before1, before2, before3, before4, before5]
  iintro ⟨⟨⟨HF, HB⟩, Hg, Hs, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (run_A c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (iblk m c 0 t) (iblk m c 1 t) (iblk m c 2 t) (iblk m c 3 t) (iblk m c 4 t) (iblk m c 5 t) (V m c main_arg4) hc1 hc2 hc3 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HB]; · iexact HB
  isplitl [HF]; · iexact HF
  isplitl [Hs]; · iexact Hs
  isplitl [Hw]; · iexact Hw
  rw [hn, hp]
  isplitl [HW]; · iexact HW
  iintro ⟨⟨H0, H1, H2, H3, H4, H5, H6, H7, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m c t)
  rw [after7]
  iexact H7

set_option maxHeartbeats 1000000 in
/-- A later panel's first row, the last panel's excepted. -/
theorem sound_B (c : Dev nD) (t : Fin cfg0.N) (h8 : t.1 % 16 = 0) (hd : ¬ t.1 / 16 = 0) (h3 : t.1 / 16 + 1 < 4) : Sound m c t := by
  have hc1 := (conds t).1.mpr h8
  have hc2 : ¬ k0_cond2 (grid0.coords t) = 1#1 := fun h => hd ((conds t).2.1.mp h)
  have hc3 : k0_cond3 (grid0.coords t) = 1#1 := (conds t).2.2.1.mpr h3
  have hp := panJ_of m c (jOf t) (pOff (jOf t).1) (pInb (jOf t).isLt) rfl
  have hn := next_of m c t h3 (k0_off2_inb (grid0.coords t) hc1 hc3)
  obtain ⟨w, hw⟩ := Phi_first m c t h8 hd
  unfold Sound bodyPre bodyPost bodyAt0
  rw [hw, show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2, after3, after4, after5, after6]
  simp only [before0, before1, before2, before3, before4, before5]
  iintro ⟨⟨HB, HF, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (run_B c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (iblk m c 0 t) (iblk m c 1 t) (iblk m c 2 t) (iblk m c 3 t) (iblk m c 4 t) (iblk m c 5 t) (V m c main_arg4) hc1 hc2 hc3 (pOff (jOf t).1) (pInb (jOf t).isLt) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HB]; · iexists _; iexact HB
  isplitl [HF]; · iexact HF
  rw [hn, hp]
  isplitl [HW]; · iexact HW
  iintro ⟨⟨H0, H1, H2, H3, H4, H5, H6, H7, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m c t)
  rw [after7]
  iexact H7

set_option maxHeartbeats 1000000 in
/-- The last panel's first row. -/
theorem sound_C (c : Dev nD) (t : Fin cfg0.N) (h8 : t.1 % 16 = 0) (hd : ¬ t.1 / 16 = 0) (h3 : ¬ t.1 / 16 + 1 < 4) : Sound m c t := by
  have hc1 := (conds t).1.mpr h8
  have hc2 : ¬ k0_cond2 (grid0.coords t) = 1#1 := fun h => hd ((conds t).2.1.mp h)
  have hc3 : ¬ k0_cond3 (grid0.coords t) = 1#1 := fun h => h3 ((conds t).2.2.1.mp h)
  have hp := panJ_of m c (jOf t) (pOff (jOf t).1) (pInb (jOf t).isLt) rfl
  have hn := next_last m c t h3
  obtain ⟨w, hw⟩ := Phi_first m c t h8 hd
  unfold Sound bodyPre bodyPost bodyAt0
  rw [hw, show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2, after3, after4, after5, after6]
  simp only [before0, before1, before2, before3, before4, before5]
  iintro ⟨⟨HB, HF, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (run_C c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (iblk m c 0 t) (iblk m c 1 t) (iblk m c 2 t) (iblk m c 3 t) (iblk m c 4 t) (iblk m c 5 t) (V m c main_arg4) hc1 hc2 hc3 (pOff (jOf t).1) (pInb (jOf t).isLt) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HB]; · iexists _; iexact HB
  isplitl [HF]; · iexact HF
  rw [hn, hp]
  isplitl [HW]; · iexact HW
  iintro ⟨⟨H0, H1, H2, H3, H4, H5, H6, H7, HB⟩, HN, ⟨%W', HW'⟩⟩
  isplitl [HB HN Hg]
  · isplitl [HB]; · iexact HB
    isplitl [HN]; · iexact HN
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m c t)
  rw [after7]
  iexact H7

set_option maxHeartbeats 1000000 in
/-- Any other row of a panel. -/
theorem sound_D (c : Dev nD) (t : Fin cfg0.N) (h8 : ¬ t.1 % 16 = 0) : Sound m c t := by
  have hc1 : ¬ k0_cond1 (grid0.coords t) = 1#1 := fun h => h8 ((conds t).1.mp h)
  have hb : ∀ d, (dats m 0 c).before 7 t d = (dats m 0 c).after 7 t := before7 m c t.1 t.isLt h8
  unfold Sound bodyPre bodyPost bodyAt0
  rw [Phi_row m c t h8, show (dats m 0 c).Φ t.succ = _ from Phi_succ m c t]
  unfold St
  unfold Dat.owesAt Pipeline.owesWithin
  rw [show (dats m 0 c).owed t.castSucc = 0 from rfl, show (dats m 0 c).owed t.succ = 0 from rfl]
  rw [after0, after1, after2, after3, after4, after5, after6]
  simp only [before0, before1, before2, before3, before4, before5, hb]
  iintro ⟨⟨HB, HN, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (run_D c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (iblk m c 0 t) (iblk m c 1 t) (iblk m c 4 t) (k0_pay1 (panJ m c (jOf t))) hc1 _)
  isplitl [H0]; · iexact H0
  isplitl [H1]; · iexact H1
  isplitl [H4]; · iexact H4
  isplitl [H6]; · iexists _; iexact H6
  isplitl [HB]; · iexact HB
  iintro ⟨H0, H1, H4, H6, HB⟩
  isplitl [HB HN Hg]
  · isplitl [HB]; · iexact HB
    isplitl [HN]; · iexact HN
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m c t)
  iexact H7

/-- The body at every point. -/
theorem sound_body (c : Dev nD) (t : Fin cfg0.N) : Sound m c t := by
  by_cases h8 : t.1 % 16 = 0
  · by_cases hd : t.1 / 16 = 0
    · exact sound_A m c t h8 hd
    · by_cases h3 : t.1 / 16 + 1 < 4
      · exact sound_B m c t h8 hd h3
      · exact sound_C m c t h8 hd h3
  · exact sound_D m c t h8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The last point leaves nothing under way. -/
theorem Phi_out (c : Dev nD) : (dats m 0 c).Φ (Fin.last cfg0.N) ⊢ Pipeline.ΦD osem0 spec0 H0 (V m) c := by
  have hlt : 63 < cfg0.N := by rw [N0]; omega
  have e : (dats m 0 c).Φ (Fin.last cfg0.N) = St m c ⟨63, hlt⟩ :=
    (Phi_pos m c (Fin.last cfg0.N) (show cfg0.N ≠ 0 by rw [N0]; omega)).trans (congrArg (St m c) (Fin.ext (show cfg0.N - 1 = 63 from congrArg (· - 1) N0)))
  rw [e, PhiD0_eq]
  unfold St
  rw [next_last m c ⟨63, hlt⟩ (by show ¬ 63 / 16 + 1 < 4; omega)]
  iintro ⟨HB, ⟨HF, Hs, Hw⟩, Hg⟩
  isplitl [HF HB]
  · isplitl [HF]; · iexact HF
    iexists _; iexact HB
  isplitl [Hg]; · iexact Hg
  isplitl [Hs]; · iexact Hs
  iexact Hw

set_option backward.isDefEq.respectTransparency.types false in
/-- The call runs to every block of the results holding what its point left, every other array untouched, every cell at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = _ from Phi_zero m c 0 rfl]) (hout := fun c => Phi_out m c)

/-- The call's frame: it runs without undefined behaviour to quiescence, with its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      (h.1 c).2 main_arg4 (Pipeline.mem_restRefs_of main_arg4 (by decide) (by decide)),
      ((h.1 c).1 4).trans (((dats m 0 c).arrAt_in 4 rfl _).trans (A_eq m c 4)),
      ((h.1 c).1 5).trans (((dats m 0 c).arrAt_in 5 rfl _).trans (A_eq m c 5))⟩, h.2⟩) (run_main m ρ)

end Cert.Outp
end
-- ==== Proof.OutBits.lean ====
/-
  `out_proj` as printed: its body table is its ideal reading's, so its frame is the one already proved.
-/
module

public import proofs.«01_k».proof.Proof.OutFrame
public import proofs.«01_k».proof.Proof.Gen.Kernel5
public import proofs.«01_k».proof.Kernel5
public import Idealize.ShloMosaic.PureOps.BitExact

@[expose] public section

set_option maxRecDepth 16384

noncomputable section

namespace Cert.Outp

open Idealize.ShloMosaic Idealize.ShloMosaic.TcCoe Idealize.SL.Sem
open Cert.Kernel5 Cert.Kernel5.Gen

/-- The two programs' kernels are one. -/
theorem defs₀_eq : Cert.Kernel5.defs₀ (F := Bits) = Cert.Kernel5Ideal.defs₀ (F := Bits) := by
  unfold Cert.Kernel5.defs₀ Cert.Kernel5Ideal.defs₀
  refine congrArg Defs.onTc ?_
  funext l a
  match l, a with
  | ⟨0, _⟩, (t, s) => rfl

/-- The two programs' body tables are one. -/
theorem defs_eq : Cert.Kernel5.defs (F := Bits) = Cert.Kernel5Ideal.defs (F := Bits) :=
  congrArg (Pipeline.defs Cert.Kernel5.pcfgs) defs₀_eq

/-- The frame of the call as printed. -/
theorem frame_bits (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact frame (F := Bits) m ρ

end Cert.Outp

end
-- ==== Proof.OutValue.lean ====
/-
  The values of `out_proj`: both its results, entry by entry, over the launched arguments.
-/
module

public import proofs.«01_k».proof.Proof.OutFrame
public import Idealize.ShloMosaic.Lib.Pipeline.ValueKit

@[expose] public section

set_option maxRecDepth 16384

noncomputable section

namespace Cert.Outp

open Cert.Kernel5Ideal Cert.Kernel5Ideal.Gen Idealize.ShloMosaic Idealize.ShloMosaic.TcCoe Idealize.SL.Sem

/-- The weights' row that meets an entry of the first input, and of the second. -/
def lo (k : Fin 2048) : Fin 4096 := ⟨k.1, by omega⟩
def hi (k : Fin 2048) : Fin 4096 := ⟨2048 + k.1, by omega⟩

/-- A sum over both inputs' columns. -/
theorem sum_lo_hi (f : Fin 4096 → EReal) : ∑ k, f k = (∑ k, f (lo k)) + ∑ k, f (hi k) :=
  Fin.sum_univ_add (a := 2048) (b := 2048) f

variable (m : (ℓ : Loc nD τ sig) → Buf (Elt Ideal) ℓ) (c : Dev nD)

/-- The arguments as launched. -/
def argX : Vec Ideal S8192x2048 .bf16 := m ((c : Thread nD τ).loc main_arg0)
def argX2 : Vec Ideal S8192x2048 .bf16 := m ((c : Thread nD τ).loc main_arg1)
def argD : Vec Ideal S256x2048 .f32 := m ((c : Thread nD τ).loc main_arg2)
def argD2 : Vec Ideal S256x2048 .f32 := m ((c : Thread nD τ).loc main_arg3)
def argW : Vec Ideal S4096x4096 .f32 := m ((c : Thread nD τ).loc main_arg4)
def argY : Vec Ideal S8192x4096 .f32 := m ((c : Thread nD τ).loc main_arg5)
def argYD : Vec Ideal S256x4096 .f32 := m ((c : Thread nD τ).loc main_arg6)

/-- Where each window's block lies, at a point. -/
theorem idx : ∀ t : Fin cfg0.N, win0_0.index t = ![t.1 % 16, 0] ∧ win0_1.index t = ![t.1 % 16, 0] ∧ win0_2.index t = ![0, 0] ∧ win0_3.index t = ![0, 0]
    ∧ win0_4.index t = ![t.1 % 16, t.1 / 16] ∧ win0_5.index t = ![0, t.1 / 16] ∧ win0_6.index t = ![t.1 % 16, t.1 / 16] ∧ win0_7.index t = ![0, t.1 / 16] :=
  (by decide +kernel : ∀ t : Fin grid0.N, win0_0.index t = ![t.1 % 16, 0] ∧ win0_1.index t = ![t.1 % 16, 0] ∧ win0_2.index t = ![0, 0] ∧ win0_3.index t = ![0, 0]
    ∧ win0_4.index t = ![t.1 % 16, t.1 / 16] ∧ win0_5.index t = ![0, t.1 / 16] ∧ win0_6.index t = ![t.1 % 16, t.1 / 16] ∧ win0_7.index t = ![0, t.1 / 16])

/-- A row of a block of rows, and a column of a panel, in the whole arrays. -/
def rowOf (t : Fin cfg0.N) (r : Fin 512) : Fin 8192 := ⟨t.1 % 16 * 512 + r.1, by omega⟩
def colOf (j : Fin 4) (n : Fin 1024) : Fin 4096 := ⟨j.1 * 1024 + n.1, by omega⟩

theorem blk0 (t : Fin cfg0.N) (r : Fin 512) (k : Fin 2048) : (iblk m c 0 t : Vec Ideal S512x2048 .bf16) (ix2 r k) = argX m c (ix2 (rowOf t r) k) := by
  have h := (idx t).1
  unfold argX rowOf
  blk_ext [iblk, h]

theorem blk1 (t : Fin cfg0.N) (r : Fin 512) (k : Fin 2048) : (iblk m c 1 t : Vec Ideal S512x2048 .bf16) (ix2 r k) = argX2 m c (ix2 (rowOf t r) k) := by
  have h := (idx t).2.1
  unfold argX2 rowOf
  blk_ext [iblk, h]

theorem blk2 (t : Fin cfg0.N) (r : Fin 256) (k : Fin 2048) : (iblk m c 2 t : Vec Ideal S256x2048 .f32) (ix2 r k) = argD m c (ix2 r k) := by
  have h := (idx t).2.2.1
  unfold argD
  blk_ext [iblk, h]

theorem blk3 (t : Fin cfg0.N) (r : Fin 256) (k : Fin 2048) : (iblk m c 3 t : Vec Ideal S256x2048 .f32) (ix2 r k) = argD2 m c (ix2 r k) := by
  have h := (idx t).2.2.2.1
  unfold argD2
  blk_ext [iblk, h]

theorem blk4 (t : Fin cfg0.N) (r : Fin 512) (k : Fin 1024) : (iblk m c 4 t : Vec Ideal S512x1024 .f32) (ix2 r k) = argY m c (ix2 (rowOf t r) (colOf (jOf t) k)) := by
  have h := (idx t).2.2.2.2.1
  unfold argY rowOf colOf jOf
  blk_ext [iblk, h]

theorem blk5 (t : Fin cfg0.N) (r : Fin 256) (k : Fin 1024) : (iblk m c 5 t : Vec Ideal S256x1024 .f32) (ix2 r k) = argYD m c (ix2 r (colOf (jOf t) k)) := by
  have h := (idx t).2.2.2.2.2.1
  unfold argYD colOf jOf
  blk_ext [iblk, h]

theorem panJ_apply (j : Fin 4) (k : Fin 4096) (n : Fin 1024) : panJ m c j (ix2 k n) = argW m c (ix2 k (colOf j n)) := by
  unfold argW colOf panJ
  show V m c main_arg4 _ = m ((c : Thread nD τ).loc main_arg4) _
  refine congrArg (V m c main_arg4) ?_
  funext a
  fin_cases a
  · refine Fin.ext ?_
    show 0 + 1 * k.1 = k.1
    omega
  · refine Fin.ext ?_
    show 1024 * j.1 + 1 * n.1 = j.1 * 1024 + n.1
    omega

/-- A panel's upper and lower half, entry by entry. -/
theorem top_apply (p : Vec Ideal S4096x1024 .f32) (k : Fin 2048) (n : Fin 1024) :
    top (F := Ideal) (k0_pay1 (F := Ideal) p) (ix2 k n) = p (ix2 (lo k) n) := by
  have e : k0_pay1 (F := Ideal) p (ix2 (lo k) n) = p (ix2 (lo k) n) := by pointwise [k0_pay1]
  refine Eq.trans (congrArg (k0_pay1 (F := Ideal) p) ?_) e
  funext a
  fin_cases a
  · refine Fin.ext ?_
    show 0 + 1 * k.1 = k.1
    omega
  · refine Fin.ext ?_
    show 0 + 1 * n.1 = n.1
    omega
theorem bot_apply (p : Vec Ideal S4096x1024 .f32) (k : Fin 2048) (n : Fin 1024) :
    bot (F := Ideal) (k0_pay1 (F := Ideal) p) (ix2 k n) = p (ix2 (hi k) n) := by
  have e : k0_pay1 (F := Ideal) p (ix2 (hi k) n) = p (ix2 (hi k) n) := by pointwise [k0_pay1]
  refine Eq.trans (congrArg (k0_pay1 (F := Ideal) p) ?_) e
  funext a
  fin_cases a
  · refine Fin.ext ?_
    show 2048 + 1 * k.1 = 2048 + k.1
    omega
  · refine Fin.ext ?_
    show 0 + 1 * n.1 = n.1
    omega

/-- A block of the prompt rows' result, entry by entry. -/
theorem pay3_apply (x : Vec Ideal S512x2048 .bf16) (w : Vec Ideal S2048x1024 .bf16) (x2 : Vec Ideal S512x2048 .bf16) (w2 : Vec Ideal S2048x1024 .bf16) (y : Vec Ideal S512x1024 .f32) (r : Fin 512) (n : Fin 1024) :
    (k0_pay3 (F := Ideal) x w x2 w2 y) (ix2 r n)
      = (y (ix2 r n) : EReal) + ((∑ k : Fin 2048, (x (ix2 r k) * w (ix2 k n) : EReal)) + ∑ k : Fin 2048, (x2 (ix2 r k) * w2 (ix2 k n) : EReal)) := by
  pointwise [k0_pay3]

/-- A block of the decode rows' result, entry by entry. -/
theorem pay2_apply (x : Vec Ideal S256x2048 .f32) (w : Vec Ideal S2048x1024 .bf16) (x2 : Vec Ideal S256x2048 .f32) (w2 : Vec Ideal S2048x1024 .bf16) (y : Vec Ideal S256x1024 .f32) (r : Fin 256) (n : Fin 1024) :
    (k0_pay2 (F := Ideal) x w x2 w2 y) (ix2 r n)
      = (y (ix2 r n) : EReal) + ((∑ k : Fin 2048, (x (ix2 r k) * w (ix2 k n) : EReal)) + ∑ k : Fin 2048, (x2 (ix2 r k) * w2 (ix2 k n) : EReal)) := by
  pointwise [k0_pay2]

/-- The two results: what is added, and the two inputs' products with their halves of the weights. -/
def resP : Vec Ideal S8192x4096 .f32 := fun i => (argY m c i : EReal)
  + ((∑ k : Fin 2048, (argX m c (ix2 (i 0) k) * argW m c (ix2 (lo k) (i 1)) : EReal)) + ∑ k : Fin 2048, (argX2 m c (ix2 (i 0) k) * argW m c (ix2 (hi k) (i 1)) : EReal))
def resD : Vec Ideal S256x4096 .f32 := fun i => (argYD m c i : EReal)
  + ((∑ k : Fin 2048, (argD m c (ix2 (i 0) k) * argW m c (ix2 (lo k) (i 1)) : EReal)) + ∑ k : Fin 2048, (argD2 m c (ix2 (i 0) k) * argW m c (ix2 (hi k) (i 1)) : EReal))

theorem arr6 : (dats m 0 c).arrAt 6 cfg0.N = resP m c := by
  refine (dats m 0 c).arrAt_eq_of_covers 6 _ (by decide +kernel) fun t hf y => ?_
  have e := (idx t).2.2.2.2.2.2.1
  have hN : t.1 < 64 := lt_of_lt_of_eq t.isLt N0
  obtain ⟨r, n, rfl⟩ : ∃ (r : Fin 512) (n : Fin 1024), y = ix2 r n := ⟨y 0, y 1, by funext a; fin_cases a <;> rfl⟩
  rw [cast_eq, after6]
  refine (pay3_apply _ _ _ _ _ r n).trans ?_
  have h0 : ((cfg0.win 6).blk t).view.emb (ix2 r n) (0 : Fin 2) = rowOf t r := Fin.ext (by blk_simp [e, rowOf])
  have h1 : ((cfg0.win 6).blk t).view.emb (ix2 r n) (1 : Fin 2) = colOf (jOf t) n := Fin.ext (by blk_simp [e, colOf, jOf])
  have hy : ((cfg0.win 6).blk t).view.emb (ix2 r n) = ix2 (rowOf t r) (colOf (jOf t) n) := by
    funext a; fin_cases a
    · exact h0
    · exact h1
  rw [hy]
  unfold resP
  rw [blk4]
  refine congrArg (fun s : EReal => (argY m c (ix2 (rowOf t r) (colOf (jOf t) n)) : EReal) + s) (congrArg₂ (fun a b : EReal => a + b)
    (Finset.sum_congr rfl fun k _ => ?_) (Finset.sum_congr rfl fun k _ => ?_))
  · rw [blk0, top_apply, panJ_apply]
    rfl
  · rw [blk1, bot_apply, panJ_apply]
    rfl

theorem arr7 : (dats m 0 c).arrAt 7 cfg0.N = resD m c := by
  refine (dats m 0 c).arrAt_eq_of_covers 7 _ (by decide +kernel) fun t hf y => ?_
  have e := (idx t).2.2.2.2.2.2.2
  have hN : t.1 < 64 := lt_of_lt_of_eq t.isLt N0
  obtain ⟨r, n, rfl⟩ : ∃ (r : Fin 256) (n : Fin 1024), y = ix2 r n := ⟨y 0, y 1, by funext a; fin_cases a <;> rfl⟩
  rw [cast_eq, after7]
  refine (pay2_apply _ _ _ _ _ r n).trans ?_
  have h0 : ((cfg0.win 7).blk t).view.emb (ix2 r n) (0 : Fin 2) = r := Fin.ext (by blk_simp [e])
  have h1 : ((cfg0.win 7).blk t).view.emb (ix2 r n) (1 : Fin 2) = colOf (jOf t) n := Fin.ext (by blk_simp [e, colOf, jOf])
  have hy : ((cfg0.win 7).blk t).view.emb (ix2 r n) = ix2 (r) (colOf (jOf t) n) := by
    funext a; fin_cases a
    · exact h0
    · exact h1
  rw [hy]
  unfold resD
  rw [blk5]
  refine congrArg (fun s : EReal => (argYD m c (ix2 (r) (colOf (jOf t) n)) : EReal) + s) (congrArg₂ (fun a b : EReal => a + b)
    (Finset.sum_congr rfl fun k _ => ?_) (Finset.sum_congr rfl fun k _ => ?_))
  · rw [blk2, top_apply, panJ_apply]
    rfl
  · rw [blk3, bot_apply, panJ_apply]
    rfl

end Cert.Outp

end
-- ==== Proof.OutAgree.lean ====
/-
  `out_proj` against its reference: the reference's results entry by entry, and their agreement with the call's.
-/
module

public import proofs.«01_k».proof.Proof.OutValue
public import proofs.«01_k».proof.Proof.Gen.Reference5Ideal.Run
public import Idealize.ShloMosaic.Lib.Claim
public import Idealize.ShloMosaic.Lib.Quiescent

@[expose] public section

set_option maxRecDepth 16384

noncomputable section

namespace Cert.Outp

open Idealize.ShloMosaic Idealize.ShloMosaic.TcCoe Idealize.SL.Sem

section Reference
open Cert.Reference5Ideal Cert.Reference5Ideal.Gen

/-- The two inputs side by side. -/
def catP (x x2 : Vec Ideal S8192x2048 .bf16) : Vec Ideal S8192x4096 .f32 :=
  concatenate S8192x4096 1 [⟨S8192x2048, (extf .f32 (x : FVec Ideal S8192x2048 .bf16) bitsLt_bf16_f32 : FVec Ideal S8192x2048 .f32)⟩, ⟨S8192x2048, (extf .f32 (x2 : FVec Ideal S8192x2048 .bf16) bitsLt_bf16_f32 : FVec Ideal S8192x2048 .f32)⟩] concatenates_S8192x2048_S8192x2048_S8192x4096_d1

theorem catP_lo (x x2 : Vec Ideal S8192x2048 .bf16) (r : Fin 8192) (k : Fin 2048) : (catP x x2 (ix2 r (lo k)) : EReal) = x (ix2 r k) :=
  concatenate_pair_apply_left (t := S8192x4096) (s₁ := S8192x2048) (s₂ := S8192x2048) 1 _ _ _ (ix2 r (lo k)) rfl (ix2 r k) fun b => by
    fin_cases b <;> rfl
theorem catP_hi (x x2 : Vec Ideal S8192x2048 .bf16) (r : Fin 8192) (k : Fin 2048) : (catP x x2 (ix2 r (hi k)) : EReal) = x2 (ix2 r k) :=
  concatenate_pair_apply_right (t := S8192x4096) (s₁ := S8192x2048) (s₂ := S8192x2048) 1 _ _ _ (ix2 r (hi k)) rfl rfl (ix2 r k)
    (fun b hb => by
      fin_cases b
      · rfl
      · exact absurd rfl hb)
    (Nat.add_comm k.1 2048)

/-- The two inputs side by side. -/
def catD (x x2 : Vec Ideal S256x2048 .f32) : Vec Ideal S256x4096 .f32 :=
  concatenate S256x4096 1 [⟨S256x2048, x⟩, ⟨S256x2048, x2⟩] concatenates_S256x2048_S256x2048_S256x4096_d1

theorem catD_lo (x x2 : Vec Ideal S256x2048 .f32) (r : Fin 256) (k : Fin 2048) : (catD x x2 (ix2 r (lo k)) : EReal) = x (ix2 r k) :=
  concatenate_pair_apply_left (t := S256x4096) (s₁ := S256x2048) (s₂ := S256x2048) 1 _ _ _ (ix2 r (lo k)) rfl (ix2 r k) fun b => by
    fin_cases b <;> rfl
theorem catD_hi (x x2 : Vec Ideal S256x2048 .f32) (r : Fin 256) (k : Fin 2048) : (catD x x2 (ix2 r (hi k)) : EReal) = x2 (ix2 r k) :=
  concatenate_pair_apply_right (t := S256x4096) (s₁ := S256x2048) (s₂ := S256x2048) 1 _ _ _ (ix2 r (hi k)) rfl rfl (ix2 r k)
    (fun b hb => by
      fin_cases b
      · rfl
      · exact absurd rfl hb)
    (Nat.add_comm k.1 2048)

/-- The reference's result as the program computes it. -/
def refP (x x2 : Vec Ideal S8192x2048 .bf16) (w : Vec Ideal S4096x4096 .f32) (y : Vec Ideal S8192x4096 .f32) : Vec Ideal S8192x4096 .f32 :=
  addf y (Host.dotGeneral (F := Ideal) (φ₁ := .f32) (φ₂ := .f32) dot_S8192x4096_S4096x4096_S8192x4096_1_0_0_1_n_n none (catP x x2) w)

theorem refP_sum (x : Vec Ideal S8192x4096 .f32) (w : Vec Ideal S4096x4096 .f32) (y : Vec Ideal S8192x4096 .f32) (r : Fin 8192) (n : Fin 4096) :
    addf (F := Ideal) (φ := .f32) y (Host.dotGeneral (F := Ideal) (φ₁ := .f32) (φ₂ := .f32) dot_S8192x4096_S4096x4096_S8192x4096_1_0_0_1_n_n none x w) (ix2 r n)
      = (y (ix2 r n) : EReal) + ∑ k : Fin 4096, (x (ix2 r k) * w (ix2 k n) : EReal) := by
  pointwise []

theorem refP_apply (x x2 : Vec Ideal S8192x2048 .bf16) (w : Vec Ideal S4096x4096 .f32) (y : Vec Ideal S8192x4096 .f32) (r : Fin 8192) (n : Fin 4096) :
    refP x x2 w y (ix2 r n) = (y (ix2 r n) : EReal)
      + ((∑ k : Fin 2048, (x (ix2 r k) * w (ix2 (lo k) n) : EReal)) + ∑ k : Fin 2048, (x2 (ix2 r k) * w (ix2 (hi k) n) : EReal)) := by
  refine (refP_sum _ w y r n).trans (congrArg (fun s : EReal => (y (ix2 r n) : EReal) + s) ((sum_lo_hi _).trans (congrArg₂ (fun a b : EReal => a + b)
    (Finset.sum_congr rfl fun k _ => ?_) (Finset.sum_congr rfl fun k _ => ?_))))
  · rw [catP_lo]
  · rw [catP_hi]

/-- The reference's result as the program computes it. -/
def refD (x x2 : Vec Ideal S256x2048 .f32) (w : Vec Ideal S4096x4096 .f32) (y : Vec Ideal S256x4096 .f32) : Vec Ideal S256x4096 .f32 :=
  addf y (Host.dotGeneral (F := Ideal) (φ₁ := .f32) (φ₂ := .f32) dot_S256x4096_S4096x4096_S256x4096_1_0_0_1_n_n none (catD x x2) w)

theorem refD_sum (x : Vec Ideal S256x4096 .f32) (w : Vec Ideal S4096x4096 .f32) (y : Vec Ideal S256x4096 .f32) (r : Fin 256) (n : Fin 4096) :
    addf (F := Ideal) (φ := .f32) y (Host.dotGeneral (F := Ideal) (φ₁ := .f32) (φ₂ := .f32) dot_S256x4096_S4096x4096_S256x4096_1_0_0_1_n_n none x w) (ix2 r n)
      = (y (ix2 r n) : EReal) + ∑ k : Fin 4096, (x (ix2 r k) * w (ix2 k n) : EReal) := by
  pointwise []

theorem refD_apply (x x2 : Vec Ideal S256x2048 .f32) (w : Vec Ideal S4096x4096 .f32) (y : Vec Ideal S256x4096 .f32) (r : Fin 256) (n : Fin 4096) :
    refD x x2 w y (ix2 r n) = (y (ix2 r n) : EReal)
      + ((∑ k : Fin 2048, (x (ix2 r k) * w (ix2 (lo k) n) : EReal)) + ∑ k : Fin 2048, (x2 (ix2 r k) * w (ix2 (hi k) n) : EReal)) := by
  refine (refD_sum _ w y r n).trans (congrArg (fun s : EReal => (y (ix2 r n) : EReal) + s) ((sum_lo_hi _).trans (congrArg₂ (fun a b : EReal => a + b)
    (Finset.sum_congr rfl fun k _ => ?_) (Finset.sum_congr rfl fun k _ => ?_))))
  · rw [catD_lo]
  · rw [catD_hi]

/-- The reference's run: its two results, its arguments unchanged, its counters at zero. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v4) = refP (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v7) = refD (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  θ_run_mono (Cert.Reference5Ideal.Value.run m ρ) fun r h => ⟨h, sem_eq_zero_of_no_sems (by decide) _⟩

end Reference

section Agree
open Cert.Kernel5Ideal Cert.Kernel5Ideal.Gen

variable (m : (ℓ : Loc nD τ sig) → Buf (Elt Ideal) ℓ) (ρ : Dev nD → PrngReg) (c : Dev nD)

/-- The call's run, read: its two results and its arguments. -/
theorem out_run : θ_run defs (onTc (τ := τ) (main (F := Ideal))) ⟨m, fun _ => 0, ρ⟩ (fun r => ∀ c : Dev nD,
      r.2.mem ((c.tc : Thread nD τ).loc main_v0_0) = resP m c
      ∧ r.2.mem ((c.tc : Thread nD τ).loc main_v0_1) = resD m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (run_main m ρ) fun _ h c => ⟨((h.1 c).1 6).trans (arr6 m c), ((h.1 c).1 7).trans (arr7 m c),
    ((h.1 c).1 0).trans (((dats m 0 c).arrAt_in 0 rfl _).trans (A_eq m c 0)),
    ((h.1 c).1 1).trans (((dats m 0 c).arrAt_in 1 rfl _).trans (A_eq m c 1)),
    ((h.1 c).1 2).trans (((dats m 0 c).arrAt_in 2 rfl _).trans (A_eq m c 2)),
    ((h.1 c).1 3).trans (((dats m 0 c).arrAt_in 3 rfl _).trans (A_eq m c 3)),
    (h.1 c).2 main_arg4 (Pipeline.mem_restRefs_of main_arg4 (by decide) (by decide)),
    ((h.1 c).1 4).trans (((dats m 0 c).arrAt_in 4 rfl _).trans (A_eq m c 4)),
    ((h.1 c).1 5).trans (((dats m 0 c).arrAt_in 5 rfl _).trans (A_eq m c 5))⟩

/-- On equal arguments the reference's first result is the call's. -/
theorem p_agree (x x2 : Vec Ideal S8192x2048 .bf16) (w : Vec Ideal S4096x4096 .f32) (y : Vec Ideal S8192x4096 .f32)
    (hx : x = argX m c) (hx2 : x2 = argX2 m c) (hw : w = argW m c) (hy : y = argY m c) : refP x x2 w y = resP m c := by
  subst hx hx2 hw hy
  funext i
  obtain ⟨r, n, rfl⟩ : ∃ (r : Fin 8192) (n : Fin 4096), i = ix2 r n := ⟨i 0, i 1, by funext a; fin_cases a <;> rfl⟩
  exact refP_apply _ _ _ _ r n

/-- On equal arguments the reference's second result is the call's. -/
theorem d_agree (x x2 : Vec Ideal S256x2048 .f32) (w : Vec Ideal S4096x4096 .f32) (y : Vec Ideal S256x4096 .f32)
    (hx : x = argD m c) (hx2 : x2 = argD2 m c) (hw : w = argW m c) (hy : y = argYD m c) : refD x x2 w y = resD m c := by
  subst hx hx2 hw hy
  funext i
  obtain ⟨r, n, rfl⟩ : ∃ (r : Fin 256) (n : Fin 4096), i = ix2 r n := ⟨i 0, i 1, by funext a; fin_cases a <;> rfl⟩
  exact refD_apply _ _ _ _ r n

end Agree

end Cert.Outp

end
-- ==== Proof.PostBlock.lean ====
/-
  Queries and keys after their projection, in one group of 128 lanes: the root-mean-square norm of each half and its
  rotation by position, as the kernel's body computes them, read entry by entry.
-/
module

public import proofs.«01_k».proof.Proof.Gen.Kernel6Ideal.Value
public import Idealize.ShloMosaic.Lib.Pipeline.ValueKit
public import Idealize.ShloMosaic.Lib.StableHlo.RunRead

@[expose] public section

set_option maxRecDepth 16384

noncomputable section

namespace Cert.Post

open Cert.Kernel6Ideal Cert.Kernel6Ideal.Gen Idealize.ShloMosaic Idealize.ShloMosaic.TcCoe Idealize.SL.Sem

/-- The 0/1 matrix of lanes in one segment of 64, as the kernel builds it. -/
def seg : FVec Ideal S128x128 .bf16 :=
  k0_pay165 (F := Ideal) k0_pay162 (iota .tc S128x128 32 [1] iota_S128x128_d1_w32) 64#32 k0_pay163 k0_pay164
    (Scalar.extui (Scalar.cmpi .sgt 64#32 0#32)) (Scalar.cmpi .slt 64#32 0#32)

/-- A lane's segment, as the kernel's words compute it: the quotient by 64, lowered where the signs differ. -/
def segOf (n : Fin 128) : BitVec 32 :=
  Scalar.select
    (IntOp.andi
      (IntOp.cmpi CmpIPredicate.ne
        (IntOp.subi (BitVec.setWidth 32 (IntOp.cmpi CmpIPredicate.sgt (BitVec.ofNat 32 n.1) 0#32))
          (BitVec.setWidth 32 (IntOp.cmpi CmpIPredicate.slt (BitVec.ofNat 32 n.1) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n.1) 64#32) 0#32))
    (IntOp.subi (IntOp.divsi ArithUnit.vector (BitVec.ofNat 32 n.1) 64#32) 1#32)
    (IntOp.divsi ArithUnit.vector (BitVec.ofNat 32 n.1) 64#32)

/-- That word is the lane's quotient by 64. -/
theorem segOf_eq : ∀ n : Fin 128, segOf n = BitVec.ofNat 32 (n.1 / 64) := by decide +kernel

/-- Two lanes' words agree just when the lanes are in one segment. -/
theorem seg_word : ∀ j l : Fin 128, IntOp.cmpi CmpIPredicate.eq (BitVec.ofNat 32 (j.1 / 64)) (BitVec.ofNat 32 (l.1 / 64))
    = if j.1 / 64 = l.1 / 64 then 1#1 else 0#1 := by decide +kernel

/-- The matrix is one just where the two lanes are in one segment. -/
theorem seg_apply (j l : Fin 128) : seg (ix2 j l) = if j.1 / 64 = l.1 / 64 then (1 : EReal) else 0 := by
  have h : seg (ix2 j l) = Scalar.select (IntOp.cmpi CmpIPredicate.eq (segOf j) (segOf l)) (1 : EReal) 0 := by
    unfold seg segOf
    pointwise [k0_pay165, k0_pay162, k0_pay163, k0_pay164]
  rw [h, segOf_eq, segOf_eq, seg_word]
  by_cases e : j.1 / 64 = l.1 / 64
  · rw [if_pos e, if_pos e]; rfl
  · rw [if_neg e, if_neg e]; rfl

/-- The lane at place `i` of the segment of lane `l`. -/
def segLane (l : Fin 128) (i : Fin 64) : Fin 128 := ⟨l.1 / 64 * 64 + i.1, by omega⟩

/-- A sum against a column of the matrix is the sum over that lane's segment. -/
theorem sum_seg (a : Fin 128 → EReal) (l : Fin 128) : ∑ k, a k * seg (ix2 k l) = ∑ i : Fin 64, a (segLane l i) := by
  have h : ∀ k : Fin 128, a k * seg (ix2 k l) = if k.1 / 64 = l.1 / 64 then a k else 0 := by
    intro k
    rw [seg_apply]
    split
    · rw [mul_one]
    · rw [mul_zero]
  rw [Finset.sum_congr rfl fun k _ => h k, show (∑ k : Fin 128, if k.1 / 64 = l.1 / 64 then a k else 0)
    = ∑ k : Fin (64 + 64), if (Fin.cast rfl k : Fin 128).1 / 64 = l.1 / 64 then a (Fin.cast rfl k) else 0 from rfl, Fin.sum_univ_add]
  rcases Nat.lt_or_ge l.1 64 with hl | hl
  · have e : l.1 / 64 = 0 := by omega
    rw [Finset.sum_eq_zero (s := Finset.univ) (f := fun i : Fin 64 => if (Fin.cast rfl (Fin.natAdd 64 i) : Fin 128).1 / 64 = l.1 / 64 then a (Fin.cast rfl (Fin.natAdd 64 i)) else 0), add_zero]
    · refine Finset.sum_congr rfl fun i _ => ?_
      rw [if_pos (by simp only [Fin.val_cast, Fin.val_castAdd]; omega)]
      exact congrArg a (Fin.ext (by simp only [segLane, Fin.val_cast, Fin.val_castAdd, e]; omega))
    · intro i _
      rw [if_neg (by simp only [Fin.val_cast, Fin.val_natAdd]; omega)]
  · have e : l.1 / 64 = 1 := by omega
    rw [Finset.sum_eq_zero (s := Finset.univ) (f := fun i : Fin 64 => if (Fin.cast rfl (Fin.castAdd 64 i) : Fin 128).1 / 64 = l.1 / 64 then a (Fin.cast rfl (Fin.castAdd 64 i)) else 0), zero_add]
    · refine Finset.sum_congr rfl fun i _ => ?_
      rw [if_pos (by simp only [Fin.val_cast, Fin.val_natAdd]; omega)]
      exact congrArg a (Fin.ext (by simp only [segLane, Fin.val_cast, Fin.val_natAdd, e]))
    · intro i _
      rw [if_neg (by simp only [Fin.val_cast, Fin.val_castAdd]; omega)]

/-- The square of an extended real that is no infinity, less itself, is zero. -/
theorem sq_sub (a : EReal) (h1 : a ≠ ⊤) (h2 : a ≠ ⊥) : a * a - a * a = 0 := by
  lift a to ℝ using ⟨h1, h2⟩
  rw [← EReal.coe_mul, ← EReal.coe_sub, sub_self, EReal.coe_zero]

/-- A lane's entry over its segment's root mean square, times its weight. -/
def yy (f w : Fin 128 → EReal) (l : Fin 128) : EReal :=
  f l * Ideal.rsqrt ((∑ i : Fin 64, f (segLane l i) * f (segLane l i)) * Ideal.ofBits FTy.f32 1015021568#32 + Ideal.ofBits FTy.f32 897988541#32) * w l

/-- One group of 128 lanes: what the kernel stores of it. -/
def nr (cos sa sb : FVec Ideal S256x128 .f32) (w : FVec Ideal S1x128 .f32) (x : Vec Ideal S256x128 .f32) : FVec Ideal S256x128 .f32 :=
  k0_pay1 cos sa sb w x (k0_pay161 x) seg (matmul dot_S256x128_S128x128_S256x128_1_0_0_1_n_n none (k0_pay160 x) seg (constant S256x128 .f32 0x00000000#32))
    (constant S256x128 .f32 0x00000000#32)

/-- It, read: the normed lanes times the first table, plus the lanes eight above times the second, plus those eight below times the third. -/
theorem nr_apply (cos sa sb : FVec Ideal S256x128 .f32) (w : FVec Ideal S1x128 .f32) (x : Vec Ideal S256x128 .f32) (r : Fin 256) (l : Fin 128)
    (hx : ∀ j, x (ix2 r j) ≠ (⊤ : EReal) ∧ x (ix2 r j) ≠ (⊥ : EReal)) :
    nr cos sa sb w x (ix2 r l) = yy (fun j => x (ix2 r j)) (fun j => w (ix2 0 j)) l * cos (ix2 r l)
      + yy (fun j => x (ix2 r j)) (fun j => w (ix2 0 j)) ⟨(l.1 + 8) % 128, by omega⟩ * sa (ix2 r l)
      + yy (fun j => x (ix2 r j)) (fun j => w (ix2 0 j)) ⟨(l.1 + 120) % 128, by omega⟩ * sb (ix2 r l) := by
  have key : ∀ k : Fin 128, (∑ j, x (ix2 r j) * x (ix2 r j) * seg (ix2 j k) + ∑ j, (x (ix2 r j) * x (ix2 r j) - x (ix2 r j) * x (ix2 r j)) * seg (ix2 j k) : EReal)
      = ∑ i : Fin 64, x (ix2 r (segLane k i)) * x (ix2 r (segLane k i)) := by
    intro k
    rw [Finset.sum_eq_zero (s := Finset.univ) (f := fun j => (x (ix2 r j) * x (ix2 r j) - x (ix2 r j) * x (ix2 r j) : EReal) * seg (ix2 j k)), add_zero]
    · exact sum_seg (fun j => x (ix2 r j) * x (ix2 r j)) k
    · intro j _
      rw [sq_sub _ (hx j).1 (hx j).2, zero_mul]
  have e1 : (⟨(l.1 + 128 - 120) % 128, by omega⟩ : Fin 128) = ⟨(l.1 + 8) % 128, by omega⟩ := Fin.ext (by simp only; omega)
  have e2 : (⟨(l.1 + 128 - 8) % 128, by omega⟩ : Fin 128) = ⟨(l.1 + 120) % 128, by omega⟩ := Fin.ext (by simp only; omega)
  unfold nr yy
  pointwise [k0_pay1, k0_pay161, k0_pay160, k0_pay159]
  simp only [key, e1, e2]

/-- The four groups of keys stored by the body. -/
theorem out7 (x0 : Vec Ideal S256x3072 .f32) (x1 x2 x3 : Vec Ideal S256x128 .f32) (x4 x5 : Vec Ideal S1x128 .f32) :
    out0_7 x0 x1 x2 x3 x4 x5 = View.canon [
      ⟨r0_41, nr (k0_pay2 (View.ld x1 r0_0)) (k0_pay3 (View.ld x2 r0_0)) (k0_pay4 (View.ld x3 r0_0)) (k0_pay6 (View.ld x5 r0_1)) (View.ld x0 r0_40)⟩,
      ⟨r0_39, nr (k0_pay2 (View.ld x1 r0_0)) (k0_pay3 (View.ld x2 r0_0)) (k0_pay4 (View.ld x3 r0_0)) (k0_pay6 (View.ld x5 r0_1)) (View.ld x0 r0_38)⟩,
      ⟨r0_37, nr (k0_pay2 (View.ld x1 r0_0)) (k0_pay3 (View.ld x2 r0_0)) (k0_pay4 (View.ld x3 r0_0)) (k0_pay6 (View.ld x5 r0_1)) (View.ld x0 r0_36)⟩,
      ⟨r0_35, nr (k0_pay2 (View.ld x1 r0_0)) (k0_pay3 (View.ld x2 r0_0)) (k0_pay4 (View.ld x3 r0_0)) (k0_pay6 (View.ld x5 r0_1)) (View.ld x0 r0_34)⟩] := rfl

end Cert.Post
end
-- ==== Proof.PostRef.lean ====
/-
  The reference's keys: each half of a head's 128 lanes normed by its root mean square and its first sixteen lanes
  rotated by position, read entry by entry.
-/
module

public import proofs.«01_k».proof.Proof.PostBlock
public import proofs.«01_k».proof.Proof.Gen.Reference6Ideal.Run
public import Idealize.ShloMosaic.Lib.Claim
public import Idealize.ShloMosaic.Lib.Quiescent

@[expose] public section

set_option maxRecDepth 16384

noncomputable section

namespace Cert.Post

open Cert.Reference6Ideal Cert.Reference6Ideal.Gen
open Idealize.ShloMosaic Idealize.ShloMosaic.TcCoe Idealize.ShloMosaic.StableHlo Idealize.SL.Sem

/-- The rotation's angles: the eight positions after the cache times the eight frequencies. -/
def ang : Vec Ideal S8x8 .f32 :=
  mulf (F := Ideal) (φ := .f32) (broadcastInDim S8x8 ![0, 1] bcast_S8x1_S8x8_0_1 (broadcastInDim S8x1 ![0] bcast_S8_S8x1_0 (sitofp .f32 (addi (broadcastInDim S8 ![] bcast_S_S8 (constantI S_ 32 8192#32)) (iotaInDim S8 32 0)))))
    (broadcastInDim S8x8 ![0, 1] bcast_S1x8_S8x8_0_1 (broadcastInDim S1x8 ![1] bcast_S8_S1x8_1 (Host.exp (Host.divf (mulf (mulf (broadcastInDim S8 ![] bcast_S_S8 (constant S_ .f32 0xC151F533#32)) (sitofp .f32 (iotaInDim S8 32 0))) (broadcastInDim S8 ![] bcast_S_S8 (constant S_ .f32 0x40000000#32))) (broadcastInDim S8 ![] bcast_S_S8 (constant S_ .f32 0x41800000#32))))))

/-- The angles' cosines and sines. -/
def cosT : Vec Ideal S8x8 .f32 := Host.cos (F := Ideal) (φ := .f32) ang
def sinT : Vec Ideal S8x8 .f32 := Host.sin (F := Ideal) (φ := .f32) ang

/-- The keys, by sequence, position, head, half and lane. -/
def keyRaw (x : Vec Ideal S256x9216 .f32) : Vec Ideal S32x8x4x2x64 .f32 :=
  shapeCast _ (extractStridedSlice S256x512 ![0, 2048] x slices_S256x9216_S256x512_0_2048) shapeCasts_S256x512_S32x8x4x2x64

/-- The keys normed. -/
def keyNorm (x : Vec Ideal S256x9216 .f32) (w : Vec Ideal S64 .f32) : Vec Ideal S32x8x4x2x64 .f32 :=
  mulf (F := Ideal) (φ := .f32) (mulf (keyRaw x) (broadcastInDim S32x8x4x2x64 ![0, 1, 2, 3, 4] bcast_S32x8x4x2x1_S32x8x4x2x64_0_1_2_3_4 (Host.rsqrt (addf (Host.divf (broadcastInDim S32x8x4x2x1 ![0, 1, 2, 3] bcast_S32x8x4x2_S32x8x4x2x1_0_1_2_3 (Host.reduceAdd (mulf (keyRaw x) (keyRaw x)) (constant S_ .f32 0x00000000#32) reducesTo_S32x8x4x2x64_S32x8x4x2_d4 h_S_)) (broadcastInDim S32x8x4x2x1 ![] bcast_S_S32x8x4x2x1 (constant S_ .f32 0x42800000#32))) (broadcastInDim S32x8x4x2x1 ![] bcast_S_S32x8x4x2x1 (constant S_ .f32 0x358637BD#32))))))
    (broadcastInDim S32x8x4x2x64 ![0, 1, 2, 3, 4] bcast_S1x1x1x1x64_S32x8x4x2x64_0_1_2_3_4 (broadcastInDim S1x1x1x1x64 ![4] bcast_S64_S1x1x1x1x64_4 w))

/-- A table of cosines or sines spread over the sequences, heads and halves. -/
def spread (t : Vec Ideal S8x8 .f32) : Vec Ideal S32x8x4x2x8 .f32 :=
  broadcastInDim S32x8x4x2x8 ![0, 1, 2, 3, 4] bcast_S1x8x1x1x8_S32x8x4x2x8_0_1_2_3_4 (broadcastInDim S1x8x1x1x8 ![1, 4] bcast_S8x8_S1x8x1x1x8_1_4 t)

/-- The first and the second eight lanes of a half, and its other lanes. -/
def part0 (y : Vec Ideal S32x8x4x2x64 .f32) : Vec Ideal S32x8x4x2x8 .f32 := extractStridedSlice S32x8x4x2x8 ![0, 0, 0, 0, 0] y slices_S32x8x4x2x64_S32x8x4x2x8_0_0_0_0_0
def part1 (y : Vec Ideal S32x8x4x2x64 .f32) : Vec Ideal S32x8x4x2x8 .f32 := extractStridedSlice S32x8x4x2x8 ![0, 0, 0, 0, 8] y slices_S32x8x4x2x64_S32x8x4x2x8_0_0_0_0_8
def part2 (y : Vec Ideal S32x8x4x2x64 .f32) : Vec Ideal S32x8x4x2x48 .f32 := extractStridedSlice S32x8x4x2x48 ![0, 0, 0, 0, 16] y slices_S32x8x4x2x64_S32x8x4x2x48_0_0_0_0_16

/-- The rotation of each half's first sixteen lanes. -/
def rot (y : Vec Ideal S32x8x4x2x64 .f32) : Vec Ideal S32x8x4x2x64 .f32 :=
  concatenate S32x8x4x2x64 4 [⟨S32x8x4x2x8, (subf (F := Ideal) (φ := .f32) (mulf (part0 y) (spread cosT)) (mulf (part1 y) (spread sinT)) : FVec Ideal S32x8x4x2x8 .f32)⟩,
    ⟨S32x8x4x2x8, (addf (F := Ideal) (φ := .f32) (mulf (part1 y) (spread cosT)) (mulf (part0 y) (spread sinT)) : FVec Ideal S32x8x4x2x8 .f32)⟩,
    ⟨S32x8x4x2x48, part2 y⟩] concatenates_S32x8x4x2x8_S32x8x4x2x8_S32x8x4x2x48_S32x8x4x2x64_d4

/-- The reference's keys as the program computes them. -/
def refKeys (x : Vec Ideal S256x9216 .f32) (w : Vec Ideal S64 .f32) : Vec Ideal S256x512 .f32 :=
  shapeCast _ (rot (keyNorm x w)) shapeCasts_S32x8x4x2x64_S256x512

/-- The run's result is those keys. -/
theorem res_eq (m : (ℓ : Loc nD τ sig) → Buf (Elt Ideal) ℓ) (c : Dev nD) :
    Value.res_main_v50 m c = refKeys (m ((c.tc : Thread nD τ).loc main_arg0)) (m ((c.tc : Thread nD τ).loc main_arg2)) := rfl

/-- The quotient by 64 is the product with its reciprocal. -/
theorem div_64 (a : EReal) : Ideal.div a (Ideal.ofBits FTy.f32 1115684864#32) = a * Ideal.ofBits FTy.f32 1015021568#32 := by
  have h1 : Ideal.ofBits FTy.f32 1115684864#32 = ((64 : ℝ) : EReal) := by
    simp [Ideal.ofBits, Ideal.ieee, -EReal.coe_mul]; norm_num
  have h2 : Ideal.ofBits FTy.f32 1015021568#32 = ((1 / 64 : ℝ) : EReal) := by
    simp [Ideal.ofBits, Ideal.ieee, -EReal.coe_mul]; norm_num
  rw [h1, h2, Ideal.div_coe (by norm_num)]

/-- A lane of a half over the half's root mean square, times its weight. -/
def ny (g w : Fin 64 → EReal) (d : Fin 64) : EReal :=
  g d * Ideal.rsqrt ((∑ i, g i * g i) * Ideal.ofBits FTy.f32 1015021568#32 + Ideal.ofBits FTy.f32 897988541#32) * w d

/-- A half's lanes rotated by the angles of a position. -/
def rotS (y : Fin 64 → EReal) (p : Fin 8) (d : Fin 64) : EReal :=
  if h : d.1 < 8 then y d * cosT (ix2 p ⟨d.1, h⟩) - y ⟨8 + d.1, by omega⟩ * sinT (ix2 p ⟨d.1, h⟩)
  else if h2 : d.1 - 8 < 8 then y d * cosT (ix2 p ⟨d.1 - 8, h2⟩) + y ⟨d.1 - 8, by omega⟩ * sinT (ix2 p ⟨d.1 - 8, h2⟩)
  else y d

/-- The 64 projected lanes of row `r` among which key lane `j` lies. -/
def half (x : Vec Ideal S256x9216 .f32) (r : Fin 256) (j : Fin 512) (i : Fin 64) : EReal :=
  x (ix2 r (⟨2048 + (j.1 / 64 * 64 + i.1), by omega⟩ : Fin 9216))

/-- Key lane `j` of row `r`: its half normed, then rotated by the row's position. -/
def keyS (x : Vec Ideal S256x9216 .f32) (w : Vec Ideal S64 .f32) (r : Fin 256) (j : Fin 512) : EReal :=
  rotS (ny (half x r j) fun i => w (ix1 i)) ⟨r.1 % 8, by omega⟩ ⟨j.1 % 64, by omega⟩

/-- The normed keys, read. -/
theorem keyNorm_apply (x : Vec Ideal S256x9216 .f32) (w : Vec Ideal S64 .f32) (r : Fin 256) (j : Fin 512) (d : Fin 64) :
    keyNorm x w (ix5 (⟨r.1 / 8, by omega⟩ : Fin 32) (⟨r.1 % 8, by omega⟩ : Fin 8) (⟨j.1 / 128, by omega⟩ : Fin 4) (⟨j.1 / 64 % 2, by omega⟩ : Fin 2) d)
      = ny (half x r j) (fun i => w (ix1 i)) d := by
  have e : ∀ (i : Fin 64) (h2 : 2048 + (j.1 / 128 * 128 + j.1 / 64 % 2 * 64 + i.1) < 9216),
      x (ix2 r ⟨2048 + (j.1 / 128 * 128 + j.1 / 64 % 2 * 64 + i.1), h2⟩) = half x r j i := by
    intro i h2
    unfold half
    congr 2
    exact Fin.ext (by simp only; omega)
  unfold keyNorm keyRaw
  pointwise
  simp only [e, div_64]
  rfl

/-- The rotated lanes, read. -/
theorem rot_apply (y : Vec Ideal S32x8x4x2x64 .f32) (b : Fin 32) (p : Fin 8) (h : Fin 4) (s : Fin 2) (d : Fin 64) :
    rot y (ix5 b p h s d) = rotS (fun i => y (ix5 b p h s i)) p d := by
  unfold rot part0 part1 part2 spread rotS
  pointwise
  split
  · rfl
  · split
    · have e : (⟨8 + (d.1 - 8), by omega⟩ : Fin 64) = d := Fin.ext (by simp only; omega)
      rw [e]
    · have e : (⟨16 + (d.1 - 8 - 8), by omega⟩ : Fin 64) = d := Fin.ext (by simp only; omega)
      rw [e]

/-- The reference's keys, read. -/
theorem refKeys_apply (x : Vec Ideal S256x9216 .f32) (w : Vec Ideal S64 .f32) (r : Fin 256) (j : Fin 512) :
    refKeys x w (ix2 r j) = keyS x w r j := by
  have h : refKeys x w (ix2 r j) = rot (keyNorm x w) (ix5 (⟨r.1 / 8, by omega⟩ : Fin 32) (⟨r.1 % 8, by omega⟩ : Fin 8) (⟨j.1 / 128, by omega⟩ : Fin 4) (⟨j.1 / 64 % 2, by omega⟩ : Fin 2) (⟨j.1 % 64, by omega⟩ : Fin 64)) := by
    unfold refKeys
    pointwise
  rw [h, rot_apply]
  simp only [keyNorm_apply]
  rfl

/-- The reference's values: a slice of the projection. -/
def refVals (x : Vec Ideal S256x9216 .f32) : Vec Ideal S256x512 .f32 :=
  extractStridedSlice S256x512 ![0, 2560] x slices_S256x9216_S256x512_0_2560

/-- It, read. -/
theorem refVals_apply (x : Vec Ideal S256x9216 .f32) (r : Fin 256) (j : Fin 512) :
    refVals x (ix2 r j) = x (ix2 r (⟨2560 + j.1, by omega⟩ : Fin 9216)) := by
  unfold refVals
  pointwise

/-- The reference's run: its two results, its arguments unchanged, its counters at zero. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v50) = refKeys (m ((c.tc : Thread nD τ).loc main_arg0)) (m ((c.tc : Thread nD τ).loc main_arg2))
      ∧ r.2.mem ((c.tc : Thread nD τ).loc main_v51) = refVals (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  θ_run_mono (Cert.Reference6Ideal.Value.run m ρ) fun r h => ⟨h, sem_eq_zero_of_no_sems (by decide) _⟩

end Cert.Post
end
-- ==== Proof.PostValue.lean ====
/-
  The call on the projected queries, keys and values of the decode rows: what its blocks hold, and its two claimed
  result arrays entry by entry.
-/
module

public import proofs.«01_k».proof.Proof.PostRef

@[expose] public section

set_option maxRecDepth 16384

noncomputable section

namespace Cert.Post

open Cert.Kernel6Ideal Cert.Kernel6Ideal.Gen Idealize.ShloMosaic Idealize.ShloMosaic.TcCoe Idealize.ShloMosaic.StableHlo Idealize.SL.Sem

/-- A table over 64 lanes, laid twice across 128 lanes and once for every sequence. -/
def lay (t : Vec Ideal S8x64 .f32) : Vec Ideal S256x128 .f32 :=
  shapeCast _ (broadcastInDim S32x8x1x128 ![0, 1, 2, 3] bcast_S1x8x1x128_S32x8x1x128_0_1_2_3 (shapeCast S1x8x1x128 (shapeCast S8x128 (broadcastInDim S1x8x2x64 ![0, 1, 2, 3] bcast_S1x8x1x64_S1x8x2x64_0_1_2_3
    (shapeCast S1x8x1x64 t shapeCasts_S8x64_S1x8x1x64)) shapeCasts_S1x8x2x64_S8x128) shapeCasts_S8x128_S1x8x1x128)) shapeCasts_S32x8x1x128_S256x128

/-- It, read. -/
theorem lay_apply (t : Vec Ideal S8x64 .f32) (r : Fin 256) (l : Fin 128) :
    lay t (ix2 r l) = t (ix2 (⟨r.1 % 8, by omega⟩ : Fin 8) (⟨l.1 % 64, by omega⟩ : Fin 64)) := by
  unfold lay
  pointwise

/-- The three tables: the cosines, the sines of the lanes above, the sines of the lanes below. -/
def tabC : Vec Ideal S8x64 .f32 :=
  concatenate S8x64 1 [⟨S8x8, cosT⟩, ⟨S8x8, cosT⟩, ⟨S8x48, (broadcastInDim S8x48 ![] bcast_S_S8x48 (constant (F := Ideal) S_ .f32 0x3F800000#32) : FVec Ideal S8x48 .f32)⟩] concatenates_S8x8_S8x8_S8x48_S8x64_d1
def tabA : Vec Ideal S8x64 .f32 :=
  concatenate S8x64 1 [⟨S8x8, (Host.negf (F := Ideal) (φ := .f32) sinT : FVec Ideal S8x8 .f32)⟩, ⟨S8x8, (broadcastInDim S8x8 ![] bcast_S_S8x8 (constant (F := Ideal) S_ .f32 0x00000000#32) : FVec Ideal S8x8 .f32)⟩, ⟨S8x48, (broadcastInDim S8x48 ![] bcast_S_S8x48 (constant (F := Ideal) S_ .f32 0x00000000#32) : FVec Ideal S8x48 .f32)⟩] concatenates_S8x8_S8x8_S8x48_S8x64_d1
def tabB : Vec Ideal S8x64 .f32 :=
  concatenate S8x64 1 [⟨S8x8, (broadcastInDim S8x8 ![] bcast_S_S8x8 (constant (F := Ideal) S_ .f32 0x00000000#32) : FVec Ideal S8x8 .f32)⟩, ⟨S8x8, sinT⟩, ⟨S8x48, (broadcastInDim S8x48 ![] bcast_S_S8x48 (constant (F := Ideal) S_ .f32 0x00000000#32) : FVec Ideal S8x48 .f32)⟩] concatenates_S8x8_S8x8_S8x48_S8x64_d1

/-- The cosine table, read. -/
theorem tabC_apply (p : Fin 8) (d : Fin 64) : tabC (ix2 p d)
    = if h : d.1 < 8 then cosT (ix2 p ⟨d.1, h⟩) else if h2 : d.1 - 8 < 8 then cosT (ix2 p ⟨d.1 - 8, h2⟩) else (1 : EReal) := by
  unfold tabC
  pointwise
/-- The table of the sines of the lanes above, read. -/
theorem tabA_apply (p : Fin 8) (d : Fin 64) : tabA (ix2 p d)
    = if h : d.1 < 8 then -(sinT (ix2 p ⟨d.1, h⟩) : EReal) else (0 : EReal) := by
  unfold tabA
  pointwise
  simp only [dite_eq_ite, ite_self]
/-- The table of the sines of the lanes below, read. -/
theorem tabB_apply (p : Fin 8) (d : Fin 64) : tabB (ix2 p d)
    = if h : d.1 < 8 then (0 : EReal) else if h2 : d.1 - 8 < 8 then (sinT (ix2 p ⟨d.1 - 8, h2⟩) : EReal) else (0 : EReal) := by
  unfold tabB
  pointwise

variable (m : (ℓ : Loc nD τ sig) → Buf (Elt Ideal) ℓ) (c : Dev nD)

/-- What the second, third, fourth and sixth arguments of the call hold. -/
theorem V_v37 : (V m c main_v37 : Vec Ideal S256x128 .f32) = lay tabC := by
  unfold V
  after_reads_simp
  rfl
theorem V_v40 : (V m c main_v40 : Vec Ideal S256x128 .f32) = lay tabA := by
  unfold V
  after_reads_simp
  rfl
theorem V_v43 : (V m c main_v43 : Vec Ideal S256x128 .f32) = lay tabB := by
  unfold V
  after_reads_simp
  rfl
theorem V_v51 (l : Fin 128) : (V m c main_v51 : Vec Ideal S1x128 .f32) (ix2 0 l) = m ((c : Thread nD τ).loc main_arg2) (ix1 (⟨l.1 % 64, by omega⟩ : Fin 64)) := by
  unfold V
  after_reads_simp
  pointwise

/-- A lane normed by its segment is that lane normed by its half. -/
theorem yy_eq (f wv : Fin 128 → EReal) (g w : Fin 64 → EReal) (l l' : Fin 128) (hl : l'.1 / 64 = l.1 / 64)
    (hf : ∀ i, f (segLane l i) = g i) (hw : ∀ k : Fin 128, wv k = w ⟨k.1 % 64, by omega⟩) (d : Fin 64) (hd : l'.1 % 64 = d.1) :
    yy f wv l' = ny g w d := by
  have h1 : ∀ i, segLane l' i = segLane l i := fun i => Fin.ext (by simp only [segLane, hl])
  have h2 : l' = segLane l d := Fin.ext (by simp only [segLane]; omega)
  have h3 : (⟨l'.1 % 64, by omega⟩ : Fin 64) = d := Fin.ext hd
  unfold yy ny
  simp only [h1, hf]
  rw [hw, h3, h2, hf]

/-- The normed lanes times the three tables are the rotated lanes. -/
theorem rot_tab (f wv : Fin 128 → EReal) (g w : Fin 64 → EReal) (l : Fin 128) (p : Fin 8) (d : Fin 64) (hd : l.1 % 64 = d.1)
    (hf : ∀ i, f (segLane l i) = g i) (hw : ∀ k : Fin 128, wv k = w ⟨k.1 % 64, by omega⟩) :
    yy f wv l * tabC (ix2 p d) + yy f wv ⟨(l.1 + 8) % 128, by omega⟩ * tabA (ix2 p d) + yy f wv ⟨(l.1 + 120) % 128, by omega⟩ * tabB (ix2 p d)
      = rotS (ny g w) p d := by
  rw [tabC_apply, tabA_apply, tabB_apply, yy_eq f wv g w l l rfl hf hw d hd]
  unfold rotS
  by_cases h : d.1 < 8
  · rw [dif_pos h, dif_pos h, dif_pos h, dif_pos h, mul_zero, add_zero, mul_neg, ← sub_eq_add_neg,
      yy_eq f wv g w l ⟨(l.1 + 8) % 128, by omega⟩ (by simp only; omega) hf hw ⟨8 + d.1, by omega⟩ (by simp only; omega)]
  · by_cases h2 : d.1 - 8 < 8
    · rw [dif_neg h, dif_neg h, dif_neg h, dif_neg h, dif_pos h2, dif_pos h2, dif_pos h2, mul_zero, add_zero,
        yy_eq f wv g w l ⟨(l.1 + 120) % 128, by omega⟩ (by simp only; omega) hf hw ⟨d.1 - 8, by omega⟩ (by simp only; omega)]
    · rw [dif_neg h, dif_neg h, dif_neg h, dif_neg h, dif_neg h2, dif_neg h2, dif_neg h2, mul_zero, add_zero, mul_zero, add_zero, mul_one]

/-- Four stores side by side, read: the lane's group of 128 decides the store. -/
theorem canon4 (P0 P1 P2 P3 : FVec Ideal S256x128 .f32) (r : Fin 256) (j : Fin 512) (v : EReal)
    (h0 : ∀ l : Fin 128, j.1 = 0 + l.1 → P0 (ix2 r l) = v) (h1 : ∀ l : Fin 128, j.1 = 128 + l.1 → P1 (ix2 r l) = v)
    (h2 : ∀ l : Fin 128, j.1 = 256 + l.1 → P2 (ix2 r l) = v) (h3 : ∀ l : Fin 128, j.1 = 384 + l.1 → P3 (ix2 r l) = v) :
    View.canon (Val := Elt Ideal) (s := S256x512) (e := .f32) [⟨r0_41, P3⟩, ⟨r0_39, P2⟩, ⟨r0_37, P1⟩, ⟨r0_35, P0⟩] (ix2 r j) = v := by
  have hin : ∀ (o : ℕ) (inb : ∀ a, (![0, o] : Fin 2 → ℕ) a + S256x128.size a ≤ S256x512.size a) (P : FVec Ideal S256x128 .f32) (L : List (View.Piece (Elt Ideal) S256x512 .f32))
      (l : Fin 128), j.1 = o + l.1 → View.canon (⟨Rect.unit (s := S256x512) ![0, o] S256x128.size inb, P⟩ :: L) (ix2 r j) = P (ix2 r l) := by
    intro o inb P L l hl
    have e : (ix2 r j : S256x512.Idx) = (Rect.unit (s := S256x512) ![0, o] S256x128.size inb).emb (ix2 r l) := by
      funext a
      match a with
      | ⟨0, _⟩ => exact Fin.ext (by rw [Rect.emb_apply]; show r.1 = 0 + 1 * r.1; omega)
      | ⟨1, _⟩ => exact Fin.ext (by rw [Rect.emb_apply]; show j.1 = o + 1 * l.1; omega)
    rw [e]
    exact View.canon_cons_emb _ _ _ _
  have hout : ∀ (o : ℕ) (inb : ∀ a, (![0, o] : Fin 2 → ℕ) a + S256x128.size a ≤ S256x512.size a) (P : FVec Ideal S256x128 .f32) (L : List (View.Piece (Elt Ideal) S256x512 .f32)),
      j.1 < o → View.canon (⟨Rect.unit (s := S256x512) ![0, o] S256x128.size inb, P⟩ :: L) (ix2 r j) = View.canon L (ix2 r j) := by
    intro o inb P L hl
    refine View.canon_cons_of_not_mem _ _ fun hm => ?_
    have := ((Rect.mem_set_unit (inb := inb)).mp hm 1).1
    have : o ≤ j.1 := this
    omega
  by_cases c3 : 384 ≤ j.1
  · exact (hin 384 _ P3 _ ⟨j.1 - 384, by omega⟩ (by simp only; omega)).trans (h3 _ (by simp only; omega))
  refine (hout 384 _ P3 _ (by omega)).trans ?_
  by_cases c2 : 256 ≤ j.1
  · exact (hin 256 _ P2 _ ⟨j.1 - 256, by omega⟩ (by simp only; omega)).trans (h2 _ (by simp only; omega))
  refine (hout 256 _ P2 _ (by omega)).trans ?_
  by_cases c1 : 128 ≤ j.1
  · exact (hin 128 _ P1 _ ⟨j.1 - 128, by omega⟩ (by simp only; omega)).trans (h1 _ (by simp only; omega))
  refine (hout 128 _ P1 _ (by omega)).trans ?_
  exact (hin 0 _ P0 _ ⟨j.1, by omega⟩ (by simp only; omega)).trans (h0 _ (by simp only; omega))

/-- A load of 128 columns of the projection's block. -/
theorem ld_cols (x0 : Vec Ideal S256x3072 .f32) (o : ℕ) (inb : ∀ a, (![0, o] : Fin 2 → ℕ) a + S256x128.size a ≤ S256x3072.size a) (r : Fin 256) (l : Fin 128) (k : Fin 3072)
    (hk : k.1 = o + l.1) : View.ld x0 (Rect.unit (s := S256x3072) ![0, o] S256x128.size inb) (ix2 r l) = x0 (ix2 r k) := by
  refine congrArg x0 (funext fun a => ?_)
  match a with
  | ⟨0, _⟩ => exact Fin.ext (by show 0 + 1 * r.1 = r.1; omega)
  | ⟨1, _⟩ => exact Fin.ext (by show o + 1 * l.1 = k.1; omega)

/-- The block of keys, read: each lane's half normed and rotated. -/
theorem keyBlock (x : Vec Ideal S256x9216 .f32) (w : Vec Ideal S64 .f32) (x0 : Vec Ideal S256x3072 .f32) (x1 x2 x3 : Vec Ideal S256x128 .f32) (x4 x5 : Vec Ideal S1x128 .f32)
    (e0 : ∀ (r : Fin 256) (j : Fin 3072), x0 (ix2 r j) = x (ix2 r (⟨j.1, by omega⟩ : Fin 9216)))
    (e1 : ∀ r l, x1 (ix2 r l) = lay tabC (ix2 r l)) (e2 : ∀ r l, x2 (ix2 r l) = lay tabA (ix2 r l)) (e3 : ∀ r l, x3 (ix2 r l) = lay tabB (ix2 r l))
    (e5 : ∀ l : Fin 128, x5 (ix2 0 l) = w (ix1 (⟨l.1 % 64, by omega⟩ : Fin 64)))
    (hx : ∀ (r : Fin 256) (j : Fin 512), x (ix2 r (⟨2048 + j.1, by omega⟩ : Fin 9216)) ≠ (⊤ : EReal) ∧ x (ix2 r (⟨2048 + j.1, by omega⟩ : Fin 9216)) ≠ (⊥ : EReal))
    (r : Fin 256) (j : Fin 512) : out0_7 x0 x1 x2 x3 x4 x5 (ix2 r j) = keyS x w r j := by
  have hg : ∀ (o : ℕ) (ho : o = 0 ∨ o = 128 ∨ o = 256 ∨ o = 384) (y : Vec Ideal S256x128 .f32)
      (_ : ∀ (r : Fin 256) (l : Fin 128), y (ix2 r l) = x (ix2 r (⟨2048 + (o + l.1), by omega⟩ : Fin 9216))) (l : Fin 128), j.1 = o + l.1 →
      nr (k0_pay2 (View.ld x1 r0_0)) (k0_pay3 (View.ld x2 r0_0)) (k0_pay4 (View.ld x3 r0_0)) (k0_pay6 (View.ld x5 r0_1)) y (ix2 r l) = keyS x w r j := by
    intro o ho y hy l hl
    rw [nr_apply _ _ _ _ _ _ _ fun l => by rw [hy]; exact hx r ⟨o + l.1, by omega⟩]
    have hd : (⟨l.1 % 64, by omega⟩ : Fin 64) = ⟨j.1 % 64, by omega⟩ := Fin.ext (by simp only; omega)
    have a1 : (k0_pay2 (View.ld x1 r0_0) : FVec Ideal S256x128 .f32) (ix2 r l) = tabC (ix2 (⟨r.1 % 8, by omega⟩ : Fin 8) (⟨j.1 % 64, by omega⟩ : Fin 64)) := by
      refine Eq.trans ?_ ((e1 r l).trans ((lay_apply tabC r l).trans (by rw [hd])))
      pointwise [k0_pay2]
    have a2 : (k0_pay3 (View.ld x2 r0_0) : FVec Ideal S256x128 .f32) (ix2 r l) = tabA (ix2 (⟨r.1 % 8, by omega⟩ : Fin 8) (⟨j.1 % 64, by omega⟩ : Fin 64)) := by
      refine Eq.trans ?_ ((e2 r l).trans ((lay_apply tabA r l).trans (by rw [hd])))
      pointwise [k0_pay3]
    have a3 : (k0_pay4 (View.ld x3 r0_0) : FVec Ideal S256x128 .f32) (ix2 r l) = tabB (ix2 (⟨r.1 % 8, by omega⟩ : Fin 8) (⟨j.1 % 64, by omega⟩ : Fin 64)) := by
      refine Eq.trans ?_ ((e3 r l).trans ((lay_apply tabB r l).trans (by rw [hd])))
      pointwise [k0_pay4]
    have a5 : ∀ k : Fin 128, (k0_pay6 (View.ld x5 r0_1) : FVec Ideal S1x128 .f32) (ix2 0 k) = w (ix1 (⟨k.1 % 64, by omega⟩ : Fin 64)) := by
      intro k
      refine Eq.trans ?_ (e5 k)
      pointwise [k0_pay6]
    rw [a1, a2, a3]
    refine rot_tab _ _ _ _ l _ _ (by simp only; omega) (fun i => ?_) a5
    rw [hy]
    unfold half
    congr 2
    exact Fin.ext (by simp only [segLane]; omega)
  rw [out7]
  refine canon4 _ _ _ _ r j _ (hg 0 (by omega) _ ?_) (hg 128 (by omega) _ ?_) (hg 256 (by omega) _ ?_) (hg 384 (by omega) _ ?_)
  · exact fun r l => ld_cols x0 2048 _ r l _ (by simp only; omega) |>.trans (e0 r ⟨2048 + (0 + l.1), by omega⟩)
  · exact fun r l => ld_cols x0 2176 _ r l _ (by simp only; omega) |>.trans (e0 r ⟨2048 + (128 + l.1), by omega⟩)
  · exact fun r l => ld_cols x0 2304 _ r l _ (by simp only; omega) |>.trans (e0 r ⟨2048 + (256 + l.1), by omega⟩)
  · exact fun r l => ld_cols x0 2432 _ r l _ (by simp only; omega) |>.trans (e0 r ⟨2048 + (384 + l.1), by omega⟩)

/-- The block of values, read: the last 512 lanes of the projection's block. -/
theorem valBlock (x0 : Vec Ideal S256x3072 .f32) (x1 x2 x3 : Vec Ideal S256x128 .f32) (x4 x5 : Vec Ideal S1x128 .f32) (r : Fin 256) (j : Fin 512) :
    out0_8 x0 x1 x2 x3 x4 x5 (ix2 r j) = x0 (ix2 r (⟨2560 + j.1, by omega⟩ : Fin 3072)) := by
  have h : out0_8 x0 x1 x2 x3 x4 x5 = View.ld x0 r0_42 := by
    unfold out0_8
    exact View.canon_cons_unit_lit _ _ _ (by decide)
  rw [h]
  pointwise

/-- Where each window's block lies: every window holds its whole array but the first, which holds the first 3072 lanes. -/
theorem idx : ∀ t : Fin cfg0.N, win0_0.index t = ![0, 0] ∧ win0_1.index t = ![0, 0] ∧ win0_2.index t = ![0, 0] ∧ win0_3.index t = ![0, 0]
    ∧ win0_5.index t = ![0, 0] ∧ win0_7.index t = ![0, 0] ∧ win0_8.index t = ![0, 0] :=
  (by decide +kernel : ∀ t : Fin grid0.N, win0_0.index t = ![0, 0] ∧ win0_1.index t = ![0, 0] ∧ win0_2.index t = ![0, 0] ∧ win0_3.index t = ![0, 0]
    ∧ win0_5.index t = ![0, 0] ∧ win0_7.index t = ![0, 0] ∧ win0_8.index t = ![0, 0])

/-- The arguments as launched. -/
def argX : Vec Ideal S256x9216 .f32 := m ((c : Thread nD τ).loc main_arg0)
def argW : Vec Ideal S64 .f32 := m ((c : Thread nD τ).loc main_arg2)

/-- What each window's block holds. -/
theorem blk0 (t : Fin cfg0.N) (r : Fin 256) (j : Fin 3072) : (iblk m c 0 t : Vec Ideal S256x3072 .f32) (ix2 r j) = argX m c (ix2 r (⟨j.1, by omega⟩ : Fin 9216)) := by
  have h := (idx t).1
  unfold argX
  blk_ext [iblk, V_main_arg0, h]
theorem blk1 (t : Fin cfg0.N) (r : Fin 256) (l : Fin 128) : (iblk m c 1 t : Vec Ideal S256x128 .f32) (ix2 r l) = lay tabC (ix2 r l) := by
  have h := (idx t).2.1
  rw [← V_v37 m c]
  blk_ext [iblk, h]
theorem blk2 (t : Fin cfg0.N) (r : Fin 256) (l : Fin 128) : (iblk m c 2 t : Vec Ideal S256x128 .f32) (ix2 r l) = lay tabA (ix2 r l) := by
  have h := (idx t).2.2.1
  rw [← V_v40 m c]
  blk_ext [iblk, h]
theorem blk3 (t : Fin cfg0.N) (r : Fin 256) (l : Fin 128) : (iblk m c 3 t : Vec Ideal S256x128 .f32) (ix2 r l) = lay tabB (ix2 r l) := by
  have h := (idx t).2.2.2.1
  rw [← V_v43 m c]
  blk_ext [iblk, h]
theorem blk5 (t : Fin cfg0.N) (l : Fin 128) : (iblk m c 5 t : Vec Ideal S1x128 .f32) (ix2 0 l) = argW m c (ix1 (⟨l.1 % 64, by omega⟩ : Fin 64)) := by
  have h := (idx t).2.2.2.2.1
  refine Eq.trans ?_ (V_v51 m c l)
  blk_ext [iblk, h]

/-- Value lane `j` of row `r` of the projection. -/
def valS (x : Vec Ideal S256x9216 .f32) (r : Fin 256) (j : Fin 512) : EReal := x (ix2 r (⟨2560 + j.1, by omega⟩ : Fin 9216))

/-- The call's keys and values. -/
def keyArr : Vec Ideal S256x512 .f32 := fun i => keyS (argX m c) (argW m c) (i 0) (i 1)
def valArr : Vec Ideal S256x512 .f32 := fun i => valS (argX m c) (i 0) (i 1)

/-- After the run the second result holds the keys, where the projected keys are no infinities. -/
theorem arr7 (hx : ∀ (r : Fin 256) (j : Fin 512), argX m c (ix2 r (⟨2048 + j.1, by omega⟩ : Fin 9216)) ≠ (⊤ : EReal) ∧ argX m c (ix2 r (⟨2048 + j.1, by omega⟩ : Fin 9216)) ≠ (⊥ : EReal)) :
    (dats m 0 c).arrAt 7 cfg0.N = keyArr m c := by
  refine (dats m 0 c).arrAt_eq_of_covers 7 _ (by decide +kernel) fun t hf y => ?_
  have e := (idx t).2.2.2.2.2.1
  obtain ⟨r, j, rfl⟩ : ∃ (r : Fin 256) (j : Fin 512), y = ix2 r j := ⟨y 0, y 1, by funext a; fin_cases a <;> rfl⟩
  rw [cast_eq, after0_7]
  refine (keyBlock (argX m c) (argW m c) _ _ _ _ _ _ (blk0 m c t) (blk1 m c t) (blk2 m c t) (blk3 m c t) (blk5 m c t) hx r j).trans ?_
  unfold keyArr
  have h0 : ((cfg0.win 7).blk t).view.emb (ix2 r j) (0 : Fin 2) = r := Fin.ext (by blk_simp [e])
  have h1 : ((cfg0.win 7).blk t).view.emb (ix2 r j) (1 : Fin 2) = j := Fin.ext (by blk_simp [e])
  rw [h0, h1]

/-- After the run the third result holds the values. -/
theorem arr8 : (dats m 0 c).arrAt 8 cfg0.N = valArr m c := by
  refine (dats m 0 c).arrAt_eq_of_covers 8 _ (by decide +kernel) fun t hf y => ?_
  have e := (idx t).2.2.2.2.2.2
  obtain ⟨r, j, rfl⟩ : ∃ (r : Fin 256) (j : Fin 512), y = ix2 r j := ⟨y 0, y 1, by funext a; fin_cases a <;> rfl⟩
  rw [cast_eq, after0_8]
  refine (valBlock _ _ _ _ _ _ r j).trans ((blk0 m c t r _).trans ?_)
  unfold valArr
  have h0 : ((cfg0.win 8).blk t).view.emb (ix2 r j) (0 : Fin 2) = r := Fin.ext (by blk_simp [e])
  have h1 : ((cfg0.win 8).blk t).view.emb (ix2 r j) (1 : Fin 2) = j := Fin.ext (by blk_simp [e])
  rw [h0, h1]
  rfl

end Cert.Post
end
-- ==== Proof.PostAgree.lean ====
/-
  The call on the projected queries, keys and values of the decode rows against its reference: what the precondition
  gives, and the agreement of the keys and of the values.
-/
module

public import proofs.«01_k».proof.Proof.PostValue
public import proofs.«01_k».proof.Pre_finite6

@[expose] public section

set_option maxRecDepth 16384

noncomputable section

namespace Cert.Post

open Idealize.ShloMosaic Idealize.ShloMosaic.TcCoe Idealize.SL.Sem

/-- The shape relations the precondition's operations take. -/
theorem pre_facts : Cert.Pre_finite6.Facts where
  slices_S256x9216_S256x512_0_2048 := Cert.Reference6Ideal.Gen.slices_S256x9216_S256x512_0_2048
  bcast_S_S256x512 := by decide

/-- An extended real whose absolute value compares below infinity is no infinity. -/
theorem fin_of_cmp (a : EReal) (h : Ideal.cmp .olt (max a (-a)) (Ideal.ofBits .f32 0x7F800000#32) = 1#1) : a ≠ ⊤ ∧ a ≠ ⊥ := by
  have ht : Ideal.ofBits .f32 0x7F800000#32 = (⊤ : EReal) := by simp [Ideal.ofBits, Ideal.ieee]
  rw [ht] at h
  have hlt : max a (-a) < (⊤ : EReal) := by
    by_contra hc
    simp [Ideal.cmp, hc] at h
  constructor
  · rintro rfl
    simp at hlt
  · rintro rfl
    simp at hlt

section Pre
open Cert.Pre_finite6

/-- The precondition, read: no projected key is an infinity. -/
theorem pre_apply [Cert.Pre_finite6.Facts] (x : Vec Ideal S256x9216 .f32) (w1 w2 : Vec Ideal S64 .f32) (h : Cert.Pre_finite6.fn (F := Ideal) x w1 w2 = fun _ => 1#1)
    (r : Fin 256) (j : Fin 512) : x (ix2 r (⟨2048 + j.1, by omega⟩ : Fin 9216)) ≠ (⊤ : EReal) ∧ x (ix2 r (⟨2048 + j.1, by omega⟩ : Fin 9216)) ≠ (⊥ : EReal) := by
  have e := congrFun h (ix2 r j)
  have e2 : Cert.Pre_finite6.fn (F := Ideal) x w1 w2 (ix2 r j)
      = Ideal.cmp .olt (max (x (ix2 r (⟨2048 + j.1, by omega⟩ : Fin 9216)) : EReal) (-(x (ix2 r (⟨2048 + j.1, by omega⟩ : Fin 9216)) : EReal))) (Ideal.ofBits .f32 0x7F800000#32) := by
    unfold Cert.Pre_finite6.fn
    pointwise
    rfl
  exact fin_of_cmp _ (e2.symm.trans e)

end Pre

section Agree
open Cert.Kernel6Ideal Cert.Kernel6Ideal.Gen

variable (m : (ℓ : Loc nD τ sig) → Buf (Elt Ideal) ℓ) (ρ : Dev nD → PrngReg) (c : Dev nD)

/-- The call's run, read: its keys and values and its arguments, where the projected keys are no infinities. -/
theorem post_run (hx : ∀ (c : Dev nD) (r : Fin 256) (j : Fin 512), argX m c (ix2 r (⟨2048 + j.1, by omega⟩ : Fin 9216)) ≠ (⊤ : EReal) ∧ argX m c (ix2 r (⟨2048 + j.1, by omega⟩ : Fin 9216)) ≠ (⊥ : EReal)) :
    θ_run defs (onTc (τ := τ) (main (F := Ideal))) ⟨m, fun _ => 0, ρ⟩ (fun r => ∀ c : Dev nD,
      r.2.mem ((c.tc : Thread nD τ).loc main_v52_1) = keyArr m c
      ∧ r.2.mem ((c.tc : Thread nD τ).loc main_v52_2) = valArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (Cert.Kernel6Ideal.Value.run_blocks m ρ) fun _ h c => by
    obtain ⟨-, h1, h2, h⟩ := h c
    exact ⟨h1.trans (arr7 m c (hx c)), h2.trans (arr8 m c), h⟩

/-- On equal arguments the reference's keys are the call's. -/
theorem key_agree (x : Vec Ideal S256x9216 .f32) (w : Vec Ideal S64 .f32) (hx : x = argX m c) (hw : w = argW m c) : refKeys x w = keyArr m c := by
  subst hx hw
  funext i
  obtain ⟨r, j, rfl⟩ : ∃ (r : Fin 256) (j : Fin 512), i = ix2 r j := ⟨i 0, i 1, by funext a; fin_cases a <;> rfl⟩
  exact refKeys_apply _ _ r j

/-- On equal arguments the reference's values are the call's. -/
theorem val_agree (x : Vec Ideal S256x9216 .f32) (hx : x = argX m c) : refVals x = valArr m c := by
  subst hx
  funext i
  obtain ⟨r, j, rfl⟩ : ∃ (r : Fin 256) (j : Fin 512), i = ix2 r j := ⟨i 0, i 1, by funext a; fin_cases a <;> rfl⟩
  exact refVals_apply _ r j

end Agree

end Cert.Post

end
-- ==== Proof.DownBits.lean ====
/-
  `ffn_down` as printed: its body table is its ideal reading's, so its frame is the one already proved.
-/
module

public import proofs.«01_k».proof.Proof.DownMain
public import proofs.«01_k».proof.Proof.Gen.Kernel3
public import proofs.«01_k».proof.Kernel3
public import Idealize.ShloMosaic.PureOps.BitExact

@[expose] public section

set_option maxRecDepth 16384
set_option maxHeartbeats 4000000

noncomputable section

namespace Cert.Down

open Idealize.ShloMosaic Idealize.ShloMosaic.TcCoe Idealize.SL.Sem
open Cert.Kernel3 Cert.Kernel3.Gen

/-- The two programs' kernels are one. -/
theorem defs₀_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | ⟨0, _⟩, (t, s) => rfl
  | ⟨1, _⟩, (t, s) => rfl
  | ⟨2, _⟩, (t, s) => rfl
  | ⟨3, _⟩, (t, s) => rfl

/-- The two programs' body tables are one. -/
theorem defs_eq : Cert.Kernel3.defs (F := Bits) = Cert.Kernel3Ideal.defs (F := Bits) :=
  congrArg (Pipeline.defs Cert.Kernel3.pcfgs) defs₀_eq

/-- The frame of the program as printed. -/
theorem frame_bits (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact frame (F := Bits) m ρ

end Cert.Down

end
-- ==== Proof.DecBlock.lean ====
/-
  What one grid point of the decode recurrence stores into its sequence's state, written once for a symbolic pair of
  heads: the eight rows' convolution and step sizes, padded with zero rows to a chunk of 128, and the chunk's step of
  the state in the words of `Proof/Model.lean`.
-/
module

public import proofs.«01_k».proof.Proof.Gate
public import proofs.«01_k».proof.Proof.Gen.Kernel7Ideal.Value
public import Idealize.ShloMosaic.Lib.Pipeline.ReadBack
public import Idealize.ShloMosaic.Lib.Pipeline.ValueKit

@[expose] public section

noncomputable section

namespace Cert.Dec

open Cert.Kernel7Ideal Cert.Kernel7Ideal.Gen Idealize.ShloMosaic Idealize.ShloMosaic.TcCoe Idealize.SL.Sem

section Model
variable {F : FTy → Type} [FloatOps F]

/-- The step sizes, zero from row 8 on. -/
def dtp (dt : Vec F S8x128 .f32) (dtb : Vec F S1x128 .f32) : FVec F S128x128 .f32 :=
  k0_pay15 (k0_pay13 dt dtb) (iota .tc S128x128 32 [0] iota_S128x128_d0_w32) k0_pay14

/-- The prefix sums of the decay exponents, by doubling steps. -/
def cum (dt : Vec F S8x128 .f32) (dtb al : Vec F S1x128 .f32) : FVec F S128x128 .f32 :=
  Ssd.step 64#32 (Ssd.step 32#32 (Ssd.step 16#32 (Ssd.step 8#32 (Ssd.step 4#32 (Ssd.step 2#32 (Ssd.step 1#32
    (mulf (dtp dt dtb) (broadcastTo S128x128 (subf (broadcast S1x128 (Scalar.ofBits .f32 0x00000000#32)) (exp (k0_pay10 al)))
      broadcasts_S1x128_S128x128))))))))

/-- The last row of the prefix sums. -/
def last (v : FVec F S128x128 .f32) : FVec F S1x128 .f32 := extractStridedSlice S1x128 ![127, 0] v slices_S128x128_o127_0_S1x128

/-- The pair's inputs times their step sizes, decayed to the last row. -/
def xdec (xs : FVec F S128x2048 .f32) (d v : FVec F S128x128 .f32) (p : Fin 16) : FVec F S128x128 .bf16 :=
  truncf .bf16
    (mulf (mulf (Ssd.xOf xs p) (Ssd.cols d p))
      (exp (subf (broadcastTo S128x128 (Ssd.rowOf (last v) p) broadcasts_S1x128_S128x128) (Ssd.cols v p))))
    bitsLt_bf16_f32

/-- The pair's new state, from its inputs, B, step sizes, prefix sums and old state. -/
def stPair (xs : FVec F S128x2048 .f32) (bm : FVec F S128x1024 .f32) (d v : FVec F S128x128 .f32) (st : Vec F S1x128x128 .f32) (p : Fin 16) :
    FVec F S1x128x128 .f32 :=
  shapeCast S1x128x128
    (addf (mulf (Ssd.subOf (exp (last v)) p) (shapeCast S128x128 st shapeCasts_S1x128x128_S128x128))
      (matmul dot_S128x128_S128x128_S128x128_0_0_1_1_n_n none (xdec xs d v p) (Ssd.grpOf bm (Ssd.grp p)) (constant S128x128 .f32 0x00000000#32)))
    shapeCasts_S128x128_S1x128x128

/-- The sixteen stores of the state, the last first. -/
def stPieces (cv : FVec F S8x4096 .f32) (d v : FVec F S128x128 .f32) (st : Fin 16 → Vec F S1x128x128 .f32) : List (View.Piece (Elt F) S1x2048x128 .f32) :=
  List.ofFn fun k : Fin 16 =>
    ⟨Rect.unit ![0, 128 * k.rev.1, 0] S1x128x128.size (Ssd.inb_st k.rev), stPair (k0_pay6 cv k0_pay3) (k0_pay7 cv k0_pay3) d v (st k.rev) k.rev⟩

/-- A load of a whole buffer left at `x`, as the run spells it. -/
def ldw {s : Shape} {e : EltTy} (a : Memref sig .tc .vmem s e) (h : a.IsWhole) (x : Vec F s e)
    {off : Fin s.rank → Nat} (inb : ∀ b, off b + s.size b ≤ s.size b) : Vec F s e :=
  View.readAt (Elt F) a.view (Rect.unit off s.size inb).toLoadRect (h.unread x)

/-- It reads `x`. -/
theorem ldw_eq {s : Shape} {e : EltTy} (a : Memref sig .tc .vmem s e) (h : a.IsWhole) (x : Vec F s e)
    {off : Fin s.rank → Nat} (inb : ∀ b, off b + s.size b ≤ s.size b) (h0 : ∀ b, off b = 0) : ldw a h x inb = x := by
  unfold ldw
  rw [View.readAt_eq_ld, h.read_unread]
  exact View.ld_unit_lit inb x h0

section Stores
variable (c : Dev nD) (i : grid0.Coords) (arg1 : Memref sig .tc .vmem S8x4096 .f32) (harg1 : arg1.IsWhole) (arg2 : Memref sig .tc .vmem S1x3x4096 .f32) (harg2 : arg2.IsWhole) (arg3 : Memref sig .tc .vmem S8x128 .f32) (harg3 : arg3.IsWhole) (arg4 : Memref sig .tc .vmem S8x2048 .f32) (harg4 : arg4.IsWhole) (arg5 : Memref sig .tc .vmem S1x2048x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048 .f32) (harg11 : arg11.IsWhole) (arg12 : Memref sig .tc .vmem S8x2048 .f32) (harg12 : arg12.IsWhole) (arg13 : Memref sig .tc .vmem S1x2048x128 .f32) (harg13 : arg13.IsWhole)
    (x0 : Vec F S8x4096 .f32) (x1 : Vec F S1x3x4096 .f32) (x2 : Vec F S8x128 .f32) (x3 : Vec F S8x2048 .f32) (x4 : Vec F S1x2048x128 .f32) (x5 : Vec F S4x4096 .f32) (x6 : Vec F S1x4096 .f32) (x7 : Vec F S1x128 .f32) (x8 : Vec F S1x128 .f32) (x9 : Vec F S1x128 .f32) (x10 : Vec F S1x2048 .f32)

/-- The state's stores: the old state whole, then each pair's new state. -/
theorem run_st :
    (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1
      = stPieces (k0_pay2 (ldw arg2 harg2 x1 inb_S1x3x4096_S1x3x4096_0_0_0) (ldw arg1 harg1 x0 inb_S8x4096_S8x4096_0_0) (ldw arg6 harg6 x5 inb_S4x4096_S4x4096_0_0) (ldw arg7 harg7 x6 inb_S1x4096_S1x4096_0_0))
          (dtp (ldw arg3 harg3 x2 inb_S8x128_S8x128_0_0) (ldw arg8 harg8 x7 inb_S1x128_S1x128_0_0))
          (cum (ldw arg3 harg3 x2 inb_S8x128_S8x128_0_0) (ldw arg8 harg8 x7 inb_S1x128_S1x128_0_0) (ldw arg9 harg9 x8 inb_S1x128_S1x128_0_0))
          (fun p => arg13.view.readCov (Val := Elt F) [⟨Rect.unit ![0, 0, 0] S1x2048x128.size inb_S1x2048x128_S1x2048x128_0_0_0, k0_pay5 (ldw arg5 harg5 x4 inb_S1x2048x128_S1x2048x128_0_0_0)⟩] (Rect.unit (s := S1x2048x128) ![0, 128 * p.1, 0] S1x128x128.size (Ssd.inb_st p)).toLoadRect)
        ++ [⟨Rect.unit ![0, 0, 0] S1x2048x128.size inb_S1x2048x128_S1x2048x128_0_0_0, k0_pay5 (ldw arg5 harg5 x4 inb_S1x2048x128_S1x2048x128_0_0_0)⟩] := by
  sl_kernel_rfl

/-- The state block a point leaves: its stores, read back. -/
theorem out_st :
    out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = View.canon (stPieces (k0_pay2 x1 x0 x5 x6) (dtp x2 x7) (cum x2 x7 x8) (Ssd.stOf (k0_pay5 x4))
        ++ [⟨Rect.unit ![0, 0, 0] S1x2048x128.size inb_S1x2048x128_S1x2048x128_0_0_0, k0_pay5 x4⟩]) := by
  unfold out0_A_12
  rw [View.read_writes_junk_eq_canon, run_st]
  rw [ldw_eq arg2 _ _ _ (by decide), ldw_eq arg1 _ _ _ (by decide), ldw_eq arg6 _ _ _ (by decide), ldw_eq arg7 _ _ _ (by decide), ldw_eq arg3 _ _ _ (by decide), ldw_eq arg8 _ _ _ (by decide), ldw_eq arg9 _ _ _ (by decide), ldw_eq arg5 _ _ _ (by decide)]
  congr 3
  funext p
  exact View.readCov_fill _ _ _ _ _ (by decide)

end Stores
end Model

end Cert.Dec

end
-- ==== Proof.DecValue.lean ====
/-
  The decode recurrence's state as mathematics over the extended reals, entry by entry, and the call's run read as it:
  each sequence's eight rows are convolved with the three rows before them, and its state is decayed over the eight rows
  and added to. The kernel's rows from 8 on hold zero inputs and zero step sizes and add nothing.
-/
module

public import proofs.«01_k».proof.Proof.DecBlock
public import Idealize.ShloMosaic.Lib.StableHlo.RunRead

@[expose] public section

set_option maxRecDepth 16384

noncomputable section

namespace Cert.Dec

open Cert.Kernel7Ideal Cert.Kernel7Ideal.Gen Idealize.ShloMosaic Idealize.ShloMosaic.TcCoe Idealize.SL.Sem
open Cert.Ssd (hd lane jcol prOf laneOf)

/-- Row `l` of sequence `b`. -/
def row8 (b : Fin 32) (l : Fin 8) : Fin 256 := ⟨b.1 * 8 + l.1, by omega⟩

/-- Three earlier values, then the eight of the sequence. -/
def hist (p : Fin 3 → EReal) (q : Fin 8 → EReal) (u : Fin 11) : EReal := if h : u.1 < 3 then p ⟨u.1, h⟩ else q ⟨u.1 - 3, by omega⟩

/-- The convolution's four taps ending at row `l`, with the bias. -/
def tapsF (p : Fin 3 → EReal) (q : Fin 8 → EReal) (w : Fin 4 → EReal) (b : EReal) (l : Fin 8) : EReal :=
  hist p q ⟨l.1, by omega⟩ * w 0 + hist p q ⟨l.1 + 1, by omega⟩ * w 1 + hist p q ⟨l.1 + 2, by omega⟩ * w 2 + hist p q ⟨l.1 + 3, by omega⟩ * w 3 + b

/-- Silu. -/
def silu (v : EReal) : EReal := v * Ideal.div 1 (1 + Ideal.exp (0 - v))

section Spec
variable (X : Vec Ideal S256x9216 .f32) (C : Vec Ideal S32x3x4096 .f32) (D : Vec Ideal S256x128 .f32) (S : Vec Ideal S32x32x64x128 .f32)
  (W : Vec Ideal S4x4096 .f32) (B : Vec Ideal S4096 .f32) (db al : Vec Ideal S32 .f32)

/-- The convolution's output: 2048 columns of inputs, then B and C. -/
def actS (b : Fin 32) (l : Fin 8) (j : Fin 4096) : EReal :=
  silu (tapsF (fun i => C (ix3 b i j)) (fun i => X (ix2 (row8 b i) ⟨5120 + j.1, by omega⟩)) (fun i => W (ix2 i j)) (B (ix1 j)) l)

/-- The step size. -/
def dtS (b : Fin 32) (l : Fin 8) (h : Fin 32) : EReal := Ssd.softplus (D (ix2 (row8 b l) ⟨h.1, by omega⟩) + db (ix1 h))

/-- The decay exponent, summed up to row `l`. -/
def cumS (b : Fin 32) (l : Fin 8) (h : Fin 32) : EReal := ∑ k : Fin 8, if k ≤ l then dtS D db b k h * (0 - Ideal.exp (al (ix1 h))) else 0

/-- The state after the eight rows. -/
def stS (b : Fin 32) (j : Fin 2048) (n : Fin 128) : EReal :=
  Ideal.exp (cumS D db al b 7 (hd j)) * S (ix4 b (hd j) (⟨j.1 % 64, by omega⟩ : Fin 64) n)
    + ∑ l : Fin 8, actS X C W B b l ⟨j.1, by omega⟩ * dtS D db b l (hd j) * Ideal.exp (cumS D db al b 7 (hd j) - cumS D db al b l (hd j))
        * actS X C W B b l ⟨2048 + (128 * (j.1 / 256) + n.1), by omega⟩

end Spec

/-- A sum over 128 rows whose rows from 8 on are zero. -/
theorem sum_rows (f : Fin 128 → EReal) (h : ∀ l : Fin 128, 8 ≤ l.1 → f l = 0) : ∑ l : Fin 128, f l = ∑ l : Fin 8, f ⟨l.1, by omega⟩ := by
  rw [show (∑ l : Fin 128, f l) = ∑ l : Fin (8 + 120), f l from rfl, Fin.sum_univ_add]
  rw [Finset.sum_eq_zero (s := (Finset.univ : Finset (Fin 120))) fun i _ => h _ (by simp [Fin.natAdd]), add_zero]
  rfl

/-- The block's convolution, read. -/
theorem conv_apply (x1 : Vec Ideal S1x3x4096 .f32) (x0 : Vec Ideal S8x4096 .f32) (w : Vec Ideal S4x4096 .f32) (b : Vec Ideal S1x4096 .f32) (l : Fin 8) (j : Fin 4096) :
    k0_pay2 x1 x0 w b (ix2 l j) = silu (tapsF (fun i => x1 (ix3 0 i j)) (fun i => x0 (ix2 i j)) (fun i => w (ix2 i j)) (b (ix2 0 j)) l) := by
  pointwise [k0_pay2]
  fin_cases l <;> rfl

/-- The step sizes, read. -/
theorem dtp_apply (x : Vec Ideal S8x128 .f32) (w : Vec Ideal S1x128 .f32) (l : Fin 128) (h : Fin 128) :
    dtp x w (ix2 l h) = if hl : l.1 < 8 then Ssd.softplus (x (ix2 ⟨l.1, hl⟩ h) + w (ix2 0 h)) else 0 := by
  have e : ∀ l : Fin 128, IntOp.cmpi .slt (BitVec.ofNat 32 l.1) 8#32 = if l.1 < 8 then 1#1 else 0#1 := by decide
  pointwise [dtp, k0_pay15, k0_pay13, k0_pay14]
  rw [e]
  by_cases hl : l.1 < 8
  · simp only [hl, if_true, dif_pos]
    rfl
  · simp only [hl, if_false, dif_neg, not_false_eq_true]
    rfl

/-- The inputs and B of the padded chunk. -/
theorem xs_apply (cv : FVec Ideal S8x4096 .f32) (l : Fin 128) (j : Fin 2048) :
    k0_pay6 cv k0_pay3 (ix2 l j) = if h : l.1 < 8 then cv (ix2 ⟨l.1, h⟩ ⟨j.1, by omega⟩) else (0 : EReal) := by
  pointwise [k0_pay6, k0_pay3, k0_pay4]

theorem bm_apply (cv : FVec Ideal S8x4096 .f32) (l : Fin 128) (j : Fin 1024) :
    k0_pay7 cv k0_pay3 (ix2 l j) = if h : l.1 < 8 then cv (ix2 ⟨l.1, h⟩ ⟨2048 + j.1, by omega⟩) else (0 : EReal) := by
  pointwise [k0_pay7, k0_pay3, k0_pay4]

section Block
variable {X : Vec Ideal S256x9216 .f32} {C : Vec Ideal S32x3x4096 .f32} {D : Vec Ideal S256x128 .f32} {S : Vec Ideal S32x32x64x128 .f32}
  {W : Vec Ideal S4x4096 .f32} {B : Vec Ideal S4096 .f32} {db al : Vec Ideal S32 .f32} {b : Fin 32}
  {x0 : Vec Ideal S8x4096 .f32} {x1 : Vec Ideal S1x3x4096 .f32} {x2 : Vec Ideal S8x128 .f32} {x4 : Vec Ideal S1x2048x128 .f32}
  {x5 : Vec Ideal S4x4096 .f32} {x6 : Vec Ideal S1x4096 .f32} {x7 x8 : Vec Ideal S1x128 .f32}

/-- The input blocks of a point are those of sequence `b`. -/
structure Blk (X : Vec Ideal S256x9216 .f32) (C : Vec Ideal S32x3x4096 .f32) (D : Vec Ideal S256x128 .f32) (S : Vec Ideal S32x32x64x128 .f32)
    (W : Vec Ideal S4x4096 .f32) (B : Vec Ideal S4096 .f32) (db al : Vec Ideal S32 .f32) (b : Fin 32)
    (x0 : Vec Ideal S8x4096 .f32) (x1 : Vec Ideal S1x3x4096 .f32) (x2 : Vec Ideal S8x128 .f32) (x4 : Vec Ideal S1x2048x128 .f32)
    (x5 : Vec Ideal S4x4096 .f32) (x6 : Vec Ideal S1x4096 .f32) (x7 x8 : Vec Ideal S1x128 .f32) : Prop where
  x : ∀ (l : Fin 8) (j : Fin 4096), x0 (ix2 l j) = X (ix2 (row8 b l) ⟨5120 + j.1, by omega⟩)
  c : ∀ (i : Fin 3) (j : Fin 4096), x1 (ix3 0 i j) = C (ix3 b i j)
  d : ∀ (l : Fin 8) (h : Fin 128), x2 (ix2 l h) = D (ix2 (row8 b l) h)
  s : ∀ (j : Fin 2048) (n : Fin 128), x4 (ix3 0 j n) = S (ix4 b (hd j) (⟨j.1 % 64, by omega⟩ : Fin 64) n)
  w : ∀ (i : Fin 4) (j : Fin 4096), x5 (ix2 i j) = W (ix2 i j)
  b : ∀ j : Fin 4096, x6 (ix2 0 j) = B (ix1 j)
  db : ∀ h : Fin 32, x7 (ix2 0 (lane h)) = db (ix1 h)
  al : ∀ h : Fin 32, x8 (ix2 0 (lane h)) = al (ix1 h)

variable (H : Blk X C D S W B db al b x0 x1 x2 x4 x5 x6 x7 x8)
include H

theorem Blk.act (l : Fin 8) (j : Fin 4096) : k0_pay2 x1 x0 x5 x6 (ix2 l j) = actS X C W B b l j := by
  rw [conv_apply]
  simp only [H.x, H.c, H.w, H.b]
  rfl

theorem Blk.dt (l : Fin 128) (h : Fin 32) : dtp x2 x7 (ix2 l (lane h)) = if hl : l.1 < 8 then dtS D db b ⟨l.1, hl⟩ h else 0 := by
  rw [dtp_apply]
  simp only [H.d, H.db]
  rfl

/-- The prefix sums, at a row `l` whose last row of the eight is `k`. -/
theorem Blk.cum (l : Fin 128) (k : Fin 8) (hk : k.1 = min l.1 7) (h : Fin 32) : cum x2 x7 x8 (ix2 l (lane h)) = cumS D db al b k h := by
  have e : ∀ s : Fin 128, (mulf (dtp x2 x7) (broadcastTo S128x128 (subf (broadcast S1x128 (Scalar.ofBits .f32 0x00000000#32)) (exp (k0_pay10 x8)))
      broadcasts_S1x128_S128x128) : FVec Ideal S128x128 .f32) (ix2 s (lane h)) = dtp x2 x7 (ix2 s (lane h)) * (0 - Ideal.exp (al (ix1 h))) := by
    intro s
    rw [← H.al]
    generalize dtp x2 x7 = d
    pointwise [k0_pay10]
  unfold Dec.cum
  refine (Ssd.steps_apply _ l (lane h)).trans ?_
  unfold Ssd.prefixSum cumS
  simp only [e]
  rw [sum_rows]
  · refine Finset.sum_congr rfl fun i _ => ?_
    rw [H.dt, dif_pos i.2]
    congr 1
    simp only [Fin.le_def, eq_iff_iff]
    omega
  · intro s hs
    rw [H.dt, dif_neg (by omega), zero_mul, ite_self]

/-- The state block after the eight rows, whatever was stored before its sixteen stores. -/
theorem Blk.stBlock (L : List (View.Piece (Elt Ideal) S1x2048x128 .f32)) (j : Fin 2048) (n : Fin 128) :
    View.canon (stPieces (k0_pay2 x1 x0 x5 x6) (dtp x2 x7) (Dec.cum x2 x7 x8) (Ssd.stOf (k0_pay5 x4)) ++ L) (ix3 0 j n) = stS X C D S W B db al b j n := by
  refine (Ssd.pieces_apply (fun p => stPair (k0_pay6 (k0_pay2 x1 x0 x5 x6) k0_pay3) (k0_pay7 (k0_pay2 x1 x0 x5 x6) k0_pay3) (dtp x2 x7) (Dec.cum x2 x7 x8)
    (Ssd.stOf (k0_pay5 x4) p) p) L j n).trans ?_
  have hj := Ssd.jcol_prOf j
  generalize prOf j = p, laneOf j = r at hj ⊢
  have hl : ∀ h : Fin 32, last (Dec.cum x2 x7 x8) (ix2 0 (lane h)) = cumS D db al b 7 h := by
    intro h
    rw [← H.cum 127 7 rfl h]
    generalize Dec.cum x2 x7 x8 = v
    pointwise [last]
  have hst : Ssd.stOf (k0_pay5 x4) p (ix3 0 r n) = S (ix4 b (hd j) (⟨j.1 % 64, by omega⟩ : Fin 64) n) := by
    rw [Ssd.stOf_apply, hj, ← H.s]
    pointwise [k0_pay5]
  have hx : ∀ l : Fin 128, xdec (k0_pay6 (k0_pay2 x1 x0 x5 x6) k0_pay3) (dtp x2 x7) (Dec.cum x2 x7 x8) p (ix2 l r)
      = k0_pay6 (k0_pay2 x1 x0 x5 x6) k0_pay3 (ix2 l j) * dtp x2 x7 (ix2 l (lane (hd j)))
        * Ideal.exp (cumS D db al b 7 (hd j) - Dec.cum x2 x7 x8 (ix2 l (lane (hd j)))) := by
    intro l
    have h1 : broadcastTo S128x128 (Ssd.rowOf (last (Dec.cum x2 x7 x8)) p) broadcasts_S1x128_S128x128 (ix2 l r) = Ssd.rowOf (last (Dec.cum x2 x7 x8)) p (ix2 0 r) := by
      pointwise []
    have h2 : Ssd.xOf (k0_pay6 (k0_pay2 x1 x0 x5 x6) k0_pay3) p (ix2 l r) = k0_pay6 (k0_pay2 x1 x0 x5 x6) k0_pay3 (ix2 l j) := by
      rw [← hj]
      generalize k0_pay6 (k0_pay2 x1 x0 x5 x6) k0_pay3 = v
      pointwise [Ssd.xOf]
      rfl
    show Ssd.xOf (k0_pay6 (k0_pay2 x1 x0 x5 x6) k0_pay3) p (ix2 l r) * Ssd.cols (dtp x2 x7) p (ix2 l r)
      * Ideal.exp (broadcastTo S128x128 (Ssd.rowOf (last (Dec.cum x2 x7 x8)) p) broadcasts_S1x128_S128x128 (ix2 l r) - Ssd.cols (Dec.cum x2 x7 x8) p (ix2 l r)) = _
    rw [h1, h2, Ssd.rowOf_apply, Ssd.cols_apply, Ssd.cols_apply, hj, hl]
  have hb : ∀ l : Fin 128, Ssd.grpOf (k0_pay7 (k0_pay2 x1 x0 x5 x6) k0_pay3) (Ssd.grp p) (ix2 l n)
      = if h : l.1 < 8 then actS X C W B b ⟨l.1, h⟩ ⟨2048 + (128 * (j.1 / 256) + n.1), by omega⟩ else (0 : EReal) := by
    intro l
    have h1 : Ssd.grpOf (k0_pay7 (k0_pay2 x1 x0 x5 x6) k0_pay3) (Ssd.grp p) (ix2 l n)
        = k0_pay7 (k0_pay2 x1 x0 x5 x6) k0_pay3 (ix2 l (⟨128 * (j.1 / 256) + n.1, by omega⟩ : Fin 1024)) := by
      generalize k0_pay7 (k0_pay2 x1 x0 x5 x6) k0_pay3 = v
      pointwise [Ssd.grpOf]
      congr 2
      apply Fin.ext
      subst hj
      simp only [Ssd.grp, jcol]
      omega
    rw [h1, bm_apply]
    simp only [H.act]
  unfold stPair
  generalize Ssd.stOf (k0_pay5 x4) p = st at hst ⊢
  generalize xdec (k0_pay6 (k0_pay2 x1 x0 x5 x6) k0_pay3) (dtp x2 x7) (Dec.cum x2 x7 x8) p = xd at hx ⊢
  generalize Ssd.grpOf (k0_pay7 (k0_pay2 x1 x0 x5 x6) k0_pay3) (Ssd.grp p) = g at hb ⊢
  pointwise []
  rw [Ssd.subOf_apply, hst, hj]
  unfold stS
  congr 1
  · congr 1
    show Ideal.exp (last (Dec.cum x2 x7 x8) (ix2 0 (lane (hd j)))) = _
    rw [hl]
  · rw [sum_rows]
    · refine Finset.sum_congr rfl fun l _ => ?_
      rw [hx, hb, xs_apply, dif_pos l.2, dif_pos l.2, H.dt, dif_pos l.2, H.act, H.cum _ l (by simp only; omega)]
    · intro l h
      rw [hb, dif_neg (by omega), mul_zero]

end Block

end Cert.Dec

end
-- ==== Proof.DecRef.lean ====
/-
  The decode recurrence's state and its reference's read as the specification, and their agreement.
-/
module

public import proofs.«01_k».proof.Proof.DecValue
public import proofs.«01_k».proof.Proof.Cumsum
public import proofs.«01_k».proof.Proof.Gen.Reference7Ideal.Run

@[expose] public section

set_option maxRecDepth 16384

noncomputable section

namespace Cert.Dec

open Idealize.ShloMosaic Idealize.ShloMosaic.TcCoe Idealize.SL.Sem
open Cert.Ssd (hd lane)

section Run
open Cert.Kernel7Ideal Cert.Kernel7Ideal.Gen

variable (m : (ℓ : Loc nD τ sig) → Buf (Elt Ideal) ℓ) (ρ : Dev nD → PrngReg) (c : Dev nD)

/-- The arguments as launched. -/
def argX : Vec Ideal S256x9216 .f32 := m ((c : Thread nD τ).loc main_arg0)
def argC : Vec Ideal S32x3x4096 .f32 := m ((c : Thread nD τ).loc main_arg1)
def argD : Vec Ideal S256x128 .f32 := m ((c : Thread nD τ).loc main_arg2)
def argS : Vec Ideal S32x32x64x128 .f32 := m ((c : Thread nD τ).loc main_arg3)
def argW : Vec Ideal S4x4096 .f32 := m ((c : Thread nD τ).loc main_arg4)
def argB : Vec Ideal S4096 .f32 := m ((c : Thread nD τ).loc main_arg5)
def argDb : Vec Ideal S32 .f32 := m ((c : Thread nD τ).loc main_arg6)
def argAl : Vec Ideal S32 .f32 := m ((c : Thread nD τ).loc main_arg7)

/-- The sequence of a point. -/
def bOf (t : Fin cfg0.N) : Fin 32 := ⟨t.1, lt_of_lt_of_eq t.isLt (show cfg0.N = 32 from N_0)⟩

/-- Where each window's block lies, at a point. -/
theorem idx : ∀ t : Fin cfg0.N,
    win0_0.index t = ![t.1, 0] ∧ win0_1.index t = ![t.1, 0, 0] ∧ win0_2.index t = ![t.1, 0] ∧ win0_4.index t = ![t.1, 0, 0]
    ∧ win0_5.index t = ![0, 0] ∧ win0_6.index t = ![0, 0] ∧ win0_7.index t = ![0, 0] ∧ win0_8.index t = ![0, 0] ∧ win0_12.index t = ![t.1, 0, 0] :=
  (by decide +kernel : ∀ t : Fin grid0.N,
    win0_0.index t = ![t.1, 0] ∧ win0_1.index t = ![t.1, 0, 0] ∧ win0_2.index t = ![t.1, 0] ∧ win0_4.index t = ![t.1, 0, 0]
    ∧ win0_5.index t = ![0, 0] ∧ win0_6.index t = ![0, 0] ∧ win0_7.index t = ![0, 0] ∧ win0_8.index t = ![0, 0] ∧ win0_12.index t = ![t.1, 0, 0])

theorem V_v0 (r : Fin 256) (j : Fin 4096) : (V m c main_v0 : Vec Ideal S256x4096 .f32) (ix2 r j) = argX m c (ix2 r ⟨5120 + j.1, by omega⟩) := by
  unfold argX V
  simp only [List.flatten_cons, List.flatten_nil, List.append_nil]
  after_reads_simp
  pointwise

theorem V_v2 (b : Fin 32) (j : Fin 2048) (n : Fin 128) :
    (V m c main_v2 : Vec Ideal S32x2048x128 .f32) (ix3 b j n) = argS m c (ix4 b (hd j) (⟨j.1 % 64, by omega⟩ : Fin 64) n) := by
  unfold argS V hd
  simp only [List.flatten_cons, List.flatten_nil, List.append_nil]
  after_reads_simp
  pointwise

theorem V_v3 (j : Fin 4096) : (V m c main_v3 : Vec Ideal S1x4096 .f32) (ix2 0 j) = argB m c (ix1 j) := by
  unfold argB V
  simp only [List.flatten_cons, List.flatten_nil, List.append_nil]
  after_reads_simp
  pointwise

theorem pad_lane (x : Vec Ideal S32 .f32) (v : Vec Ideal S_ .f32) (h : Fin 32) :
    pad S128 ![0] ![96] ![0] x v pads_S32_S128_0960 h_S_ (ix1 (⟨h.1, by omega⟩ : Fin 128)) = x (ix1 h) := by
  pointwise

theorem V_v5 (h : Fin 32) : (V m c main_v5 : Vec Ideal S1x128 .f32) (ix2 0 (lane h)) = argDb m c (ix1 h) := by
  unfold argDb V lane
  simp only [List.flatten_cons, List.flatten_nil, List.append_nil]
  after_reads_simp
  pointwise
  exact pad_lane _ _ h

theorem V_v7 (h : Fin 32) : (V m c main_v7 : Vec Ideal S1x128 .f32) (ix2 0 (lane h)) = argAl m c (ix1 h) := by
  unfold argAl V lane
  simp only [List.flatten_cons, List.flatten_nil, List.append_nil]
  after_reads_simp
  pointwise
  exact pad_lane _ _ h

/-- The input blocks of a point are those of its sequence. -/
theorem blk (t : Fin cfg0.N) : Blk (argX m c) (argC m c) (argD m c) (argS m c) (argW m c) (argB m c) (argDb m c) (argAl m c) (bOf t)
    (iblk m c 0 t) (iblk m c 1 t) (iblk m c 2 t) (iblk m c 4 t) (iblk m c 5 t) (iblk m c 6 t) (iblk m c 7 t) (iblk m c 8 t) where
  x l j := by
    have e := (idx t).1
    refine Eq.trans ?_ (V_v0 m c _ j)
    unfold row8 bOf
    blk_ext [iblk, e]
  c i j := by
    have h := (idx t).2.1
    unfold argC bOf
    blk_ext [iblk, V_main_arg1, h]
  d l h := by
    have e := (idx t).2.2.1
    unfold argD row8 bOf
    blk_ext [iblk, V_main_arg2, e]
  s j n := by
    have e := (idx t).2.2.2.1
    refine Eq.trans ?_ (V_v2 m c _ j n)
    unfold bOf
    blk_ext [iblk, e]
  w i j := by
    have e := (idx t).2.2.2.2.1
    unfold argW
    blk_ext [iblk, V_main_arg4, e]
  b j := by
    have e := (idx t).2.2.2.2.2.1
    refine Eq.trans ?_ (V_v3 m c j)
    blk_ext [iblk, e]
  db h := by
    have e := (idx t).2.2.2.2.2.2.1
    refine Eq.trans ?_ (V_v5 m c h)
    blk_ext [iblk, e]
  al h := by
    have e := (idx t).2.2.2.2.2.2.2.1
    refine Eq.trans ?_ (V_v7 m c h)
    blk_ext [iblk, e]

/-- The call's state: every sequence's state after its eight rows. -/
def stArr : Vec Ideal S32x2048x128 .f32 := fun i =>
  stS (argX m c) (argC m c) (argD m c) (argS m c) (argW m c) (argB m c) (argDb m c) (argAl m c) (i 0) (i 1) (i 2)

theorem arr12 : (dats m 0 c).arrAt 12 cfg0.N = stArr m c := by
  refine (dats m 0 c).arrAt_eq_of_covers 12 _ (by decide +kernel) fun t hf y => ?_
  have e := (idx t).2.2.2.2.2.2.2.2
  obtain ⟨j, n, rfl⟩ : ∃ (j : Fin 2048) (n : Fin 128), y = ix3 0 j n := ⟨y 1, y 2, by funext a; fin_cases a <;> first | rfl | exact Fin.fin_one_eq_zero _⟩
  rw [cast_eq, after0_12]
  simp only [outsAt0]
  rw [out_st]
  refine ((blk m c t).stBlock _ j n).trans ?_
  unfold stArr
  have h0 : ((cfg0.win 12).blk t).view.emb (ix3 0 j n) (0 : Fin 3) = bOf t := Fin.ext (by unfold bOf; blk_simp [e]; rfl)
  have h1 : ((cfg0.win 12).blk t).view.emb (ix3 0 j n) (1 : Fin 3) = j := Fin.ext (by blk_simp [e])
  have h2 : ((cfg0.win 12).blk t).view.emb (ix3 0 j n) (2 : Fin 3) = n := Fin.ext (by blk_simp [e])
  rw [h0, h1, h2]

end Run

section Ref
open Cert.Reference7Ideal Cert.Reference7Ideal.Gen Cert.Reference7Ideal.Value

variable (X : Vec Ideal S256x9216 .f32) (C : Vec Ideal S32x3x4096 .f32) (D : Vec Ideal S256x128 .f32) (S : Vec Ideal S32x32x64x128 .f32)
  (W : Vec Ideal S4x4096 .f32) (B : Vec Ideal S4096 .f32) (db al : Vec Ideal S32 .f32)

/-- The reference's rows before and of a sequence, … -/
def refXp : FVec Ideal S32x11x4096 .f32 :=
  concatenate S32x11x4096 1 [⟨S32x3x4096, C⟩, ⟨S32x8x4096, shapeCast _ (extractStridedSlice S256x4096 ![0, 5120] X slices_S256x9216_S256x4096_0_5120) shapeCasts_S256x4096_S32x8x4096⟩]
    concatenates_S32x3x4096_S32x8x4096_S32x11x4096_d1

/-- … a column's weight at every row, … -/
def refRow (w : FVec Ideal S4096 .f32) : FVec Ideal S32x8x4096 .f32 :=
  broadcastInDim S32x8x4096 ![0, 1, 2] bcast_S1x1x4096_S32x8x4096_0_1_2 (broadcastInDim S1x1x4096 ![2] bcast_S4096_S1x1x4096_2 w)

/-- … its convolution, … -/
def refConv : FVec Ideal S32x8x4096 .f32 :=
  addf (addf (addf (addf (addf (broadcastInDim S32x8x4096 ![] bcast_S_S32x8x4096 (constant S_ .f32 0x00000000#32))
    (mulf (extractStridedSlice S32x8x4096 ![0, 0, 0] (refXp X C) slices_S32x11x4096_S32x8x4096_0_0_0) (refRow (shapeCast _ (extractStridedSlice S1x4096 ![0, 0] W slices_S4x4096_S1x4096_0_0) shapeCasts_S1x4096_S4096))))
    (mulf (extractStridedSlice S32x8x4096 ![0, 1, 0] (refXp X C) slices_S32x11x4096_S32x8x4096_0_1_0) (refRow (shapeCast _ (extractStridedSlice S1x4096 ![1, 0] W slices_S4x4096_S1x4096_1_0) shapeCasts_S1x4096_S4096))))
    (mulf (extractStridedSlice S32x8x4096 ![0, 2, 0] (refXp X C) slices_S32x11x4096_S32x8x4096_0_2_0) (refRow (shapeCast _ (extractStridedSlice S1x4096 ![2, 0] W slices_S4x4096_S1x4096_2_0) shapeCasts_S1x4096_S4096))))
    (mulf (extractStridedSlice S32x8x4096 ![0, 3, 0] (refXp X C) slices_S32x11x4096_S32x8x4096_0_3_0) (refRow (shapeCast _ (extractStridedSlice S1x4096 ![3, 0] W slices_S4x4096_S1x4096_3_0) shapeCasts_S1x4096_S4096))))
    (refRow B)

/-- … after silu, … -/
def refAct : FVec Ideal S32x8x4096 .f32 :=
  mulf (refConv X C W B) (Host.divf (broadcastInDim S32x8x4096 ![] bcast_S_S32x8x4096 (constant S_ .f32 0x3F800000#32))
    (addf (broadcastInDim S32x8x4096 ![] bcast_S_S32x8x4096 (constant S_ .f32 0x3F800000#32)) (Host.exp (Host.negf (refConv X C W B)))))

/-- … the step sizes before softplus, … -/
def refRaw : FVec Ideal S32x8x32 .f32 :=
  addf (shapeCast _ (extractStridedSlice S256x32 ![0, 0] D slices_S256x128_S256x32_0_0) shapeCasts_S256x32_S32x8x32)
    (broadcastInDim S32x8x32 ![0, 1, 2] bcast_S1x1x32_S32x8x32_0_1_2 (broadcastInDim S1x1x32 ![2] bcast_S32_S1x1x32_2 db))

/-- … and after it, … -/
def refDt : FVec Ideal S32x8x32 .f32 :=
  let R := refRaw D db
  let Z := broadcastInDim S32x8x32 ![] bcast_S_S32x8x32 (constant S_ .f32 0x00000000#32)
  select (cmpf .une (subf R Z) (subf R Z)) (addf R Z) (addf (maximumf R Z) (Host.log1p (Host.exp (Host.negf (Host.absf (subf R Z))))))

/-- … the decay exponents, … -/
def refDa : FVec Ideal S32x8x32 .f32 :=
  mulf (refDt D db) (broadcastInDim S32x8x32 ![0, 1, 2] bcast_S1x1x32_S32x8x32_0_1_2 (broadcastInDim S1x1x32 ![2] bcast_S32_S1x1x32_2 (Host.negf (Host.exp al))))

/-- … summed, … -/
def refCum : FVec Ideal S32x8x32 .f32 :=
  Host.reduceWindowAdd ![1, 8, 1] ![1, 1, 1] ![0, 7, 0] ![0, 0, 0] (refDa D db al) (broadcastInDim S_ ![] bcast_S_S_ (constant S_ .f32 0x00000000#32))
    reduceWindows_S32x8x32_S32x8x32_w1s1p0_0_w8s1p7_0_w1s1p0_0 h_S_

/-- … the inputs with their step sizes and decays, … -/
def refXd : FVec Ideal S32x8x32x64 .f32 :=
  mulf (mulf (shapeCast _ (extractStridedSlice S32x8x2048 ![0, 0, 0] (refAct X C W B) slices_S32x8x4096_S32x8x2048_0_0_0) shapeCasts_S32x8x2048_S32x8x32x64)
      (broadcastInDim S32x8x32x64 ![0, 1, 2, 3] bcast_S32x8x32x1_S32x8x32x64_0_1_2_3 (broadcastInDim S32x8x32x1 ![0, 1, 2] bcast_S32x8x32_S32x8x32x1_0_1_2 (refDt D db))))
    (broadcastInDim S32x8x32x64 ![0, 1, 2, 3] bcast_S32x8x32x1_S32x8x32x64_0_1_2_3 (broadcastInDim S32x8x32x1 ![0, 1, 2] bcast_S32x8x32_S32x8x32x1_0_1_2
      (Host.exp (subf (broadcastInDim S32x8x32 ![0, 1, 2] bcast_S32x1x32_S32x8x32_0_1_2 (extractStridedSlice S32x1x32 ![0, 7, 0] (refCum D db al) slices_S32x8x32_S32x1x32_0_7_0)) (refCum D db al)))))

/-- … B, a head at a time, … -/
def refBm : FVec Ideal S32x8x32x128 .f32 :=
  shapeCast _ (broadcastInDim S32x8x8x4x128 ![0, 1, 2, 4] bcast_S32x8x8x128_S32x8x8x4x128_0_1_2_4
    (shapeCast _ (extractStridedSlice S32x8x1024 ![0, 0, 2048] (refAct X C W B) slices_S32x8x4096_S32x8x1024_0_0_2048) shapeCasts_S32x8x1024_S32x8x8x128)) shapeCasts_S32x8x8x4x128_S32x8x32x128

/-- … and the state. -/
def refSt : FVec Ideal S32x2048x128 .f32 :=
  shapeCast _ (addf (mulf (broadcastInDim S32x32x64x128 ![0, 1, 2, 3] bcast_S32x32x1x1_S32x32x64x128_0_1_2_3 (broadcastInDim S32x32x1x1 ![0, 1] bcast_S32x32_S32x32x1x1_0_1
      (Host.exp (shapeCast _ (extractStridedSlice S32x1x32 ![0, 7, 0] (refCum D db al) slices_S32x8x32_S32x1x32_0_7_0) shapeCasts_S32x1x32_S32x32)))) S)
    (Host.dotGeneral dot_S32x8x32x64_S32x8x32x128_S32x32x64x128_1_1_3_3_02_02 none (refXd X C D W B db al) (refBm X C W B))) shapeCasts_S32x32x64x128_S32x2048x128

/-- The reference's result is that state of its arguments. -/
theorem res_eq (m : (ℓ : Loc nD τ sig) → Buf (Elt Ideal) ℓ) (c : Dev nD) :
    res_main_v72 m c = refSt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

theorem refXp_apply (b : Fin 32) (u : Fin 11) (j : Fin 4096) :
    refXp X C (ix3 b u j) = hist (fun i => C (ix3 b i j)) (fun i => X (ix2 (row8 b i) ⟨5120 + j.1, by omega⟩)) u := by
  unfold hist row8
  pointwise [refXp]

theorem refRow_apply (w : FVec Ideal S4096 .f32) (b : Fin 32) (l : Fin 8) (j : Fin 4096) : refRow w (ix3 b l j) = w (ix1 j) := by
  pointwise [refRow]

theorem refConv_apply (b : Fin 32) (l : Fin 8) (j : Fin 4096) :
    refConv X C W B (ix3 b l j) = tapsF (fun i => C (ix3 b i j)) (fun i => X (ix2 (row8 b i) ⟨5120 + j.1, by omega⟩)) (fun i => W (ix2 i j)) (B (ix1 j)) l := by
  have e := refXp_apply X C b
  have er := fun w => refRow_apply w b l j
  unfold refConv tapsF
  generalize refXp X C = xp at e ⊢
  generalize refRow = row at er ⊢
  pointwise []
  simp only [er, ← e]
  pointwise []
  fin_cases l <;> rfl

theorem refAct_apply (b : Fin 32) (l : Fin 8) (j : Fin 4096) : refAct X C W B (ix3 b l j) = actS X C W B b l j := by
  have e := refConv_apply X C W B b l j
  unfold refAct actS silu
  rw [← e]
  generalize refConv X C W B = v
  pointwise []
  simp only [zero_sub]

theorem refRaw_apply (b : Fin 32) (l : Fin 8) (h : Fin 32) : refRaw D db (ix3 b l h) = D (ix2 (row8 b l) ⟨h.1, by omega⟩) + db (ix1 h) := by
  unfold row8
  pointwise [refRaw]

theorem refDt_apply (b : Fin 32) (l : Fin 8) (h : Fin 32) : refDt D db (ix3 b l h) = dtS D db b l h := by
  have e := refRaw_apply D db b l h
  unfold refDt dtS Ssd.softplus
  rw [← e]
  generalize refRaw D db = v
  pointwise []
  rw [if_neg (fun h => h rfl)]
  simp only [zero_sub]

/-- A running sum over eight rows at an entry. -/
theorem cumsum_apply (x : FVec Ideal S32x8x32 .f32) (z : S_.Idx → Ideal .f32) (hz : z (Shape.Idx.first h_S_) = 0)
    (h : S32x8x32.ReduceWindows ![1, 8, 1] ![1, 1, 1] ![0, 7, 0] ![0, 0, 0] S32x8x32) (b : Fin 32) (l : Fin 8) (k : Fin 32) :
    Host.reduceWindowAdd ![1, 8, 1] ![1, 1, 1] ![0, 7, 0] ![0, 0, 0] x z h h_S_ (ix3 b l k) = ∑ s : Fin 8, if s ≤ l then x (ix3 b s k) else 0 := by
  rw [← Ssd.window_sum (n := 7) (fun s => x (ix3 b s k))]
  show Host.reduceWindow (· + ·) ![1, 8, 1] ![1, 1, 1] ![0, 7, 0] ![0, 0, 0] x (fun _ : (⟨0, ![]⟩ : Shape).Idx => z (Shape.Idx.first h_S_)) h h_S_ (ix3 b l k) = _
  rw [hz]
  unfold Host.reduceWindow
  dsimp only
  rw [Ssd.foldl_add, zero_add, ← List.ofFn_eq_map, List.sum_ofFn]
  refine (Fintype.sum_equiv (⟨3, ![1, 8, 1]⟩ : Shape).rowMajor.symm _ (fun w : (⟨3, ![1, 8, 1]⟩ : Shape).Idx =>
    if h : 7 ≤ l.1 + (w 1 : Nat) then x (ix3 b ⟨l.1 + (w 1 : Nat) - 7, by have := (w 1).isLt; change (w 1 : Nat) < 8 at this; omega⟩ k) else 0) ?_).trans ?_
  · intro i
    let w : (⟨3, ![1, 8, 1]⟩ : Shape).Idx := (⟨3, ![1, 8, 1]⟩ : Shape).rowMajor.symm i
    have w0 : (w 0 : Nat) < 1 := (w 0).isLt
    have w1 : (w 1 : Nat) < 8 := (w 1).isLt
    have w2 : (w 2 : Nat) < 1 := (w 2).isLt
    by_cases hl : 7 ≤ l.1 + (w 1 : Nat)
    · have hin : ∀ a : Fin 3, ![0, 7, 0] a ≤ (ix3 b l k (Fin.cast h.1.symm a)).val * ![1, 1, 1] a + (w a).val
          ∧ (ix3 b l k (Fin.cast h.1.symm a)).val * ![1, 1, 1] a + (w a).val - ![0, 7, 0] a < ![32, 8, 32] a := by
        intro a
        match a with
        | 0 => exact ⟨Nat.zero_le _, by show b.1 * 1 + (w 0 : Nat) - 0 < 32; omega⟩
        | 1 => exact ⟨by show 7 ≤ l.1 * 1 + (w 1 : Nat); omega, by show l.1 * 1 + (w 1 : Nat) - 7 < 8; omega⟩
        | 2 => exact ⟨Nat.zero_le _, by show k.1 * 1 + (w 2 : Nat) - 0 < 32; omega⟩
      refine Eq.trans ?_ (dif_pos hl).symm
      refine (dif_pos hin).trans ?_
      refine congrArg x (funext fun a => Fin.ext ?_)
      match a with
      | 0 => show b.1 * 1 + (w 0 : Nat) - 0 = b.1; omega
      | 1 => show l.1 * 1 + (w 1 : Nat) - 7 = l.1 + (w 1 : Nat) - 7; omega
      | 2 => show k.1 * 1 + (w 2 : Nat) - 0 = k.1; omega
    · refine Eq.trans ?_ (dif_neg hl).symm
      refine dif_neg fun hin => hl ?_
      have := (hin 1).1
      change 7 ≤ l.1 * 1 + (w 1 : Nat) at this
      omega
  · rw [sum_idx3]
    simp only [Fin.sum_univ_one]
    rfl

theorem refCum_apply (b : Fin 32) (l : Fin 8) (h : Fin 32) : refCum D db al (ix3 b l h) = cumS D db al b l h := by
  have e : ∀ s : Fin 8, refDa D db al (ix3 b s h) = dtS D db b s h * (0 - Ideal.exp (al (ix1 h))) := by
    intro s
    rw [← refDt_apply]
    unfold refDa
    generalize refDt D db = d
    pointwise []
    simp only [zero_sub]
  refine (cumsum_apply _ _ (by pointwise []) _ b l h).trans ?_
  simp only [e]
  rfl

theorem refXd_apply (b : Fin 32) (l : Fin 8) (j : Fin 2048) :
    refXd X C D W B db al (ix4 b l (hd j) (⟨j.1 % 64, by omega⟩ : Fin 64))
      = actS X C W B b l ⟨j.1, by omega⟩ * dtS D db b l (hd j) * Ideal.exp (cumS D db al b 7 (hd j) - cumS D db al b l (hd j)) := by
  rw [← refAct_apply, ← refDt_apply, ← refCum_apply, ← refCum_apply]
  unfold refXd hd
  generalize refAct X C W B = a, refDt D db = d, refCum D db al = cu
  pointwise []

theorem refBm_apply (b : Fin 32) (l : Fin 8) (j : Fin 2048) (n : Fin 128) :
    refBm X C W B (ix4 b l (hd j) n) = actS X C W B b l ⟨2048 + (128 * (j.1 / 256) + n.1), by omega⟩ := by
  rw [← refAct_apply]
  unfold refBm hd
  generalize refAct X C W B = a
  pointwise []
  congr 2
  apply Fin.ext
  simp only
  omega

/-- The reference's state is the specification's. -/
theorem refSt_apply (b : Fin 32) (j : Fin 2048) (n : Fin 128) : refSt X C D S W B db al (ix3 b j n) = stS X C D S W B db al b j n := by
  have e1 := fun l => refXd_apply X C D W B db al b l j
  have e2 := fun l => refBm_apply X C W B b l j n
  have e3 := refCum_apply D db al b 7 (hd j)
  unfold refSt stS
  simp only [← e1, ← e2]
  rw [← e3]
  unfold hd
  generalize refXd X C D W B db al = xd, refBm X C W B = bm, refCum D db al = cu
  pointwise []

end Ref

/-- On equal arguments the reference's state is the call's. -/
theorem st_agree (m : (ℓ : Loc Cert.Kernel7Ideal.nD Cert.Kernel7Ideal.τ Cert.Kernel7Ideal.sig) → Buf (Elt Ideal) ℓ) (c : Dev Cert.Kernel7Ideal.nD)
    {X C D S W B db al} (e0 : X = argX m c) (e1 : C = argC m c) (e2 : D = argD m c) (e3 : S = argS m c) (e4 : W = argW m c) (e5 : B = argB m c)
    (e6 : db = argDb m c) (e7 : al = argAl m c) : refSt X C D S W B db al = stArr m c := by
  subst e0 e1 e2 e3 e4 e5 e6 e7
  funext i
  obtain ⟨b, j, n, rfl⟩ : ∃ (b : Fin 32) (j : Fin 2048) (n : Fin 128), i = ix3 b j n := ⟨i 0, i 1, i 2, by funext a; fin_cases a <;> rfl⟩
  exact refSt_apply _ _ _ _ _ _ _ _ b j n

end Cert.Dec

end
-- ==== Proof.lean ====
module

public import proofs.«01_k».proof.Proof.Gen.KernelIdeal.Value
public import proofs.«01_k».proof.Proof.Gen.ReferenceIdeal.Run
public import proofs.«01_k».proof.Defs
public import proofs.«01_k».proof.Proof.Agree
public import proofs.«01_k».proof.Proof.UpAgree
public import proofs.«01_k».proof.Proof.UpBits
public import proofs.«01_k».proof.Proof.DownAgree
public import proofs.«01_k».proof.Proof.InBits
public import proofs.«01_k».proof.Proof.InAgree
public import proofs.«01_k».proof.Proof.OutBits
public import proofs.«01_k».proof.Proof.OutAgree
public import proofs.«01_k».proof.Proof.PostAgree
public import proofs.«01_k».proof.Proof.DownBits
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Regions
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Regions
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import Idealize.ShloMosaic.Adequacy
public import Idealize.ShloMosaic.Init
public import proofs.«01_k».proof.Proof.Gen.Kernel5
public import proofs.«01_k».proof.Proof.Gen.Kernel5.Skeleton
public import proofs.«01_k».proof.Proof.DecRef
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Post.pre_facts, by
  refine ⟨fun m g _ => Cert.Kernel.Gen.frame m g, fun m g _ => Cert.KernelIdeal.Gen.frame m g, fun m g _ => ?_,
    fun m g _ => Cert.Up.frame_bits m g, fun m g _ => Cert.Up.frame m g, fun m g _ => ?_,
    fun m g _ => Cert.Down.frame_bits m g, fun m g _ => Cert.Down.frame m g, fun m g _ => ?_,
    fun m g _ => Cert.Inp.frame_bits m g, fun m g _ => Cert.Inp.frame m g, fun m g _ => ?_,
    fun m g _ => Cert.Outp.frame_bits m g, fun m g _ => Cert.Outp.frame m g, fun m g _ => ?_,
    fun m g _ => Cert.Kernel6.Gen.frame m g, fun m g _ => Cert.Kernel6Ideal.Gen.frame m g, fun m g _ => Cert.Kernel6Ideal.Gen.frame m g, fun m g _ => ?_, fun m g _ => ?_,
    fun m g _ => Cert.Kernel7.Gen.frame m g, fun m g _ => Cert.Kernel7Ideal.Gen.frame m g, fun m g _ => ?_,
    trivial, fun m g m' g' _ hagree => ?_, trivial, fun m g m' g' _ hagree => ?_, trivial, fun m g m' g' _ hagree => ?_, trivial, fun m g m' g' _ hagree => ?_, trivial, fun m g m' g' _ hagree => ?_, trivial, fun m g m' g' hpre hagree => ?_, trivial, fun m g m' g' _ hagree => ?_⟩
  · refine θ_run_mono (Cert.Ssd.ref_run m g) fun r hr => ⟨fun c => ?_, hr.2⟩
    have h := (hr.1 c).2
    exact ⟨h _ (by decide), h _ (by decide), h _ (by decide), h _ (by decide), h _ (by decide), h _ (by decide), h _ (by decide)⟩
  · exact θ_run_mono (Cert.Up.ref_run m g) fun r hr => ⟨fun c => (hr.1 c).2.2, hr.2⟩
  · exact θ_run_mono (Cert.Down.ref_run m g) fun r hr => ⟨fun c => (hr.1 c).2.2, hr.2⟩
  · exact θ_run_mono (Cert.Inp.ref_run m g) fun r hr => ⟨fun c => (hr.1 c).2.2.2.2, hr.2⟩
  · exact θ_run_mono (Cert.Outp.ref_run m g) fun r hr => ⟨fun c => (hr.1 c).2.2, hr.2⟩
  · exact θ_run_mono (Cert.Post.ref_run m g) fun r hr => ⟨fun c => (hr.1 c).2.2, hr.2⟩
  · exact θ_run_mono (Cert.Post.ref_run m g) fun r hr => ⟨fun c => (hr.1 c).2.2, hr.2⟩
  · exact θ_run_mono (Cert.Reference7Ideal.Value.run m g) fun r hr => ⟨fun c => (hr c).2, sem_eq_zero_of_no_sems (by decide) _⟩
  · refine ⟨fun c => Cert.Ssd.yArr m c, fun c => Cert.Ssd.stArr m c, ?_, ?_⟩
    · refine θ_run_mono (Cert.KernelIdeal.Value.run_blocks m g) fun r hr c => ?_
      obtain ⟨h0, h1, h⟩ := hr c
      exact ⟨h0.trans (Cert.Ssd.arr10 m c), h1.trans (Cert.Ssd.arr11 m c), h⟩
    · refine θ_run_mono (Cert.Ssd.ref_run m' g') fun r hr c => ?_
      have h := (hr.1 c).2
      exact ⟨(hr.1 c).1.1.trans (Cert.Ssd.y_agree m m' c (hagree c)), (hr.1 c).1.2.trans (Cert.Ssd.st_agree m m' c (hagree c)),
        h _ (by decide), h _ (by decide), h _ (by decide), h _ (by decide), h _ (by decide), h _ (by decide), h _ (by decide)⟩
  · refine ⟨fun c => Cert.Up.upP m c, fun c => Cert.Up.upD m c, Cert.Up.up_run m g, ?_⟩
    refine θ_run_mono (Cert.Up.ref_run m' g') fun r hr c => ?_
    obtain ⟨h0, h1, h⟩ := hr.1 c
    obtain ⟨e0, e1, e2⟩ := hagree c
    exact ⟨h0.trans (Cert.Up.p_agree m c _ _ e0 e2), h1.trans (Cert.Up.d_agree m c _ _ e1 e2), h⟩
  · refine ⟨fun c => Cert.Down.downP m c, fun c => Cert.Down.downD m c, Cert.Down.down_run m g, ?_⟩
    refine θ_run_mono (Cert.Down.ref_run m' g') fun r hr c => ?_
    obtain ⟨h0, h1, h⟩ := hr.1 c
    obtain ⟨e0, e1, e2, e3, e4⟩ := hagree c
    exact ⟨h0.trans (Cert.Down.p_agree m c _ _ _ e0 e2 e3), h1.trans (Cert.Down.d_agree m c _ _ _ e1 e2 e4), h⟩
  · refine ⟨fun c => Cert.Inp.inP m c, fun c => Cert.Inp.inD m c, fun c => Cert.Inp.inCP m c, fun c => Cert.Inp.inCD m c, Cert.Inp.in_run m g, ?_⟩
    refine θ_run_mono (Cert.Inp.ref_run m' g') fun r hr c => ?_
    obtain ⟨h0, h1, h2, h3, h⟩ := hr.1 c
    obtain ⟨e0, e1, e2, e3⟩ := hagree c
    exact ⟨h0.trans (Cert.Inp.p_agree m c _ _ e0 e2), h1.trans (Cert.Inp.d_agree m c _ _ e1 e2),
      h2.trans (Cert.Inp.cp_agree m c _ _ e0 e2), h3.trans (Cert.Inp.cd_agree m c _ _ _ e1 e2 e3), h⟩
  · refine ⟨fun c => Cert.Outp.resP m c, fun c => Cert.Outp.resD m c, Cert.Outp.out_run m g, ?_⟩
    refine θ_run_mono (Cert.Outp.ref_run m' g') fun r hr c => ?_
    obtain ⟨h0, h1, h⟩ := hr.1 c
    obtain ⟨e0, e1, e2, e3, e4, e5, e6⟩ := hagree c
    exact ⟨h0.trans (Cert.Outp.p_agree m c _ _ _ _ e0 e1 e4 e5), h1.trans (Cert.Outp.d_agree m c _ _ _ _ e2 e3 e4 e6), h⟩
  · have hx : ∀ c, ∀ (r : Fin 256) (j : Fin 512), _ := fun c r j => @Cert.Post.pre_apply Cert.Post.pre_facts _ _ _ (hpre c) r j
    refine ⟨fun c => Cert.Post.keyArr m c, fun c => Cert.Post.valArr m c, Cert.Post.post_run m g hx, ?_⟩
    refine θ_run_mono (Cert.Post.ref_run m' g') fun r hr c => ?_
    obtain ⟨h0, h1, h⟩ := hr.1 c
    obtain ⟨e0, e1, e2⟩ := hagree c
    exact ⟨h0.trans (Cert.Post.key_agree m c _ _ e0 e2), h1.trans (Cert.Post.val_agree m c _ e0), h⟩
  · refine ⟨fun c => Cert.Dec.stArr m c, ?_, ?_⟩
    · refine θ_run_mono (Cert.Kernel7Ideal.Value.run_blocks m g) fun r hr c => ?_
      obtain ⟨-, h0, h⟩ := hr c
      exact ⟨h0.trans (Cert.Dec.arr12 m c), h⟩
    · refine θ_run_mono (Cert.Reference7Ideal.Value.run m' g') fun r hr c => ?_
      obtain ⟨h0, h⟩ := hr c
      obtain ⟨e0, e1, e2, e3, e4, e5, e6, e7, e8, e9⟩ := hagree c
      exact ⟨h0.trans ((Cert.Dec.res_eq m' c).trans (Cert.Dec.st_agree m c e0 e1 e2 e3 e4 e5 e6 e7)), h⟩⟩

end Cert.Proof

end
